-- ==== Defs.lean ====
def Pre_KernelIdeal [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_KernelIdeal [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def algebraic_KernelIdeal_ReferenceIdeal [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v311) = v0 c
          ∧ r.2.mem ((c.tc : Thread Cert.ReferenceIdeal.nD Cert.ReferenceIdeal.τ).loc Cert.ReferenceIdeal.main_v312) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernelIdeal : Cert.KernelIdeal.Facts) (hReferenceIdeal : Cert.ReferenceIdeal.Facts) (hPre_well_posed : Cert.Pre_well_posed.Facts),
    quiescent_KernelIdeal (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ algebraic_KernelIdeal_ReferenceIdeal (hKernelIdeal := hKernelIdeal) (hReferenceIdeal := hReferenceIdeal) (hPre_well_posed := hPre_well_posed)
-- ==== Pre_well_posed.lean ====
abbrev S2048x3 : Shape := ⟨2, ![2048, 3]⟩
abbrev S2048x1 : Shape := ⟨2, ![2048, 1]⟩
abbrev S2048x4 : Shape := ⟨2, ![2048, 4]⟩
abbrev S2048x17 : Shape := ⟨2, ![2048, 17]⟩
abbrev S1 : Shape := ⟨1, ![1]⟩
abbrev S_ : Shape := ⟨0, ![]⟩
abbrev S2048 : Shape := ⟨1, ![2048]⟩

class Facts : Prop where
  bcast_S_S2048x3 : S_.BroadcastsInDim S2048x3 (![] : Fin 0 → Fin S2048x3.rank)
  reducesTo_S2048x3_S_d0_1 : S2048x3.ReducesTo [0, 1] S_
  h_S_ : 0 < S_.numel
  reducesTo_S2048x4_S2048_d1 : S2048x4.ReducesTo [1] S2048
  bcast_S_S2048 : S_.BroadcastsInDim S2048 (![] : Fin 0 → Fin S2048.rank)
  reducesTo_S2048_S_d0 : S2048.ReducesTo [0] S_

variable [Facts]

def fn_part1 {F : FTy → Type} [FloatOps F] (main_v12 : IVec S_ 1) (main_v14 : FVec F S2048 .f32) (main_v15 : FVec F S2048 .f32) : IVec S_ 1 :=
  let main_v16 : IVec S2048 1 := cmpf .oeq main_v14 main_v15
  let main_c_6 : IVec S_ 1 := constantI S_ 1 1#1
  let main_v17 : IVec S_ 1 := (fun x v => Host.reduce IntOp.andi x v reducesTo_S2048_S_d0 h_S_) main_v16 main_c_6
  let main_v18 : IVec S_ 1 := andi main_v12 main_v17
  main_v18

def fn {F : FTy → Type} [FloatOps F] (main_arg0 : FVec F S2048x3 .f32) (main_arg1 : FVec F S2048x1 .f32) (main_arg2 : FVec F S2048x3 .f32) (main_arg3 : FVec F S2048x4 .f32) (main_arg4 : FVec F S2048x17 .f32) (main_arg5 : FVec F S1 .f32) : IVec S_ 1 :=
  let main_v0 : FVec F S2048x3 .f32 := Host.absf main_arg0
  let main_cst : FVec F S_ .f32 := constant S_ .f32 0x49800000#32
  let main_v1 : FVec F S2048x3 .f32 := broadcastInDim S2048x3 ![] bcast_S_S2048x3 main_cst
  let main_v2 : IVec S2048x3 1 := cmpf .ole main_v0 main_v1
  let main_c : IVec S_ 1 := constantI S_ 1 1#1
  let main_v3 : IVec S_ 1 := (fun x v => Host.reduce IntOp.andi x v reducesTo_S2048x3_S_d0_1 h_S_) main_v2 main_c
  let main_v4 : FVec F S2048x3 .f32 := Host.absf main_arg2
  let main_cst_0 : FVec F S_ .f32 := constant S_ .f32 0x49800000#32
  let main_v5 : FVec F S2048x3 .f32 := broadcastInDim S2048x3 ![] bcast_S_S2048x3 main_cst_0
  let main_v6 : IVec S2048x3 1 := cmpf .ole main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_cst_2 : FVec F S_ .f32 := constant S_ .f32 0x00000000#32
  let main_v9 : FVec F S2048x3 .f32 := broadcastInDim S2048x3 ![] bcast_S_S2048x3 main_cst_2
  let main_v10 : IVec S2048x3 1 := cmpf .une main_arg2 main_v9
  let main_c_3 : IVec S_ 1 := constantI S_ 1 1#1
  let main_v11 : IVec S_ 1 := (fun x v => Host.reduce IntOp.andi x v reducesTo_S2048x3_S_d0_1 h_S_) main_v10 main_c_3
  let main_v12 : IVec S_ 1 := andi main_v8 main_v11
  let main_v13 : FVec F S2048x4 .f32 := mulf main_arg3 main_arg3
  let main_cst_4 : FVec F S_ .f32 := constant S_ .f32 0x00000000#32
  let main_v14 : FVec F S2048 .f32 := (fun x v => Host.reduceAdd x v reducesTo_S2048x4_S2048_d1 h_S_) main_v13 main_cst_4
  let main_cst_5 : FVec F S_ .f32 := constant S_ .f32 0x3F800000#32
  let main_v15 : FVec F S2048 .f32 := broadcastInDim S2048 ![] bcast_S_S2048 main_cst_5
  fn_part1 (F := F) main_v12 main_v14 main_v15
-- ==== KernelIdeal.lean ====
abbrev S2048x3 : Shape := ⟨2, ![2048, 3]⟩
abbrev S2048x1 : Shape := ⟨2, ![2048, 1]⟩
abbrev S2048x4 : Shape := ⟨2, ![2048, 4]⟩
abbrev S2048x17 : Shape := ⟨2, ![2048, 17]⟩
abbrev S1 : Shape := ⟨1, ![1]⟩
abbrev S6144 : Shape := ⟨1, ![6144]⟩
abbrev S8192 : Shape := ⟨1, ![8192]⟩
abbrev S2048 : Shape := ⟨1, ![2048]⟩
abbrev S34816 : Shape := ⟨1, ![34816]⟩
abbrev S16 : Shape := ⟨1, ![16]⟩
abbrev S57360 : Shape := ⟨1, ![57360]⟩
abbrev S80x80x108 : Shape := ⟨3, ![80, 80, 108]⟩
abbrev S200x108 : Shape := ⟨2, ![200, 108]⟩
abbrev S_ : Shape := ⟨0, ![]⟩
abbrev S10x108 : Shape := ⟨2, ![10, 108]⟩
abbrev S1x10x108 : Shape := ⟨3, ![1, 10, 108]⟩
abbrev S80x80x6x18 : Shape := ⟨4, ![80, 80, 6, 18]⟩
abbrev S80x80x6x1 : Shape := ⟨4, ![80, 80, 6, 1]⟩

abbrev nBuf : Table → Nat
  | .hbm => 17
  | .local .scVector .vmem => 15
  | _ => 0

abbrev bufTy : (tb : Table) → Fin (nBuf tb) → BufTy
  | .hbm, ⟨0, _⟩ => ⟨S2048x3, .f32⟩
  | .hbm, ⟨1, _⟩ => ⟨S2048x1, .f32⟩
  | .hbm, ⟨2, _⟩ => ⟨S2048x3, .f32⟩
  | .hbm, ⟨3, _⟩ => ⟨S2048x4, .f32⟩
  | .hbm, ⟨4, _⟩ => ⟨S2048x17, .f32⟩
  | .hbm, ⟨5, _⟩ => ⟨S1, .f32⟩
  | .hbm, ⟨6, _⟩ => ⟨S6144, .f32⟩
  | .hbm, ⟨7, _⟩ => ⟨S6144, .f32⟩
  | .hbm, ⟨8, _⟩ => ⟨S8192, .f32⟩
  | .hbm, ⟨9, _⟩ => ⟨S2048, .f32⟩
  | .hbm, ⟨10, _⟩ => ⟨S34816, .f32⟩
  | .hbm, ⟨11, _⟩ => ⟨S16, .f32⟩
  | .hbm, ⟨12, _⟩ => ⟨S57360, .f32⟩
  | .hbm, ⟨13, _⟩ => ⟨S80x80x108, .f32⟩
  | .hbm, ⟨14, _⟩ => ⟨S80x80x6x18, .f32⟩
  | .hbm, ⟨15, _⟩ => ⟨S_, .f32⟩
  | .hbm, ⟨16, _⟩ => ⟨S80x80x6x1, .f32⟩
  | .local .scVector .vmem, ⟨0, _⟩ => ⟨S57360, .f32⟩
  | .local .scVector .vmem, ⟨1, _⟩ => ⟨S2048, .f32⟩
  | .local .scVector .vmem, ⟨2, _⟩ => ⟨S2048, .f32⟩
  | .local .scVector .vmem, ⟨3, _⟩ => ⟨S2048, .f32⟩
  | .local .scVector .vmem, ⟨4, _⟩ => ⟨S2048, .f32⟩
  | .local .scVector .vmem, ⟨5, _⟩ => ⟨S2048, .f32⟩
  | .local .scVector .vmem, ⟨6, _⟩ => ⟨S2048, .f32⟩
  | .local .scVector .vmem, ⟨7, _⟩ => ⟨S2048, .i32⟩
  | .local .scVector .vmem, ⟨8, _⟩ => ⟨S2048, .i32⟩
  | .local .scVector .vmem, ⟨9, _⟩ => ⟨S2048, .i32⟩
  | .local .scVector .vmem, ⟨10, _⟩ => ⟨S2048, .i32⟩
  | .local .scVector .vmem, ⟨11, _⟩ => ⟨S2048, .i32⟩
  | .local .scVector .vmem, ⟨12, _⟩ => ⟨S2048, .i32⟩
  | .local .scVector .vmem, ⟨13, _⟩ => ⟨S2048, .i32⟩
  | .local .scVector .vmem, ⟨14, _⟩ => ⟨S200x108, .f32⟩
  | _, _ => ⟨S2048x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v6_scv : Ref sig .scVector := ⟨.hbm, 12, rfl⟩
abbrev main_v7_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "bg_dz" => some ((-27 / 10 : ℝ) : EReal)
  | "bg_xy" => some ((-1 / 12800 : ℝ) : EReal)
  | _ => none

abbrev grid0 : Pipeline.Grid := ⟨2, ![2, 16], ![false, false]⟩

@[reducible] def k0_t1_loop : Scf.Loop 32 :=
  let c0_i32_10 : BitVec 32 := 0#32
  let c128_i32 : BitVec 32 := 128#32
  let v28 : BitVec 32 := Scalar.addi c0_i32_10 c128_i32
  let c1_i32_11 : BitVec 32 := 1#32
  ⟨c0_i32_10, v28, c1_i32_11⟩

def k0_chk1 (v307 : IVec S16 32) : Prop :=
  (∀ a x, ((![v307] : Fin 1 → IVec S16 32) a x).toNat < S57360.size a)
theorem k0_idx1_inb : ∀ (v307 : IVec S16 32) (k0_hw1 : k0_chk1 v307), ∀ a x, ((![v307] : Fin 1 → IVec S16 32) a x).toNat < S57360.size a := fun v307 k0_hw1 => k0_hw1

def k0_chk2 (v310 : IVec S16 32) : Prop :=
  (∀ a x, ((![v310] : Fin 1 → IVec S16 32) a x).toNat < S57360.size a)
theorem k0_idx2_inb : ∀ (v310 : IVec S16 32) (k0_hw2 : k0_chk2 v310), ∀ a x, ((![v310] : Fin 1 → IVec S16 32) a x).toNat < S57360.size a := fun v310 k0_hw2 => k0_hw2

def k0_chk3 (v313 : IVec S16 32) : Prop :=
  (∀ a x, ((![v313] : Fin 1 → IVec S16 32) a x).toNat < S57360.size a)
theorem k0_idx3_inb : ∀ (v313 : IVec S16 32) (k0_hw3 : k0_chk3 v313), ∀ a x, ((![v313] : Fin 1 → IVec S16 32) a x).toNat < S57360.size a := fun v313 k0_hw3 => k0_hw3

def k0_chk4 (v316 : IVec S16 32) : Prop :=
  (∀ a x, ((![v316] : Fin 1 → IVec S16 32) a x).toNat < S57360.size a)
theorem k0_idx4_inb : ∀ (v316 : IVec S16 32) (k0_hw4 : k0_chk4 v316), ∀ a x, ((![v316] : Fin 1 → IVec S16 32) a x).toNat < S57360.size a := fun v316 k0_hw4 => k0_hw4

def k0_chk5 (v319 : IVec S16 32) : Prop :=
  (∀ a x, ((![v319] : Fin 1 → IVec S16 32) a x).toNat < S57360.size a)
theorem k0_idx5_inb : ∀ (v319 : IVec S16 32) (k0_hw5 : k0_chk5 v319), ∀ a x, ((![v319] : Fin 1 → IVec S16 32) a x).toNat < S57360.size a := fun v319 k0_hw5 => k0_hw5

def k0_chk6 (v322 : IVec S16 32) : Prop :=
  (∀ a x, ((![v322] : Fin 1 → IVec S16 32) a x).toNat < S57360.size a)
theorem k0_idx6_inb : ∀ (v322 : IVec S16 32) (k0_hw6 : k0_chk6 v322), ∀ a x, ((![v322] : Fin 1 → IVec S16 32) a x).toNat < S57360.size a := fun v322 k0_hw6 => k0_hw6

def k0_chk7 (v325 : IVec S16 32) : Prop :=
  (∀ a x, ((![v325] : Fin 1 → IVec S16 32) a x).toNat < S57360.size a)
theorem k0_idx7_inb : ∀ (v325 : IVec S16 32) (k0_hw7 : k0_chk7 v325), ∀ a x, ((![v325] : Fin 1 → IVec S16 32) a x).toNat < S57360.size a := fun v325 k0_hw7 => k0_hw7

def k0_chk8 (v328 : IVec S16 32) : Prop :=
  (∀ a x, ((![v328] : Fin 1 → IVec S16 32) a x).toNat < S57360.size a)
theorem k0_idx8_inb : ∀ (v328 : IVec S16 32) (k0_hw8 : k0_chk8 v328), ∀ a x, ((![v328] : Fin 1 → IVec S16 32) a x).toNat < S57360.size a := fun v328 k0_hw8 => k0_hw8

def k0_chk9 (v331 : IVec S16 32) : Prop :=
  (∀ a x, ((![v331] : Fin 1 → IVec S16 32) a x).toNat < S57360.size a)
theorem k0_idx9_inb : ∀ (v331 : IVec S16 32) (k0_hw9 : k0_chk9 v331), ∀ a x, ((![v331] : Fin 1 → IVec S16 32) a x).toNat < S57360.size a := fun v331 k0_hw9 => k0_hw9

def k0_chk10 (v334 : IVec S16 32) : Prop :=
  (∀ a x, ((![v334] : Fin 1 → IVec S16 32) a x).toNat < S57360.size a)
theorem k0_idx10_inb : ∀ (v334 : IVec S16 32) (k0_hw10 : k0_chk10 v334), ∀ a x, ((![v334] : Fin 1 → IVec S16 32) a x).toNat < S57360.size a := fun v334 k0_hw10 => k0_hw10

def k0_chk11 (v301 : IVec S16 32) : Prop :=
  (∀ a x, ((![v301] : Fin 1 → IVec S16 32) a x).toNat < S2048.size a) ∧
  (∀ a x, ((![v301] : Fin 1 → IVec S16 32) a x).toNat < S2048.size a) ∧
  (∀ a x, ((![v301] : Fin 1 → IVec S16 32) a x).toNat < S2048.size a) ∧
  (∀ a x, ((![v301] : Fin 1 → IVec S16 32) a x).toNat < S2048.size a) ∧
  (∀ a x, ((![v301] : Fin 1 → IVec S16 32) a x).toNat < S2048.size a) ∧
  (∀ a x, ((![v301] : Fin 1 → IVec S16 32) a x).toNat < S2048.size a) ∧
  (∀ a x, ((![v301] : Fin 1 → IVec S16 32) a x).toNat < S2048.size a) ∧
  (∀ a x, ((![v301] : Fin 1 → IVec S16 32) a x).toNat < S2048.size a) ∧
  (∀ a x, ((![v301] : Fin 1 → IVec S16 32) a x).toNat < S2048.size a) ∧
  (∀ a x, ((![v301] : Fin 1 → IVec S16 32) a x).toNat < S2048.size a) ∧
  (∀ a x, ((![v301] : Fin 1 → IVec S16 32) a x).toNat < S2048.size a) ∧
  (∀ a x, ((![v301] : Fin 1 → IVec S16 32) a x).toNat < S2048.size a)
theorem k0_idx11_inb : ∀ (v301 : IVec S16 32) (k0_hw11 : k0_chk11 v301), ∀ a x, ((![v301] : Fin 1 → IVec S16 32) a x).toNat < S2048.size a := fun v301 k0_hw11 => k0_hw11.1
theorem k0_idx12_inb : ∀ (v301 : IVec S16 32) (k0_hw11 : k0_chk11 v301), ∀ a x, ((![v301] : Fin 1 → IVec S16 32) a x).toNat < S2048.size a := fun v301 k0_hw11 => k0_hw11.2.1
theorem k0_idx13_inb : ∀ (v301 : IVec S16 32) (k0_hw11 : k0_chk11 v301), ∀ a x, ((![v301] : Fin 1 → IVec S16 32) a x).toNat < S2048.size a := fun v301 k0_hw11 => k0_hw11.2.2.1
theorem k0_idx14_inb : ∀ (v301 : IVec S16 32) (k0_hw11 : k0_chk11 v301), ∀ a x, ((![v301] : Fin 1 → IVec S16 32) a x).toNat < S2048.size a := fun v301 k0_hw11 => k0_hw11.2.2.2.1
theorem k0_idx15_inb : ∀ (v301 : IVec S16 32) (k0_hw11 : k0_chk11 v301), ∀ a x, ((![v301] : Fin 1 → IVec S16 32) a x).toNat < S2048.size a := fun v301 k0_hw11 => k0_hw11.2.2.2.2.1
theorem k0_idx16_inb : ∀ (v301 : IVec S16 32) (k0_hw11 : k0_chk11 v301), ∀ a x, ((![v301] : Fin 1 → IVec S16 32) a x).toNat < S2048.size a := fun v301 k0_hw11 => k0_hw11.2.2.2.2.2.1
theorem k0_idx17_inb : ∀ (v301 : IVec S16 32) (k0_hw11 : k0_chk11 v301), ∀ a x, ((![v301] : Fin 1 → IVec S16 32) a x).toNat < S2048.size a := fun v301 k0_hw11 => k0_hw11.2.2.2.2.2.2.1
theorem k0_idx18_inb : ∀ (v301 : IVec S16 32) (k0_hw11 : k0_chk11 v301), ∀ a x, ((![v301] : Fin 1 → IVec S16 32) a x).toNat < S2048.size a := fun v301 k0_hw11 => k0_hw11.2.2.2.2.2.2.2.1
theorem k0_idx19_inb : ∀ (v301 : IVec S16 32) (k0_hw11 : k0_chk11 v301), ∀ a x, ((![v301] : Fin 1 → IVec S16 32) a x).toNat < S2048.size a := fun v301 k0_hw11 => k0_hw11.2.2.2.2.2.2.2.2.1
theorem k0_idx20_inb : ∀ (v301 : IVec S16 32) (k0_hw11 : k0_chk11 v301), ∀ a x, ((![v301] : Fin 1 → IVec S16 32) a x).toNat < S2048.size a := fun v301 k0_hw11 => k0_hw11.2.2.2.2.2.2.2.2.2.1
theorem k0_idx21_inb : ∀ (v301 : IVec S16 32) (k0_hw11 : k0_chk11 v301), ∀ a x, ((![v301] : Fin 1 → IVec S16 32) a x).toNat < S2048.size a := fun v301 k0_hw11 => k0_hw11.2.2.2.2.2.2.2.2.2.2.1
theorem k0_idx22_inb : ∀ (v301 : IVec S16 32) (k0_hw11 : k0_chk11 v301), ∀ a x, ((![v301] : Fin 1 → IVec S16 32) a x).toNat < S2048.size a := fun v301 k0_hw11 => k0_hw11.2.2.2.2.2.2.2.2.2.2.2

def k0_chk12 (v544 : IVec S16 32) : Prop :=
  (∀ a x, ((![v544] : Fin 1 → IVec S16 32) a x).toNat < S2048.size a)
theorem k0_idx23_inb : ∀ (v544 : IVec S16 32) (k0_hw12 : k0_chk12 v544), ∀ a x, ((![v544] : Fin 1 → IVec S16 32) a x).toNat < S2048.size a := fun v544 k0_hw12 => k0_hw12
@[reducible] def k0_t2_loop : Scf.Loop 32 :=
  let c0_i32_14 : BitVec 32 := 0#32
  let c1350_i32 : BitVec 32 := 1350#32
  let v31 : BitVec 32 := Scalar.addi c0_i32_14 c1350_i32
  let c1_i32_15 : BitVec 32 := 1#32
  ⟨c0_i32_14, v31, c1_i32_15⟩

def k0_chk13 (v325 : IVec S16 32) (v328 : IVec S16 32) : Prop :=
  (∀ a x, ((![v325, v328] : Fin 2 → IVec S16 32) a x).toNat < S200x108.size a)
theorem k0_idx24_inb : ∀ (v325 : IVec S16 32) (v328 : IVec S16 32) (k0_hw13 : k0_chk13 v325 v328), ∀ a x, ((![v325, v328] : Fin 2 → IVec S16 32) a x).toNat < S200x108.size a := fun v325 v328 k0_hw13 => k0_hw13
@[reducible] def k0_t3_loop : Scf.Loop 32 :=
  let c0_i32_18 : BitVec 32 := 0#32
  let c75_i32 : BitVec 32 := 75#32
  let v33 : BitVec 32 := Scalar.addi c0_i32_18 c75_i32
  let c1_i32_19 : BitVec 32 := 1#32
  ⟨c0_i32_18, v33, c1_i32_19⟩

def k0_chk14 (v384 : IVec S16 32) (v388 : IVec S16 32) : Prop :=
  (∀ a x, ((![v384, v388] : Fin 2 → IVec S16 32) a x).toNat < S200x108.size a)
theorem k0_idx25_inb : ∀ (v384 : IVec S16 32) (v388 : IVec S16 32) (k0_hw14 : k0_chk14 v384 v388), ∀ a x, ((![v384, v388] : Fin 2 → IVec S16 32) a x).toNat < S200x108.size a := fun v384 v388 k0_hw14 => k0_hw14
@[reducible] def k0_t4_loop (v29 : BitVec 32) : Scf.Loop 32 :=
  let c0_i32_22 : BitVec 32 := 0#32
  let v34 : BitVec 32 := Scalar.subi v29 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let c1_i32_24 : BitVec 32 := 1#32
  ⟨c0_i32_22, v38, c1_i32_24⟩

def k0_chk16 (v299 : IVec S16 32) : Prop :=
  (∀ a x, ((![v299] : Fin 1 → IVec S16 32) a x).toNat < S2048.size a)
theorem k0_idx26_inb : ∀ (v299 : IVec S16 32) (k0_hw16 : k0_chk16 v299), ∀ a x, ((![v299] : Fin 1 → IVec S16 32) a x).toNat < S2048.size a := fun v299 k0_hw16 => k0_hw16

def k0_chk17 (v304 : IVec S16 32) : Prop :=
  (∀ a x, ((![v304] : Fin 1 → IVec S16 32) a x).toNat < S57360.size a)
theorem k0_idx27_inb : ∀ (v304 : IVec S16 32) (k0_hw17 : k0_chk17 v304), ∀ a x, ((![v304] : Fin 1 → IVec S16 32) a x).toNat < S57360.size a := fun v304 k0_hw17 => k0_hw17

def k0_chk18 (v307 : IVec S16 32) : Prop :=
  (∀ a x, ((![v307] : Fin 1 → IVec S16 32) a x).toNat < S57360.size a)
theorem k0_idx28_inb : ∀ (v307 : IVec S16 32) (k0_hw18 : k0_chk18 v307), ∀ a x, ((![v307] : Fin 1 → IVec S16 32) a x).toNat < S57360.size a := fun v307 k0_hw18 => k0_hw18

def k0_chk19 (v310 : IVec S16 32) : Prop :=
  (∀ a x, ((![v310] : Fin 1 → IVec S16 32) a x).toNat < S57360.size a)
theorem k0_idx29_inb : ∀ (v310 : IVec S16 32) (k0_hw19 : k0_chk19 v310), ∀ a x, ((![v310] : Fin 1 → IVec S16 32) a x).toNat < S57360.size a := fun v310 k0_hw19 => k0_hw19

def k0_chk21 (v319 : IVec S16 32) : Prop :=
  (∀ a x, ((![v319] : Fin 1 → IVec S16 32) a x).toNat < S57360.size a)
theorem k0_idx36_inb : ∀ (v319 : IVec S16 32) (k0_hw21 : k0_chk21 v319), ∀ a x, ((![v319] : Fin 1 → IVec S16 32) a x).toNat < S57360.size a := fun v319 k0_hw21 => k0_hw21

def k0_chk20 (v300 : IVec S16 32) : Prop :=
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a)
theorem k0_idx30_inb : ∀ (v300 : IVec S16 32) (k0_hw20 : k0_chk20 v300), ∀ a x, ((![v300] : Fin 1 → IVec S16 32) a x).toNat < S2048.size a := fun v300 k0_hw20 => k0_hw20.1
theorem k0_idx31_inb : ∀ (v300 : IVec S16 32) (k0_hw20 : k0_chk20 v300), ∀ a x, ((![v300] : Fin 1 → IVec S16 32) a x).toNat < S2048.size a := fun v300 k0_hw20 => k0_hw20.2.1
theorem k0_idx32_inb : ∀ (v300 : IVec S16 32) (k0_hw20 : k0_chk20 v300), ∀ a x, ((![v300] : Fin 1 → IVec S16 32) a x).toNat < S2048.size a := fun v300 k0_hw20 => k0_hw20.2.2.1
theorem k0_idx33_inb : ∀ (v300 : IVec S16 32) (k0_hw20 : k0_chk20 v300), ∀ a x, ((![v300] : Fin 1 → IVec S16 32) a x).toNat < S2048.size a := fun v300 k0_hw20 => k0_hw20.2.2.2.1
theorem k0_idx34_inb : ∀ (v300 : IVec S16 32) (k0_hw20 : k0_chk20 v300), ∀ a x, ((![v300] : Fin 1 → IVec S16 32) a x).toNat < S2048.size a := fun v300 k0_hw20 => k0_hw20.2.2.2.2.1
theorem k0_idx35_inb : ∀ (v300 : IVec S16 32) (k0_hw20 : k0_chk20 v300), ∀ a x, ((![v300] : Fin 1 → IVec S16 32) a x).toNat < S2048.size a := fun v300 k0_hw20 => k0_hw20.2.2.2.2.2.1
theorem k0_idx37_inb : ∀ (v300 : IVec S16 32) (k0_hw20 : k0_chk20 v300), ∀ a x, ((![v300] : Fin 1 → IVec S16 32) a x).toNat < S2048.size a := fun v300 k0_hw20 => k0_hw20.2.2.2.2.2.2.1
theorem k0_idx38_inb : ∀ (v300 : IVec S16 32) (k0_hw20 : k0_chk20 v300), ∀ a x, ((![v300] : Fin 1 → IVec S16 32) a x).toNat < S2048.size a := fun v300 k0_hw20 => k0_hw20.2.2.2.2.2.2.2.1
theorem k0_idx39_inb : ∀ (v300 : IVec S16 32) (k0_hw20 : k0_chk20 v300), ∀ a x, ((![v300] : Fin 1 → IVec S16 32) a x).toNat < S2048.size a := fun v300 k0_hw20 => k0_hw20.2.2.2.2.2.2.2.2.1
theorem k0_idx40_inb : ∀ (v300 : IVec S16 32) (k0_hw20 : k0_chk20 v300), ∀ a x, ((![v300] : Fin 1 → IVec S16 32) a x).toNat < S2048.size a := fun v300 k0_hw20 => k0_hw20.2.2.2.2.2.2.2.2.2.1
theorem k0_idx41_inb : ∀ (v300 : IVec S16 32) (k0_hw20 : k0_chk20 v300), ∀ a x, ((![v300] : Fin 1 → IVec S16 32) a x).toNat < S2048.size a := fun v300 k0_hw20 => k0_hw20.2.2.2.2.2.2.2.2.2.2.1
theorem k0_idx42_inb : ∀ (v300 : IVec S16 32) (k0_hw20 : k0_chk20 v300), ∀ a x, ((![v300] : Fin 1 → IVec S16 32) a x).toNat < S2048.size a := fun v300 k0_hw20 => k0_hw20.2.2.2.2.2.2.2.2.2.2.2

def k0_chk22 (v330 : IVec S16 32) : Prop :=
  (∀ a x, ((![v330] : Fin 1 → IVec S16 32) a x).toNat < S57360.size a)
theorem k0_idx43_inb : ∀ (v330 : IVec S16 32) (k0_hw22 : k0_chk22 v330), ∀ a x, ((![v330] : Fin 1 → IVec S16 32) a x).toNat < S57360.size a := fun v330 k0_hw22 => k0_hw22

def k0_chk23 (v333 : IVec S16 32) : Prop :=
  (∀ a x, ((![v333] : Fin 1 → IVec S16 32) a x).toNat < S57360.size a)
theorem k0_idx44_inb : ∀ (v333 : IVec S16 32) (k0_hw23 : k0_chk23 v333), ∀ a x, ((![v333] : Fin 1 → IVec S16 32) a x).toNat < S57360.size a := fun v333 k0_hw23 => k0_hw23

def k0_chk24 (v336 : IVec S16 32) : Prop :=
  (∀ a x, ((![v336] : Fin 1 → IVec S16 32) a x).toNat < S57360.size a)
theorem k0_idx45_inb : ∀ (v336 : IVec S16 32) (k0_hw24 : k0_chk24 v336), ∀ a x, ((![v336] : Fin 1 → IVec S16 32) a x).toNat < S57360.size a := fun v336 k0_hw24 => k0_hw24

def k0_chk25 (v339 : IVec S16 32) : Prop :=
  (∀ a x, ((![v339] : Fin 1 → IVec S16 32) a x).toNat < S57360.size a)
theorem k0_idx46_inb : ∀ (v339 : IVec S16 32) (k0_hw25 : k0_chk25 v339), ∀ a x, ((![v339] : Fin 1 → IVec S16 32) a x).toNat < S57360.size a := fun v339 k0_hw25 => k0_hw25

def k0_chk26 (v342 : IVec S16 32) : Prop :=
  (∀ a x, ((![v342] : Fin 1 → IVec S16 32) a x).toNat < S57360.size a)
theorem k0_idx47_inb : ∀ (v342 : IVec S16 32) (k0_hw26 : k0_chk26 v342), ∀ a x, ((![v342] : Fin 1 → IVec S16 32) a x).toNat < S57360.size a := fun v342 k0_hw26 => k0_hw26

def k0_chk27 (v345 : IVec S16 32) : Prop :=
  (∀ a x, ((![v345] : Fin 1 → IVec S16 32) a x).toNat < S57360.size a)
theorem k0_idx48_inb : ∀ (v345 : IVec S16 32) (k0_hw27 : k0_chk27 v345), ∀ a x, ((![v345] : Fin 1 → IVec S16 32) a x).toNat < S57360.size a := fun v345 k0_hw27 => k0_hw27

def k0_chk28 (v348 : IVec S16 32) : Prop :=
  (∀ a x, ((![v348] : Fin 1 → IVec S16 32) a x).toNat < S57360.size a)
theorem k0_idx49_inb : ∀ (v348 : IVec S16 32) (k0_hw28 : k0_chk28 v348), ∀ a x, ((![v348] : Fin 1 → IVec S16 32) a x).toNat < S57360.size a := fun v348 k0_hw28 => k0_hw28

def k0_chk29 (v351 : IVec S16 32) : Prop :=
  (∀ a x, ((![v351] : Fin 1 → IVec S16 32) a x).toNat < S57360.size a)
theorem k0_idx50_inb : ∀ (v351 : IVec S16 32) (k0_hw29 : k0_chk29 v351), ∀ a x, ((![v351] : Fin 1 → IVec S16 32) a x).toNat < S57360.size a := fun v351 k0_hw29 => k0_hw29

def k0_chk30 (v354 : IVec S16 32) : Prop :=
  (∀ a x, ((![v354] : Fin 1 → IVec S16 32) a x).toNat < S57360.size a)
theorem k0_idx51_inb : ∀ (v354 : IVec S16 32) (k0_hw30 : k0_chk30 v354), ∀ a x, ((![v354] : Fin 1 → IVec S16 32) a x).toNat < S57360.size a := fun v354 k0_hw30 => k0_hw30

def k0_chk31 (v357 : IVec S16 32) : Prop :=
  (∀ a x, ((![v357] : Fin 1 → IVec S16 32) a x).toNat < S57360.size a)
theorem k0_idx52_inb : ∀ (v357 : IVec S16 32) (k0_hw31 : k0_chk31 v357), ∀ a x, ((![v357] : Fin 1 → IVec S16 32) a x).toNat < S57360.size a := fun v357 k0_hw31 => k0_hw31

def k0_chk32 (v360 : IVec S16 32) : Prop :=
  (∀ a x, ((![v360] : Fin 1 → IVec S16 32) a x).toNat < S57360.size a)
theorem k0_idx53_inb : ∀ (v360 : IVec S16 32) (k0_hw32 : k0_chk32 v360), ∀ a x, ((![v360] : Fin 1 → IVec S16 32) a x).toNat < S57360.size a := fun v360 k0_hw32 => k0_hw32

def k0_chk33 (v363 : IVec S16 32) : Prop :=
  (∀ a x, ((![v363] : Fin 1 → IVec S16 32) a x).toNat < S57360.size a)
theorem k0_idx54_inb : ∀ (v363 : IVec S16 32) (k0_hw33 : k0_chk33 v363), ∀ a x, ((![v363] : Fin 1 → IVec S16 32) a x).toNat < S57360.size a := fun v363 k0_hw33 => k0_hw33

def k0_chk34 (v366 : IVec S16 32) : Prop :=
  (∀ a x, ((![v366] : Fin 1 → IVec S16 32) a x).toNat < S57360.size a)
theorem k0_idx55_inb : ∀ (v366 : IVec S16 32) (k0_hw34 : k0_chk34 v366), ∀ a x, ((![v366] : Fin 1 → IVec S16 32) a x).toNat < S57360.size a := fun v366 k0_hw34 => k0_hw34

def k0_chk35 (v369 : IVec S16 32) : Prop :=
  (∀ a x, ((![v369] : Fin 1 → IVec S16 32) a x).toNat < S57360.size a)
theorem k0_idx56_inb : ∀ (v369 : IVec S16 32) (k0_hw35 : k0_chk35 v369), ∀ a x, ((![v369] : Fin 1 → IVec S16 32) a x).toNat < S57360.size a := fun v369 k0_hw35 => k0_hw35

def k0_chk36 (v372 : IVec S16 32) : Prop :=
  (∀ a x, ((![v372] : Fin 1 → IVec S16 32) a x).toNat < S57360.size a)
theorem k0_idx57_inb : ∀ (v372 : IVec S16 32) (k0_hw36 : k0_chk36 v372), ∀ a x, ((![v372] : Fin 1 → IVec S16 32) a x).toNat < S57360.size a := fun v372 k0_hw36 => k0_hw36

def k0_chk37 (v375 : IVec S16 32) : Prop :=
  (∀ a x, ((![v375] : Fin 1 → IVec S16 32) a x).toNat < S57360.size a)
theorem k0_idx58_inb : ∀ (v375 : IVec S16 32) (k0_hw37 : k0_chk37 v375), ∀ a x, ((![v375] : Fin 1 → IVec S16 32) a x).toNat < S57360.size a := fun v375 k0_hw37 => k0_hw37

def k0_chk38 (v378 : IVec S16 32) : Prop :=
  (∀ a x, ((![v378] : Fin 1 → IVec S16 32) a x).toNat < S57360.size a)
theorem k0_idx59_inb : ∀ (v378 : IVec S16 32) (k0_hw38 : k0_chk38 v378), ∀ a x, ((![v378] : Fin 1 → IVec S16 32) a x).toNat < S57360.size a := fun v378 k0_hw38 => k0_hw38
@[reducible] def k0_t5_loop (v410 : BitVec 32) : Scf.Loop 32 :=
  let c0_i32_273 : BitVec 32 := 0#32
  let c15_i32_264 : BitVec 32 := 15#32
  let v411 : BitVec 32 := Scalar.addi v410 c15_i32_264
  let c0_i32_266 : BitVec 32 := 0#32
  let v413 : BitVec 1 := Scalar.cmpi .sgt v411 c0_i32_266
  let v414 : BitVec 32 := Scalar.extui v413
  let c0_i32_267 : BitVec 32 := 0#32
  let v415 : BitVec 1 := Scalar.cmpi .slt v411 c0_i32_267
  let v416 : BitVec 32 := Scalar.extui v415
  let v417 : BitVec 32 := Scalar.subi v414 v416
  let c16_i32_265 : BitVec 32 := 16#32
  let c0_i32_268 : BitVec 32 := 0#32
  let v418 : BitVec 1 := Scalar.cmpi .sgt c16_i32_265 c0_i32_268
  let v419 : BitVec 32 := Scalar.extui v418
  let c0_i32_269 : BitVec 32 := 0#32
  let v420 : BitVec 1 := Scalar.cmpi .slt c16_i32_265 c0_i32_269
  let v421 : BitVec 32 := Scalar.extui v420
  let v422 : BitVec 32 := Scalar.subi v419 v421
  let v423 : BitVec 1 := Scalar.cmpi .ne v417 v422
  let v424 : BitVec 32 := Scalar.remsi v411 c16_i32_265
  let c0_i32_270 : BitVec 32 := 0#32
  let v425 : BitVec 1 := Scalar.cmpi .ne v424 c0_i32_270
  let v426 : BitVec 1 := Scalar.andi v423 v425
  let v412 : BitVec 32 := Scalar.divsi v411 c16_i32_265
  let c1_i32_271 : BitVec 32 := 1#32
  let v427 : BitVec 32 := Scalar.subi v412 c1_i32_271
  let v428 : BitVec 32 := Scalar.select v426 v427 v412
  let v429 : BitVec 32 := Scalar.subi v428 c0_i32_273
  let c1_i32_274 : BitVec 32 := 1#32
  let v431 : BitVec 32 := Scalar.divsi v429 c1_i32_274
  let v432 : BitVec 32 := Scalar.muli v431 c1_i32_274
  let v433 : BitVec 32 := Scalar.addi c0_i32_273 v432
  let c1_i32_275 : BitVec 32 := 1#32
  ⟨c0_i32_273, v433, c1_i32_275⟩

def k0_chk40 (v496 : IVec S16 32) (v500 : IVec S16 32) : Prop :=
  (∀ a x, ((![v496, v500] : Fin 2 → IVec S16 32) a x).toNat < S200x108.size a)
theorem k0_idx60_inb : ∀ (v496 : IVec S16 32) (v500 : IVec S16 32) (k0_hw40 : k0_chk40 v496 v500), ∀ a x, ((![v496, v500] : Fin 2 → IVec S16 32) a x).toNat < S200x108.size a := fun v496 v500 k0_hw40 => k0_hw40

def k0_chk41 (v496 : IVec S16 32) (v503 : IVec S16 32) : Prop :=
  (∀ a x, ((![v496, v503] : Fin 2 → IVec S16 32) a x).toNat < S200x108.size a)
theorem k0_idx61_inb : ∀ (v496 : IVec S16 32) (v503 : IVec S16 32) (k0_hw41 : k0_chk41 v496 v503), ∀ a x, ((![v496, v503] : Fin 2 → IVec S16 32) a x).toNat < S200x108.size a := fun v496 v503 k0_hw41 => k0_hw41

def k0_chk42 (v496 : IVec S16 32) (v506 : IVec S16 32) : Prop :=
  (∀ a x, ((![v496, v506] : Fin 2 → IVec S16 32) a x).toNat < S200x108.size a)
theorem k0_idx62_inb : ∀ (v496 : IVec S16 32) (v506 : IVec S16 32) (k0_hw42 : k0_chk42 v496 v506), ∀ a x, ((![v496, v506] : Fin 2 → IVec S16 32) a x).toNat < S200x108.size a := fun v496 v506 k0_hw42 => k0_hw42

def k0_chk43 (v496 : IVec S16 32) (v509 : IVec S16 32) : Prop :=
  (∀ a x, ((![v496, v509] : Fin 2 → IVec S16 32) a x).toNat < S200x108.size a)
theorem k0_idx63_inb : ∀ (v496 : IVec S16 32) (v509 : IVec S16 32) (k0_hw43 : k0_chk43 v496 v509), ∀ a x, ((![v496, v509] : Fin 2 → IVec S16 32) a x).toNat < S200x108.size a := fun v496 v509 k0_hw43 => k0_hw43

def k0_chk44 (v496 : IVec S16 32) (v512 : IVec S16 32) : Prop :=
  (∀ a x, ((![v496, v512] : Fin 2 → IVec S16 32) a x).toNat < S200x108.size a)
theorem k0_idx64_inb : ∀ (v496 : IVec S16 32) (v512 : IVec S16 32) (k0_hw44 : k0_chk44 v496 v512), ∀ a x, ((![v496, v512] : Fin 2 → IVec S16 32) a x).toNat < S200x108.size a := fun v496 v512 k0_hw44 => k0_hw44

def k0_chk45 (v496 : IVec S16 32) (v515 : IVec S16 32) : Prop :=
  (∀ a x, ((![v496, v515] : Fin 2 → IVec S16 32) a x).toNat < S200x108.size a)
theorem k0_idx65_inb : ∀ (v496 : IVec S16 32) (v515 : IVec S16 32) (k0_hw45 : k0_chk45 v496 v515), ∀ a x, ((![v496, v515] : Fin 2 → IVec S16 32) a x).toNat < S200x108.size a := fun v496 v515 k0_hw45 => k0_hw45

def k0_chk46 (v496 : IVec S16 32) (v518 : IVec S16 32) : Prop :=
  (∀ a x, ((![v496, v518] : Fin 2 → IVec S16 32) a x).toNat < S200x108.size a)
theorem k0_idx66_inb : ∀ (v496 : IVec S16 32) (v518 : IVec S16 32) (k0_hw46 : k0_chk46 v496 v518), ∀ a x, ((![v496, v518] : Fin 2 → IVec S16 32) a x).toNat < S200x108.size a := fun v496 v518 k0_hw46 => k0_hw46

def k0_chk47 (v496 : IVec S16 32) (v521 : IVec S16 32) : Prop :=
  (∀ a x, ((![v496, v521] : Fin 2 → IVec S16 32) a x).toNat < S200x108.size a)
theorem k0_idx67_inb : ∀ (v496 : IVec S16 32) (v521 : IVec S16 32) (k0_hw47 : k0_chk47 v496 v521), ∀ a x, ((![v496, v521] : Fin 2 → IVec S16 32) a x).toNat < S200x108.size a := fun v496 v521 k0_hw47 => k0_hw47

def k0_chk48 (v496 : IVec S16 32) (v524 : IVec S16 32) : Prop :=
  (∀ a x, ((![v496, v524] : Fin 2 → IVec S16 32) a x).toNat < S200x108.size a)
theorem k0_idx68_inb : ∀ (v496 : IVec S16 32) (v524 : IVec S16 32) (k0_hw48 : k0_chk48 v496 v524), ∀ a x, ((![v496, v524] : Fin 2 → IVec S16 32) a x).toNat < S200x108.size a := fun v496 v524 k0_hw48 => k0_hw48

def k0_chk49 (v496 : IVec S16 32) (v527 : IVec S16 32) : Prop :=
  (∀ a x, ((![v496, v527] : Fin 2 → IVec S16 32) a x).toNat < S200x108.size a)
theorem k0_idx69_inb : ∀ (v496 : IVec S16 32) (v527 : IVec S16 32) (k0_hw49 : k0_chk49 v496 v527), ∀ a x, ((![v496, v527] : Fin 2 → IVec S16 32) a x).toNat < S200x108.size a := fun v496 v527 k0_hw49 => k0_hw49

def k0_chk50 (v496 : IVec S16 32) (v530 : IVec S16 32) : Prop :=
  (∀ a x, ((![v496, v530] : Fin 2 → IVec S16 32) a x).toNat < S200x108.size a)
theorem k0_idx70_inb : ∀ (v496 : IVec S16 32) (v530 : IVec S16 32) (k0_hw50 : k0_chk50 v496 v530), ∀ a x, ((![v496, v530] : Fin 2 → IVec S16 32) a x).toNat < S200x108.size a := fun v496 v530 k0_hw50 => k0_hw50

def k0_chk51 (v496 : IVec S16 32) (v533 : IVec S16 32) : Prop :=
  (∀ a x, ((![v496, v533] : Fin 2 → IVec S16 32) a x).toNat < S200x108.size a)
theorem k0_idx71_inb : ∀ (v496 : IVec S16 32) (v533 : IVec S16 32) (k0_hw51 : k0_chk51 v496 v533), ∀ a x, ((![v496, v533] : Fin 2 → IVec S16 32) a x).toNat < S200x108.size a := fun v496 v533 k0_hw51 => k0_hw51

def k0_chk52 (v496 : IVec S16 32) (v536 : IVec S16 32) : Prop :=
  (∀ a x, ((![v496, v536] : Fin 2 → IVec S16 32) a x).toNat < S200x108.size a)
theorem k0_idx72_inb : ∀ (v496 : IVec S16 32) (v536 : IVec S16 32) (k0_hw52 : k0_chk52 v496 v536), ∀ a x, ((![v496, v536] : Fin 2 → IVec S16 32) a x).toNat < S200x108.size a := fun v496 v536 k0_hw52 => k0_hw52

def k0_chk53 (v496 : IVec S16 32) (v539 : IVec S16 32) : Prop :=
  (∀ a x, ((![v496, v539] : Fin 2 → IVec S16 32) a x).toNat < S200x108.size a)
theorem k0_idx73_inb : ∀ (v496 : IVec S16 32) (v539 : IVec S16 32) (k0_hw53 : k0_chk53 v496 v539), ∀ a x, ((![v496, v539] : Fin 2 → IVec S16 32) a x).toNat < S200x108.size a := fun v496 v539 k0_hw53 => k0_hw53

def k0_chk54 (v496 : IVec S16 32) (v542 : IVec S16 32) : Prop :=
  (∀ a x, ((![v496, v542] : Fin 2 → IVec S16 32) a x).toNat < S200x108.size a)
theorem k0_idx74_inb : ∀ (v496 : IVec S16 32) (v542 : IVec S16 32) (k0_hw54 : k0_chk54 v496 v542), ∀ a x, ((![v496, v542] : Fin 2 → IVec S16 32) a x).toNat < S200x108.size a := fun v496 v542 k0_hw54 => k0_hw54

def k0_chk55 (v496 : IVec S16 32) (v545 : IVec S16 32) : Prop :=
  (∀ a x, ((![v496, v545] : Fin 2 → IVec S16 32) a x).toNat < S200x108.size a)
theorem k0_idx75_inb : ∀ (v496 : IVec S16 32) (v545 : IVec S16 32) (k0_hw55 : k0_chk55 v496 v545), ∀ a x, ((![v496, v545] : Fin 2 → IVec S16 32) a x).toNat < S200x108.size a := fun v496 v545 k0_hw55 => k0_hw55

def k0_chk56 (v496 : IVec S16 32) (v548 : IVec S16 32) : Prop :=
  (∀ a x, ((![v496, v548] : Fin 2 → IVec S16 32) a x).toNat < S200x108.size a)
theorem k0_idx76_inb : ∀ (v496 : IVec S16 32) (v548 : IVec S16 32) (k0_hw56 : k0_chk56 v496 v548), ∀ a x, ((![v496, v548] : Fin 2 → IVec S16 32) a x).toNat < S200x108.size a := fun v496 v548 k0_hw56 => k0_hw56
@[reducible] def k0_t6_loop (v410 : BitVec 32) : Scf.Loop 32 :=
  let c0_i32_273 : BitVec 32 := 0#32
  let c15_i32_264 : BitVec 32 := 15#32
  let v411 : BitVec 32 := Scalar.addi v410 c15_i32_264
  let c0_i32_266 : BitVec 32 := 0#32
  let v413 : BitVec 1 := Scalar.cmpi .sgt v411 c0_i32_266
  let v414 : BitVec 32 := Scalar.extui v413
  let c0_i32_267 : BitVec 32 := 0#32
  let v415 : BitVec 1 := Scalar.cmpi .slt v411 c0_i32_267
  let v416 : BitVec 32 := Scalar.extui v415
  let v417 : BitVec 32 := Scalar.subi v414 v416
  let c16_i32_265 : BitVec 32 := 16#32
  let c0_i32_268 : BitVec 32 := 0#32
  let v418 : BitVec 1 := Scalar.cmpi .sgt c16_i32_265 c0_i32_268
  let v419 : BitVec 32 := Scalar.extui v418
  let c0_i32_269 : BitVec 32 := 0#32
  let v420 : BitVec 1 := Scalar.cmpi .slt c16_i32_265 c0_i32_269
  let v421 : BitVec 32 := Scalar.extui v420
  let v422 : BitVec 32 := Scalar.subi v419 v421
  let v423 : BitVec 1 := Scalar.cmpi .ne v417 v422
  let v424 : BitVec 32 := Scalar.remsi v411 c16_i32_265
  let c0_i32_270 : BitVec 32 := 0#32
  let v425 : BitVec 1 := Scalar.cmpi .ne v424 c0_i32_270
  let v426 : BitVec 1 := Scalar.andi v423 v425
  let v412 : BitVec 32 := Scalar.divsi v411 c16_i32_265
  let c1_i32_271 : BitVec 32 := 1#32
  let v427 : BitVec 32 := Scalar.subi v412 c1_i32_271
  let v428 : BitVec 32 := Scalar.select v426 v427 v412
  let v429 : BitVec 32 := Scalar.subi v428 c0_i32_273
  let c1_i32_274 : BitVec 32 := 1#32
  let v431 : BitVec 32 := Scalar.divsi v429 c1_i32_274
  let v432 : BitVec 32 := Scalar.muli v431 c1_i32_274
  let v433 : BitVec 32 := Scalar.addi c0_i32_273 v432
  let v430 : BitVec 32 := Scalar.addi c0_i32_273 v429
  let c1_i32_276 : BitVec 32 := 1#32
  ⟨v433, v430, c1_i32_276⟩

def k0_chk39 (v410 : BitVec 32) : Prop :=
  ((k0_t5_loop v410).OK) ∧
  ((k0_t6_loop v410).OK)
theorem k0_t5_ok : ∀ (v410 : BitVec 32) (k0_hw39 : k0_chk39 v410), (k0_t5_loop v410).OK := fun v410 k0_hw39 => k0_hw39.1
theorem k0_t6_ok : ∀ (v410 : BitVec 32) (k0_hw39 : k0_chk39 v410), (k0_t6_loop v410).OK := fun v410 k0_hw39 => k0_hw39.2

def k0_chk57 (v496 : IVec S16 32) (v500 : IVec S16 32) : Prop :=
  (∀ a x, ((![v496, v500] : Fin 2 → IVec S16 32) a x).toNat < S200x108.size a)
theorem k0_idx77_inb : ∀ (v496 : IVec S16 32) (v500 : IVec S16 32) (k0_hw57 : k0_chk57 v496 v500), ∀ a x, ((![v496, v500] : Fin 2 → IVec S16 32) a x).toNat < S200x108.size a := fun v496 v500 k0_hw57 => k0_hw57

def k0_chk58 (v496 : IVec S16 32) (v503 : IVec S16 32) : Prop :=
  (∀ a x, ((![v496, v503] : Fin 2 → IVec S16 32) a x).toNat < S200x108.size a)
theorem k0_idx78_inb : ∀ (v496 : IVec S16 32) (v503 : IVec S16 32) (k0_hw58 : k0_chk58 v496 v503), ∀ a x, ((![v496, v503] : Fin 2 → IVec S16 32) a x).toNat < S200x108.size a := fun v496 v503 k0_hw58 => k0_hw58

def k0_chk59 (v496 : IVec S16 32) (v506 : IVec S16 32) : Prop :=
  (∀ a x, ((![v496, v506] : Fin 2 → IVec S16 32) a x).toNat < S200x108.size a)
theorem k0_idx79_inb : ∀ (v496 : IVec S16 32) (v506 : IVec S16 32) (k0_hw59 : k0_chk59 v496 v506), ∀ a x, ((![v496, v506] : Fin 2 → IVec S16 32) a x).toNat < S200x108.size a := fun v496 v506 k0_hw59 => k0_hw59

def k0_chk60 (v496 : IVec S16 32) (v509 : IVec S16 32) : Prop :=
  (∀ a x, ((![v496, v509] : Fin 2 → IVec S16 32) a x).toNat < S200x108.size a)
theorem k0_idx80_inb : ∀ (v496 : IVec S16 32) (v509 : IVec S16 32) (k0_hw60 : k0_chk60 v496 v509), ∀ a x, ((![v496, v509] : Fin 2 → IVec S16 32) a x).toNat < S200x108.size a := fun v496 v509 k0_hw60 => k0_hw60

def k0_chk61 (v496 : IVec S16 32) (v512 : IVec S16 32) : Prop :=
  (∀ a x, ((![v496, v512] : Fin 2 → IVec S16 32) a x).toNat < S200x108.size a)
theorem k0_idx81_inb : ∀ (v496 : IVec S16 32) (v512 : IVec S16 32) (k0_hw61 : k0_chk61 v496 v512), ∀ a x, ((![v496, v512] : Fin 2 → IVec S16 32) a x).toNat < S200x108.size a := fun v496 v512 k0_hw61 => k0_hw61

def k0_chk62 (v496 : IVec S16 32) (v515 : IVec S16 32) : Prop :=
  (∀ a x, ((![v496, v515] : Fin 2 → IVec S16 32) a x).toNat < S200x108.size a)
theorem k0_idx82_inb : ∀ (v496 : IVec S16 32) (v515 : IVec S16 32) (k0_hw62 : k0_chk62 v496 v515), ∀ a x, ((![v496, v515] : Fin 2 → IVec S16 32) a x).toNat < S200x108.size a := fun v496 v515 k0_hw62 => k0_hw62

def k0_chk63 (v496 : IVec S16 32) (v518 : IVec S16 32) : Prop :=
  (∀ a x, ((![v496, v518] : Fin 2 → IVec S16 32) a x).toNat < S200x108.size a)
theorem k0_idx83_inb : ∀ (v496 : IVec S16 32) (v518 : IVec S16 32) (k0_hw63 : k0_chk63 v496 v518), ∀ a x, ((![v496, v518] : Fin 2 → IVec S16 32) a x).toNat < S200x108.size a := fun v496 v518 k0_hw63 => k0_hw63

def k0_chk64 (v496 : IVec S16 32) (v521 : IVec S16 32) : Prop :=
  (∀ a x, ((![v496, v521] : Fin 2 → IVec S16 32) a x).toNat < S200x108.size a)
theorem k0_idx84_inb : ∀ (v496 : IVec S16 32) (v521 : IVec S16 32) (k0_hw64 : k0_chk64 v496 v521), ∀ a x, ((![v496, v521] : Fin 2 → IVec S16 32) a x).toNat < S200x108.size a := fun v496 v521 k0_hw64 => k0_hw64

def k0_chk65 (v496 : IVec S16 32) (v524 : IVec S16 32) : Prop :=
  (∀ a x, ((![v496, v524] : Fin 2 → IVec S16 32) a x).toNat < S200x108.size a)
theorem k0_idx85_inb : ∀ (v496 : IVec S16 32) (v524 : IVec S16 32) (k0_hw65 : k0_chk65 v496 v524), ∀ a x, ((![v496, v524] : Fin 2 → IVec S16 32) a x).toNat < S200x108.size a := fun v496 v524 k0_hw65 => k0_hw65

def k0_chk66 (v496 : IVec S16 32) (v527 : IVec S16 32) : Prop :=
  (∀ a x, ((![v496, v527] : Fin 2 → IVec S16 32) a x).toNat < S200x108.size a)
theorem k0_idx86_inb : ∀ (v496 : IVec S16 32) (v527 : IVec S16 32) (k0_hw66 : k0_chk66 v496 v527), ∀ a x, ((![v496, v527] : Fin 2 → IVec S16 32) a x).toNat < S200x108.size a := fun v496 v527 k0_hw66 => k0_hw66

def k0_chk67 (v496 : IVec S16 32) (v530 : IVec S16 32) : Prop :=
  (∀ a x, ((![v496, v530] : Fin 2 → IVec S16 32) a x).toNat < S200x108.size a)
theorem k0_idx87_inb : ∀ (v496 : IVec S16 32) (v530 : IVec S16 32) (k0_hw67 : k0_chk67 v496 v530), ∀ a x, ((![v496, v530] : Fin 2 → IVec S16 32) a x).toNat < S200x108.size a := fun v496 v530 k0_hw67 => k0_hw67

def k0_chk68 (v496 : IVec S16 32) (v533 : IVec S16 32) : Prop :=
  (∀ a x, ((![v496, v533] : Fin 2 → IVec S16 32) a x).toNat < S200x108.size a)
theorem k0_idx88_inb : ∀ (v496 : IVec S16 32) (v533 : IVec S16 32) (k0_hw68 : k0_chk68 v496 v533), ∀ a x, ((![v496, v533] : Fin 2 → IVec S16 32) a x).toNat < S200x108.size a := fun v496 v533 k0_hw68 => k0_hw68

def k0_chk69 (v496 : IVec S16 32) (v536 : IVec S16 32) : Prop :=
  (∀ a x, ((![v496, v536] : Fin 2 → IVec S16 32) a x).toNat < S200x108.size a)
theorem k0_idx89_inb : ∀ (v496 : IVec S16 32) (v536 : IVec S16 32) (k0_hw69 : k0_chk69 v496 v536), ∀ a x, ((![v496, v536] : Fin 2 → IVec S16 32) a x).toNat < S200x108.size a := fun v496 v536 k0_hw69 => k0_hw69

def k0_chk70 (v496 : IVec S16 32) (v539 : IVec S16 32) : Prop :=
  (∀ a x, ((![v496, v539] : Fin 2 → IVec S16 32) a x).toNat < S200x108.size a)
theorem k0_idx90_inb : ∀ (v496 : IVec S16 32) (v539 : IVec S16 32) (k0_hw70 : k0_chk70 v496 v539), ∀ a x, ((![v496, v539] : Fin 2 → IVec S16 32) a x).toNat < S200x108.size a := fun v496 v539 k0_hw70 => k0_hw70

def k0_chk71 (v496 : IVec S16 32) (v542 : IVec S16 32) : Prop :=
  (∀ a x, ((![v496, v542] : Fin 2 → IVec S16 32) a x).toNat < S200x108.size a)
theorem k0_idx91_inb : ∀ (v496 : IVec S16 32) (v542 : IVec S16 32) (k0_hw71 : k0_chk71 v496 v542), ∀ a x, ((![v496, v542] : Fin 2 → IVec S16 32) a x).toNat < S200x108.size a := fun v496 v542 k0_hw71 => k0_hw71

def k0_chk72 (v496 : IVec S16 32) (v545 : IVec S16 32) : Prop :=
  (∀ a x, ((![v496, v545] : Fin 2 → IVec S16 32) a x).toNat < S200x108.size a)
theorem k0_idx92_inb : ∀ (v496 : IVec S16 32) (v545 : IVec S16 32) (k0_hw72 : k0_chk72 v496 v545), ∀ a x, ((![v496, v545] : Fin 2 → IVec S16 32) a x).toNat < S200x108.size a := fun v496 v545 k0_hw72 => k0_hw72

def k0_chk73 (v496 : IVec S16 32) (v548 : IVec S16 32) : Prop :=
  (∀ a x, ((![v496, v548] : Fin 2 → IVec S16 32) a x).toNat < S200x108.size a)
theorem k0_idx93_inb : ∀ (v496 : IVec S16 32) (v548 : IVec S16 32) (k0_hw73 : k0_chk73 v496 v548), ∀ a x, ((![v496, v548] : Fin 2 → IVec S16 32) a x).toNat < S200x108.size a := fun v496 v548 k0_hw73 => k0_hw73
@[reducible] def k0_t7_loop (v29 : BitVec 32) : Scf.Loop 32 :=
  let c0_i32_22 : BitVec 32 := 0#32
  let v34 : BitVec 32 := Scalar.subi v29 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let v35 : BitVec 32 := Scalar.addi c0_i32_22 v34
  let c1_i32_25 : BitVec 32 := 1#32
  ⟨v38, v35, c1_i32_25⟩

def k0_chk15 (v29 : BitVec 32) : Prop :=
  ((k0_t4_loop v29).OK) ∧
  ((k0_t7_loop v29).OK)
theorem k0_t4_ok : ∀ (v29 : BitVec 32) (k0_hw15 : k0_chk15 v29), (k0_t4_loop v29).OK := fun v29 k0_hw15 => k0_hw15.1
theorem k0_t7_ok : ∀ (v29 : BitVec 32) (k0_hw15 : k0_chk15 v29), (k0_t7_loop v29).OK := fun v29 k0_hw15 => k0_hw15.2

def k0_chk74 (v299 : IVec S16 32) : Prop :=
  (∀ a x, ((![v299] : Fin 1 → IVec S16 32) a x).toNat < S2048.size a)
theorem k0_idx94_inb : ∀ (v299 : IVec S16 32) (k0_hw74 : k0_chk74 v299), ∀ a x, ((![v299] : Fin 1 → IVec S16 32) a x).toNat < S2048.size a := fun v299 k0_hw74 => k0_hw74

def k0_chk75 (v304 : IVec S16 32) : Prop :=
  (∀ a x, ((![v304] : Fin 1 → IVec S16 32) a x).toNat < S57360.size a)
theorem k0_idx95_inb : ∀ (v304 : IVec S16 32) (k0_hw75 : k0_chk75 v304), ∀ a x, ((![v304] : Fin 1 → IVec S16 32) a x).toNat < S57360.size a := fun v304 k0_hw75 => k0_hw75

def k0_chk76 (v307 : IVec S16 32) : Prop :=
  (∀ a x, ((![v307] : Fin 1 → IVec S16 32) a x).toNat < S57360.size a)
theorem k0_idx96_inb : ∀ (v307 : IVec S16 32) (k0_hw76 : k0_chk76 v307), ∀ a x, ((![v307] : Fin 1 → IVec S16 32) a x).toNat < S57360.size a := fun v307 k0_hw76 => k0_hw76

def k0_chk77 (v310 : IVec S16 32) : Prop :=
  (∀ a x, ((![v310] : Fin 1 → IVec S16 32) a x).toNat < S57360.size a)
theorem k0_idx97_inb : ∀ (v310 : IVec S16 32) (k0_hw77 : k0_chk77 v310), ∀ a x, ((![v310] : Fin 1 → IVec S16 32) a x).toNat < S57360.size a := fun v310 k0_hw77 => k0_hw77

def k0_chk79 (v319 : IVec S16 32) : Prop :=
  (∀ a x, ((![v319] : Fin 1 → IVec S16 32) a x).toNat < S57360.size a)
theorem k0_idx104_inb : ∀ (v319 : IVec S16 32) (k0_hw79 : k0_chk79 v319), ∀ a x, ((![v319] : Fin 1 → IVec S16 32) a x).toNat < S57360.size a := fun v319 k0_hw79 => k0_hw79

def k0_chk78 (v300 : IVec S16 32) : Prop :=
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a) ∧
  (∀ a x, ((![v300] : Fin 1 → IVec S16 32) a x).toNat < S2048.size a)
theorem k0_idx98_inb : ∀ (v300 : IVec S16 32) (k0_hw78 : k0_chk78 v300), ∀ a x, ((![v300] : Fin 1 → IVec S16 32) a x).toNat < S2048.size a := fun v300 k0_hw78 => k0_hw78.1
theorem k0_idx99_inb : ∀ (v300 : IVec S16 32) (k0_hw78 : k0_chk78 v300), ∀ a x, ((![v300] : Fin 1 → IVec S16 32) a x).toNat < S2048.size a := fun v300 k0_hw78 => k0_hw78.2.1
theorem k0_idx100_inb : ∀ (v300 : IVec S16 32) (k0_hw78 : k0_chk78 v300), ∀ a x, ((![v300] : Fin 1 → IVec S16 32) a x).toNat < S2048.size a := fun v300 k0_hw78 => k0_hw78.2.2.1
theorem k0_idx101_inb : ∀ (v300 : IVec S16 32) (k0_hw78 : k0_chk78 v300), ∀ a x, ((![v300] : Fin 1 → IVec S16 32) a x).toNat < S2048.size a := fun v300 k0_hw78 => k0_hw78.2.2.2.1
theorem k0_idx102_inb : ∀ (v300 : IVec S16 32) (k0_hw78 : k0_chk78 v300), ∀ a x, ((![v300] : Fin 1 → IVec S16 32) a x).toNat < S2048.size a := fun v300 k0_hw78 => k0_hw78.2.2.2.2.1
theorem k0_idx103_inb : ∀ (v300 : IVec S16 32) (k0_hw78 : k0_chk78 v300), ∀ a x, ((![v300] : Fin 1 → IVec S16 32) a x).toNat < S2048.size a := fun v300 k0_hw78 => k0_hw78.2.2.2.2.2.1
theorem k0_idx105_inb : ∀ (v300 : IVec S16 32) (k0_hw78 : k0_chk78 v300), ∀ a x, ((![v300] : Fin 1 → IVec S16 32) a x).toNat < S2048.size a := fun v300 k0_hw78 => k0_hw78.2.2.2.2.2.2.1
theorem k0_idx106_inb : ∀ (v300 : IVec S16 32) (k0_hw78 : k0_chk78 v300), ∀ a x, ((![v300] : Fin 1 → IVec S16 32) a x).toNat < S2048.size a := fun v300 k0_hw78 => k0_hw78.2.2.2.2.2.2.2.1
theorem k0_idx107_inb : ∀ (v300 : IVec S16 32) (k0_hw78 : k0_chk78 v300), ∀ a x, ((![v300] : Fin 1 → IVec S16 32) a x).toNat < S2048.size a := fun v300 k0_hw78 => k0_hw78.2.2.2.2.2.2.2.2.1
theorem k0_idx108_inb : ∀ (v300 : IVec S16 32) (k0_hw78 : k0_chk78 v300), ∀ a x, ((![v300] : Fin 1 → IVec S16 32) a x).toNat < S2048.size a := fun v300 k0_hw78 => k0_hw78.2.2.2.2.2.2.2.2.2.1
theorem k0_idx109_inb : ∀ (v300 : IVec S16 32) (k0_hw78 : k0_chk78 v300), ∀ a x, ((![v300] : Fin 1 → IVec S16 32) a x).toNat < S2048.size a := fun v300 k0_hw78 => k0_hw78.2.2.2.2.2.2.2.2.2.2.1
theorem k0_idx110_inb : ∀ (v300 : IVec S16 32) (k0_hw78 : k0_chk78 v300), ∀ a x, ((![v300] : Fin 1 → IVec S16 32) a x).toNat < S2048.size a := fun v300 k0_hw78 => k0_hw78.2.2.2.2.2.2.2.2.2.2.2

def k0_chk80 (v330 : IVec S16 32) : Prop :=
  (∀ a x, ((![v330] : Fin 1 → IVec S16 32) a x).toNat < S57360.size a)
theorem k0_idx111_inb : ∀ (v330 : IVec S16 32) (k0_hw80 : k0_chk80 v330), ∀ a x, ((![v330] : Fin 1 → IVec S16 32) a x).toNat < S57360.size a := fun v330 k0_hw80 => k0_hw80

def k0_chk81 (v333 : IVec S16 32) : Prop :=
  (∀ a x, ((![v333] : Fin 1 → IVec S16 32) a x).toNat < S57360.size a)
theorem k0_idx112_inb : ∀ (v333 : IVec S16 32) (k0_hw81 : k0_chk81 v333), ∀ a x, ((![v333] : Fin 1 → IVec S16 32) a x).toNat < S57360.size a := fun v333 k0_hw81 => k0_hw81

def k0_chk82 (v336 : IVec S16 32) : Prop :=
  (∀ a x, ((![v336] : Fin 1 → IVec S16 32) a x).toNat < S57360.size a)
theorem k0_idx113_inb : ∀ (v336 : IVec S16 32) (k0_hw82 : k0_chk82 v336), ∀ a x, ((![v336] : Fin 1 → IVec S16 32) a x).toNat < S57360.size a := fun v336 k0_hw82 => k0_hw82

def k0_chk83 (v339 : IVec S16 32) : Prop :=
  (∀ a x, ((![v339] : Fin 1 → IVec S16 32) a x).toNat < S57360.size a)
theorem k0_idx114_inb : ∀ (v339 : IVec S16 32) (k0_hw83 : k0_chk83 v339), ∀ a x, ((![v339] : Fin 1 → IVec S16 32) a x).toNat < S57360.size a := fun v339 k0_hw83 => k0_hw83

def k0_chk84 (v342 : IVec S16 32) : Prop :=
  (∀ a x, ((![v342] : Fin 1 → IVec S16 32) a x).toNat < S57360.size a)
theorem k0_idx115_inb : ∀ (v342 : IVec S16 32) (k0_hw84 : k0_chk84 v342), ∀ a x, ((![v342] : Fin 1 → IVec S16 32) a x).toNat < S57360.size a := fun v342 k0_hw84 => k0_hw84

def k0_chk85 (v345 : IVec S16 32) : Prop :=
  (∀ a x, ((![v345] : Fin 1 → IVec S16 32) a x).toNat < S57360.size a)
theorem k0_idx116_inb : ∀ (v345 : IVec S16 32) (k0_hw85 : k0_chk85 v345), ∀ a x, ((![v345] : Fin 1 → IVec S16 32) a x).toNat < S57360.size a := fun v345 k0_hw85 => k0_hw85

def k0_chk86 (v348 : IVec S16 32) : Prop :=
  (∀ a x, ((![v348] : Fin 1 → IVec S16 32) a x).toNat < S57360.size a)
theorem k0_idx117_inb : ∀ (v348 : IVec S16 32) (k0_hw86 : k0_chk86 v348), ∀ a x, ((![v348] : Fin 1 → IVec S16 32) a x).toNat < S57360.size a := fun v348 k0_hw86 => k0_hw86

def k0_chk87 (v351 : IVec S16 32) : Prop :=
  (∀ a x, ((![v351] : Fin 1 → IVec S16 32) a x).toNat < S57360.size a)
theorem k0_idx118_inb : ∀ (v351 : IVec S16 32) (k0_hw87 : k0_chk87 v351), ∀ a x, ((![v351] : Fin 1 → IVec S16 32) a x).toNat < S57360.size a := fun v351 k0_hw87 => k0_hw87

def k0_chk88 (v354 : IVec S16 32) : Prop :=
  (∀ a x, ((![v354] : Fin 1 → IVec S16 32) a x).toNat < S57360.size a)
theorem k0_idx119_inb : ∀ (v354 : IVec S16 32) (k0_hw88 : k0_chk88 v354), ∀ a x, ((![v354] : Fin 1 → IVec S16 32) a x).toNat < S57360.size a := fun v354 k0_hw88 => k0_hw88

def k0_chk89 (v357 : IVec S16 32) : Prop :=
  (∀ a x, ((![v357] : Fin 1 → IVec S16 32) a x).toNat < S57360.size a)
theorem k0_idx120_inb : ∀ (v357 : IVec S16 32) (k0_hw89 : k0_chk89 v357), ∀ a x, ((![v357] : Fin 1 → IVec S16 32) a x).toNat < S57360.size a := fun v357 k0_hw89 => k0_hw89

def k0_chk90 (v360 : IVec S16 32) : Prop :=
  (∀ a x, ((![v360] : Fin 1 → IVec S16 32) a x).toNat < S57360.size a)
theorem k0_idx121_inb : ∀ (v360 : IVec S16 32) (k0_hw90 : k0_chk90 v360), ∀ a x, ((![v360] : Fin 1 → IVec S16 32) a x).toNat < S57360.size a := fun v360 k0_hw90 => k0_hw90

def k0_chk91 (v363 : IVec S16 32) : Prop :=
  (∀ a x, ((![v363] : Fin 1 → IVec S16 32) a x).toNat < S57360.size a)
theorem k0_idx122_inb : ∀ (v363 : IVec S16 32) (k0_hw91 : k0_chk91 v363), ∀ a x, ((![v363] : Fin 1 → IVec S16 32) a x).toNat < S57360.size a := fun v363 k0_hw91 => k0_hw91

def k0_chk92 (v366 : IVec S16 32) : Prop :=
  (∀ a x, ((![v366] : Fin 1 → IVec S16 32) a x).toNat < S57360.size a)
theorem k0_idx123_inb : ∀ (v366 : IVec S16 32) (k0_hw92 : k0_chk92 v366), ∀ a x, ((![v366] : Fin 1 → IVec S16 32) a x).toNat < S57360.size a := fun v366 k0_hw92 => k0_hw92

def k0_chk93 (v369 : IVec S16 32) : Prop :=
  (∀ a x, ((![v369] : Fin 1 → IVec S16 32) a x).toNat < S57360.size a)
theorem k0_idx124_inb : ∀ (v369 : IVec S16 32) (k0_hw93 : k0_chk93 v369), ∀ a x, ((![v369] : Fin 1 → IVec S16 32) a x).toNat < S57360.size a := fun v369 k0_hw93 => k0_hw93

def k0_chk94 (v372 : IVec S16 32) : Prop :=
  (∀ a x, ((![v372] : Fin 1 → IVec S16 32) a x).toNat < S57360.size a)
theorem k0_idx125_inb : ∀ (v372 : IVec S16 32) (k0_hw94 : k0_chk94 v372), ∀ a x, ((![v372] : Fin 1 → IVec S16 32) a x).toNat < S57360.size a := fun v372 k0_hw94 => k0_hw94

def k0_chk95 (v375 : IVec S16 32) : Prop :=
  (∀ a x, ((![v375] : Fin 1 → IVec S16 32) a x).toNat < S57360.size a)
theorem k0_idx126_inb : ∀ (v375 : IVec S16 32) (k0_hw95 : k0_chk95 v375), ∀ a x, ((![v375] : Fin 1 → IVec S16 32) a x).toNat < S57360.size a := fun v375 k0_hw95 => k0_hw95

def k0_chk96 (v378 : IVec S16 32) : Prop :=
  (∀ a x, ((![v378] : Fin 1 → IVec S16 32) a x).toNat < S57360.size a)
theorem k0_idx127_inb : ∀ (v378 : IVec S16 32) (k0_hw96 : k0_chk96 v378), ∀ a x, ((![v378] : Fin 1 → IVec S16 32) a x).toNat < S57360.size a := fun v378 k0_hw96 => k0_hw96
@[reducible] def k0_t8_loop (v410 : BitVec 32) : Scf.Loop 32 :=
  let c0_i32_273 : BitVec 32 := 0#32
  let c15_i32_264 : BitVec 32 := 15#32
  let v411 : BitVec 32 := Scalar.addi v410 c15_i32_264
  let c0_i32_266 : BitVec 32 := 0#32
  let v413 : BitVec 1 := Scalar.cmpi .sgt v411 c0_i32_266
  let v414 : BitVec 32 := Scalar.extui v413
  let c0_i32_267 : BitVec 32 := 0#32
  let v415 : BitVec 1 := Scalar.cmpi .slt v411 c0_i32_267
  let v416 : BitVec 32 := Scalar.extui v415
  let v417 : BitVec 32 := Scalar.subi v414 v416
  let c16_i32_265 : BitVec 32 := 16#32
  let c0_i32_268 : BitVec 32 := 0#32
  let v418 : BitVec 1 := Scalar.cmpi .sgt c16_i32_265 c0_i32_268
  let v419 : BitVec 32 := Scalar.extui v418
  let c0_i32_269 : BitVec 32 := 0#32
  let v420 : BitVec 1 := Scalar.cmpi .slt c16_i32_265 c0_i32_269
  let v421 : BitVec 32 := Scalar.extui v420
  let v422 : BitVec 32 := Scalar.subi v419 v421
  let v423 : BitVec 1 := Scalar.cmpi .ne v417 v422
  let v424 : BitVec 32 := Scalar.remsi v411 c16_i32_265
  let c0_i32_270 : BitVec 32 := 0#32
  let v425 : BitVec 1 := Scalar.cmpi .ne v424 c0_i32_270
  let v426 : BitVec 1 := Scalar.andi v423 v425
  let v412 : BitVec 32 := Scalar.divsi v411 c16_i32_265
  let c1_i32_271 : BitVec 32 := 1#32
  let v427 : BitVec 32 := Scalar.subi v412 c1_i32_271
  let v428 : BitVec 32 := Scalar.select v426 v427 v412
  let v429 : BitVec 32 := Scalar.subi v428 c0_i32_273
  let c1_i32_274 : BitVec 32 := 1#32
  let v431 : BitVec 32 := Scalar.divsi v429 c1_i32_274
  let v432 : BitVec 32 := Scalar.muli v431 c1_i32_274
  let v433 : BitVec 32 := Scalar.addi c0_i32_273 v432
  let c1_i32_275 : BitVec 32 := 1#32
  ⟨c0_i32_273, v433, c1_i32_275⟩

def k0_chk98 (v496 : IVec S16 32) (v500 : IVec S16 32) : Prop :=
  (∀ a x, ((![v496, v500] : Fin 2 → IVec S16 32) a x).toNat < S200x108.size a)
theorem k0_idx128_inb : ∀ (v496 : IVec S16 32) (v500 : IVec S16 32) (k0_hw98 : k0_chk98 v496 v500), ∀ a x, ((![v496, v500] : Fin 2 → IVec S16 32) a x).toNat < S200x108.size a := fun v496 v500 k0_hw98 => k0_hw98

def k0_chk99 (v496 : IVec S16 32) (v503 : IVec S16 32) : Prop :=
  (∀ a x, ((![v496, v503] : Fin 2 → IVec S16 32) a x).toNat < S200x108.size a)
theorem k0_idx129_inb : ∀ (v496 : IVec S16 32) (v503 : IVec S16 32) (k0_hw99 : k0_chk99 v496 v503), ∀ a x, ((![v496, v503] : Fin 2 → IVec S16 32) a x).toNat < S200x108.size a := fun v496 v503 k0_hw99 => k0_hw99

def k0_chk100 (v496 : IVec S16 32) (v506 : IVec S16 32) : Prop :=
  (∀ a x, ((![v496, v506] : Fin 2 → IVec S16 32) a x).toNat < S200x108.size a)
theorem k0_idx130_inb : ∀ (v496 : IVec S16 32) (v506 : IVec S16 32) (k0_hw100 : k0_chk100 v496 v506), ∀ a x, ((![v496, v506] : Fin 2 → IVec S16 32) a x).toNat < S200x108.size a := fun v496 v506 k0_hw100 => k0_hw100

def k0_chk101 (v496 : IVec S16 32) (v509 : IVec S16 32) : Prop :=
  (∀ a x, ((![v496, v509] : Fin 2 → IVec S16 32) a x).toNat < S200x108.size a)
theorem k0_idx131_inb : ∀ (v496 : IVec S16 32) (v509 : IVec S16 32) (k0_hw101 : k0_chk101 v496 v509), ∀ a x, ((![v496, v509] : Fin 2 → IVec S16 32) a x).toNat < S200x108.size a := fun v496 v509 k0_hw101 => k0_hw101

def k0_chk102 (v496 : IVec S16 32) (v512 : IVec S16 32) : Prop :=
  (∀ a x, ((![v496, v512] : Fin 2 → IVec S16 32) a x).toNat < S200x108.size a)
theorem k0_idx132_inb : ∀ (v496 : IVec S16 32) (v512 : IVec S16 32) (k0_hw102 : k0_chk102 v496 v512), ∀ a x, ((![v496, v512] : Fin 2 → IVec S16 32) a x).toNat < S200x108.size a := fun v496 v512 k0_hw102 => k0_hw102

def k0_chk103 (v496 : IVec S16 32) (v515 : IVec S16 32) : Prop :=
  (∀ a x, ((![v496, v515] : Fin 2 → IVec S16 32) a x).toNat < S200x108.size a)
theorem k0_idx133_inb : ∀ (v496 : IVec S16 32) (v515 : IVec S16 32) (k0_hw103 : k0_chk103 v496 v515), ∀ a x, ((![v496, v515] : Fin 2 → IVec S16 32) a x).toNat < S200x108.size a := fun v496 v515 k0_hw103 => k0_hw103

def k0_chk104 (v496 : IVec S16 32) (v518 : IVec S16 32) : Prop :=
  (∀ a x, ((![v496, v518] : Fin 2 → IVec S16 32) a x).toNat < S200x108.size a)
theorem k0_idx134_inb : ∀ (v496 : IVec S16 32) (v518 : IVec S16 32) (k0_hw104 : k0_chk104 v496 v518), ∀ a x, ((![v496, v518] : Fin 2 → IVec S16 32) a x).toNat < S200x108.size a := fun v496 v518 k0_hw104 => k0_hw104

def k0_chk105 (v496 : IVec S16 32) (v521 : IVec S16 32) : Prop :=
  (∀ a x, ((![v496, v521] : Fin 2 → IVec S16 32) a x).toNat < S200x108.size a)
theorem k0_idx135_inb : ∀ (v496 : IVec S16 32) (v521 : IVec S16 32) (k0_hw105 : k0_chk105 v496 v521), ∀ a x, ((![v496, v521] : Fin 2 → IVec S16 32) a x).toNat < S200x108.size a := fun v496 v521 k0_hw105 => k0_hw105

def k0_chk106 (v496 : IVec S16 32) (v524 : IVec S16 32) : Prop :=
  (∀ a x, ((![v496, v524] : Fin 2 → IVec S16 32) a x).toNat < S200x108.size a)
theorem k0_idx136_inb : ∀ (v496 : IVec S16 32) (v524 : IVec S16 32) (k0_hw106 : k0_chk106 v496 v524), ∀ a x, ((![v496, v524] : Fin 2 → IVec S16 32) a x).toNat < S200x108.size a := fun v496 v524 k0_hw106 => k0_hw106

def k0_chk107 (v496 : IVec S16 32) (v527 : IVec S16 32) : Prop :=
  (∀ a x, ((![v496, v527] : Fin 2 → IVec S16 32) a x).toNat < S200x108.size a)
theorem k0_idx137_inb : ∀ (v496 : IVec S16 32) (v527 : IVec S16 32) (k0_hw107 : k0_chk107 v496 v527), ∀ a x, ((![v496, v527] : Fin 2 → IVec S16 32) a x).toNat < S200x108.size a := fun v496 v527 k0_hw107 => k0_hw107

def k0_chk108 (v496 : IVec S16 32) (v530 : IVec S16 32) : Prop :=
  (∀ a x, ((![v496, v530] : Fin 2 → IVec S16 32) a x).toNat < S200x108.size a)
theorem k0_idx138_inb : ∀ (v496 : IVec S16 32) (v530 : IVec S16 32) (k0_hw108 : k0_chk108 v496 v530), ∀ a x, ((![v496, v530] : Fin 2 → IVec S16 32) a x).toNat < S200x108.size a := fun v496 v530 k0_hw108 => k0_hw108

def k0_chk109 (v496 : IVec S16 32) (v533 : IVec S16 32) : Prop :=
  (∀ a x, ((![v496, v533] : Fin 2 → IVec S16 32) a x).toNat < S200x108.size a)
theorem k0_idx139_inb : ∀ (v496 : IVec S16 32) (v533 : IVec S16 32) (k0_hw109 : k0_chk109 v496 v533), ∀ a x, ((![v496, v533] : Fin 2 → IVec S16 32) a x).toNat < S200x108.size a := fun v496 v533 k0_hw109 => k0_hw109

def k0_chk110 (v496 : IVec S16 32) (v536 : IVec S16 32) : Prop :=
  (∀ a x, ((![v496, v536] : Fin 2 → IVec S16 32) a x).toNat < S200x108.size a)
theorem k0_idx140_inb : ∀ (v496 : IVec S16 32) (v536 : IVec S16 32) (k0_hw110 : k0_chk110 v496 v536), ∀ a x, ((![v496, v536] : Fin 2 → IVec S16 32) a x).toNat < S200x108.size a := fun v496 v536 k0_hw110 => k0_hw110

def k0_chk111 (v496 : IVec S16 32) (v539 : IVec S16 32) : Prop :=
  (∀ a x, ((![v496, v539] : Fin 2 → IVec S16 32) a x).toNat < S200x108.size a)
theorem k0_idx141_inb : ∀ (v496 : IVec S16 32) (v539 : IVec S16 32) (k0_hw111 : k0_chk111 v496 v539), ∀ a x, ((![v496, v539] : Fin 2 → IVec S16 32) a x).toNat < S200x108.size a := fun v496 v539 k0_hw111 => k0_hw111

def k0_chk112 (v496 : IVec S16 32) (v542 : IVec S16 32) : Prop :=
  (∀ a x, ((![v496, v542] : Fin 2 → IVec S16 32) a x).toNat < S200x108.size a)
theorem k0_idx142_inb : ∀ (v496 : IVec S16 32) (v542 : IVec S16 32) (k0_hw112 : k0_chk112 v496 v542), ∀ a x, ((![v496, v542] : Fin 2 → IVec S16 32) a x).toNat < S200x108.size a := fun v496 v542 k0_hw112 => k0_hw112

def k0_chk113 (v496 : IVec S16 32) (v545 : IVec S16 32) : Prop :=
  (∀ a x, ((![v496, v545] : Fin 2 → IVec S16 32) a x).toNat < S200x108.size a)
theorem k0_idx143_inb : ∀ (v496 : IVec S16 32) (v545 : IVec S16 32) (k0_hw113 : k0_chk113 v496 v545), ∀ a x, ((![v496, v545] : Fin 2 → IVec S16 32) a x).toNat < S200x108.size a := fun v496 v545 k0_hw113 => k0_hw113

def k0_chk114 (v496 : IVec S16 32) (v548 : IVec S16 32) : Prop :=
  (∀ a x, ((![v496, v548] : Fin 2 → IVec S16 32) a x).toNat < S200x108.size a)
theorem k0_idx144_inb : ∀ (v496 : IVec S16 32) (v548 : IVec S16 32) (k0_hw114 : k0_chk114 v496 v548), ∀ a x, ((![v496, v548] : Fin 2 → IVec S16 32) a x).toNat < S200x108.size a := fun v496 v548 k0_hw114 => k0_hw114
@[reducible] def k0_t9_loop (v410 : BitVec 32) : Scf.Loop 32 :=
  let c0_i32_273 : BitVec 32 := 0#32
  let c15_i32_264 : BitVec 32 := 15#32
  let v411 : BitVec 32 := Scalar.addi v410 c15_i32_264
  let c0_i32_266 : BitVec 32 := 0#32
  let v413 : BitVec 1 := Scalar.cmpi .sgt v411 c0_i32_266
  let v414 : BitVec 32 := Scalar.extui v413
  let c0_i32_267 : BitVec 32 := 0#32
  let v415 : BitVec 1 := Scalar.cmpi .slt v411 c0_i32_267
  let v416 : BitVec 32 := Scalar.extui v415
  let v417 : BitVec 32 := Scalar.subi v414 v416
  let c16_i32_265 : BitVec 32 := 16#32
  let c0_i32_268 : BitVec 32 := 0#32
  let v418 : BitVec 1 := Scalar.cmpi .sgt c16_i32_265 c0_i32_268
  let v419 : BitVec 32 := Scalar.extui v418
  let c0_i32_269 : BitVec 32 := 0#32
  let v420 : BitVec 1 := Scalar.cmpi .slt c16_i32_265 c0_i32_269
  let v421 : BitVec 32 := Scalar.extui v420
  let v422 : BitVec 32 := Scalar.subi v419 v421
  let v423 : BitVec 1 := Scalar.cmpi .ne v417 v422
  let v424 : BitVec 32 := Scalar.remsi v411 c16_i32_265
  let c0_i32_270 : BitVec 32 := 0#32
  let v425 : BitVec 1 := Scalar.cmpi .ne v424 c0_i32_270
  let v426 : BitVec 1 := Scalar.andi v423 v425
  let v412 : BitVec 32 := Scalar.divsi v411 c16_i32_265
  let c1_i32_271 : BitVec 32 := 1#32
  let v427 : BitVec 32 := Scalar.subi v412 c1_i32_271
  let v428 : BitVec 32 := Scalar.select v426 v427 v412
  let v429 : BitVec 32 := Scalar.subi v428 c0_i32_273
  let c1_i32_274 : BitVec 32 := 1#32
  let v431 : BitVec 32 := Scalar.divsi v429 c1_i32_274
  let v432 : BitVec 32 := Scalar.muli v431 c1_i32_274
  let v433 : BitVec 32 := Scalar.addi c0_i32_273 v432
  let v430 : BitVec 32 := Scalar.addi c0_i32_273 v429
  let c1_i32_276 : BitVec 32 := 1#32
  ⟨v433, v430, c1_i32_276⟩

def k0_chk97 (v410 : BitVec 32) : Prop :=
  ((k0_t8_loop v410).OK) ∧
  ((k0_t9_loop v410).OK)
theorem k0_t8_ok : ∀ (v410 : BitVec 32) (k0_hw97 : k0_chk97 v410), (k0_t8_loop v410).OK := fun v410 k0_hw97 => k0_hw97.1
theorem k0_t9_ok : ∀ (v410 : BitVec 32) (k0_hw97 : k0_chk97 v410), (k0_t9_loop v410).OK := fun v410 k0_hw97 => k0_hw97.2

def k0_chk115 (v496 : IVec S16 32) (v500 : IVec S16 32) : Prop :=
  (∀ a x, ((![v496, v500] : Fin 2 → IVec S16 32) a x).toNat < S200x108.size a)
theorem k0_idx145_inb : ∀ (v496 : IVec S16 32) (v500 : IVec S16 32) (k0_hw115 : k0_chk115 v496 v500), ∀ a x, ((![v496, v500] : Fin 2 → IVec S16 32) a x).toNat < S200x108.size a := fun v496 v500 k0_hw115 => k0_hw115

def k0_chk116 (v496 : IVec S16 32) (v503 : IVec S16 32) : Prop :=
  (∀ a x, ((![v496, v503] : Fin 2 → IVec S16 32) a x).toNat < S200x108.size a)
theorem k0_idx146_inb : ∀ (v496 : IVec S16 32) (v503 : IVec S16 32) (k0_hw116 : k0_chk116 v496 v503), ∀ a x, ((![v496, v503] : Fin 2 → IVec S16 32) a x).toNat < S200x108.size a := fun v496 v503 k0_hw116 => k0_hw116

def k0_chk117 (v496 : IVec S16 32) (v506 : IVec S16 32) : Prop :=
  (∀ a x, ((![v496, v506] : Fin 2 → IVec S16 32) a x).toNat < S200x108.size a)
theorem k0_idx147_inb : ∀ (v496 : IVec S16 32) (v506 : IVec S16 32) (k0_hw117 : k0_chk117 v496 v506), ∀ a x, ((![v496, v506] : Fin 2 → IVec S16 32) a x).toNat < S200x108.size a := fun v496 v506 k0_hw117 => k0_hw117

def k0_chk118 (v496 : IVec S16 32) (v509 : IVec S16 32) : Prop :=
  (∀ a x, ((![v496, v509] : Fin 2 → IVec S16 32) a x).toNat < S200x108.size a)
theorem k0_idx148_inb : ∀ (v496 : IVec S16 32) (v509 : IVec S16 32) (k0_hw118 : k0_chk118 v496 v509), ∀ a x, ((![v496, v509] : Fin 2 → IVec S16 32) a x).toNat < S200x108.size a := fun v496 v509 k0_hw118 => k0_hw118

def k0_chk119 (v496 : IVec S16 32) (v512 : IVec S16 32) : Prop :=
  (∀ a x, ((![v496, v512] : Fin 2 → IVec S16 32) a x).toNat < S200x108.size a)
theorem k0_idx149_inb : ∀ (v496 : IVec S16 32) (v512 : IVec S16 32) (k0_hw119 : k0_chk119 v496 v512), ∀ a x, ((![v496, v512] : Fin 2 → IVec S16 32) a x).toNat < S200x108.size a := fun v496 v512 k0_hw119 => k0_hw119

def k0_chk120 (v496 : IVec S16 32) (v515 : IVec S16 32) : Prop :=
  (∀ a x, ((![v496, v515] : Fin 2 → IVec S16 32) a x).toNat < S200x108.size a)
theorem k0_idx150_inb : ∀ (v496 : IVec S16 32) (v515 : IVec S16 32) (k0_hw120 : k0_chk120 v496 v515), ∀ a x, ((![v496, v515] : Fin 2 → IVec S16 32) a x).toNat < S200x108.size a := fun v496 v515 k0_hw120 => k0_hw120

def k0_chk121 (v496 : IVec S16 32) (v518 : IVec S16 32) : Prop :=
  (∀ a x, ((![v496, v518] : Fin 2 → IVec S16 32) a x).toNat < S200x108.size a)
theorem k0_idx151_inb : ∀ (v496 : IVec S16 32) (v518 : IVec S16 32) (k0_hw121 : k0_chk121 v496 v518), ∀ a x, ((![v496, v518] : Fin 2 → IVec S16 32) a x).toNat < S200x108.size a := fun v496 v518 k0_hw121 => k0_hw121

def k0_chk122 (v496 : IVec S16 32) (v521 : IVec S16 32) : Prop :=
  (∀ a x, ((![v496, v521] : Fin 2 → IVec S16 32) a x).toNat < S200x108.size a)
theorem k0_idx152_inb : ∀ (v496 : IVec S16 32) (v521 : IVec S16 32) (k0_hw122 : k0_chk122 v496 v521), ∀ a x, ((![v496, v521] : Fin 2 → IVec S16 32) a x).toNat < S200x108.size a := fun v496 v521 k0_hw122 => k0_hw122

def k0_chk123 (v496 : IVec S16 32) (v524 : IVec S16 32) : Prop :=
  (∀ a x, ((![v496, v524] : Fin 2 → IVec S16 32) a x).toNat < S200x108.size a)
theorem k0_idx153_inb : ∀ (v496 : IVec S16 32) (v524 : IVec S16 32) (k0_hw123 : k0_chk123 v496 v524), ∀ a x, ((![v496, v524] : Fin 2 → IVec S16 32) a x).toNat < S200x108.size a := fun v496 v524 k0_hw123 => k0_hw123

def k0_chk124 (v496 : IVec S16 32) (v527 : IVec S16 32) : Prop :=
  (∀ a x, ((![v496, v527] : Fin 2 → IVec S16 32) a x).toNat < S200x108.size a)
theorem k0_idx154_inb : ∀ (v496 : IVec S16 32) (v527 : IVec S16 32) (k0_hw124 : k0_chk124 v496 v527), ∀ a x, ((![v496, v527] : Fin 2 → IVec S16 32) a x).toNat < S200x108.size a := fun v496 v527 k0_hw124 => k0_hw124

def k0_chk125 (v496 : IVec S16 32) (v530 : IVec S16 32) : Prop :=
  (∀ a x, ((![v496, v530] : Fin 2 → IVec S16 32) a x).toNat < S200x108.size a)
theorem k0_idx155_inb : ∀ (v496 : IVec S16 32) (v530 : IVec S16 32) (k0_hw125 : k0_chk125 v496 v530), ∀ a x, ((![v496, v530] : Fin 2 → IVec S16 32) a x).toNat < S200x108.size a := fun v496 v530 k0_hw125 => k0_hw125

def k0_chk126 (v496 : IVec S16 32) (v533 : IVec S16 32) : Prop :=
  (∀ a x, ((![v496, v533] : Fin 2 → IVec S16 32) a x).toNat < S200x108.size a)
theorem k0_idx156_inb : ∀ (v496 : IVec S16 32) (v533 : IVec S16 32) (k0_hw126 : k0_chk126 v496 v533), ∀ a x, ((![v496, v533] : Fin 2 → IVec S16 32) a x).toNat < S200x108.size a := fun v496 v533 k0_hw126 => k0_hw126

def k0_chk127 (v496 : IVec S16 32) (v536 : IVec S16 32) : Prop :=
  (∀ a x, ((![v496, v536] : Fin 2 → IVec S16 32) a x).toNat < S200x108.size a)
theorem k0_idx157_inb : ∀ (v496 : IVec S16 32) (v536 : IVec S16 32) (k0_hw127 : k0_chk127 v496 v536), ∀ a x, ((![v496, v536] : Fin 2 → IVec S16 32) a x).toNat < S200x108.size a := fun v496 v536 k0_hw127 => k0_hw127

def k0_chk128 (v496 : IVec S16 32) (v539 : IVec S16 32) : Prop :=
  (∀ a x, ((![v496, v539] : Fin 2 → IVec S16 32) a x).toNat < S200x108.size a)
theorem k0_idx158_inb : ∀ (v496 : IVec S16 32) (v539 : IVec S16 32) (k0_hw128 : k0_chk128 v496 v539), ∀ a x, ((![v496, v539] : Fin 2 → IVec S16 32) a x).toNat < S200x108.size a := fun v496 v539 k0_hw128 => k0_hw128

def k0_chk129 (v496 : IVec S16 32) (v542 : IVec S16 32) : Prop :=
  (∀ a x, ((![v496, v542] : Fin 2 → IVec S16 32) a x).toNat < S200x108.size a)
theorem k0_idx159_inb : ∀ (v496 : IVec S16 32) (v542 : IVec S16 32) (k0_hw129 : k0_chk129 v496 v542), ∀ a x, ((![v496, v542] : Fin 2 → IVec S16 32) a x).toNat < S200x108.size a := fun v496 v542 k0_hw129 => k0_hw129

def k0_chk130 (v496 : IVec S16 32) (v545 : IVec S16 32) : Prop :=
  (∀ a x, ((![v496, v545] : Fin 2 → IVec S16 32) a x).toNat < S200x108.size a)
theorem k0_idx160_inb : ∀ (v496 : IVec S16 32) (v545 : IVec S16 32) (k0_hw130 : k0_chk130 v496 v545), ∀ a x, ((![v496, v545] : Fin 2 → IVec S16 32) a x).toNat < S200x108.size a := fun v496 v545 k0_hw130 => k0_hw130

def k0_chk131 (v496 : IVec S16 32) (v548 : IVec S16 32) : Prop :=
  (∀ a x, ((![v496, v548] : Fin 2 → IVec S16 32) a x).toNat < S200x108.size a)
theorem k0_idx161_inb : ∀ (v496 : IVec S16 32) (v548 : IVec S16 32) (k0_hw131 : k0_chk131 v496 v548), ∀ a x, ((![v496, v548] : Fin 2 → IVec S16 32) a x).toNat < S200x108.size a := fun v496 v548 k0_hw131 => k0_hw131
def k0_off1 (i : grid0.Coords) (c0_i32_26 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c20_i32 : BitVec 32 := 20#32
  let v21 : BitVec 32 := Scalar.muli v18 c20_i32
  let v39 : BitVec 32 := Scalar.addi v21 c0_i32_26
  let c8_i32_4 : BitVec 32 := 8#32
  let v19 : BitVec 32 := Scalar.muli v18 c8_i32_4
  let v20 : BitVec 32 := Scalar.subi v1 v19
  let c10_i32 : BitVec 32 := 10#32
  let v24 : BitVec 32 := Scalar.muli v20 c10_i32
  let c0_i32_29 : BitVec 32 := 0#32
  ![v39.toNat, v24.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x3 : Shape := ⟨2, ![2048, 3]⟩
abbrev S2048x1 : Shape := ⟨2, ![2048, 1]⟩
abbrev S2048x4 : Shape := ⟨2, ![2048, 4]⟩
abbrev S2048x17 : Shape := ⟨2, ![2048, 17]⟩
abbrev S1 : Shape := ⟨1, ![1]⟩
abbrev S_ : Shape := ⟨0, ![]⟩
abbrev S2048 : Shape := ⟨1, ![2048]⟩
abbrev S2049 : Shape := ⟨1, ![2049]⟩
abbrev S80 : Shape := ⟨1, ![80]⟩
abbrev S80x1 : Shape := ⟨2, ![80, 1]⟩
abbrev S1x2049 : Shape := ⟨2, ![1, 2049]⟩
abbrev S80x2049 : Shape := ⟨2, ![80, 2049]⟩
abbrev S6 : Shape := ⟨1, ![6]⟩
abbrev S6x1 : Shape := ⟨2, ![6, 1]⟩
abbrev S6x2049 : Shape := ⟨2, ![6, 2049]⟩
abbrev S80x1x1x2049 : Shape := ⟨4, ![80, 1, 1, 2049]⟩
abbrev S1x80x1x2049 : Shape := ⟨4, ![1, 80, 1, 2049]⟩
abbrev S1x1x6x2049 : Shape := ⟨4, ![1, 1, 6, 2049]⟩
abbrev S1x1x1x2049 : Shape := ⟨4, ![1, 1, 1, 2049]⟩
abbrev S80x80x1x2049 : Shape := ⟨4, ![80, 80, 1, 2049]⟩
abbrev S80x80x6x2049 : Shape := ⟨4, ![80, 80, 6, 2049]⟩
abbrev S80x1x6x2049 : Shape := ⟨4, ![80, 1, 6, 2049]⟩
abbrev S1x80x6x2049 : Shape := ⟨4, ![1, 80, 6, 2049]⟩
abbrev S2048x18 : Shape := ⟨2, ![2048, 18]⟩
abbrev S1x17 : Shape := ⟨2, ![1, 17]⟩
abbrev S1x1 : Shape := ⟨2, ![1, 1]⟩
abbrev S1x18 : Shape := ⟨2, ![1, 18]⟩
abbrev S2049x18 : Shape := ⟨2, ![2049, 18]⟩
abbrev S80x80x6x1 : Shape := ⟨4, ![80, 80, 6, 1]⟩
abbrev S80x80x6x18 : Shape := ⟨4, ![80, 80, 6, 18]⟩

abbrev nBuf : Space → Nat
  | .hbm => 360
  | .vmem => 0
  | .smem => 0
  | _ => 0

abbrev hbmTy0_0 (i : Nat) : BufTy := match i % 128 with
  | 0 => ⟨S2048x3, .f32⟩
  | 1 => ⟨S2048x1, .f32⟩
  | 2 => ⟨S2048x3, .f32⟩
  | 3 => ⟨S2048x4, .f32⟩
  | 4 => ⟨S2048x17, .f32⟩
  | 5 => ⟨S1, .f32⟩
  | 6 => ⟨S_, .f32⟩
  | 7 => ⟨S1, .f32⟩
  | 8 => ⟨S_, .f32⟩
  | 9 => ⟨S1, .f32⟩
  | 10 => ⟨S_, .f32⟩
  | 11 => ⟨S1, .f32⟩
  | 12 => ⟨S_, .f32⟩
  | 13 => ⟨S1, .f32⟩
  | 14 => ⟨S1, .f32⟩
  | 15 => ⟨S_, .f32⟩
  | 16 => ⟨S1, .f32⟩
  | 17 => ⟨S_, .f32⟩
  | 18 => ⟨S1, .f32⟩
  | 19 => ⟨S_, .f32⟩
  | 20 => ⟨S1, .f32⟩
  | 21 => ⟨S_, .f32⟩
  | 22 => ⟨S1, .f32⟩
  | 23 => ⟨S1, .f32⟩
  | 24 => ⟨S2048x1, .f32⟩
  | 25 => ⟨S2048, .f32⟩
  | 26 => ⟨S2048x1, .f32⟩
  | 27 => ⟨S2048, .f32⟩
  | 28 => ⟨S2048x1, .f32⟩
  | 29 => ⟨S2048, .f32⟩
  | 30 => ⟨S2048x1, .f32⟩
  | 31 => ⟨S2048, .f32⟩
  | 32 => ⟨S2048, .f32⟩
  | 33 => ⟨S2048, .f32⟩
  | 34 => ⟨S2048, .f32⟩
  | 35 => ⟨S_, .f32⟩
  | 36 => ⟨S2048, .f32⟩
  | 37 => ⟨S2048, .f32⟩
  | 38 => ⟨S_, .f32⟩
  | 39 => ⟨S2048, .f32⟩
  | 40 => ⟨S2048, .f32⟩
  | 41 => ⟨S2048, .f32⟩
  | 42 => ⟨S2048, .f32⟩
  | 43 => ⟨S2048, .f32⟩
  | 44 => ⟨S_, .f32⟩
  | 45 => ⟨S2048, .f32⟩
  | 46 => ⟨S2048, .f32⟩
  | 47 => ⟨S2048, .f32⟩
  | 48 => ⟨S2048, .f32⟩
  | 49 => ⟨S2048, .f32⟩
  | 50 => ⟨S_, .f32⟩
  | 51 => ⟨S2048, .f32⟩
  | 52 => ⟨S2048, .f32⟩
  | 53 => ⟨S2048, .f32⟩
  | 54 => ⟨S2048, .f32⟩
  | 55 => ⟨S2048, .f32⟩
  | 56 => ⟨S_, .f32⟩
  | 57 => ⟨S2048, .f32⟩
  | 58 => ⟨S2048, .f32⟩
  | 59 => ⟨S2048, .f32⟩
  | 60 => ⟨S2048, .f32⟩
  | 61 => ⟨S2048, .f32⟩
  | 62 => ⟨S_, .f32⟩
  | 63 => ⟨S2048, .f32⟩
  | 64 => ⟨S2048, .f32⟩
  | 65 => ⟨S_, .f32⟩
  | 66 => ⟨S2048, .f32⟩
  | 67 => ⟨S2048, .f32⟩
  | 68 => ⟨S2048, .f32⟩
  | 69 => ⟨S2048, .f32⟩
  | 70 => ⟨S2048, .f32⟩
  | 71 => ⟨S_, .f32⟩
  | 72 => ⟨S2048, .f32⟩
  | 73 => ⟨S2048, .f32⟩
  | 74 => ⟨S2048, .f32⟩
  | 75 => ⟨S2048, .f32⟩
  | 76 => ⟨S2048, .f32⟩
  | 77 => ⟨S_, .f32⟩
  | 78 => ⟨S2048, .f32⟩
  | 79 => ⟨S2048, .f32⟩
  | 80 => ⟨S2048, .f32⟩
  | 81 => ⟨S2048, .f32⟩
  | 82 => ⟨S2048, .f32⟩
  | 83 => ⟨S_, .f32⟩
  | 84 => ⟨S2048, .f32⟩
  | 85 => ⟨S2048, .f32⟩
  | 86 => ⟨S2048, .f32⟩
  | 87 => ⟨S2048, .f32⟩
  | 88 => ⟨S2048, .f32⟩
  | 89 => ⟨S_, .f32⟩
  | 90 => ⟨S2048, .f32⟩
  | 91 => ⟨S2048, .f32⟩
  | 92 => ⟨S_, .f32⟩
  | 93 => ⟨S2048, .f32⟩
  | 94 => ⟨S2048, .f32⟩
  | 95 => ⟨S2048x1, .f32⟩
  | 96 => ⟨S2048, .f32⟩
  | 97 => ⟨S2048x1, .f32⟩
  | 98 => ⟨S2048, .f32⟩
  | 99 => ⟨S2048, .f32⟩
  | 100 => ⟨S2048x1, .f32⟩
  | 101 => ⟨S2048, .f32⟩
  | 102 => ⟨S2048x1, .f32⟩
  | 103 => ⟨S2048, .f32⟩
  | 104 => ⟨S2048, .f32⟩
  | 105 => ⟨S2048x1, .f32⟩
  | 106 => ⟨S2048, .f32⟩
  | 107 => ⟨S2048x1, .f32⟩
  | 108 => ⟨S2048, .f32⟩
  | 109 => ⟨S2048, .f32⟩
  | 110 => ⟨S2048, .f32⟩
  | 111 => ⟨S2048, .f32⟩
  | 112 => ⟨S2048, .f32⟩
  | 113 => ⟨S2048, .f32⟩
  | 114 => ⟨S2048, .f32⟩
  | 115 => ⟨S2048, .f32⟩
  | 116 => ⟨S2048, .f32⟩
  | 117 => ⟨S2048, .f32⟩
  | 118 => ⟨S1, .f32⟩
  | 119 => ⟨S2049, .f32⟩
  | 120 => ⟨S2048, .f32⟩
  | 121 => ⟨S2048, .f32⟩
  | 122 => ⟨S2048, .f32⟩
  | 123 => ⟨S2048, .f32⟩
  | 124 => ⟨S2048, .f32⟩
  | 125 => ⟨S2048, .f32⟩
  | 126 => ⟨S2048, .f32⟩
  | 127 => ⟨S2048, .f32⟩
  | _ => ⟨S2048x3, .f32⟩

abbrev hbmTy0_1 (i : Nat) : BufTy := match i % 128 with
  | 0 => ⟨S_, .f32⟩
  | 1 => ⟨S1, .f32⟩
  | 2 => ⟨S2049, .f32⟩
  | 3 => ⟨S2048, .f32⟩
  | 4 => ⟨S2048, .f32⟩
  | 5 => ⟨S2048, .f32⟩
  | 6 => ⟨S2048, .f32⟩
  | 7 => ⟨S2048, .f32⟩
  | 8 => ⟨S2048, .f32⟩
  | 9 => ⟨S2048, .f32⟩
  | 10 => ⟨S2048, .f32⟩
  | 11 => ⟨S_, .f32⟩
  | 12 => ⟨S1, .f32⟩
  | 13 => ⟨S2049, .f32⟩
  | 14 => ⟨S2048, .f32⟩
  | 15 => ⟨S2048, .f32⟩
  | 16 => ⟨S2048, .f32⟩
  | 17 => ⟨S2048, .f32⟩
  | 18 => ⟨S2048, .f32⟩
  | 19 => ⟨S2048, .f32⟩
  | 20 => ⟨S2048, .f32⟩
  | 21 => ⟨S2048, .f32⟩
  | 22 => ⟨S1, .f32⟩
  | 23 => ⟨S2049, .f32⟩
  | 24 => ⟨S2048, .f32⟩
  | 25 => ⟨S2048, .f32⟩
  | 26 => ⟨S2048, .f32⟩
  | 27 => ⟨S2048, .f32⟩
  | 28 => ⟨S2048, .f32⟩
  | 29 => ⟨S2048, .f32⟩
  | 30 => ⟨S2048, .f32⟩
  | 31 => ⟨S2048, .f32⟩
  | 32 => ⟨S_, .f32⟩
  | 33 => ⟨S1, .f32⟩
  | 34 => ⟨S2049, .f32⟩
  | 35 => ⟨S2048, .f32⟩
  | 36 => ⟨S2048, .f32⟩
  | 37 => ⟨S2048, .f32⟩
  | 38 => ⟨S2048, .f32⟩
  | 39 => ⟨S2048, .f32⟩
  | 40 => ⟨S2048, .f32⟩
  | 41 => ⟨S2048, .f32⟩
  | 42 => ⟨S2048, .f32⟩
  | 43 => ⟨S1, .f32⟩
  | 44 => ⟨S2049, .f32⟩
  | 45 => ⟨S2049, .f32⟩
  | 46 => ⟨S2049, .f32⟩
  | 47 => ⟨S2049, .f32⟩
  | 48 => ⟨S2049, .f32⟩
  | 49 => ⟨S2049, .f32⟩
  | 50 => ⟨S2049, .f32⟩
  | 51 => ⟨S2049, .f32⟩
  | 52 => ⟨S2049, .f32⟩
  | 53 => ⟨S2049, .f32⟩
  | 54 => ⟨S2049, .f32⟩
  | 55 => ⟨S2049, .f32⟩
  | 56 => ⟨S2049, .f32⟩
  | 57 => ⟨S2049, .f32⟩
  | 58 => ⟨S2049, .f32⟩
  | 59 => ⟨S2049, .f32⟩
  | 60 => ⟨S2049, .f32⟩
  | 61 => ⟨S2049, .f32⟩
  | 62 => ⟨S2049, .f32⟩
  | 63 => ⟨S2049, .f32⟩
  | 64 => ⟨S2049, .f32⟩
  | 65 => ⟨S2049, .f32⟩
  | 66 => ⟨S2049, .f32⟩
  | 67 => ⟨S2049, .f32⟩
  | 68 => ⟨S2049, .f32⟩
  | 69 => ⟨S2049, .f32⟩
  | 70 => ⟨S2049, .f32⟩
  | 71 => ⟨S2049, .f32⟩
  | 72 => ⟨S2049, .f32⟩
  | 73 => ⟨S2049, .f32⟩
  | 74 => ⟨S80, .f32⟩
  | 75 => ⟨S_, .f32⟩
  | 76 => ⟨S80, .f32⟩
  | 77 => ⟨S80, .f32⟩
  | 78 => ⟨S_, .f32⟩
  | 79 => ⟨S80, .f32⟩
  | 80 => ⟨S80, .f32⟩
  | 81 => ⟨S2048x1, .f32⟩
  | 82 => ⟨S2048, .f32⟩
  | 83 => ⟨S2049, .f32⟩
  | 84 => ⟨S2048x1, .f32⟩
  | 85 => ⟨S2048, .f32⟩
  | 86 => ⟨S2049, .f32⟩
  | 87 => ⟨S_, .f32⟩
  | 88 => ⟨S2049, .f32⟩
  | 89 => ⟨S2049, .f32⟩
  | 90 => ⟨S80x1, .f32⟩
  | 91 => ⟨S1x2049, .f32⟩
  | 92 => ⟨S80x2049, .f32⟩
  | 93 => ⟨S80x2049, .f32⟩
  | 94 => ⟨S80x2049, .f32⟩
  | 95 => ⟨S80x2049, .f32⟩
  | 96 => ⟨S1x2049, .f32⟩
  | 97 => ⟨S80x2049, .f32⟩
  | 98 => ⟨S80x2049, .i1⟩
  | 99 => ⟨S80, .f32⟩
  | 100 => ⟨S_, .f32⟩
  | 101 => ⟨S80, .f32⟩
  | 102 => ⟨S80, .f32⟩
  | 103 => ⟨S_, .f32⟩
  | 104 => ⟨S80, .f32⟩
  | 105 => ⟨S80, .f32⟩
  | 106 => ⟨S2048x1, .f32⟩
  | 107 => ⟨S2048, .f32⟩
  | 108 => ⟨S2049, .f32⟩
  | 109 => ⟨S2048x1, .f32⟩
  | 110 => ⟨S2048, .f32⟩
  | 111 => ⟨S2049, .f32⟩
  | 112 => ⟨S_, .f32⟩
  | 113 => ⟨S2049, .f32⟩
  | 114 => ⟨S2049, .f32⟩
  | 115 => ⟨S80x1, .f32⟩
  | 116 => ⟨S1x2049, .f32⟩
  | 117 => ⟨S80x2049, .f32⟩
  | 118 => ⟨S80x2049, .f32⟩
  | 119 => ⟨S80x2049, .f32⟩
  | 120 => ⟨S80x2049, .f32⟩
  | 121 => ⟨S1x2049, .f32⟩
  | 122 => ⟨S80x2049, .f32⟩
  | 123 => ⟨S80x2049, .i1⟩
  | 124 => ⟨S6, .f32⟩
  | 125 => ⟨S_, .f32⟩
  | 126 => ⟨S6, .f32⟩
  | 127 => ⟨S6, .f32⟩
  | _ => ⟨S2048x3, .f32⟩

abbrev hbmTy0_2 (i : Nat) : BufTy := match i % 128 with
  | 0 => ⟨S_, .f32⟩
  | 1 => ⟨S6, .f32⟩
  | 2 => ⟨S6, .f32⟩
  | 3 => ⟨S2048x1, .f32⟩
  | 4 => ⟨S2048, .f32⟩
  | 5 => ⟨S2049, .f32⟩
  | 6 => ⟨S2048x1, .f32⟩
  | 7 => ⟨S2048, .f32⟩
  | 8 => ⟨S2049, .f32⟩
  | 9 => ⟨S_, .f32⟩
  | 10 => ⟨S2049, .f32⟩
  | 11 => ⟨S2049, .f32⟩
  | 12 => ⟨S6x1, .f32⟩
  | 13 => ⟨S1x2049, .f32⟩
  | 14 => ⟨S6x2049, .f32⟩
  | 15 => ⟨S6x2049, .f32⟩
  | 16 => ⟨S6x2049, .f32⟩
  | 17 => ⟨S6x2049, .f32⟩
  | 18 => ⟨S1x2049, .f32⟩
  | 19 => ⟨S6x2049, .f32⟩
  | 20 => ⟨S6x2049, .i1⟩
  | 21 => ⟨S80x1x1x2049, .f32⟩
  | 22 => ⟨S80x1x1x2049, .i1⟩
  | 23 => ⟨S1x80x1x2049, .f32⟩
  | 24 => ⟨S1x80x1x2049, .i1⟩
  | 25 => ⟨S1x1x6x2049, .f32⟩
  | 26 => ⟨S1x1x6x2049, .i1⟩
  | 27 => ⟨S1x1x1x2049, .f32⟩
  | 28 => ⟨S80x1x1x2049, .f32⟩
  | 29 => ⟨S80x1x1x2049, .f32⟩
  | 30 => ⟨S80x1x1x2049, .f32⟩
  | 31 => ⟨S1x1x1x2049, .f32⟩
  | 32 => ⟨S1x80x1x2049, .f32⟩
  | 33 => ⟨S1x80x1x2049, .f32⟩
  | 34 => ⟨S1x80x1x2049, .f32⟩
  | 35 => ⟨S80x80x1x2049, .f32⟩
  | 36 => ⟨S80x80x1x2049, .f32⟩
  | 37 => ⟨S80x80x1x2049, .f32⟩
  | 38 => ⟨S1x1x1x2049, .f32⟩
  | 39 => ⟨S1x1x6x2049, .f32⟩
  | 40 => ⟨S1x1x6x2049, .f32⟩
  | 41 => ⟨S1x1x6x2049, .f32⟩
  | 42 => ⟨S80x80x6x2049, .f32⟩
  | 43 => ⟨S80x80x6x2049, .f32⟩
  | 44 => ⟨S80x80x6x2049, .f32⟩
  | 45 => ⟨S1x1x1x2049, .f32⟩
  | 46 => ⟨S80x1x1x2049, .f32⟩
  | 47 => ⟨S80x1x1x2049, .f32⟩
  | 48 => ⟨S80x80x1x2049, .f32⟩
  | 49 => ⟨S80x80x1x2049, .f32⟩
  | 50 => ⟨S80x80x1x2049, .f32⟩
  | 51 => ⟨S1x1x1x2049, .f32⟩
  | 52 => ⟨S80x1x1x2049, .f32⟩
  | 53 => ⟨S80x1x1x2049, .f32⟩
  | 54 => ⟨S80x1x6x2049, .f32⟩
  | 55 => ⟨S80x1x6x2049, .f32⟩
  | 56 => ⟨S80x1x6x2049, .f32⟩
  | 57 => ⟨S80x80x6x2049, .f32⟩
  | 58 => ⟨S80x80x6x2049, .f32⟩
  | 59 => ⟨S80x80x6x2049, .f32⟩
  | 60 => ⟨S1x1x1x2049, .f32⟩
  | 61 => ⟨S1x80x1x2049, .f32⟩
  | 62 => ⟨S1x80x1x2049, .f32⟩
  | 63 => ⟨S1x80x6x2049, .f32⟩
  | 64 => ⟨S1x80x6x2049, .f32⟩
  | 65 => ⟨S1x80x6x2049, .f32⟩
  | 66 => ⟨S80x80x6x2049, .f32⟩
  | 67 => ⟨S80x80x6x2049, .f32⟩
  | 68 => ⟨S_, .f32⟩
  | 69 => ⟨S80x80x6x2049, .f32⟩
  | 70 => ⟨S80x80x6x2049, .f32⟩
  | 71 => ⟨S80x80x6x2049, .f32⟩
  | 72 => ⟨S80x80x1x2049, .i1⟩
  | 73 => ⟨S80x80x1x2049, .i1⟩
  | 74 => ⟨S80x80x1x2049, .i1⟩
  | 75 => ⟨S80x80x6x2049, .i1⟩
  | 76 => ⟨S80x80x6x2049, .i1⟩
  | 77 => ⟨S80x80x6x2049, .i1⟩
  | 78 => ⟨S2048, .f32⟩
  | 79 => ⟨S_, .f32⟩
  | 80 => ⟨S1, .f32⟩
  | 81 => ⟨S2049, .f32⟩
  | 82 => ⟨S_, .f32⟩
  | 83 => ⟨S80x80x6x2049, .f32⟩
  | 84 => ⟨S80x80x6x2049, .f32⟩
  | 85 => ⟨S80x80x6x2049, .f32⟩
  | 86 => ⟨S1x1x1x2049, .f32⟩
  | 87 => ⟨S80x80x6x2049, .f32⟩
  | 88 => ⟨S80x80x6x2049, .f32⟩
  | 89 => ⟨S_, .f32⟩
  | 90 => ⟨S_, .f32⟩
  | 91 => ⟨S80x80x6x2049, .f32⟩
  | 92 => ⟨S80x80x6x2049, .f32⟩
  | 93 => ⟨S_, .f32⟩
  | 94 => ⟨S2048x1, .f32⟩
  | 95 => ⟨S2048x18, .f32⟩
  | 96 => ⟨S_, .f32⟩
  | 97 => ⟨S1x17, .f32⟩
  | 98 => ⟨S1x1, .f32⟩
  | 99 => ⟨S1x18, .f32⟩
  | 100 => ⟨S2049x18, .f32⟩
  | 101 => ⟨S_, .f32⟩
  | 102 => ⟨S80x80x6x1, .f32⟩
  | 103 => ⟨S80x80x6x18, .f32⟩
  | _ => ⟨S2048x3, .f32⟩

abbrev hbmTy (i : Nat) : BufTy := match i / 128 with
  | 0 => hbmTy0_0 i
  | 1 => hbmTy0_1 i
  | 2 => hbmTy0_2 i
  | _ => ⟨S2048x3, .f32⟩

abbrev bufTy : (tb : Table) → Fin (tcTables nBuf tb) → BufTy
  | .hbm, ⟨i, _⟩ => hbmTy i
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_cst_3 : Ref sig .tc := ⟨.hbm, 15, rfl⟩
abbrev main_v5 : Ref sig .tc := ⟨.hbm, 16, rfl⟩
abbrev main_cst_4 : Ref sig .tc := ⟨.hbm, 17, rfl⟩
abbrev main_v6 : Ref sig .tc := ⟨.hbm, 18, rfl⟩
abbrev main_cst_5 : Ref sig .tc := ⟨.hbm, 19, rfl⟩
abbrev main_v7 : Ref sig .tc := ⟨.hbm, 20, rfl⟩
abbrev main_cst_6 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_19 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_20 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_21 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_cst_22 : Ref sig .tc := ⟨.hbm, 203, rfl⟩
abbrev main_v174 : Ref sig .tc := ⟨.hbm, 204, rfl⟩
abbrev main_v175 : Ref sig .tc := ⟨.hbm, 205, rfl⟩
abbrev main_cst_23 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_cst_24 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_cst_25 : Ref sig .tc := ⟨.hbm, 228, rfl⟩
abbrev main_v196 : Ref sig .tc := ⟨.hbm, 229, rfl⟩
abbrev main_v197 : Ref sig .tc := ⟨.hbm, 230, rfl⟩
abbrev main_cst_26 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_cst_27 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_cst_28 : Ref sig .tc := ⟨.hbm, 253, rfl⟩
abbrev main_v218 : Ref sig .tc := ⟨.hbm, 254, rfl⟩
abbrev main_v219 : Ref sig .tc := ⟨.hbm, 255, rfl⟩
abbrev main_cst_29 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_cst_30 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_cst_31 : Ref sig .tc := ⟨.hbm, 324, rfl⟩
abbrev main_v286 : Ref sig .tc := ⟨.hbm, 325, rfl⟩
abbrev main_v287 : Ref sig .tc := ⟨.hbm, 326, rfl⟩
abbrev main_v288 : Ref sig .tc := ⟨.hbm, 327, rfl⟩
abbrev main_v289 : Ref sig .tc := ⟨.hbm, 328, rfl⟩
abbrev main_v290 : Ref sig .tc := ⟨.hbm, 329, rfl⟩
abbrev main_v291 : Ref sig .tc := ⟨.hbm, 330, rfl⟩
abbrev main_v292 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_cst_32 : Ref sig .tc := ⟨.hbm, 335, rfl⟩
abbrev main_v296 : Ref sig .tc := ⟨.hbm, 336, rfl⟩
abbrev main_v297 : Ref sig .tc := ⟨.hbm, 337, rfl⟩
abbrev main_cst_33 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_cst_34 : Ref sig .tc := ⟨.hbm, 345, rfl⟩
abbrev main_call0_v0 : Ref sig .tc := ⟨.hbm, 346, rfl⟩
abbrev main_call0_v1 : Ref sig .tc := ⟨.hbm, 347, rfl⟩
abbrev main_v304 : Ref sig .tc := ⟨.hbm, 348, rfl⟩
abbrev main_cst_35 : Ref sig .tc := ⟨.hbm, 349, rfl⟩
abbrev main_v305 : Ref sig .tc := ⟨.hbm, 350, rfl⟩
abbrev main_v306 : Ref sig .tc := ⟨.hbm, 351, rfl⟩
abbrev main_cst_36 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_cst_37 : Ref sig .tc := ⟨.hbm, 357, rfl⟩
abbrev main_v311 : Ref sig .tc := ⟨.hbm, 358, rfl⟩
abbrev main_v312 : Ref sig .tc := ⟨.hbm, 359, rfl⟩

abbrev nD : Nat := 1
abbrev τ : Topo := Topo.v7x

variable {F : FTy → Type} [FloatOps F]
-- ==== Proof.Setup.lean ====
/-
  The launch of the kernel's one vector call, named once: the program as the launch theorem sees it, the buffers of a tile, and the
  contents the proof speaks of.
-/
module

public import proofs.«01_k».proof.Defs
public import Idealize.ShloMosaic.Lib.SparseCore.Quiescent
public import Idealize.ShloMosaic.Lib.SparseCore.Ops
public import Idealize.ShloMosaic.Lib.LoopRemainder
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

abbrev ΛP : Labels := Pipeline.Sig Λ₀ (Fin 0) fun p => (pcfgs (F := Ideal) p).Adm
abbrev K : SparseCore.Cfg τ sig ΛP 1 := sc (F := Ideal)
theorem nSub_zero : K.nSub 0 = 16 := rfl
abbrev D : Defs nD τ sig (Elt Ideal) ΛP := Pipeline.defs pcfgs defs₀
abbrev 𝒱₀ : Variants := Variants.none
abbrev 𝒱 : Variants := 𝒱₀.lift
abbrev v₀ : 𝒱.V := Sum.inl none

theorem facts : K.Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev MM : Type _ := MT nD τ sig (HIx 1) (Elt Ideal) ℕ UU ℕ

abbrev EH : Emb UH MM := embL

/-! The memrefs the body table passes, as closed terms. -/
abbrev inV : Memref sig Kind.scVector Space.hbm S57360 EltTy.f32 := Memref.whole main_v6_scv
abbrev outV : Memref sig Kind.scVector Space.hbm S80x80x108 EltTy.f32 := Memref.whole main_v7_scv
abbrev pkV : Memref sig Kind.scVector Space.vmem S57360 EltTy.f32 := Memref.whole cc0_scratch0
abbrev aV : Memref sig Kind.scVector Space.vmem S2048 EltTy.f32 := Memref.whole cc0_scratch1
abbrev bV : Memref sig Kind.scVector Space.vmem S2048 EltTy.f32 := Memref.whole cc0_scratch2
abbrev cV : Memref sig Kind.scVector Space.vmem S2048 EltTy.f32 := Memref.whole cc0_scratch3
abbrev dV : Memref sig Kind.scVector Space.vmem S2048 EltTy.f32 := Memref.whole cc0_scratch4
abbrev eV : Memref sig Kind.scVector Space.vmem S2048 EltTy.f32 := Memref.whole cc0_scratch5
abbrev fV : Memref sig Kind.scVector Space.vmem S2048 EltTy.f32 := Memref.whole cc0_scratch6
abbrev i0V : Memref sig Kind.scVector Space.vmem S2048 EltTy.i32 := Memref.whole cc0_scratch7
abbrev i1V : Memref sig Kind.scVector Space.vmem S2048 EltTy.i32 := Memref.whole cc0_scratch8
abbrev j0V : Memref sig Kind.scVector Space.vmem S2048 EltTy.i32 := Memref.whole cc0_scratch9
abbrev j1V : Memref sig Kind.scVector Space.vmem S2048 EltTy.i32 := Memref.whole cc0_scratch10
abbrev k0V : Memref sig Kind.scVector Space.vmem S2048 EltTy.i32 := Memref.whole cc0_scratch11
abbrev k1V : Memref sig Kind.scVector Space.vmem S2048 EltTy.i32 := Memref.whole cc0_scratch12
abbrev listV : Memref sig Kind.scVector Space.vmem S2048 EltTy.i32 := Memref.whole cc0_scratch13
abbrev slabV : Memref sig Kind.scVector Space.vmem S200x108 EltTy.f32 := Memref.whole cc0_scratch14

/-- The core and the subcore of a grid point, as the body places them. -/
abbrev coreOf (L : grid0.Coords) : Fin τ.nSC := (L 0).castLE hcore0
abbrev subOf (L : grid0.Coords) : Fin τ.nSub := (L 1).castLE hsub0

/-- The thread of a grid point on a device. -/
abbrev thr (d : Dev nD) (L : grid0.Coords) : Thread nD τ := V d (coreOf L) (subOf L)

end Cert.Proof

end
-- ==== Proof.Real.lean ====
/-
  Lane arithmetic over the reals: what the printed float operations of the box and of the inverse covariance give on lanes whose
  values are real numbers.
-/
module

public import proofs.«01_k».proof.Proof.Setup
public import proofs.«01_k».proof.Proof.Gen.KernelIdeal.Skeleton
public import Idealize.ShloMosaic.Lib.Pointwise.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

theorem lit_half_neg : Ideal.ofBits .f32 0xBF000000#32 = ((-(1 / 2) : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_five : Ideal.ofBits .f32 0x40A00000#32 = ((5 : ℝ) : EReal) := by
  simp [Ideal.ofBits, Ideal.ieee, -EReal.coe_mul]; norm_num
theorem lit_79 : Ideal.ofBits .f32 0x429E0000#32 = ((79 : ℝ) : EReal) := by
  simp [Ideal.ofBits, Ideal.ieee, -EReal.coe_mul]; norm_num
theorem lit_off : Ideal.ofBits .f32 0xC21E0000#32 = ((-(79 / 2) : ℝ) : EReal) := by
  simp [Ideal.ofBits, Ideal.ieee, -EReal.coe_mul]; norm_num
theorem lit_zero : Ideal.ofBits .f32 0x00000000#32 = ((0 : ℝ) : EReal) := Ideal.ofBits_zero_f32
theorem lit_one : Ideal.ofBits .f32 0x3F800000#32 = ((1 : ℝ) : EReal) := Ideal.ofBits_one_f32
theorem lit_2p20 : Ideal.ofBits .f32 0x49800000#32 = ((1048576 : ℝ) : EReal) := by
  simp [Ideal.ofBits, Ideal.ieee, -EReal.coe_mul]; norm_num

theorem scalar_lit (b : BitVec 32) : (Scalar.ofBits .f32 b : Ideal .f32) = Ideal.ofBits .f32 b := rfl

theorem coe_max (a b : ℝ) : ((max a b : ℝ) : EReal) = max (a : EReal) (b : EReal) := Monotone.map_max (fun _ _ h => EReal.coe_le_coe_iff.mpr h)
theorem coe_min (a b : ℝ) : ((min a b : ℝ) : EReal) = min (a : EReal) (b : EReal) := Monotone.map_min (fun _ _ h => EReal.coe_le_coe_iff.mpr h)

/-! ## One Gaussian's numbers -/

/-- The rotation matrix of the quaternion `q = (w, x, y, z)`. -/
def rotm (q : Fin 4 → ℝ) : Fin 3 → Fin 3 → ℝ :=
  ![![1 - 2 * (q 2 * q 2 + q 3 * q 3), 2 * (q 1 * q 2 - q 0 * q 3), 2 * (q 1 * q 3 + q 0 * q 2)],
    ![2 * (q 1 * q 2 + q 0 * q 3), 1 - 2 * (q 1 * q 1 + q 3 * q 3), 2 * (q 2 * q 3 - q 0 * q 1)],
    ![2 * (q 1 * q 3 - q 0 * q 2), 2 * (q 2 * q 3 + q 0 * q 1), 1 - 2 * (q 1 * q 1 + q 2 * q 2)]]

/-- The entry `(a, b)` of `R · diag(1/s²) · Rᵀ`. -/
def prec (s : Fin 3 → ℝ) (q : Fin 4 → ℝ) (a b : Fin 3) : ℝ :=
  rotm q a 0 * rotm q b 0 * (1 / (s 0 * s 0)) + rotm q a 1 * rotm q b 1 * (1 / (s 1 * s 1)) + rotm q a 2 * rotm q b 2 * (1 / (s 2 * s 2))

/-- The six coefficients of the exponent `-½ dᵀ Σ⁻¹ d`, in the order the tile stores them. -/
def coef (s : Fin 3 → ℝ) (q : Fin 4 → ℝ) : Fin 6 → ℝ :=
  ![-(1 / 2) * prec s q 0 0, -(1 / 2) * prec s q 1 1, -(1 / 2) * prec s q 2 2, 0 - prec s q 0 1, 0 - prec s q 0 2, 0 - prec s q 1 2]

/-- The first cell along a horizontal axis. -/
def loX (m s : ℝ) : ℤ := ⌈max (m - 3 * s - -(79 / 2)) 0⌉
/-- The last cell along a horizontal axis. -/
def hiX (m s : ℝ) : ℤ := ⌊min (m + 3 * s - -(79 / 2)) 79⌋
/-- The first cell along the vertical axis. -/
def loZ (m s : ℝ) : ℤ := ⌈max (m - 3 * s - -(1 / 2)) 0⌉
/-- The last cell along the vertical axis. -/
def hiZ (m s : ℝ) : ℤ := ⌊min (m + 3 * s - -(1 / 2)) 5⌋

/-- The lane `x` of the ten gathered vectors holds one Gaussian's real numbers. -/
structure LaneOf (x : S16.Idx) (v308 v311 v314 v317 v320 v323 v326 v329 v332 v335 : Vec Ideal S16 .f32)
    (m s : Fin 3 → ℝ) (q : Fin 4 → ℝ) : Prop where
  m0 : v308 x = (m 0 : EReal)
  m1 : v311 x = (m 1 : EReal)
  m2 : v314 x = (m 2 : EReal)
  s0 : v317 x = (s 0 : EReal)
  s1 : v320 x = (s 1 : EReal)
  s2 : v323 x = (s 2 : EReal)
  q0 : v326 x = (q 0 : EReal)
  q1 : v329 x = (q 1 : EReal)
  q2 : v332 x = (q 2 : EReal)
  q3 : v335 x = (q 3 : EReal)
  ne : ∀ a, s a ≠ 0
  mb : ∀ a, |m a| ≤ 1048576
  sb : ∀ a, |s a| ≤ 1048576

section Lane

variable {x : S16.Idx} {v308 v311 v314 v317 v320 v323 v326 v329 v332 v335 : Vec Ideal S16 .f32} {m s : Fin 3 → ℝ} {q : Fin 4 → ℝ}
variable (h : LaneOf x v308 v311 v314 v317 v320 v323 v326 v329 v332 v335 m s q)

theorem pay23_lane (h : LaneOf x v308 v311 v314 v317 v320 v323 v326 v329 v332 v335 m s q) : k0_pay23 v332 v335 x = ((rotm q 0 0 : ℝ) : EReal) := by
  unfold k0_pay23 k0_pay15 k0_pay16
  pointwise
  simp only [h.q0, h.q1, h.q2, h.q3, scalar_lit, lit_two, lit_one, ← EReal.coe_mul, ← EReal.coe_add, ← EReal.coe_sub, ← EReal.coe_one]
  rfl

theorem pay24_lane (h : LaneOf x v308 v311 v314 v317 v320 v323 v326 v329 v332 v335 m s q) : k0_pay24 v326 v329 v332 v335 x = ((rotm q 0 1 : ℝ) : EReal) := by
  unfold k0_pay24 k0_pay17 k0_pay22
  pointwise
  simp only [h.q0, h.q1, h.q2, h.q3, scalar_lit, lit_two, lit_one, ← EReal.coe_mul, ← EReal.coe_add, ← EReal.coe_sub, ← EReal.coe_one]
  rfl

theorem pay25_lane (h : LaneOf x v308 v311 v314 v317 v320 v323 v326 v329 v332 v335 m s q) : k0_pay25 v326 v329 v332 v335 x = ((rotm q 0 2 : ℝ) : EReal) := by
  unfold k0_pay25 k0_pay18 k0_pay21
  pointwise
  simp only [h.q0, h.q1, h.q2, h.q3, scalar_lit, lit_two, lit_one, ← EReal.coe_mul, ← EReal.coe_add, ← EReal.coe_sub, ← EReal.coe_one]
  rfl

theorem pay26_lane (h : LaneOf x v308 v311 v314 v317 v320 v323 v326 v329 v332 v335 m s q) : k0_pay26 v326 v329 v332 v335 x = ((rotm q 1 0 : ℝ) : EReal) := by
  unfold k0_pay26 k0_pay17 k0_pay22
  pointwise
  simp only [h.q0, h.q1, h.q2, h.q3, scalar_lit, lit_two, lit_one, ← EReal.coe_mul, ← EReal.coe_add, ← EReal.coe_sub, ← EReal.coe_one]
  rfl

theorem pay27_lane (h : LaneOf x v308 v311 v314 v317 v320 v323 v326 v329 v332 v335 m s q) : k0_pay27 v329 v335 x = ((rotm q 1 1 : ℝ) : EReal) := by
  unfold k0_pay27 k0_pay14 k0_pay16
  pointwise
  simp only [h.q0, h.q1, h.q2, h.q3, scalar_lit, lit_two, lit_one, ← EReal.coe_mul, ← EReal.coe_add, ← EReal.coe_sub, ← EReal.coe_one]
  rfl

theorem pay28_lane (h : LaneOf x v308 v311 v314 v317 v320 v323 v326 v329 v332 v335 m s q) : k0_pay28 v326 v329 v332 v335 x = ((rotm q 1 2 : ℝ) : EReal) := by
  unfold k0_pay28 k0_pay19 k0_pay20
  pointwise
  simp only [h.q0, h.q1, h.q2, h.q3, scalar_lit, lit_two, lit_one, ← EReal.coe_mul, ← EReal.coe_add, ← EReal.coe_sub, ← EReal.coe_one]
  rfl

theorem pay29_lane (h : LaneOf x v308 v311 v314 v317 v320 v323 v326 v329 v332 v335 m s q) : k0_pay29 v326 v329 v332 v335 x = ((rotm q 2 0 : ℝ) : EReal) := by
  unfold k0_pay29 k0_pay18 k0_pay21
  pointwise
  simp only [h.q0, h.q1, h.q2, h.q3, scalar_lit, lit_two, lit_one, ← EReal.coe_mul, ← EReal.coe_add, ← EReal.coe_sub, ← EReal.coe_one]
  rfl

theorem pay30_lane (h : LaneOf x v308 v311 v314 v317 v320 v323 v326 v329 v332 v335 m s q) : k0_pay30 v326 v329 v332 v335 x = ((rotm q 2 1 : ℝ) : EReal) := by
  unfold k0_pay30 k0_pay19 k0_pay20
  pointwise
  simp only [h.q0, h.q1, h.q2, h.q3, scalar_lit, lit_two, lit_one, ← EReal.coe_mul, ← EReal.coe_add, ← EReal.coe_sub, ← EReal.coe_one]
  rfl

theorem pay31_lane (h : LaneOf x v308 v311 v314 v317 v320 v323 v326 v329 v332 v335 m s q) : k0_pay31 v329 v332 x = ((rotm q 2 2 : ℝ) : EReal) := by
  unfold k0_pay31 k0_pay14 k0_pay15
  pointwise
  simp only [h.q0, h.q1, h.q2, h.q3, scalar_lit, lit_two, lit_one, ← EReal.coe_mul, ← EReal.coe_add, ← EReal.coe_sub, ← EReal.coe_one]
  rfl

theorem pay32_lane (h : LaneOf x v308 v311 v314 v317 v320 v323 v326 v329 v332 v335 m s q) :
    k0_pay32 v317 x = ((1 / (s 0 * s 0) : ℝ) : EReal) := by
  unfold k0_pay32
  pointwise
  simp only [h.s0, scalar_lit, ← EReal.coe_mul, Ideal.div_coe (mul_ne_zero (h.ne 0) (h.ne 0)), one_mul]

theorem pay33_lane (h : LaneOf x v308 v311 v314 v317 v320 v323 v326 v329 v332 v335 m s q) :
    k0_pay33 v320 x = ((1 / (s 1 * s 1) : ℝ) : EReal) := by
  unfold k0_pay33
  pointwise
  simp only [h.s1, scalar_lit, ← EReal.coe_mul, Ideal.div_coe (mul_ne_zero (h.ne 1) (h.ne 1)), one_mul]

theorem pay34_lane (h : LaneOf x v308 v311 v314 v317 v320 v323 v326 v329 v332 v335 m s q) :
    k0_pay34 v323 x = ((1 / (s 2 * s 2) : ℝ) : EReal) := by
  unfold k0_pay34
  pointwise
  simp only [h.s2, scalar_lit, ← EReal.coe_mul, Ideal.div_coe (mul_ne_zero (h.ne 2) (h.ne 2)), one_mul]

theorem pay35_lane (h : LaneOf x v308 v311 v314 v317 v320 v323 v326 v329 v332 v335 m s q) :
    k0_pay35 v320 v323 (k0_pay23 v332 v335) (k0_pay24 v326 v329 v332 v335) (k0_pay25 v326 v329 v332 v335) (k0_pay32 v317) x
      = ((coef s q 0 : ℝ) : EReal) := by
  unfold k0_pay35
  pointwise
  simp only [pay23_lane h, pay24_lane h, pay25_lane h, pay26_lane h, pay27_lane h, pay28_lane h, pay29_lane h, pay30_lane h, pay31_lane h, pay32_lane h, pay33_lane h, pay34_lane h, scalar_lit, lit_half_neg, lit_zero, ← EReal.coe_mul, ← EReal.coe_add, ← EReal.coe_sub, ← EReal.coe_zero]
  rfl

theorem pay36_lane (h : LaneOf x v308 v311 v314 v317 v320 v323 v326 v329 v332 v335 m s q) :
    k0_pay36 v320 v323 (k0_pay26 v326 v329 v332 v335) (k0_pay27 v329 v335) (k0_pay28 v326 v329 v332 v335) (k0_pay32 v317) x
      = ((coef s q 1 : ℝ) : EReal) := by
  unfold k0_pay36
  pointwise
  simp only [pay23_lane h, pay24_lane h, pay25_lane h, pay26_lane h, pay27_lane h, pay28_lane h, pay29_lane h, pay30_lane h, pay31_lane h, pay32_lane h, pay33_lane h, pay34_lane h, scalar_lit, lit_half_neg, lit_zero, ← EReal.coe_mul, ← EReal.coe_add, ← EReal.coe_sub, ← EReal.coe_zero]
  rfl

theorem pay37_lane (h : LaneOf x v308 v311 v314 v317 v320 v323 v326 v329 v332 v335 m s q) :
    k0_pay37 v320 v323 (k0_pay29 v326 v329 v332 v335) (k0_pay30 v326 v329 v332 v335) (k0_pay31 v329 v332) (k0_pay32 v317) x
      = ((coef s q 2 : ℝ) : EReal) := by
  unfold k0_pay37
  pointwise
  simp only [pay23_lane h, pay24_lane h, pay25_lane h, pay26_lane h, pay27_lane h, pay28_lane h, pay29_lane h, pay30_lane h, pay31_lane h, pay32_lane h, pay33_lane h, pay34_lane h, scalar_lit, lit_half_neg, lit_zero, ← EReal.coe_mul, ← EReal.coe_add, ← EReal.coe_sub, ← EReal.coe_zero]
  rfl

theorem pay38_lane (h : LaneOf x v308 v311 v314 v317 v320 v323 v326 v329 v332 v335 m s q) :
    k0_pay38 v320 v323 (k0_pay23 v332 v335) (k0_pay24 v326 v329 v332 v335) (k0_pay25 v326 v329 v332 v335) (k0_pay26 v326 v329 v332 v335) (k0_pay27 v329 v335) (k0_pay28 v326 v329 v332 v335) (k0_pay32 v317) x
      = ((coef s q 3 : ℝ) : EReal) := by
  unfold k0_pay38
  pointwise
  simp only [pay23_lane h, pay24_lane h, pay25_lane h, pay26_lane h, pay27_lane h, pay28_lane h, pay29_lane h, pay30_lane h, pay31_lane h, pay32_lane h, pay33_lane h, pay34_lane h, scalar_lit, lit_half_neg, lit_zero, ← EReal.coe_mul, ← EReal.coe_add, ← EReal.coe_sub, ← EReal.coe_zero]
  rfl

theorem pay41_lane (h : LaneOf x v308 v311 v314 v317 v320 v323 v326 v329 v332 v335 m s q) :
    k0_pay41 (k0_pay25 v326 v329 v332 v335) (k0_pay31 v329 v332) (k0_pay34 v323) (k0_pay39 (k0_pay23 v332 v335) (k0_pay29 v326 v329 v332 v335) (k0_pay32 v317)) (k0_pay40 v320 (k0_pay24 v326 v329 v332 v335) (k0_pay30 v326 v329 v332 v335)) x
      = ((coef s q 4 : ℝ) : EReal) := by
  unfold k0_pay41 k0_pay39 k0_pay40
  pointwise
  simp only [pay23_lane h, pay24_lane h, pay25_lane h, pay26_lane h, pay27_lane h, pay28_lane h, pay29_lane h, pay30_lane h, pay31_lane h, pay32_lane h, pay33_lane h, pay34_lane h, scalar_lit, lit_half_neg, lit_zero, ← EReal.coe_mul, ← EReal.coe_add, ← EReal.coe_sub, ← EReal.coe_zero]
  rfl

theorem pay42_lane (h : LaneOf x v308 v311 v314 v317 v320 v323 v326 v329 v332 v335 m s q) :
    k0_pay42 (k0_pay26 v326 v329 v332 v335) (k0_pay27 v329 v335) (k0_pay28 v326 v329 v332 v335) (k0_pay29 v326 v329 v332 v335) (k0_pay30 v326 v329 v332 v335) (k0_pay31 v329 v332) (k0_pay32 v317) (k0_pay33 v320) (k0_pay34 v323) x
      = ((coef s q 5 : ℝ) : EReal) := by
  unfold k0_pay42
  pointwise
  simp only [pay23_lane h, pay24_lane h, pay25_lane h, pay26_lane h, pay27_lane h, pay28_lane h, pay29_lane h, pay30_lane h, pay31_lane h, pay32_lane h, pay33_lane h, pay34_lane h, scalar_lit, lit_half_neg, lit_zero, ← EReal.coe_mul, ← EReal.coe_add, ← EReal.coe_sub, ← EReal.coe_zero]
  rfl

/-! ### The box -/

theorem trunc_val (t : ℝ) (h : |t| < 2 ^ 30) : Ideal.fptosi 32 (t : EReal) = BitVec.ofInt 32 (if 0 ≤ t then ⌊t⌋ else ⌈t⌉) := by
  unfold Ideal.fptosi
  rw [Ideal.toIntClamped_coe]
  congr 1
  obtain ⟨h1, h2⟩ := abs_lt.mp h
  have hf1 : -(2 ^ 30 : ℤ) ≤ ⌊t⌋ := Int.le_floor.mpr (by push_cast; linarith)
  have hf2 : ⌊t⌋ < (2 ^ 30 : ℤ) := Int.floor_lt.mpr (by push_cast; linarith)
  have hc1 : -(2 ^ 30 : ℤ) < ⌈t⌉ := Int.lt_ceil.mpr (by push_cast; linarith)
  have hc2 : ⌈t⌉ ≤ (2 ^ 30 : ℤ) := Int.ceil_le.mpr (by push_cast; linarith)
  norm_num at hf1 hf2 hc1 hc2 ⊢
  split <;> omega

theorem word_toInt {z : ℤ} (h1 : -(2 ^ 31) ≤ z) (h2 : z < 2 ^ 31) : (BitVec.ofInt 32 z).toInt = z := by
  rw [BitVec.toInt_ofInt]
  exact Int.bmod_eq_of_le (by norm_num at *; omega) (by norm_num at *; omega)

theorem sitofp_word {z : ℤ} (h1 : -(2 ^ 31) ≤ z) (h2 : z < 2 ^ 31) :
    (FloatOps.sitofp .f32 (BitVec.ofInt 32 z) : Ideal .f32) = (((z : ℤ) : ℝ) : EReal) := by
  show ((((BitVec.ofInt 32 z).toInt : ℤ) : ℝ) : EReal) = _
  rw [word_toInt h1 h2]

theorem ceil_word (t : ℝ) (h0 : 0 ≤ t) (h : t < 2 ^ 30) :
    IntOp.addi (FloatOps.fptosi (F := Ideal) (φ := .f32) 32 (t : EReal) : BitVec 32)
      (BitVec.setWidth 32 (FloatOps.cmpf (F := Ideal) (φ := .f32) CmpFPredicate.olt (FloatOps.sitofp .f32 (FloatOps.fptosi (F := Ideal) (φ := .f32) 32 (t : EReal))) (t : EReal)))
      = BitVec.ofInt 32 ⌈t⌉ := by
  have hf : FloatOps.fptosi (F := Ideal) (φ := .f32) 32 (t : EReal) = BitVec.ofInt 32 ⌊t⌋ := by
    show Ideal.fptosi 32 _ = _
    rw [trunc_val t (by rw [abs_of_nonneg h0]; exact h), if_pos h0]
  have b1 : (0 : ℤ) ≤ ⌊t⌋ := Int.floor_nonneg.mpr h0
  have b2 : ⌊t⌋ < (2 ^ 30 : ℤ) := Int.floor_lt.mpr (by push_cast; linarith)
  rw [hf, sitofp_word (by linarith) (by linarith)]
  show IntOp.addi _ (BitVec.setWidth 32 (BitVec.ofBool (decide ((((⌊t⌋ : ℤ) : ℝ) : EReal) < (t : EReal))))) = _
  by_cases hlt : ((⌊t⌋ : ℤ) : ℝ) < t
  · rw [decide_eq_true (EReal.coe_lt_coe_iff.mpr hlt)]
    have e : ⌈t⌉ = ⌊t⌋ + 1 := by
      refine Int.ceil_eq_iff.mpr ⟨by push_cast; linarith, ?_⟩
      push_cast; exact (Int.lt_floor_add_one t).le
    rw [e, BitVec.ofInt_add]; rfl
  · rw [decide_eq_false (fun hh => hlt (EReal.coe_lt_coe_iff.mp hh))]
    have e : ⌈t⌉ = ⌊t⌋ := by
      refine Int.ceil_eq_iff.mpr ⟨by have := Int.floor_le t; linarith, le_of_not_gt hlt⟩
    rw [e]
    show BitVec.ofInt 32 ⌊t⌋ + 0#32 = _
    rw [BitVec.add_zero]

theorem floor_word (t : ℝ) (h1 : -(2 ^ 30) < t) (h : t < 2 ^ 30) :
    IntOp.subi (FloatOps.fptosi (F := Ideal) (φ := .f32) 32 (t : EReal) : BitVec 32)
      (BitVec.setWidth 32 (FloatOps.cmpf (F := Ideal) (φ := .f32) CmpFPredicate.ogt (FloatOps.sitofp .f32 (FloatOps.fptosi (F := Ideal) (φ := .f32) 32 (t : EReal))) (t : EReal)))
      = BitVec.ofInt 32 ⌊t⌋ := by
  have hf : FloatOps.fptosi (F := Ideal) (φ := .f32) 32 (t : EReal) = BitVec.ofInt 32 (if 0 ≤ t then ⌊t⌋ else ⌈t⌉) :=
    trunc_val t (abs_lt.mpr ⟨h1, h⟩)
  have b1 : -(2 ^ 30 : ℤ) ≤ ⌊t⌋ := Int.le_floor.mpr (by push_cast; linarith)
  have b2 : ⌊t⌋ < (2 ^ 30 : ℤ) := Int.floor_lt.mpr (by push_cast; linarith)
  have c1 : -(2 ^ 30 : ℤ) < ⌈t⌉ := Int.lt_ceil.mpr (by push_cast; linarith)
  have c2 : ⌈t⌉ ≤ (2 ^ 30 : ℤ) := Int.ceil_le.mpr (by push_cast; linarith)
  rw [hf, sitofp_word (by split <;> linarith) (by split <;> linarith)]
  generalize hz : (if 0 ≤ t then ⌊t⌋ else ⌈t⌉) = z
  show IntOp.subi _ (BitVec.setWidth 32 (BitVec.ofBool (decide ((t : EReal) < (((z : ℤ) : ℝ) : EReal))))) = _
  by_cases hlt : t < ((z : ℤ) : ℝ)
  · rw [decide_eq_true (EReal.coe_lt_coe_iff.mpr hlt)]
    have e : ⌊t⌋ = z - 1 := by
      split at hz
      · exact absurd (hz ▸ Int.floor_le t) (not_le.mpr hlt)
      · refine Int.floor_eq_iff.mpr ⟨?_, by push_cast; linarith⟩
        have := Int.ceil_lt_add_one t
        rw [hz] at this; push_cast; linarith
    rw [e, Int.sub_eq_add_neg, BitVec.ofInt_add]
    show BitVec.ofInt 32 z - 1#32 = _
    rw [BitVec.sub_eq_add_neg]; rfl
  · rw [decide_eq_false (fun hh => hlt (EReal.coe_lt_coe_iff.mp hh))]
    have e : ⌊t⌋ = z := by
      split at hz
      · exact hz
      · refine Int.floor_eq_iff.mpr ⟨le_of_not_gt hlt, ?_⟩
        have := Int.le_ceil t
        rw [hz] at this; linarith
    rw [e]
    show BitVec.ofInt 32 z - 0#32 = _
    rw [BitVec.sub_zero]

theorem pay43_lane (h : LaneOf x v308 v311 v314 v317 v320 v323 v326 v329 v332 v335 m s q) :
    k0_pay43 v308 v317 x = BitVec.ofInt 32 (loX (m 0) (s 0)) := by
  unfold k0_pay43
  pointwise
  simp only [h.m0, h.s0, scalar_lit, lit_three, lit_off, lit_zero, ← EReal.coe_mul, ← EReal.coe_add, ← EReal.coe_sub, ← EReal.coe_zero, ← coe_max]
  have hm := abs_le.mp (h.mb 0)
  have hs := abs_le.mp (h.sb 0)
  refine ceil_word _ (le_max_right _ _) (max_lt ?_ ?_) <;> norm_num <;> linarith

theorem pay44_lane (h : LaneOf x v308 v311 v314 v317 v320 v323 v326 v329 v332 v335 m s q) :
    k0_pay44 v308 v317 x = BitVec.ofInt 32 (hiX (m 0) (s 0)) := by
  unfold k0_pay44
  pointwise
  simp only [h.m0, h.s0, scalar_lit, lit_three, lit_off, lit_79, lit_zero, ← EReal.coe_mul, ← EReal.coe_add, ← EReal.coe_sub, ← EReal.coe_zero, ← coe_min]
  have hm := abs_le.mp (h.mb 0)
  have hs := abs_le.mp (h.sb 0)
  refine floor_word _ (lt_min ?_ ?_) (lt_of_le_of_lt (min_le_right _ _) ?_) <;> norm_num <;> linarith

theorem pay47_lane (h : LaneOf x v308 v311 v314 v317 v320 v323 v326 v329 v332 v335 m s q) :
    k0_pay47 (k0_pay45 v311 v320) x = BitVec.ofInt 32 (loX (m 1) (s 1)) := by
  unfold k0_pay47 k0_pay45
  pointwise
  simp only [h.m1, h.s1, scalar_lit, lit_three, lit_off, lit_zero, ← EReal.coe_mul, ← EReal.coe_add, ← EReal.coe_sub, ← EReal.coe_zero, ← coe_max]
  have hm := abs_le.mp (h.mb 1)
  have hs := abs_le.mp (h.sb 1)
  refine ceil_word _ (le_max_right _ _) (max_lt ?_ ?_) <;> norm_num <;> linarith

theorem pay48_lane (h : LaneOf x v308 v311 v314 v317 v320 v323 v326 v329 v332 v335 m s q) :
    k0_pay48 v311 (k0_pay46 v320) x = BitVec.ofInt 32 (hiX (m 1) (s 1)) := by
  unfold k0_pay48 k0_pay46
  pointwise
  simp only [h.m1, h.s1, scalar_lit, lit_three, lit_off, lit_79, lit_zero, ← EReal.coe_mul, ← EReal.coe_add, ← EReal.coe_sub, ← EReal.coe_zero, ← coe_min]
  have hm := abs_le.mp (h.mb 1)
  have hs := abs_le.mp (h.sb 1)
  refine floor_word _ (lt_min ?_ ?_) (lt_of_le_of_lt (min_le_right _ _) ?_) <;> norm_num <;> linarith

theorem pay49_lane (h : LaneOf x v308 v311 v314 v317 v320 v323 v326 v329 v332 v335 m s q) :
    k0_pay49 v314 v323 x = BitVec.ofInt 32 (loZ (m 2) (s 2)) := by
  unfold k0_pay49
  pointwise
  simp only [h.m2, h.s2, scalar_lit, lit_three, lit_half_neg, lit_zero, ← EReal.coe_mul, ← EReal.coe_add, ← EReal.coe_sub, ← EReal.coe_zero, ← coe_max]
  have hm := abs_le.mp (h.mb 2)
  have hs := abs_le.mp (h.sb 2)
  refine ceil_word _ (le_max_right _ _) (max_lt ?_ ?_) <;> norm_num <;> linarith

theorem pay50_lane (h : LaneOf x v308 v311 v314 v317 v320 v323 v326 v329 v332 v335 m s q) :
    k0_pay50 v314 v323 x = BitVec.ofInt 32 (hiZ (m 2) (s 2)) := by
  unfold k0_pay50
  pointwise
  simp only [h.m2, h.s2, scalar_lit, lit_three, lit_half_neg, lit_five, lit_zero, ← EReal.coe_mul, ← EReal.coe_add, ← EReal.coe_sub, ← EReal.coe_zero, ← coe_min]
  have hm := abs_le.mp (h.mb 2)
  have hs := abs_le.mp (h.sb 2)
  refine floor_word _ (lt_min ?_ ?_) (lt_of_le_of_lt (min_le_right _ _) ?_) <;> norm_num <;> linarith

end Lane

end Cert.Proof

end
-- ==== Proof.Tile.lean ====
/-
  What the kernel computes, over the reals: the scene the packed array holds, the Gaussians a tile keeps, the weight of a Gaussian at a
  cell, and the value of each element of the output.
-/
module

public import proofs.«01_k».proof.Proof.Real

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The scene: means, scales and rotations are real numbers, the other inputs any extended reals. -/
structure Scene where
  mean : ℕ → Fin 3 → ℝ
  scale : ℕ → Fin 3 → ℝ
  rot : ℕ → Fin 4 → ℝ
  opa : ℕ → EReal
  feat : ℕ → ℕ → EReal
  es : EReal

/-- What the precondition says of a scene. -/
structure Good (S : Scene) : Prop where
  ne : ∀ n a, S.scale n a ≠ 0
  mb : ∀ n a, |S.mean n a| ≤ 1048576
  sb : ∀ n a, |S.scale n a| ≤ 1048576
  unit : ∀ n, S.rot n 0 * S.rot n 0 + S.rot n 1 * S.rot n 1 + S.rot n 2 * S.rot n 2 + S.rot n 3 * S.rot n 3 = 1

/-- The packed array holds the scene. -/
structure PackedOf (S : Scene) (P : S57360.Idx → EReal) : Prop where
  mean : ∀ n < 2048, ∀ (a : Fin 3) (j : S57360.Idx), (j 0).val = 3 * n + a.val → P j = (S.mean n a : EReal)
  scale : ∀ n < 2048, ∀ (a : Fin 3) (j : S57360.Idx), (j 0).val = 6144 + 3 * n + a.val → P j = (S.scale n a : EReal)
  rot : ∀ n < 2048, ∀ (a : Fin 4) (j : S57360.Idx), (j 0).val = 12288 + 4 * n + a.val → P j = (S.rot n a : EReal)
  opa : ∀ n < 2048, ∀ (j : S57360.Idx), (j 0).val = 20480 + n → P j = S.opa n
  feat : ∀ n < 2048, ∀ ch < 17, ∀ (j : S57360.Idx), (j 0).val = 22528 + 17 * n + ch → P j = S.feat n ch
  es : ∀ x < 16, ∀ (j : S57360.Idx), (j 0).val = 57344 + x → P j = S.es

variable (S : Scene)

/-- The first and the last cell of Gaussian `n` along each axis. -/
def lo (n : ℕ) : Fin 3 → ℤ := ![loX (S.mean n 0) (S.scale n 0), loX (S.mean n 1) (S.scale n 1), loZ (S.mean n 2) (S.scale n 2)]
def hi (n : ℕ) : Fin 3 → ℤ := ![hiX (S.mean n 0) (S.scale n 0), hiX (S.mean n 1) (S.scale n 1), hiZ (S.mean n 2) (S.scale n 2)]

/-- The cell lies in the box of Gaussian `n`. -/
def InBox (n i j k : ℕ) : Prop :=
  (lo S n 0 ≤ i ∧ (i : ℤ) ≤ hi S n 0) ∧ (lo S n 1 ≤ j ∧ (j : ℤ) ≤ hi S n 1) ∧ (lo S n 2 ≤ k ∧ (k : ℤ) ≤ hi S n 2)

instance (n i j k : ℕ) : Decidable (InBox S n i j k) := by unfold InBox; infer_instance

/-- The exponent of Gaussian `n` at a cell. -/
def expo (n i j k : ℕ) : ℝ :=
  let dx : ℝ := (i : ℝ) + -(79 / 2) - S.mean n 0
  let dy : ℝ := (j : ℝ) + -(79 / 2) - S.mean n 1
  let dz : ℝ := (k : ℝ) + -(1 / 2) - S.mean n 2
  let c := coef (S.scale n) (S.rot n)
  c 0 * dx * dx + c 1 * dy * dy + c 2 * dz * dz + c 3 * dx * dy + c 4 * dx * dz + c 5 * dy * dz

/-- The weight of Gaussian `n` at a cell. -/
def wgt (n i j k : ℕ) : EReal := S.opa n * ((Real.exp (expo S n i j k) : ℝ) : EReal)

/-- What Gaussian `n` adds to channel `ch` of a cell. -/
def term (n i j k ch : ℕ) : EReal := if InBox S n i j k then wgt S n i j k * S.feat n ch else 0

/-- The background Gaussian's value at a cell. -/
def back (i j k : ℕ) : EReal :=
  S.es * ((Real.exp (((i : ℝ) + -(79 / 2)) * ((i : ℝ) + -(79 / 2)) * -(1 / 12800) + ((j : ℝ) + -(79 / 2)) * ((j : ℝ) + -(79 / 2)) * -(1 / 12800)
    + ((k : ℝ) + -(27 / 10)) * ((k : ℝ) + -(27 / 10)) * -(25 / 2048)) : ℝ) : EReal)

/-- The value of an element of the output. -/
def cellVal (i j k ch : ℕ) : EReal := if ch = 17 then back S i j k else ∑ n ∈ Finset.range 2048, term S n i j k ch

/-- The first row and the first column of cells of a tile. -/
def tI (L : grid0.Coords) : ℕ := 20 * ((2 * (L 1).val + (L 0).val) / 8)
def tJ (L : grid0.Coords) : ℕ := 10 * ((2 * (L 1).val + (L 0).val) % 8)

theorem tI_le (L : grid0.Coords) : tI L ≤ 60 := by
  have h0 : (L 0).val < 2 := (L 0).isLt
  have h1 : (L 1).val < 16 := (L 1).isLt
  unfold tI; omega

theorem tJ_le (L : grid0.Coords) : tJ L ≤ 70 := by
  unfold tJ; omega

/-- Gaussian `n`'s box meets the tile at `ti`, `tj`. -/
def Meets (ti tj n : ℕ) : Prop :=
  (((((lo S n 0 ≤ (ti : ℤ) + 19 ∧ (ti : ℤ) ≤ hi S n 0) ∧ lo S n 1 ≤ (tj : ℤ) + 9) ∧ (tj : ℤ) ≤ hi S n 1) ∧ lo S n 0 ≤ hi S n 0) ∧ lo S n 1 ≤ hi S n 1)
    ∧ lo S n 2 ≤ hi S n 2

instance (ti tj n : ℕ) : Decidable (Meets S ti tj n) := by unfold Meets; infer_instance

/-- The Gaussians below `m` that meet the tile, in order. -/
def hits (ti tj m : ℕ) : List ℕ := (List.range m).filter fun n => decide (Meets S ti tj n)

theorem mem_hits {ti tj m n : ℕ} : n ∈ hits S ti tj m ↔ n < m ∧ Meets S ti tj n := by
  unfold hits; simp

theorem hits_length_le (ti tj m : ℕ) : (hits S ti tj m).length ≤ m :=
  (List.length_filter_le _ _).trans (by simp)

theorem term_eq_zero {ti tj n i j k ch : ℕ} (hi : ti ≤ i ∧ i < ti + 20) (hj : tj ≤ j ∧ j < tj + 10) (hn : ¬ Meets S ti tj n) :
    term S n i j k ch = 0 := by
  refine if_neg fun hb => hn ?_
  unfold InBox at hb
  unfold Meets
  omega

theorem sum_hits {ti tj i j k ch : ℕ} (hi : ti ≤ i ∧ i < ti + 20) (hj : tj ≤ j ∧ j < tj + 10) (m : ℕ) :
    ((hits S ti tj m).map fun n => term S n i j k ch).sum = ∑ n ∈ Finset.range m, term S n i j k ch := by
  induction m with
  | zero => rfl
  | succ m ih =>
    rw [Finset.sum_range_succ, ← ih]
    unfold hits
    rw [List.range_succ, List.filter_append, List.map_append, List.sum_append]
    congr 1
    by_cases hm : Meets S ti tj m
    · simp [hm]
    · simp [hm, term_eq_zero S hi hj hm]

theorem lo_nonneg (n : ℕ) (a : Fin 3) : 0 ≤ lo S n a := by
  fin_cases a <;> exact Int.le_ceil_iff.mpr (lt_of_lt_of_le (by norm_num) (le_max_right _ _))

theorem hi_le_x (n : ℕ) : hi S n 0 ≤ 79 := Int.floor_le_iff.mpr (lt_of_le_of_lt (min_le_right _ _) (by norm_num))
theorem hi_le_y (n : ℕ) : hi S n 1 ≤ 79 := Int.floor_le_iff.mpr (lt_of_le_of_lt (min_le_right _ _) (by norm_num))
theorem hi_le_z (n : ℕ) : hi S n 2 ≤ 5 := Int.floor_le_iff.mpr (lt_of_le_of_lt (min_le_right _ _) (by norm_num))

variable {S}

theorem lo_lt (hS : Good S) (n : ℕ) (a : Fin 3) : lo S n a < 2 ^ 30 := by
  have h : ∀ m s c : ℝ, |m| ≤ 1048576 → |s| ≤ 1048576 → |c| ≤ 100 → ⌈max (m - 3 * s - c) 0⌉ < (2 ^ 30 : ℤ) := by
    intro m s c hm hs hc
    have := abs_le.mp hm; have := abs_le.mp hs; have := abs_le.mp hc
    have h2 : ⌈max (m - 3 * s - c) 0⌉ ≤ (2 ^ 29 : ℤ) := Int.ceil_le.mpr (max_le (by push_cast; linarith) (by push_cast; norm_num))
    linarith
  fin_cases a
  · exact h _ _ _ (hS.mb n 0) (hS.sb n 0) (by rw [abs_le]; constructor <;> norm_num)
  · exact h _ _ _ (hS.mb n 1) (hS.sb n 1) (by rw [abs_le]; constructor <;> norm_num)
  · exact h _ _ _ (hS.mb n 2) (hS.sb n 2) (by rw [abs_le]; constructor <;> norm_num)

theorem lt_hi (hS : Good S) (n : ℕ) (a : Fin 3) : -(2 ^ 30) < hi S n a := by
  have h : ∀ m s c d : ℝ, |m| ≤ 1048576 → |s| ≤ 1048576 → |c| ≤ 100 → 0 ≤ d → -(2 ^ 30 : ℤ) < ⌊min (m + 3 * s - c) d⌋ := by
    intro m s c d hm hs hc hd
    have := abs_le.mp hm; have := abs_le.mp hs; have := abs_le.mp hc
    have h2 : -(2 ^ 29 : ℤ) ≤ ⌊min (m + 3 * s - c) d⌋ := Int.le_floor.mpr (le_min (by push_cast; linarith) (by push_cast; linarith))
    linarith
  fin_cases a
  · exact h _ _ _ _ (hS.mb n 0) (hS.sb n 0) (by rw [abs_le]; constructor <;> norm_num) (by norm_num)
  · exact h _ _ _ _ (hS.mb n 1) (hS.sb n 1) (by rw [abs_le]; constructor <;> norm_num) (by norm_num)
  · exact h _ _ _ _ (hS.mb n 2) (hS.sb n 2) (by rw [abs_le]; constructor <;> norm_num) (by norm_num)

/-! ## Positions in a filtered range -/

theorem getElem_hits (p : ℕ → Bool) (m : ℕ) : ∀ (t : ℕ) (ht : t < ((List.range m).filter p).length),
    p ((List.range m).filter p)[t] = true ∧ ((List.range m).filter p)[t] < m
      ∧ ((List.range (((List.range m).filter p)[t])).filter p).length = t := by
  induction m with
  | zero => intro t ht; simp at ht
  | succ m ih =>
    intro t ht
    have e : (List.range (m + 1)).filter p = (List.range m).filter p ++ (if p m then [m] else []) := by
      rw [List.range_succ, List.filter_append]
      by_cases hm : p m <;> simp [hm]
    by_cases hlt : t < ((List.range m).filter p).length
    · have e2 : ((List.range (m + 1)).filter p)[t] = ((List.range m).filter p)[t] := by
        simp only [e]
        exact List.getElem_append_left hlt
      obtain ⟨h1, h2, h3⟩ := ih t hlt
      rw [e2]
      exact ⟨h1, by omega, h3⟩
    · by_cases hm : p m = true
      · have ht' : t = ((List.range m).filter p).length := by
          rw [e, if_pos hm, List.length_append] at ht
          simp only [List.length_singleton] at ht
          omega
        have e2 : ((List.range (m + 1)).filter p)[t] = m := by
          simp only [e, if_pos hm]
          rw [List.getElem_append_right (by omega)]
          simp
        rw [e2]
        exact ⟨hm, by omega, ht'.symm⟩
      · rw [e, if_neg hm, List.append_nil] at ht
        exact absurd ht hlt

/-- The number of kept Gaussians grows by the lanes kept. -/
theorem hits_length_add (ti tj m : ℕ) (c : ℕ → ℕ) (hc : ∀ k, c k = if Meets S ti tj (m + k) then 1 else 0) (r : ℕ) :
    (hits S ti tj (m + r)).length = (hits S ti tj m).length + ∑ k ∈ Finset.range r, c k := by
  induction r with
  | zero => simp
  | succ r ih =>
    rw [Finset.sum_range_succ, hc r, ← Nat.add_assoc (hits S ti tj m).length, ← ih]
    unfold hits
    rw [← Nat.add_assoc, List.range_succ, List.filter_append, List.length_append]
    congr 1
    by_cases hm : Meets S ti tj (m + r) <;> simp [hm]

end Cert.Proof

end
-- ==== Proof.Lanes.lean ====
/-
  The indexed stores and the scans of sixteen lanes, element by element: what a scatter leaves at an index it names and at one it does
  not, what an adding scatter leaves everywhere, and the running count and its total.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- Lane `k` of a sixteen-lane vector. -/
abbrev lane (k : Fin 16) : S16.Idx := Shape.ofLane (d := ![16]) k

theorem lane_self (x : S16.Idx) : lane (x 0) = x := by
  funext a
  obtain rfl := Fin.eq_zero a
  rfl

@[simp] theorem lane_zero (k : Fin 16) : (lane k) 0 = k := rfl

/-- Lane `k` writes at `j`. -/
def Hits {s : Shape} (idxs : Fin s.rank → IVec S16 32) (mask : IVec S16 1) (j : s.Idx) (k : Fin 16) : Prop :=
  mask (lane k) = 1 ∧ ∀ a, (j a).val = (idxs a (lane k)).toNat

instance {s : Shape} (idxs : Fin s.rank → IVec S16 32) (mask : IVec S16 1) (j : s.Idx) (k : Fin 16) : Decidable (Hits idxs mask j k) := by
  unfold Hits; infer_instance

section Set

variable {s : Shape} {e : EltTy} (f : Vec Ideal s e) (idxs : Fin s.rank → IVec S16 32) (v : Vec Ideal S16 e) (mask : IVec S16 1)
  (h : ∀ a x, (idxs a x).toNat < s.size a) (j : s.Idx)

/-- One lane of an overwriting scatter. -/
def setStep (g : Vec Ideal s e) (k : Fin 16) : Vec Ideal s e :=
  if mask (lane k) = 1 then fun j => if (∀ a, (j a).val = (idxAt idxs h (lane k) a).val) then v (lane k) else g j else g

theorem storeIdx_set : storeIdx f idxs v mask false h = (List.finRange 16).foldl (setStep idxs v mask h) f := by
  unfold storeIdx
  refine congrArg (fun F => List.foldl F f (List.finRange 16)) ?_
  funext g k
  unfold setStep
  by_cases hm : mask (lane k) = 1
  · refine (if_pos hm).trans (Eq.trans (funext fun j => ?_) (if_pos hm).symm)
    by_cases hj : ∀ a, (j a).val = (idxAt idxs h (lane k) a).val
    · exact (if_pos hj).trans (if_pos hj).symm
    · exact (if_neg hj).trans (if_neg hj).symm
  · exact (if_neg hm).trans (if_neg hm).symm

theorem setStep_apply (g : Vec Ideal s e) (k : Fin 16) :
    setStep idxs v mask h g k j = if Hits idxs mask j k then v (lane k) else g j := by
  unfold setStep
  by_cases hm : mask (lane k) = 1
  · rw [if_pos hm]
    by_cases hj : ∀ a, (j a).val = (idxAt idxs h (lane k) a).val
    · rw [if_pos (show Hits idxs mask j k from ⟨hm, hj⟩)]; exact if_pos hj
    · rw [if_neg (show ¬ Hits idxs mask j k from fun t => hj t.2)]; exact if_neg hj
  · rw [if_neg hm, if_neg (show ¬ Hits idxs mask j k from fun t => hm t.1)]

theorem foldl_set_miss (l : List (Fin 16)) : ∀ g : Vec Ideal s e, (∀ k ∈ l, ¬ Hits idxs mask j k) →
    l.foldl (setStep idxs v mask h) g j = g j := by
  induction l with
  | nil => intro g _; rfl
  | cons k l ih =>
    intro g hk
    rw [List.foldl_cons, ih _ fun k' hk' => hk k' (List.mem_cons_of_mem _ hk'), setStep_apply, if_neg (hk k (by simp))]

theorem foldl_set_hit (y : Elt Ideal e) (l : List (Fin 16)) : ∀ g : Vec Ideal s e, (∀ k ∈ l, Hits idxs mask j k → v (lane k) = y) →
    ((∃ k ∈ l, Hits idxs mask j k) ∨ g j = y) → l.foldl (setStep idxs v mask h) g j = y := by
  induction l with
  | nil => rintro g _ (⟨k, hk, _⟩ | hg); · simp at hk
           exact hg
  | cons k l ih =>
    intro g hk hex
    rw [List.foldl_cons]
    refine ih _ (fun k' hk' => hk k' (List.mem_cons_of_mem _ hk')) ?_
    rw [setStep_apply]
    by_cases hh : Hits idxs mask j k
    · right; rw [if_pos hh]; exact hk k (by simp) hh
    · rw [if_neg hh]
      rcases hex with ⟨k', hk', hh'⟩ | hg
      · rcases List.mem_cons.mp hk' with rfl | hk'
        · exact absurd hh' hh
        · exact .inl ⟨k', hk', hh'⟩
      · exact .inr hg

theorem set_miss (hk : ∀ k, ¬ Hits idxs mask j k) : storeIdx f idxs v mask false h j = f j := by
  rw [storeIdx_set]
  exact foldl_set_miss idxs v mask h j _ f fun k _ => hk k

theorem set_hit (k : Fin 16) (hk : Hits idxs mask j k) (hu : ∀ k', Hits idxs mask j k' → v (lane k') = v (lane k)) :
    storeIdx f idxs v mask false h j = v (lane k) := by
  rw [storeIdx_set]
  exact foldl_set_hit idxs v mask h j _ _ f (fun k' _ => hu k') (.inl ⟨k, List.mem_finRange k, hk⟩)

end Set

section Add

variable {s : Shape} (f : Vec Ideal s .f32) (idxs : Fin s.rank → IVec S16 32) (v : Vec Ideal S16 .f32) (mask : IVec S16 1)
  (h : ∀ a x, (idxs a x).toNat < s.size a) (j : s.Idx)

/-- One lane of an adding scatter. -/
def addStep (g : Vec Ideal s .f32) (k : Fin 16) : Vec Ideal s .f32 :=
  if mask (lane k) = 1 then fun j => if (∀ a, (j a).val = (idxAt idxs h (lane k) a).val) then
    Elt.idxAdd .f32 (g (idxAt idxs h (lane k))) (v (lane k)) else g j else g

theorem storeIdx_add : storeIdx f idxs v mask true h = (List.finRange 16).foldl (addStep idxs v mask h) f := by
  unfold storeIdx
  refine congrArg (fun F => List.foldl F f (List.finRange 16)) ?_
  funext g k
  unfold addStep
  by_cases hm : mask (lane k) = 1
  · refine (if_pos hm).trans (Eq.trans (funext fun j => ?_) (if_pos hm).symm)
    by_cases hj : ∀ a, (j a).val = (idxAt idxs h (lane k) a).val
    · exact (if_pos hj).trans (if_pos hj).symm
    · exact (if_neg hj).trans (if_neg hj).symm
  · exact (if_neg hm).trans (if_neg hm).symm

theorem addStep_apply (g : Vec Ideal s .f32) (k : Fin 16) :
    addStep idxs v mask h g k j = (g j : EReal) + (if Hits idxs mask j k then (v (lane k) : EReal) else 0) := by
  unfold addStep
  by_cases hm : mask (lane k) = 1
  · rw [if_pos hm]
    by_cases hj : ∀ a, (j a).val = (idxAt idxs h (lane k) a).val
    · have hh : Hits idxs mask j k := ⟨hm, hj⟩
      have e : idxAt idxs h (lane k) = j := funext fun a => Fin.ext (hj a).symm
      simp only [if_pos hh]
      rw [if_pos hj, e]
      rfl
    · have hh : ¬ Hits idxs mask j k := fun t => hj t.2
      simp only [if_neg hh]
      rw [if_neg hj]
      exact (add_zero (M := EReal) _).symm
  · have hh : ¬ Hits idxs mask j k := fun t => hm t.1
    rw [if_neg hm, if_neg hh]
    exact (add_zero (M := EReal) _).symm

theorem foldl_add (l : List (Fin 16)) : ∀ g : Vec Ideal s .f32,
    l.foldl (addStep idxs v mask h) g j = (g j : EReal) + (l.map fun k => if Hits idxs mask j k then (v (lane k) : EReal) else 0).sum := by
  induction l with
  | nil => intro g; exact (add_zero (M := EReal) _).symm
  | cons k l ih =>
    intro g
    rw [List.foldl_cons, ih, addStep_apply, List.map_cons, List.sum_cons]
    exact add_assoc (G := EReal) _ _ _

theorem add_apply : storeIdx f idxs v mask true h j
    = (f j : EReal) + ∑ k : Fin 16, (if Hits idxs mask j k then (v (lane k) : EReal) else 0) := by
  rw [storeIdx_add, foldl_add, Fin.sum_univ_def]

end Add

/-! ## The running count -/

/-- Lane `k`'s bit as a number. -/
def bit (mask : IVec S16 1) (k : Fin 16) : ℕ := if mask (lane k) = 1 then 1 else 0

/-- How many lanes up to `j` are set. -/
def upto (mask : IVec S16 1) (j : Fin 16) : ℕ := ∑ k : Fin 16, if k ≤ j then bit mask k else 0

theorem upto_le (mask : IVec S16 1) (j : Fin 16) : upto mask j ≤ 16 := by
  refine (Finset.sum_le_sum (g := fun _ => 1) fun k _ => ?_).trans (by simp)
  unfold bit; split <;> [split <;> simp; simp]

theorem upto_mono (mask : IVec S16 1) {j j' : Fin 16} (hj : j ≤ j') : upto mask j ≤ upto mask j' := by
  refine Finset.sum_le_sum fun k _ => ?_
  by_cases hk : k ≤ j
  · rw [if_pos hk, if_pos (hk.trans hj)]
  · rw [if_neg hk]; exact Nat.zero_le _

theorem upto_lt (mask : IVec S16 1) {j j' : Fin 16} (hj : j < j') (hm : mask (lane j') = 1) : upto mask j < upto mask j' := by
  refine Finset.sum_lt_sum (fun k _ => ?_) ⟨j', Finset.mem_univ _, ?_⟩
  · by_cases hk : k ≤ j
    · rw [if_pos hk, if_pos (hk.trans hj.le)]
    · rw [if_neg hk]; exact Nat.zero_le _
  · rw [if_neg (not_le.mpr hj), if_pos le_rfl]; unfold bit; rw [if_pos hm]; exact Nat.one_pos

theorem upto_pos (mask : IVec S16 1) {j : Fin 16} (hm : mask (lane j) = 1) : 0 < upto mask j := by
  refine lt_of_lt_of_le (b := bit mask j) (by unfold bit; rw [if_pos hm]; exact Nat.one_pos) ?_
  have := Finset.single_le_sum (f := fun k : Fin 16 => if k ≤ j then bit mask k else 0) (fun _ _ => Nat.zero_le _) (Finset.mem_univ j)
  simpa [upto] using this

theorem upto_last (mask : IVec S16 1) : upto mask 15 = ∑ k : Fin 16, bit mask k :=
  Finset.sum_congr rfl fun k _ => if_pos (Fin.le_last k)

theorem foldl_addi (c : Fin 16 → ℕ) (l : List (Fin 16)) : ∀ a : ℕ,
    l.foldl (fun r k => ScanKind.step .sum r (BitVec.ofNat 32 (c k))) (BitVec.ofNat 32 a) = BitVec.ofNat 32 (a + (l.map c).sum) := by
  induction l with
  | nil => intro a; rfl
  | cons k l ih =>
    intro a
    rw [List.foldl_cons, show ScanKind.step .sum (BitVec.ofNat 32 a) (BitVec.ofNat 32 (c k)) = BitVec.ofNat 32 (a + c k) from
      (BitVec.ofNat_add a (c k)).symm, ih, List.map_cons, List.sum_cons, Nat.add_assoc]

theorem sum_filter_upto (c : Fin 16 → ℕ) (j : Fin 16) :
    c 0 + (((List.finRange 16).filter fun k => decide (0 < k.val ∧ k.val ≤ j.val)).map c).sum = ∑ k : Fin 16, if k ≤ j then c k else 0 := by
  revert j
  intro j
  rw [Fin.sum_univ_succ, if_pos (Fin.zero_le j)]
  congr 1
  rw [Fin.sum_univ_def, List.finRange_succ, List.filter_cons_of_neg (by simp), List.filter_map, List.map_map]
  have hl : ∀ l : List (Fin 15), (List.map (c ∘ Fin.succ) (List.filter ((fun k : Fin 16 => decide (0 < k.val ∧ k.val ≤ j.val)) ∘ Fin.succ) l)).sum
      = (List.map (fun i : Fin 15 => if i.succ ≤ j then c i.succ else 0) l).sum := by
    intro l
    induction l with
    | nil => rfl
    | cons i l ih =>
      by_cases hi : i.succ ≤ j
      · rw [List.filter_cons_of_pos (by simpa using hi), List.map_cons, List.sum_cons, ih, List.map_cons, List.sum_cons, if_pos hi]; rfl
      · rw [List.filter_cons_of_neg (by simpa using hi), ih, List.map_cons, List.sum_cons, if_neg hi, Nat.zero_add]
  exact hl _

/-- The running sum of the set bits, lane by lane. -/
theorem scan_sum (mask : IVec S16 1) (v : IVec S16 32) (hv : ∀ k, v (lane k) = BitVec.ofNat 32 (bit mask k)) (j : Fin 16) :
    scan .sum v (lane j) = BitVec.ofNat 32 (upto mask j) := by
  unfold scan upto
  rw [← sum_filter_upto, ← foldl_addi]
  have h0 : v (Shape.ofLane ⟨0, j.pos⟩) = BitVec.ofNat 32 (bit mask 0) := hv 0
  refine (congrArg₂ (fun F a => List.foldl F a (List.filter (fun k : Fin 16 => decide (0 < k.val ∧ k.val ≤ j.val)) (List.finRange 16)))
    (funext fun r => funext fun k => ?_) h0)
  exact congrArg _ (hv k)

theorem foldl_maxui (v : Fin 16 → BitVec 32) (M : BitVec 32) (l : List (Fin 16)) : ∀ a : BitVec 32, a.toNat ≤ M.toNat →
    (∀ k ∈ l, (v k).toNat ≤ M.toNat) → (a = M ∨ ∃ k ∈ l, v k = M) → l.foldl (fun r k => ScanKind.step .max r (v k)) a = M := by
  induction l with
  | nil => rintro a _ _ (rfl | ⟨k, hk, _⟩); · rfl
           simp at hk
  | cons k l ih =>
    intro a ha hl hex
    rw [List.foldl_cons]
    have hk := hl k (by simp)
    have hstep : ScanKind.step .max a (v k) = if a.toNat ≤ (v k).toNat then v k else a := by
      show IntOp.maxui a (v k) = _
      unfold IntOp.maxui
      first | rfl | (split <;> split <;> simp_all [BitVec.ult, BitVec.ule] <;> omega)
    refine ih _ ?_ (fun k' hk' => hl k' (List.mem_cons_of_mem _ hk')) ?_
    · rw [hstep]; split <;> assumption
    · rcases hex with rfl | ⟨k', hk', he⟩
      · left; rw [hstep]; split
        · rename_i hle; exact BitVec.eq_of_toNat_eq (le_antisymm hk hle)
        · rfl
      · rcases List.mem_cons.mp hk' with rfl | hk'
        · left; rw [hstep, he, if_pos ha]
        · exact .inr ⟨k', hk', he⟩

theorem xor_sign_toNat (n : ℕ) (hn : n ≤ 16) : (BitVec.ofNat 32 n ^^^ 2147483648#32).toNat = 2147483648 + n := by
  interval_cases n <;> rfl

/-- The last lane of the signed running maximum of the counts is the number of set lanes. -/
theorem scan_max (mask : IVec S16 1) (v : IVec S16 32) (hv : ∀ k, v (lane k) = BitVec.ofNat 32 (upto mask k) ^^^ 2147483648#32) :
    scan .max v (lane 15) ^^^ 2147483648#32 = BitVec.ofNat 32 (upto mask 15) := by
  have hle : ∀ k, (v (lane k)).toNat ≤ (v (lane 15)).toNat := fun k => by
    rw [hv, hv, xor_sign_toNat _ (upto_le _ _), xor_sign_toNat _ (upto_le _ _)]
    exact Nat.add_le_add_left (upto_mono mask (Fin.le_last k)) _
  have hs : scan .max v (lane 15) = v (lane 15) := by
    unfold scan
    refine foldl_maxui (fun k => v (lane k)) (v (lane 15)) _ _ (hle 0) (fun k _ => hle k) (.inr ⟨15, ?_, rfl⟩)
    simp
  rw [hs, hv, BitVec.xor_assoc, BitVec.xor_self, BitVec.xor_zero]

end Cert.Proof

end
-- ==== Proof.Rows.lean ====
/-
  The pure half of one trip of the first loop: what sixteen gathers read, what an unmasked row store leaves, and what the masked store
  adds to the list.
-/
module

public import proofs.«01_k».proof.Proof.Tile
public import proofs.«01_k».proof.Proof.Lanes

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The lane numbers. -/
def IsIota (v27 : IVec S16 32) : Prop := ∀ k : Fin 16, v27 (lane k) = BitVec.ofNat 32 k.val

/-! ## The tile's words -/

/-- The tile's column number, as the body computes it. -/
def w20 (i : grid0.Coords) : BitVec 32 :=
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v2 : BitVec 32 := Scalar.divsi v1 8#32
  let v3 : BitVec 1 := Scalar.cmpi .sgt v1 0#32
  let v4 : BitVec 32 := Scalar.extui v3
  let v5 : BitVec 1 := Scalar.cmpi .slt v1 0#32
  let v6 : BitVec 32 := Scalar.extui v5
  let v7 : BitVec 32 := Scalar.subi v4 v6
  let v8 : BitVec 1 := Scalar.cmpi .sgt 8#32 0#32
  let v9 : BitVec 32 := Scalar.extui v8
  let v10 : BitVec 1 := Scalar.cmpi .slt 8#32 0#32
  let v11 : BitVec 32 := Scalar.extui v10
  let v12 : BitVec 32 := Scalar.subi v9 v11
  let v13 : BitVec 1 := Scalar.cmpi .ne v7 v12
  let v14 : BitVec 32 := Scalar.remsi v1 8#32
  let v15 : BitVec 1 := Scalar.cmpi .ne v14 0#32
  let v16 : BitVec 1 := Scalar.andi v13 v15
  let v17 : BitVec 32 := Scalar.subi v2 1#32
  let v18 : BitVec 32 := Scalar.select v16 v17 v2
  let v19 : BitVec 32 := Scalar.muli v18 8#32
  Scalar.subi v1 v19

theorem w20_eq (i : grid0.Coords) : w20 i = BitVec.ofNat 32 ((2 * (i 1).val + (i 0).val) % 8) := by
  have h : ∀ (a : Fin 2) (b : Fin 16) (i : grid0.Coords), (i 0).val = a.val → (i 1).val = b.val →
      w20 i = BitVec.ofNat 32 ((2 * b.val + a.val) % 8) := by
    intro a b i ha hb
    unfold w20
    rw [ha, hb]
    clear ha hb i
    revert a b
    decide
  exact h ⟨(i 0).val, (i 0).isLt⟩ ⟨(i 1).val, (i 1).isLt⟩ i rfl rfl

/-- The tile's first column. -/
def w24 (i : grid0.Coords) : BitVec 32 := Scalar.muli (w20 i) 10#32
/-- The tile's last column. -/
def w26 (i : grid0.Coords) : BitVec 32 := Scalar.subi (Scalar.addi (w24 i) 10#32) 1#32

theorem w24_eq (i : grid0.Coords) : w24 i = BitVec.ofNat 32 (tJ i) := by
  unfold w24 tJ
  rw [w20_eq]
  show BitVec.ofNat 32 _ * 10#32 = _
  apply BitVec.eq_of_toNat_eq
  simp only [BitVec.toNat_mul, BitVec.toNat_ofNat]
  omega

theorem w26_eq (i : grid0.Coords) : w26 i = BitVec.ofNat 32 (tJ i + 9) := by
  unfold w26
  rw [w24_eq]
  show BitVec.ofNat 32 _ + 10#32 - 1#32 = _
  have := tJ_le i
  apply BitVec.eq_of_toNat_eq
  simp only [BitVec.toNat_sub, BitVec.toNat_add, BitVec.toNat_ofNat]
  omega

/-! ## Comparisons -/

theorem ofNat_eq_ofInt (n : ℕ) : BitVec.ofNat 32 n = BitVec.ofInt 32 (n : ℤ) := by simp

theorem sle_word {a b : ℤ} (ha : -(2 ^ 31) ≤ a ∧ a < 2 ^ 31) (hb : -(2 ^ 31) ≤ b ∧ b < 2 ^ 31) :
    IntOp.cmpi .sle (BitVec.ofInt 32 a) (BitVec.ofInt 32 b) = BitVec.ofBool (decide (a ≤ b)) := by
  show BitVec.ofBool (decide ((BitVec.ofInt 32 a).toInt ≤ (BitVec.ofInt 32 b).toInt)) = _
  rw [word_toInt ha.1 ha.2, word_toInt hb.1 hb.2]

theorem sge_word {a b : ℤ} (ha : -(2 ^ 31) ≤ a ∧ a < 2 ^ 31) (hb : -(2 ^ 31) ≤ b ∧ b < 2 ^ 31) :
    IntOp.cmpi .sge (BitVec.ofInt 32 a) (BitVec.ofInt 32 b) = BitVec.ofBool (decide (b ≤ a)) := by
  show BitVec.ofBool (decide ((BitVec.ofInt 32 b).toInt ≤ (BitVec.ofInt 32 a).toInt)) = _
  rw [word_toInt ha.1 ha.2, word_toInt hb.1 hb.2]

theorem andi_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

variable {S : Scene}

/-- The bit that says a lane's Gaussian meets the tile. -/
theorem pay310_lane (hS : Good S) (L : grid0.Coords) (v463 v470 v487 v494 v511 v518 : IVec S16 32) (v21 v23 : BitVec 32) (n : ℕ) (x : S16.Idx)
    (h463 : v463 x = BitVec.ofInt 32 (lo S n 0)) (h470 : v470 x = BitVec.ofInt 32 (hi S n 0))
    (h487 : v487 x = BitVec.ofInt 32 (lo S n 1)) (h494 : v494 x = BitVec.ofInt 32 (hi S n 1))
    (h511 : v511 x = BitVec.ofInt 32 (lo S n 2)) (h518 : v518 x = BitVec.ofInt 32 (hi S n 2))
    (h21 : v21 = BitVec.ofNat 32 (tI L)) (h23 : v23 = BitVec.ofNat 32 (tI L + 19)) :
    k0_pay310 L v463 v470 v487 v494 v511 v518 (k0_pay51 v23 v463) (k0_pay52 v21 v470) x
      = BitVec.ofBool (decide (Meets S (tI L) (tJ L) n)) := by
  have e : k0_pay310 L v463 v470 v487 v494 v511 v518 (k0_pay51 v23 v463) (k0_pay52 v21 v470) x
      = IntOp.andi (IntOp.andi (IntOp.andi (IntOp.andi (IntOp.andi (IntOp.andi (IntOp.cmpi .sle (v463 x) v23) (IntOp.cmpi .sge (v470 x) v21))
          (IntOp.cmpi .sle (v487 x) (w26 L))) (IntOp.cmpi .sge (v494 x) (w24 L))) (IntOp.cmpi .sle (v463 x) (v470 x)))
          (IntOp.cmpi .sle (v487 x) (v494 x))) (IntOp.cmpi .sle (v511 x) (v518 x)) := rfl
  have hI := tI_le L
  have hJ := tJ_le L
  have l : ∀ a, -(2 ^ 31) ≤ lo S n a ∧ lo S n a < 2 ^ 31 := fun a => ⟨by have := lo_nonneg S n a; linarith, by have := lo_lt hS n a; linarith⟩
  have u : ∀ a, -(2 ^ 31) ≤ hi S n a ∧ hi S n a < 2 ^ 31 := fun a => ⟨by have := lt_hi hS n a; linarith, by
    have h0 := hi_le_x S n; have h1 := hi_le_y S n; have h2 := hi_le_z S n
    match a with
    | 0 => linarith
    | 1 => linarith
    | 2 => linarith⟩
  have t : ∀ m : ℕ, m < 100 → -(2 ^ 31) ≤ (m : ℤ) ∧ (m : ℤ) < 2 ^ 31 := fun m hm => ⟨by omega, by omega⟩
  rw [e, h463, h470, h487, h494, h511, h518, h21, h23, w24_eq, w26_eq, ofNat_eq_ofInt, ofNat_eq_ofInt, ofNat_eq_ofInt, ofNat_eq_ofInt,
    sle_word (l 0) (t _ (by omega)), sge_word (u 0) (t _ (by omega)), sle_word (l 1) (t _ (by omega)), sge_word (u 1) (t _ (by omega)),
    sle_word (l 0) (u 0), sle_word (l 1) (u 1), sle_word (l 2) (u 2)]
  simp only [andi_bool]
  push_cast
  rfl

/-! ## The gathers -/

theorem pay1_lane {v27 : IVec S16 32} (h27 : IsIota v27) (g : Fin k0_t1_loop.trips) (k : Fin 16) :
    k0_pay1 v27 0#32 1#32 g (lane k) = BitVec.ofNat 32 (16 * g.val + k.val) := by
  have hg : g.val < 128 := g.isLt
  show Scalar.muli (Scf.iv 0#32 1#32 g) 16#32 + v27 (lane k) = _
  rw [h27 k]
  show (0#32 + BitVec.ofNat 32 g.val * 1#32) * 16#32 + BitVec.ofNat 32 k.val = _
  apply BitVec.eq_of_toNat_eq
  simp only [BitVec.toNat_mul, BitVec.toNat_add, BitVec.toNat_ofNat]
  omega

theorem mul3_toNat {n : ℕ} (hn : n < 2048) {c : BitVec 32} (hc : c.toNat < 100000) : (BitVec.ofNat 32 n * 3#32 + c).toNat = 3 * n + c.toNat := by
  simp only [BitVec.toNat_mul, BitVec.toNat_add, BitVec.toNat_ofNat]
  omega

theorem mul4_toNat {n : ℕ} (hn : n < 2048) {c : BitVec 32} (hc : c.toNat < 100000) : (BitVec.ofNat 32 n * 4#32 + c).toNat = 4 * n + c.toNat := by
  simp only [BitVec.toNat_mul, BitVec.toNat_add, BitVec.toNat_ofNat]
  omega

theorem pay4_nat {v301 : IVec S16 32} {x : S16.Idx} {n : ℕ} (hn : n < 2048) (h : v301 x = BitVec.ofNat 32 n) :
    (k0_pay4 v301 x).toNat = 3 * n + 0 := by
  have e : k0_pay4 v301 x = v301 x * 3#32 + 0#32 := rfl
  rw [e, h]
  exact mul3_toNat hn (by decide)

theorem pay5_nat {v301 : IVec S16 32} {x : S16.Idx} {n : ℕ} (hn : n < 2048) (h : v301 x = BitVec.ofNat 32 n) :
    (k0_pay5 v301 x).toNat = 3 * n + 1 := by
  have e : k0_pay5 v301 x = v301 x * 3#32 + 1#32 := rfl
  rw [e, h]
  exact mul3_toNat hn (by decide)

theorem pay6_nat {v301 : IVec S16 32} {x : S16.Idx} {n : ℕ} (hn : n < 2048) (h : v301 x = BitVec.ofNat 32 n) :
    (k0_pay6 v301 x).toNat = 3 * n + 2 := by
  have e : k0_pay6 v301 x = v301 x * 3#32 + 2#32 := rfl
  rw [e, h]
  exact mul3_toNat hn (by decide)

theorem pay7_nat {v301 : IVec S16 32} {x : S16.Idx} {n : ℕ} (hn : n < 2048) (h : v301 x = BitVec.ofNat 32 n) :
    (k0_pay7 v301 x).toNat = 3 * n + 6144 := by
  have e : k0_pay7 v301 x = v301 x * 3#32 + 6144#32 := rfl
  rw [e, h]
  exact mul3_toNat hn (by decide)

theorem pay8_nat {v301 : IVec S16 32} {x : S16.Idx} {n : ℕ} (hn : n < 2048) (h : v301 x = BitVec.ofNat 32 n) :
    (k0_pay8 v301 x).toNat = 3 * n + 6145 := by
  have e : k0_pay8 v301 x = v301 x * 3#32 + 6145#32 := rfl
  rw [e, h]
  exact mul3_toNat hn (by decide)

theorem pay9_nat {v301 : IVec S16 32} {x : S16.Idx} {n : ℕ} (hn : n < 2048) (h : v301 x = BitVec.ofNat 32 n) :
    (k0_pay9 v301 x).toNat = 3 * n + 6146 := by
  have e : k0_pay9 v301 x = v301 x * 3#32 + 6146#32 := rfl
  rw [e, h]
  exact mul3_toNat hn (by decide)

theorem pay10_nat {v301 : IVec S16 32} {x : S16.Idx} {n : ℕ} (hn : n < 2048) (h : v301 x = BitVec.ofNat 32 n) :
    (k0_pay10 v301 x).toNat = 4 * n + 12288 := by
  have e : k0_pay10 v301 x = v301 x * 4#32 + 12288#32 := rfl
  rw [e, h]
  exact mul4_toNat hn (by decide)

theorem pay11_nat {v301 : IVec S16 32} {x : S16.Idx} {n : ℕ} (hn : n < 2048) (h : v301 x = BitVec.ofNat 32 n) :
    (k0_pay11 v301 x).toNat = 4 * n + 12289 := by
  have e : k0_pay11 v301 x = v301 x * 4#32 + 12289#32 := rfl
  rw [e, h]
  exact mul4_toNat hn (by decide)

theorem pay12_nat {v301 : IVec S16 32} {x : S16.Idx} {n : ℕ} (hn : n < 2048) (h : v301 x = BitVec.ofNat 32 n) :
    (k0_pay12 v301 x).toNat = 4 * n + 12290 := by
  have e : k0_pay12 v301 x = v301 x * 4#32 + 12290#32 := rfl
  rw [e, h]
  exact mul4_toNat hn (by decide)

theorem pay13_nat {v301 : IVec S16 32} {x : S16.Idx} {n : ℕ} (hn : n < 2048) (h : v301 x = BitVec.ofNat 32 n) :
    (k0_pay13 v301 x).toNat = 4 * n + 12291 := by
  have e : k0_pay13 v301 x = v301 x * 4#32 + 12291#32 := rfl
  rw [e, h]
  exact mul4_toNat hn (by decide)

/-- Every index of a gather from the packed array is inside it. -/
theorem inb_of {idx : IVec S16 32} {N : ℕ} (h : ∀ k : Fin 16, (idx (lane k)).toNat < N) :
    ∀ (a : Fin 1) x, ((![idx] : Fin 1 → IVec S16 32) a x).toNat < (![N] : Fin 1 → ℕ) a := by
  intro a x
  obtain rfl := Fin.eq_zero a
  rw [← lane_self x]
  exact h (x 0)

/-- One lane of a gather from a one-dimensional buffer. -/
theorem gather_lane {N : ℕ} {e : EltTy} (P : (⟨1, ![N]⟩ : Shape).Idx → Elt Ideal e) {idx : IVec S16 32}
    (h : ∀ (a : Fin 1) x, ((![idx] : Fin 1 → IVec S16 32) a x).toNat < (![N] : Fin 1 → ℕ) a) (x : S16.Idx) {n : ℕ} {y : Elt Ideal e}
    (hx : (idx x).toNat = n) (hP : ∀ j : (⟨1, ![N]⟩ : Shape).Idx, (j 0).val = n → P j = y) :
    loadIdx (s := ⟨1, ![N]⟩) P ![idx] h x = y := hP _ hx

/-! ## Row stores -/

/-- The buffer that holds `F n` below `16 g` and `f` from there on. -/
def upd {α : Type} (F : ℕ → α) (f : S2048.Idx → α) (g : ℕ) : S2048.Idx → α := fun j => if (j 0).val < 16 * g then F (j 0).val else f j

theorem upd_full {α : Type} (F : ℕ → α) (f : S2048.Idx → α) (j : S2048.Idx) : upd F f 128 j = F (j 0).val :=
  if_pos (j 0).isLt

theorem upd_zero {α : Type} (F : ℕ → α) (f : S2048.Idx → α) : upd F f 0 = f := by
  funext j
  exact if_neg (by omega)

theorem store_row {e : EltTy} (F : ℕ → Elt Ideal e) (f : S2048.Idx → Elt Ideal e) {g : ℕ} (hg : g < 128) {idx : IVec S16 32} {v : Vec Ideal S16 e}
    (h : ∀ a x, ((![idx] : Fin 1 → IVec S16 32) a x).toNat < S2048.size a)
    (hi : ∀ k : Fin 16, idx (lane k) = BitVec.ofNat 32 (16 * g + k.val)) (hv : ∀ k : Fin 16, v (lane k) = F (16 * g + k.val)) :
    storeIdx (upd F f g) ![idx] v (fun _ => 1#1) false h = upd F f (g + 1) := by
  have hn : ∀ k : Fin 16, (idx (lane k)).toNat = 16 * g + k.val := fun k => by
    rw [hi k, BitVec.toNat_ofNat]; omega
  have hh : ∀ (j : S2048.Idx) (k : Fin 16), Hits (s := S2048) ![idx] (fun _ => 1#1) j k ↔ (j 0).val = 16 * g + k.val := by
    intro j k
    constructor
    · intro t; rw [← hn k]; exact t.2 0
    · intro t; refine ⟨rfl, fun a => ?_⟩
      obtain rfl := Fin.eq_zero a
      rw [t, ← hn k]; rfl
  funext j
  by_cases h1 : 16 * g ≤ (j 0).val ∧ (j 0).val < 16 * (g + 1)
  · have hk : (j 0).val - 16 * g < 16 := by omega
    have hj : Hits (s := S2048) ![idx] (fun _ => 1#1) j ⟨(j 0).val - 16 * g, hk⟩ := (hh j _).mpr (by show _ = 16 * g + ((j 0).val - 16 * g); omega)
    rw [set_hit (s := S2048) _ _ _ _ h j _ hj fun k' hk' => by
      have := (hh j k').mp hk'
      have e : k' = ⟨(j 0).val - 16 * g, hk⟩ := Fin.ext (by show k'.val = (j 0).val - 16 * g; omega)
      rw [e]]
    rw [hv]
    unfold upd
    rw [if_pos h1.2]
    congr 1
    show 16 * g + ((j 0).val - 16 * g) = _
    omega
  · rw [set_miss (s := S2048) _ _ _ _ h j fun k hk => by
      have := (hh j k).mp hk
      have := k.isLt
      omega]
    unfold upd
    by_cases h2 : (j 0).val < 16 * g
    · rw [if_pos h2, if_pos (by omega)]
    · rw [if_neg h2, if_neg (by omega)]

/-! ## The list -/

variable (S)

/-- The list buffer holds the Gaussians below `m` that meet the tile, and the count is theirs. -/
def ListOf (ti tj m : ℕ) (cnt : BitVec 32) (fl : S2048.Idx → BitVec 32) : Prop :=
  cnt = BitVec.ofNat 32 (hits S ti tj m).length
    ∧ ∀ (t : ℕ) (ht : t < (hits S ti tj m).length) (j : S2048.Idx), (j 0).val = t → fl j = BitVec.ofNat 32 (hits S ti tj m)[t]

variable {S}

theorem list_zero (ti tj : ℕ) (fl : S2048.Idx → BitVec 32) : ListOf S ti tj 0 0#32 fl :=
  ⟨rfl, fun t ht => absurd ht (by simp [hits])⟩

/-- How many lanes up to `j` are kept, by the growth of the list. -/
theorem upto_hits {ti tj m : ℕ} {mask : IVec S16 1} (hmask : ∀ k : Fin 16, mask (lane k) = BitVec.ofBool (decide (Meets S ti tj (m + k.val)))) (j : Fin 16) :
    (hits S ti tj (m + (j.val + 1))).length = (hits S ti tj m).length + upto mask j := by
  rw [hits_length_add ti tj m (fun k => if Meets S ti tj (m + k) then 1 else 0) (fun _ => rfl)]
  congr 1
  unfold upto
  rw [← Finset.sum_filter (s := Finset.univ) (fun k : Fin 16 => k ≤ j) (bit mask)]
  have hb : ∀ k : Fin 16, bit mask k = if Meets S ti tj (m + k.val) then 1 else 0 := by
    intro k
    unfold bit
    rw [hmask k]
    by_cases hk : Meets S ti tj (m + k.val) <;> simp [hk]
  rw [Finset.sum_congr rfl fun k _ => hb k]
  refine (Finset.sum_bij (fun (k : Fin 16) _ => k.val) ?_ ?_ ?_ ?_).symm
  · intro k hk
    have := (Finset.mem_filter.mp hk).2
    exact Finset.mem_range.mpr (by have : k.val ≤ j.val := this; omega)
  · intro a _ b _ hab; exact Fin.ext hab
  · intro b hb'
    have hb2 := Finset.mem_range.mp hb'
    exact ⟨⟨b, by omega⟩, Finset.mem_filter.mpr ⟨Finset.mem_univ _, by show b ≤ j.val; omega⟩, rfl⟩
  · intro k _; rfl

/-- Where lane `k` goes, if it is kept. -/
theorem pay312_lane {L : grid0.Coords} {ti tj m : ℕ} {v463 v470 v487 v494 v511 v518 : IVec S16 32} {v520 v522 : IVec S16 1} {cnt : BitVec 32}
    (hm : m ≤ 2048 - 16)
    (hmask : ∀ k : Fin 16, k0_pay310 L v463 v470 v487 v494 v511 v518 v520 v522 (lane k) = BitVec.ofBool (decide (Meets S ti tj (m + k.val))))
    (hc : cnt = BitVec.ofNat 32 (hits S ti tj m).length) (k : Fin 16) :
    (k0_pay312 L cnt v463 v470 v487 v494 v511 v518 v520 v522 (lane k)).toNat
      = if Meets S ti tj (m + k.val) then (hits S ti tj (m + k.val)).length else 0 := by
  have hs : k0_pay311 L v463 v470 v487 v494 v511 v518 v520 v522 (lane k)
      = BitVec.ofNat 32 (upto (k0_pay310 L v463 v470 v487 v494 v511 v518 v520 v522) k) := by
    refine scan_sum _ _ (fun k' => ?_) k
    show BitVec.setWidth 32 (k0_pay310 L v463 v470 v487 v494 v511 v518 v520 v522 (lane k')) = _
    unfold bit
    rw [hmask k']
    by_cases hk : Meets S ti tj (m + k'.val) <;> simp [hk]
  have e : k0_pay312 L cnt v463 v470 v487 v494 v511 v518 v520 v522 (lane k)
      = if k0_pay310 L v463 v470 v487 v494 v511 v518 v520 v522 (lane k) = 1 then
          cnt + k0_pay311 L v463 v470 v487 v494 v511 v518 v520 v522 (lane k) - 1#32 else 0#32 := rfl
  rw [e, hs, hmask k, hc]
  by_cases hk : Meets S ti tj (m + k.val)
  · have h1 := upto_hits hmask k
    have h2 : (hits S ti tj (m + (k.val + 1))).length = (hits S ti tj (m + k.val)).length + 1 := by
      have := hits_length_add (S := S) ti tj (m + k.val) (fun r => if Meets S ti tj (m + k.val + r) then 1 else 0) (fun _ => rfl) 1
      rw [← Nat.add_assoc, this, Finset.sum_range_one, if_pos (by simpa using hk)]
    have h3 := hits_length_le S ti tj m
    have h4 := upto_le (k0_pay310 L v463 v470 v487 v494 v511 v518 v520 v522) k
    rw [if_pos hk, if_pos (by simp [hk])]
    have h5 : (BitVec.ofNat 32 (hits S ti tj m).length + BitVec.ofNat 32 (upto (k0_pay310 L v463 v470 v487 v494 v511 v518 v520 v522) k) - 1#32).toNat
        = (hits S ti tj m).length + upto (k0_pay310 L v463 v470 v487 v494 v511 v518 v520 v522) k - 1 := by
      simp only [BitVec.toNat_sub, BitVec.toNat_add, BitVec.toNat_ofNat]
      omega
    rw [h5]; omega
  · rw [if_neg hk, if_neg (by simp [hk])]
    rfl

/-- The list after the masked store of one trip. -/
theorem list_step {L : grid0.Coords} {ti tj m : ℕ} {v463 v470 v487 v494 v511 v518 : IVec S16 32} {v520 v522 : IVec S16 1} {cnt : BitVec 32}
    {v301 : IVec S16 32} {fl : S2048.Idx → BitVec 32} (hm : m ≤ 2048 - 16)
    (hmask : ∀ k : Fin 16, k0_pay310 L v463 v470 v487 v494 v511 v518 v520 v522 (lane k) = BitVec.ofBool (decide (Meets S ti tj (m + k.val))))
    (h301 : ∀ k : Fin 16, v301 (lane k) = BitVec.ofNat 32 (m + k.val))
    (hl : ListOf S ti tj m cnt fl)
    (h : ∀ a x, ((![k0_pay312 L cnt v463 v470 v487 v494 v511 v518 v520 v522] : Fin 1 → IVec S16 32) a x).toNat < S2048.size a) :
    ListOf S ti tj (m + 16)
      (Scalar.addi cnt (extractAt ![15] (k0_pay313 L v463 v470 v487 v494 v511 v518 v520 v522) inpos_S16_p15))
      (storeIdx (F := Ideal) (e := .i32) fl ![k0_pay312 L cnt v463 v470 v487 v494 v511 v518 v520 v522] v301
        (k0_pay310 L v463 v470 v487 v494 v511 v518 v520 v522) false h) := by
  obtain ⟨hc, hf⟩ := hl
  have hpos := fun k => pay312_lane (cnt := cnt) hm hmask hc k
  have hh : ∀ (j : S2048.Idx) (k : Fin 16), Hits (s := S2048) ![k0_pay312 L cnt v463 v470 v487 v494 v511 v518 v520 v522]
      (k0_pay310 L v463 v470 v487 v494 v511 v518 v520 v522) j k ↔ Meets S ti tj (m + k.val) ∧ (j 0).val = (hits S ti tj (m + k.val)).length := by
    intro j k
    have hp := hpos k
    constructor
    · rintro ⟨t1, t2⟩
      have hM : Meets S ti tj (m + k.val) := by
        rw [hmask k] at t1
        by_contra hn
        simp [hn] at t1
      rw [if_pos hM] at hp
      exact ⟨hM, (t2 0).trans hp⟩
    · rintro ⟨t1, t2⟩
      rw [if_pos t1] at hp
      refine ⟨by rw [hmask k]; simp [t1], fun a => ?_⟩
      obtain rfl := Fin.eq_zero a
      exact t2.trans hp.symm
  constructor
  · have hx : extractAt ![15] (k0_pay313 L v463 v470 v487 v494 v511 v518 v520 v522) inpos_S16_p15
        = BitVec.ofNat 32 (upto (k0_pay310 L v463 v470 v487 v494 v511 v518 v520 v522) 15) := by
      refine Eq.trans ?_ (scan_max (k0_pay310 L v463 v470 v487 v494 v511 v518 v520 v522)
        (xori (k0_pay311 L v463 v470 v487 v494 v511 v518 v520 v522) (broadcast S16 2147483648#32)) fun k => ?_)
      · rfl
      · show k0_pay311 L v463 v470 v487 v494 v511 v518 v520 v522 (lane k) ^^^ 2147483648#32 = _
        congr 1
        refine scan_sum _ _ (fun k' => ?_) k
        show BitVec.setWidth 32 (k0_pay310 L v463 v470 v487 v494 v511 v518 v520 v522 (lane k')) = _
        unfold bit
        rw [hmask k']
        by_cases hk : Meets S ti tj (m + k'.val) <;> simp [hk]
    rw [hx, hc]
    have h1 := upto_hits hmask 15
    have h0 : m + ((15 : Fin 16).val + 1) = m + 16 := rfl
    rw [h0] at h1
    rw [h1]
    show BitVec.ofNat 32 _ + BitVec.ofNat 32 _ = _
    rw [← BitVec.ofNat_add]
  · intro t ht j hj
    by_cases hlt : t < (hits S ti tj m).length
    · rw [set_miss (s := S2048) (e := .i32) _ _ _ _ h j fun k hk => ?_]
      · rw [hf t hlt j hj]
        congr 1
        have e : ∀ r, t < (hits S ti tj (m + r)).length → ∃ l, hits S ti tj (m + r) = hits S ti tj m ++ l := by
          intro r _
          unfold hits
          rw [List.range_add, List.filter_append]
          exact ⟨_, rfl⟩
        obtain ⟨l, el⟩ := e 16 ht
        simp only [el]
        exact (List.getElem_append_left hlt).symm
      · have h1 := ((hh j k).mp hk).2
        have h2 := hits_length_add (S := S) ti tj m (fun r => if Meets S ti tj (m + r) then 1 else 0) (fun _ => rfl) k.val
        omega
    · obtain ⟨p1, p2, p3⟩ := getElem_hits (fun n => decide (Meets S ti tj n)) (m + 16) t ht
      set n := ((List.range (m + 16)).filter fun n => decide (Meets S ti tj n))[t] with hn
      have hM : Meets S ti tj n := of_decide_eq_true p1
      have hmn : m ≤ n := by
        by_contra hc'
        have : (hits S ti tj n).length = t := p3
        have h2 := hits_length_add (S := S) ti tj n (fun r => if Meets S ti tj (n + r) then 1 else 0) (fun _ => rfl) (m - n)
        rw [Nat.add_sub_cancel' (by omega)] at h2
        have h3 : 1 ≤ ∑ k ∈ Finset.range (m - n), (if Meets S ti tj (n + k) then 1 else 0) := by
          refine le_trans ?_ (Finset.single_le_sum (f := fun k => if Meets S ti tj (n + k) then 1 else 0) (fun _ _ => Nat.zero_le _)
            (Finset.mem_range.mpr (show 0 < m - n by omega)))
          simp [hM]
        omega
      have hk16 : n - m < 16 := by omega
      have hnk : m + (n - m) = n := by omega
      have hj2 : Hits (s := S2048) ![k0_pay312 L cnt v463 v470 v487 v494 v511 v518 v520 v522]
          (k0_pay310 L v463 v470 v487 v494 v511 v518 v520 v522) j ⟨n - m, hk16⟩ := by
        refine (hh j _).mpr ?_
        simp only [hnk]
        exact ⟨hM, hj.trans p3.symm⟩
      rw [set_hit (s := S2048) (e := .i32) _ _ _ _ h j _ hj2 fun k' hk' => ?_]
      · rw [h301]
        simp only [hnk]
        exact congrArg _ hn
      · have h1 := (hh j k').mp hk'
        have h2 := (hh j _).mp hj2
        simp only [hnk] at h2
        have e : k'.val = n - m := by
          have i1 := hits_length_add (S := S) ti tj m (fun r => if Meets S ti tj (m + r) then 1 else 0) (fun _ => rfl)
          rcases Nat.lt_trichotomy k'.val (n - m) with hlt' | he | hgt
          · exfalso
            have h3 := hits_length_add (S := S) ti tj (m + k'.val) (fun r => if Meets S ti tj (m + k'.val + r) then 1 else 0) (fun _ => rfl) (n - m - k'.val)
            rw [show m + k'.val + (n - m - k'.val) = n by omega] at h3
            have h4 : 1 ≤ ∑ k ∈ Finset.range (n - m - k'.val), (if Meets S ti tj (m + k'.val + k) then 1 else 0) := by
              refine le_trans ?_ (Finset.single_le_sum (f := fun k => if Meets S ti tj (m + k'.val + k) then 1 else 0) (fun _ _ => Nat.zero_le _)
                (Finset.mem_range.mpr (show 0 < n - m - k'.val by omega)))
              simp [h1.1]
            omega
          · exact he
          · exfalso
            have h3 := hits_length_add (S := S) ti tj n (fun r => if Meets S ti tj (n + r) then 1 else 0) (fun _ => rfl) (m + k'.val - n)
            rw [show n + (m + k'.val - n) = m + k'.val by omega] at h3
            have h4 : 1 ≤ ∑ k ∈ Finset.range (m + k'.val - n), (if Meets S ti tj (n + k) then 1 else 0) := by
              refine le_trans ?_ (Finset.single_le_sum (f := fun k => if Meets S ti tj (n + k) then 1 else 0) (fun _ _ => Nat.zero_le _)
                (Finset.mem_range.mpr (show 0 < m + k'.val - n by omega)))
              simp [h2.1]
            omega
        have e' : k' = ⟨n - m, hk16⟩ := Fin.ext e
        rw [e']

end Cert.Proof

end
-- ==== Proof.Cells.lean ====
/-
  A tile's own buffer, held whole at what it reads: the indexed load and the indexed store of it, as rules over the array it reads.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The buffer of `m` on the tile `c`, held outright, reading the array `g`. -/
def holds {s : Shape} {e : EltTy} (m : Memref sig .scVector .vmem s e) (d : Dev nD) (L : grid0.Coords) (g : s.Idx → Elt Ideal e) : sProp MM :=
  iprop(∃ f, ⌜m.view.read (Elt Ideal) f = g⌝ ∗ m.view.loc (thr d L) ↦{fullShare} f)

theorem holds_whole {s : Shape} {e : EltTy} {m : Memref sig .scVector .vmem s e} (d : Dev nD) (L : grid0.Coords)
    (f : Buf (Elt Ideal) (m.view.loc (thr d L))) :
    (m.view.loc (thr d L) ↦{fullShare} f : sProp MM) ⊢ holds m d L (m.view.read (Elt Ideal) f) := by
  unfold holds
  iintro H
  iexists f
  isplitr
  · ipureintro; rfl
  · iexact H

theorem read_access_eq {s : Shape} {e : EltTy} (m : Memref sig .scVector .vmem s e) (f : m.view.ty.Contents (Elt Ideal)) :
    (m.access (.whole s)).read (Elt Ideal) f = m.view.read (Elt Ideal) f := by
  funext x
  rw [View.read_apply, View.read_apply]
  congr 2
  exact congrArg m.view.emb (Rect.emb_whole_apply s x)

theorem set_access_eq {s : Shape} {e : EltTy} {m : Memref sig .scVector .vmem s e} (hm : m.IsWhole) :
    (m.access (.whole s)).set = Finset.univ := by
  rw [View.set_slice, Rect.set_whole]
  exact hm.set_eq_univ

variable {d : Dev nD} {L : grid0.Coords}

theorem wp_eta {α : Type} (p : Prog (TpuEff nD τ sig (Elt Ideal) Λ₀ (thr d L).2) α) (Q : α → sProp MM) :
    wp frame (wpE (defs₀ (F := Ideal)) 𝒱₀ (thr d L) none) Set.univ p Q
      = wp frame (wpE (defs₀ (F := Ideal)) 𝒱₀ (thr d L) none) Set.univ (p >>= pure) Q := by
  rw [bind_pure]

/-- A gather reads the contents at the lanes' indices. -/
theorem wp_gather {s t : Shape} {e : EltTy} {m : Memref sig .scVector .vmem s e} {idxs : Fin s.rank → IVec t 32}
    {h : ∀ a x, (idxs a x).toNat < s.size a} {hl : m.view.Loads} {g : s.Idx → Elt Ideal e} {Q : Vec Ideal t e → sProp MM} :
    holds m d L g
      ⊢ iprop((∀ v, ⌜v = loadIdx g idxs h⌝ -∗ holds m d L g -∗ Q v)
        -∗ wp frame (wpE (defs₀ (F := Ideal)) 𝒱₀ (thr d L) none) Set.univ (SparseCore.vectorLoadIdx m idxs h hl) Q) := by
  unfold holds
  iintro ⟨%f, %hf, H⟩ Hk
  rw [wp_eta]
  iapply (SparseCore.wp_vectorLoadIdx 𝒱₀ (thr d L) none Set.univ (base := m) (S := Finset.univ) (q := fullShare) (f := f) (Finset.subset_univ _)) $$ H
  iintro H
  rw [read_access_eq m f, hf]
  sl_step
  iapply Hk
  · ipureintro; rfl
  · iexists f
    isplitr
    · ipureintro; exact hf
    · iexact H

/-- A scatter writes the lanes at their indices. -/
theorem wp_scatter {s : Shape} {n : Fin 1 → Nat} {e : EltTy} {m : Memref sig .scVector .vmem s e} (hm : m.IsWhole)
    {idxs : Fin s.rank → IVec ⟨1, n⟩ 32} {v : Vec Ideal ⟨1, n⟩ e} {mask : IVec ⟨1, n⟩ 1} {add : Bool}
    {h : ∀ a x, (idxs a x).toNat < s.size a} {hs : (m.access (.whole s)).Stores Finset.univ} {g : s.Idx → Elt Ideal e} {Q : PUnit → sProp MM} :
    holds m d L g
      ⊢ iprop((holds m d L (storeIdx g idxs v mask add h) -∗ Q ⟨⟩)
        -∗ wp frame (wpE (defs₀ (F := Ideal)) 𝒱₀ (thr d L) none) Set.univ (SparseCore.vectorStoreIdx m idxs v mask add h hs) Q) := by
  unfold holds
  iintro ⟨%f, %hf, H⟩ Hk
  rw [wp_eta, ← set_access_eq hm]
  iapply (SparseCore.wp_vectorStoreIdx 𝒱₀ (thr d L) none Set.univ (base := m) (f := f)) $$ H
  iintro H
  sl_step
  iapply Hk
  iexists _
  isplitr
  rotate_left
  · iexact H
  · ipureintro
    rw [← read_access_eq, View.read_write_univ, read_access_eq, hf]

/-- A side condition that holds is passed. -/
theorem wp_check {P : Prop} {dec : Decidable P} (h : P) {Q : PLift P → sProp MM} :
    Q ⟨h⟩ ⊢ wp frame (wpE (defs₀ (F := Ideal)) 𝒱₀ (thr d L) none) Set.univ (Prog.lift (TpuEff.assume P dec)) Q := by
  rw [show (Prog.lift (TpuEff.assume P dec) : Prog (TpuEff nD τ sig (Elt Ideal) Λ₀ (thr d L).2) (PLift P)) = .op (.assume P dec) .ret from rfl,
    wp_assume_of 𝒱₀ (thr d L) none Set.univ h]
  iintro H
  sl_step
  iexact H

/-- A returned value. -/
theorem wp_done {α : Type} {a : α} {Q : α → sProp MM} :
    Q a ⊢ wp frame (wpE (defs₀ (F := Ideal)) 𝒱₀ (thr d L) none) Set.univ (pure a) Q := by
  iintro H
  sl_step
  iexact H

end Cert.Proof

end
-- ==== Proof.Phase1.lean ====
/-
  The first loop: the coefficients and the boxes of sixteen Gaussians at a time stored, and those that meet the tile appended to the list.
-/
module

public import proofs.«01_k».proof.Proof.Rows
public import proofs.«01_k».proof.Proof.Cells

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {d : Dev nD} {L : grid0.Coords} {S : Scene} {P : S57360.Idx → EReal}

/-- One lane of a gather from the packed array. -/
theorem gather_at {idx : IVec S16 32} {h : ∀ a x, ((![idx] : Fin 1 → IVec S16 32) a x).toNat < S57360.size a} {x : S16.Idx} {n : ℕ} {y : EReal}
    {v : Vec Ideal S16 .f32} (hv : v = loadIdx (s := S57360) (F := Ideal) (e := .f32) P ![idx] h)
    (hx : (idx x).toNat = n) (hP : ∀ j : S57360.Idx, (j 0).val = n → P j = y) : v x = y := by
  rw [hv]; exact hP _ hx

/-- An index vector whose lanes name packed entries passes its check. -/
theorem chk_of {idx : IVec S16 32} {N a b g : ℕ} (hg : g < 128) (h : ∀ k : Fin 16, (idx (lane k)).toNat = a * (16 * g + k.val) + b) (hN : a * 2047 + b < N) :
    ∀ (c : Fin 1) x, ((![idx] : Fin 1 → IVec S16 32) c x).toNat < (![N] : Fin 1 → ℕ) c := by
  refine inb_of fun k => ?_
  rw [h k]
  have hk := k.isLt
  have : 16 * g + k.val ≤ 2047 := by omega
  calc a * (16 * g + k.val) + b ≤ a * 2047 + b := by gcongr
    _ < N := hN

/-- A store of one trip into a table. -/
theorem wp_row {e : EltTy} {m : Memref sig .scVector .vmem S2048 e} (hm : m.IsWhole) {F : ℕ → Elt Ideal e} {f : S2048.Idx → Elt Ideal e} {g : ℕ} (hg : g < 128)
    {idx : IVec S16 32} {v : Vec Ideal S16 e} (hi : ∀ k : Fin 16, idx (lane k) = BitVec.ofNat 32 (16 * g + k.val))
    (hv : ∀ k : Fin 16, v (lane k) = F (16 * g + k.val))
    {h : ∀ a x, ((![idx] : Fin 1 → IVec S16 32) a x).toNat < S2048.size a} {hs : (m.access (.whole S2048)).Stores Finset.univ} {Q : PUnit → sProp MM} :
    holds m d L (upd F f g)
      ⊢ iprop((holds m d L (upd F f (g + 1)) -∗ Q ⟨⟩)
        -∗ wp frame (wpE (defs₀ (F := Ideal)) 𝒱₀ (thr d L) none) Set.univ (SparseCore.vectorStoreIdx m ![idx] v (fun _ => 1#1) false h hs) Q) := by
  have := wp_scatter (d := d) (L := L) hm (idxs := ![idx]) (v := v) (mask := fun _ => 1#1) (add := false) (h := h) (hs := hs) (g := upd F f g) (Q := Q)
  rwa [store_row F f hg h hi hv] at this

/-- The coefficient `i` of a Gaussian, as stored. -/
def cf (S : Scene) (i : Fin 6) (n : ℕ) : EReal := ((coef (S.scale n) (S.rot n) i : ℝ) : EReal)

/-- A bound of a Gaussian's box, as stored. -/
def lw (S : Scene) (a : Fin 3) (n : ℕ) : BitVec 32 := BitVec.ofInt 32 (lo S n a)

def hw (S : Scene) (a : Fin 3) (n : ℕ) : BitVec 32 := BitVec.ofInt 32 (hi S n a)

variable (d L S P)

/-- The packed array and the twelve tables, filled for the first `16 g` Gaussians. -/
def tables (ff : Fin 6 → S2048.Idx → EReal) (fi : Fin 6 → S2048.Idx → BitVec 32) (g : ℕ) : sProp MM :=
  iprop(holds pkV d L P
    ∗ holds aV d L (upd (cf S 0) (ff 0) g) ∗ holds bV d L (upd (cf S 1) (ff 1) g) ∗ holds cV d L (upd (cf S 2) (ff 2) g)
    ∗ holds dV d L (upd (cf S 3) (ff 3) g) ∗ holds eV d L (upd (cf S 4) (ff 4) g) ∗ holds fV d L (upd (cf S 5) (ff 5) g)
    ∗ holds i0V d L (upd (lw S 0) (fi 0) g) ∗ holds i1V d L (upd (hw S 0) (fi 1) g)
    ∗ holds j0V d L (upd (lw S 1) (fi 2) g) ∗ holds j1V d L (upd (hw S 1) (fi 3) g)
    ∗ holds k0V d L (upd (lw S 2) (fi 4) g) ∗ holds k1V d L (upd (hw S 2) (fi 5) g))

/-- The list buffer after `16 g` Gaussians, with the count. -/
def listed (g : ℕ) (cnt : BitVec 32) : sProp MM :=
  iprop(∃ fl : S2048.Idx → BitVec 32, ⌜ListOf S (tI L) (tJ L) (16 * g) cnt fl⌝ ∗ holds listV d L fl)

variable {d L S P}

theorem t1_trips : k0_t1_loop.trips = 128 := by decide

/-- One trip. -/
theorem t1_trip (hS : Good S) (hP : PackedOf S P) {v21 v23 : BitVec 32} {v27 : IVec S16 32} (h21 : v21 = BitVec.ofNat 32 (tI L))
    (h23 : v23 = BitVec.ofNat 32 (tI L + 19)) (h27 : IsIota v27) (ff : Fin 6 → S2048.Idx → EReal) (fi : Fin 6 → S2048.Idx → BitVec 32)
    (k : Fin k0_t1_loop.trips) (cnt : BitVec 32) :
    iprop(tables d L S P ff fi k.val ∗ listed d L S k.val cnt)
      ⊢ wp frame (wpE (defs₀ (F := Ideal)) 𝒱₀ (thr d L) none) Set.univ
        (k0_t1_body L inV (Memref.isWhole_whole _) outV (Memref.isWhole_whole _) pkV (Memref.isWhole_whole _) aV (Memref.isWhole_whole _) bV (Memref.isWhole_whole _) cV (Memref.isWhole_whole _) dV (Memref.isWhole_whole _) eV (Memref.isWhole_whole _) fV (Memref.isWhole_whole _) i0V (Memref.isWhole_whole _) i1V (Memref.isWhole_whole _) j0V (Memref.isWhole_whole _) j1V (Memref.isWhole_whole _) k0V (Memref.isWhole_whole _) k1V (Memref.isWhole_whole _) listV (Memref.isWhole_whole _) slabV (Memref.isWhole_whole _) cc0_scratch15 cc0_scratch16 v21 v23 v27 k cnt)
        (fun c => iprop(tables d L S P ff fi (k.val + 1) ∗ listed d L S (k.val + 1) c)) := by
  have hk : k.val < 128 := lt_of_lt_of_eq k.isLt t1_trips
  have hn : ∀ x : Fin 16, 16 * k.val + x.val < 2048 := fun x => by have := x.isLt; omega
  have h301 : ∀ x : Fin 16, k0_pay1 v27 0#32 1#32 k (lane x) = BitVec.ofNat 32 (16 * k.val + x.val) := fun x => pay1_lane h27 k x
  generalize hv301 : k0_pay1 v27 0#32 1#32 k = v301 at h301
  have p4 : ∀ x : Fin 16, (k0_pay4 v301 (lane x)).toNat = 3 * (16 * k.val + x.val) + 0 := fun x => pay4_nat (hn x) (h301 x)
  have p5 : ∀ x : Fin 16, (k0_pay5 v301 (lane x)).toNat = 3 * (16 * k.val + x.val) + 1 := fun x => pay5_nat (hn x) (h301 x)
  have p6 : ∀ x : Fin 16, (k0_pay6 v301 (lane x)).toNat = 3 * (16 * k.val + x.val) + 2 := fun x => pay6_nat (hn x) (h301 x)
  have p7 : ∀ x : Fin 16, (k0_pay7 v301 (lane x)).toNat = 3 * (16 * k.val + x.val) + 6144 := fun x => pay7_nat (hn x) (h301 x)
  have p8 : ∀ x : Fin 16, (k0_pay8 v301 (lane x)).toNat = 3 * (16 * k.val + x.val) + 6145 := fun x => pay8_nat (hn x) (h301 x)
  have p9 : ∀ x : Fin 16, (k0_pay9 v301 (lane x)).toNat = 3 * (16 * k.val + x.val) + 6146 := fun x => pay9_nat (hn x) (h301 x)
  have p10 : ∀ x : Fin 16, (k0_pay10 v301 (lane x)).toNat = 4 * (16 * k.val + x.val) + 12288 := fun x => pay10_nat (hn x) (h301 x)
  have p11 : ∀ x : Fin 16, (k0_pay11 v301 (lane x)).toNat = 4 * (16 * k.val + x.val) + 12289 := fun x => pay11_nat (hn x) (h301 x)
  have p12 : ∀ x : Fin 16, (k0_pay12 v301 (lane x)).toNat = 4 * (16 * k.val + x.val) + 12290 := fun x => pay12_nat (hn x) (h301 x)
  have p13 : ∀ x : Fin 16, (k0_pay13 v301 (lane x)).toNat = 4 * (16 * k.val + x.val) + 12291 := fun x => pay13_nat (hn x) (h301 x)
  have hc11 : ∀ a x, ((![v301] : Fin 1 → IVec S16 32) a x).toNat < S2048.size a :=
    chk_of (N := 2048) (a := 1) (b := 0) hk (fun x => by rw [h301 x, BitVec.toNat_ofNat]; have := hn x; omega) (by decide)
  unfold tables listed
  iintro ⟨⟨Hp, Ha, Hb, Hc, Hd, He, Hf, Hi0, Hi1, Hj0, Hj1, Hk0, Hk1⟩, ⟨%fl, %hfl, Hl⟩⟩
  sl_unfold [k0_t1_body]
  sl_open_parts
  rw [hv301]
  repeat rw [wp_bind]
  iapply wp_check (P := k0_chk11 v301) ⟨hc11, hc11, hc11, hc11, hc11, hc11, hc11, hc11, hc11, hc11, hc11, hc11⟩
  repeat rw [wp_bind]
  iapply wp_check (P := k0_chk1 (k0_pay4 v301)) (chk_of (N := 57360) hk p4 (by decide))
  repeat rw [wp_bind]
  iapply wp_gather (m := pkV) (g := P) $$ Hp
  iintro %v308 %e308 Hp
  repeat rw [wp_bind]
  iapply wp_check (P := k0_chk2 (k0_pay5 v301)) (chk_of (N := 57360) hk p5 (by decide))
  repeat rw [wp_bind]
  iapply wp_gather (m := pkV) (g := P) $$ Hp
  iintro %v311 %e311 Hp
  repeat rw [wp_bind]
  iapply wp_check (P := k0_chk3 (k0_pay6 v301)) (chk_of (N := 57360) hk p6 (by decide))
  repeat rw [wp_bind]
  iapply wp_gather (m := pkV) (g := P) $$ Hp
  iintro %v314 %e314 Hp
  repeat rw [wp_bind]
  iapply wp_check (P := k0_chk4 (k0_pay7 v301)) (chk_of (N := 57360) hk p7 (by decide))
  repeat rw [wp_bind]
  iapply wp_gather (m := pkV) (g := P) $$ Hp
  iintro %v317 %e317 Hp
  repeat rw [wp_bind]
  iapply wp_check (P := k0_chk5 (k0_pay8 v301)) (chk_of (N := 57360) hk p8 (by decide))
  repeat rw [wp_bind]
  iapply wp_gather (m := pkV) (g := P) $$ Hp
  iintro %v320 %e320 Hp
  repeat rw [wp_bind]
  iapply wp_check (P := k0_chk6 (k0_pay9 v301)) (chk_of (N := 57360) hk p9 (by decide))
  repeat rw [wp_bind]
  iapply wp_gather (m := pkV) (g := P) $$ Hp
  iintro %v323 %e323 Hp
  repeat rw [wp_bind]
  iapply wp_check (P := k0_chk7 (k0_pay10 v301)) (chk_of (N := 57360) hk p10 (by decide))
  repeat rw [wp_bind]
  iapply wp_gather (m := pkV) (g := P) $$ Hp
  iintro %v326 %e326 Hp
  repeat rw [wp_bind]
  iapply wp_check (P := k0_chk8 (k0_pay11 v301)) (chk_of (N := 57360) hk p11 (by decide))
  repeat rw [wp_bind]
  iapply wp_gather (m := pkV) (g := P) $$ Hp
  iintro %v329 %e329 Hp
  repeat rw [wp_bind]
  iapply wp_check (P := k0_chk9 (k0_pay12 v301)) (chk_of (N := 57360) hk p12 (by decide))
  repeat rw [wp_bind]
  iapply wp_gather (m := pkV) (g := P) $$ Hp
  iintro %v332 %e332 Hp
  repeat rw [wp_bind]
  iapply wp_done
  dsimp only
  repeat rw [wp_bind]
  iapply wp_check (P := k0_chk10 (k0_pay13 v301)) (chk_of (N := 57360) hk p13 (by decide))
  repeat rw [wp_bind]
  iapply wp_gather (m := pkV) (g := P) $$ Hp
  iintro %v335 %e335 Hp
  have hL : ∀ x : Fin 16, LaneOf (lane x) v308 v311 v314 v317 v320 v323 v326 v329 v332 v335 (S.mean (16 * k.val + x.val)) (S.scale (16 * k.val + x.val)) (S.rot (16 * k.val + x.val)) := fun x =>
    { m0 := gather_at e308 (p4 x) fun j hj => hP.mean _ (hn x) 0 j (by rw [hj]; rfl)
      m1 := gather_at e311 (p5 x) fun j hj => hP.mean _ (hn x) 1 j (by rw [hj]; rfl)
      m2 := gather_at e314 (p6 x) fun j hj => hP.mean _ (hn x) 2 j (by rw [hj]; rfl)
      s0 := gather_at e317 (p7 x) fun j hj => hP.scale _ (hn x) 0 j (by rw [hj]; omega)
      s1 := gather_at e320 (p8 x) fun j hj => hP.scale _ (hn x) 1 j (by rw [hj]; omega)
      s2 := gather_at e323 (p9 x) fun j hj => hP.scale _ (hn x) 2 j (by rw [hj]; omega)
      q0 := gather_at e326 (p10 x) fun j hj => hP.rot _ (hn x) 0 j (by rw [hj]; omega)
      q1 := gather_at e329 (p11 x) fun j hj => hP.rot _ (hn x) 1 j (by rw [hj]; omega)
      q2 := gather_at e332 (p12 x) fun j hj => hP.rot _ (hn x) 2 j (by rw [hj]; omega)
      q3 := gather_at e335 (p13 x) fun j hj => hP.rot _ (hn x) 3 j (by rw [hj]; omega)
      ne := hS.ne _
      mb := hS.mb _
      sb := hS.sb _ }
  repeat rw [wp_bind]
  iapply wp_done
  dsimp only
  repeat rw [wp_bind]
  iapply wp_row (m := aV) (Memref.isWhole_whole _) hk h301 (fun x => pay35_lane (hL x)) $$ Ha
  iintro Ha
  repeat rw [wp_bind]
  iapply wp_row (m := bV) (Memref.isWhole_whole _) hk h301 (fun x => pay36_lane (hL x)) $$ Hb
  iintro Hb
  repeat rw [wp_bind]
  iapply wp_row (m := cV) (Memref.isWhole_whole _) hk h301 (fun x => pay37_lane (hL x)) $$ Hc
  iintro Hc
  repeat rw [wp_bind]
  iapply wp_row (m := dV) (Memref.isWhole_whole _) hk h301 (fun x => pay38_lane (hL x)) $$ Hd
  iintro Hd
  repeat rw [wp_bind]
  iapply wp_done
  dsimp only
  repeat rw [wp_bind]
  iapply wp_row (m := eV) (Memref.isWhole_whole _) hk h301 (fun x => pay41_lane (hL x)) $$ He
  iintro He
  repeat rw [wp_bind]
  iapply wp_row (m := fV) (Memref.isWhole_whole _) hk h301 (fun x => pay42_lane (hL x)) $$ Hf
  iintro Hf
  repeat rw [wp_bind]
  iapply wp_done
  dsimp only
  repeat rw [wp_bind]
  iapply wp_row (m := i0V) (Memref.isWhole_whole _) hk h301 (fun x => pay43_lane (hL x)) $$ Hi0
  iintro Hi0
  repeat rw [wp_bind]
  iapply wp_row (m := i1V) (Memref.isWhole_whole _) hk h301 (fun x => pay44_lane (hL x)) $$ Hi1
  iintro Hi1
  repeat rw [wp_bind]
  iapply wp_row (m := j0V) (Memref.isWhole_whole _) hk h301 (fun x => pay47_lane (hL x)) $$ Hj0
  iintro Hj0
  repeat rw [wp_bind]
  iapply wp_row (m := j1V) (Memref.isWhole_whole _) hk h301 (fun x => pay48_lane (hL x)) $$ Hj1
  iintro Hj1
  repeat rw [wp_bind]
  iapply wp_row (m := k0V) (Memref.isWhole_whole _) hk h301 (fun x => pay49_lane (hL x)) $$ Hk0
  iintro Hk0
  repeat rw [wp_bind]
  iapply wp_row (m := k1V) (Memref.isWhole_whole _) hk h301 (fun x => pay50_lane (hL x)) $$ Hk1
  iintro Hk1
  repeat rw [wp_bind]
  iapply wp_done
  dsimp only
  have hmask := fun x : Fin 16 => pay310_lane hS L (k0_pay43 v308 v317) (k0_pay44 v308 v317) (k0_pay47 (k0_pay45 v311 v320)) (k0_pay48 v311 (k0_pay46 v320))
    (k0_pay49 v314 v323) (k0_pay50 v314 v323) v21 v23 (16 * k.val + x.val) (lane x) (pay43_lane (hL x)) (pay44_lane (hL x)) (pay47_lane (hL x))
    (pay48_lane (hL x)) (pay49_lane (hL x)) (pay50_lane (hL x)) h21 h23
  have hm : 16 * k.val ≤ 2048 - 16 := by omega
  have hpos : k0_chk12 (k0_pay312 L cnt (k0_pay43 v308 v317) (k0_pay44 v308 v317) (k0_pay47 (k0_pay45 v311 v320)) (k0_pay48 v311 (k0_pay46 v320))
      (k0_pay49 v314 v323) (k0_pay50 v314 v323) (k0_pay51 v23 (k0_pay43 v308 v317)) (k0_pay52 v21 (k0_pay44 v308 v317))) := by
    refine inb_of (N := 2048) fun x => ?_
    rw [pay312_lane hm hmask hfl.1 x]
    have h1 := hits_length_le S (tI L) (tJ L) (16 * k.val + x.val)
    have h2 := hn x
    split <;> omega
  repeat rw [wp_bind]
  iapply wp_check hpos
  repeat rw [wp_bind]
  iapply wp_scatter (m := listV) (Memref.isWhole_whole _) $$ Hl
  iintro Hl
  have hstep := list_step hm hmask h301 hfl hpos
  iapply wp_done
  isplitr [Hl]
  · isplitl [Hp]; · iexact Hp
    isplitl [Ha]; · iexact Ha
    isplitl [Hb]; · iexact Hb
    isplitl [Hc]; · iexact Hc
    isplitl [Hd]; · iexact Hd
    isplitl [He]; · iexact He
    isplitl [Hf]; · iexact Hf
    isplitl [Hi0]; · iexact Hi0
    isplitl [Hi1]; · iexact Hi1
    isplitl [Hj0]; · iexact Hj0
    isplitl [Hj1]; · iexact Hj1
    isplitl [Hk0]; · iexact Hk0
    iexact Hk1
  · iexists _
    isplitr
    · ipureintro
      exact hstep
    · iexact Hl

end Cert.Proof

end
-- ==== Proof.Back.lean ====
/-
  The slab's first two passes: every element zeroed, then the background's value stored in the last channel of each cell.
-/
module

public import proofs.«01_k».proof.Proof.Phase1
public import Idealize.ShloMosaic.Lib.Routing.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## Scatters by what they cover -/

section Cover

variable {s : Shape} {e : EltTy} (f : Vec Ideal s e) (idxs : Fin s.rank → IVec S16 32) (v : Vec Ideal S16 e) (mask : IVec S16 1)
  (h : ∀ a x, (idxs a x).toNat < s.size a)

/-- A scatter whose lanes write the array `F` where they write: it leaves `F` on what they cover. -/
theorem set_all (F : s.Idx → Elt Ideal e) (P : s.Idx → Prop) [DecidablePred P] (hv : ∀ j k, Hits idxs mask j k → v (lane k) = F j)
    (hP : ∀ j, (∃ k, Hits idxs mask j k) ↔ P j) : storeIdx f idxs v mask false h = fun j => if P j then F j else f j := by
  funext j
  by_cases hp : P j
  · obtain ⟨k, hk⟩ := (hP j).mpr hp
    rw [set_hit f idxs v mask h j k hk fun k' hk' => (hv j k' hk').trans (hv j k hk).symm, if_pos hp]
    exact hv j k hk
  · rw [set_miss f idxs v mask h j fun k hk => hp ((hP j).mp ⟨k, hk⟩), if_neg hp]

end Cover

/-- An adding scatter whose lanes hold the array `F` where they write, no two on one element. -/
theorem add_all {s : Shape} (f : Vec Ideal s .f32) (idxs : Fin s.rank → IVec S16 32) (v : Vec Ideal S16 .f32) (mask : IVec S16 1)
    (h : ∀ a x, (idxs a x).toNat < s.size a) (F : s.Idx → EReal) (P : s.Idx → Prop) [DecidablePred P]
    (hv : ∀ j k, Hits idxs mask j k → v (lane k) = F j) (hu : ∀ j k k', Hits idxs mask j k → Hits idxs mask j k' → k = k')
    (hP : ∀ j, (∃ k, Hits idxs mask j k) ↔ P j) :
    storeIdx (F := Ideal) (e := .f32) f idxs v mask true h = fun j => (f j + if P j then F j else 0 : EReal) := by
  funext j
  rw [add_apply f idxs v mask h j]
  congr 1
  by_cases hp : P j
  · obtain ⟨k, hk⟩ := (hP j).mpr hp
    rw [if_pos hp, Finset.sum_eq_single k (fun k' _ hne => if_neg fun hk' => hne (hu j k' k hk' hk)) (fun hn => absurd (Finset.mem_univ _) hn), if_pos hk]
    exact hv j k hk
  · rw [if_neg hp]
    exact Finset.sum_eq_zero fun k _ => if_neg fun hk => hp ((hP j).mp ⟨k, hk⟩)

/-! ## Division of lanes -/

theorem toInt_word {a : ℕ} (ha : a < 2 ^ 31) : (BitVec.ofNat 32 a).toInt = a := by
  rw [ofNat_eq_ofInt, word_toInt (by omega) (by omega)]

theorem sgt_zero {a : ℕ} (ha : a < 2 ^ 31) : IntOp.cmpi .sgt (BitVec.ofNat 32 a) 0#32 = BitVec.ofBool (decide (0 < a)) := by
  show BitVec.ofBool (decide ((BitVec.ofNat 32 0).toInt < (BitVec.ofNat 32 a).toInt)) = _
  rw [toInt_word ha, toInt_word (by norm_num)]
  simp

theorem slt_zero {a : ℕ} (ha : a < 2 ^ 31) : IntOp.cmpi .slt (BitVec.ofNat 32 a) 0#32 = 0#1 := by
  show BitVec.ofBool (decide ((BitVec.ofNat 32 a).toInt < (BitVec.ofNat 32 0).toInt)) = _
  rw [toInt_word ha, toInt_word (by norm_num)]
  have : decide ((a : ℤ) < ((0 : ℕ) : ℤ)) = false := by simp
  rw [this]; rfl

/-- The chain of words that divides, rounding down, at naturals. -/
theorem fdiv_word (u : ArithUnit) {a d : ℕ} (ha : a < 2 ^ 31) (h0 : 0 < d) (hd : d < 2 ^ 31) :
    Scalar.select (IntOp.andi (IntOp.cmpi .ne (IntOp.subi (BitVec.setWidth 32 (IntOp.cmpi .sgt (BitVec.ofNat 32 a) 0#32)) (BitVec.setWidth 32 (IntOp.cmpi .slt (BitVec.ofNat 32 a) 0#32)))
        (IntOp.subi (BitVec.setWidth 32 (IntOp.cmpi .sgt (BitVec.ofNat 32 d) 0#32)) (BitVec.setWidth 32 (IntOp.cmpi .slt (BitVec.ofNat 32 d) 0#32))))
        (IntOp.cmpi .ne (IntOp.remsi u (BitVec.ofNat 32 a) (BitVec.ofNat 32 d)) 0#32))
      (IntOp.subi (IntOp.divsi u (BitVec.ofNat 32 a) (BitVec.ofNat 32 d)) 1#32) (IntOp.divsi u (BitVec.ofNat 32 a) (BitVec.ofNat 32 d))
      = BitVec.ofNat 32 (a / d) := by
  rw [sgt_zero ha, slt_zero ha, sgt_zero hd, slt_zero hd, Routing.remsi_word u ha h0 hd, Routing.divsi_word u ha h0 hd]
  unfold Scalar.select
  rw [if_neg]
  rcases Nat.eq_zero_or_pos a with rfl | hpos
  · simp [IntOp.andi, IntOp.cmpi]
  · simp [h0, hpos, IntOp.andi, IntOp.cmpi, IntOp.subi]

/-- One lane of the vector chain. -/
theorem fdiv_vec (v : IVec S16 32) (dd : BitVec 32) {d a : ℕ} {x : S16.Idx} (hdd : dd = BitVec.ofNat 32 d) (ha : a < 2 ^ 31) (h0 : 0 < d) (hd : d < 2 ^ 31) (hv : v x = BitVec.ofNat 32 a) :
    (select (andi (cmpi .ne (subi (extui 32 (cmpi .sgt v (broadcast S16 0#32)) natLt_1_32) (extui 32 (cmpi .slt v (broadcast S16 0#32)) natLt_1_32))
        (broadcast S16 (Scalar.subi (Scalar.extui (Scalar.cmpi .sgt dd 0#32)) (Scalar.extui (Scalar.cmpi .slt dd 0#32)))))
        (cmpi .ne (remsi v (broadcast S16 dd)) (broadcast S16 0#32)))
      (subi (divsi v (broadcast S16 dd)) (broadcast S16 1#32)) (divsi v (broadcast S16 dd))) x = BitVec.ofNat 32 (a / d) := by
  subst hdd
  refine Eq.trans ?_ (fdiv_word .vector ha h0 hd)
  rw [← hv]
  rfl

/-- Differences and products of words below the modulus. -/
theorem sub_word {a b : ℕ} (h : b ≤ a) : BitVec.ofNat 32 a - BitVec.ofNat 32 b = BitVec.ofNat 32 (a - b) := by
  obtain ⟨c, rfl⟩ := Nat.exists_eq_add_of_le h
  rw [Nat.add_sub_cancel_left, Nat.add_comm, BitVec.ofNat_add, BitVec.add_sub_cancel]

theorem rem_word (a d : ℕ) : BitVec.ofNat 32 a - BitVec.ofNat 32 (a / d) * BitVec.ofNat 32 d = BitVec.ofNat 32 (a % d) := by
  rw [← BitVec.ofNat_mul, sub_word (Nat.div_mul_le_self a d)]
  congr 1
  have := Nat.div_add_mod a d
  rw [Nat.mul_comm] at this
  omega

variable {d : Dev nD} {L : grid0.Coords} {S : Scene}

/-! ## The zero pass -/

theorem t2_trips : k0_t2_loop.trips = 1350 := by decide
theorem t3_trips : k0_t3_loop.trips = 75 := by decide

theorem pay315_lane {v27 : IVec S16 32} (h27 : IsIota v27) (z : Fin k0_t2_loop.trips) (x : Fin 16) :
    k0_pay315 v27 0#32 z (lane x) = BitVec.ofNat 32 (16 * z.val + x.val) := by
  show (0#32 + BitVec.ofNat 32 z.val * 1#32) * 16#32 + v27 (lane x) = _
  rw [h27 x]
  simp only [BitVec.zero_add, BitVec.mul_one]
  rw [← BitVec.ofNat_mul, ← BitVec.ofNat_add, Nat.mul_comm]

theorem pay53_lane {v27 : IVec S16 32} (h27 : IsIota v27) (z : Fin k0_t3_loop.trips) (x : Fin 16) :
    k0_pay53 v27 0#32 1#32 z (lane x) = BitVec.ofNat 32 (16 * z.val + x.val) := by
  show (0#32 + BitVec.ofNat 32 z.val * 1#32) * 16#32 + v27 (lane x) = _
  rw [h27 x]
  simp only [BitVec.zero_add, BitVec.mul_one]
  rw [← BitVec.ofNat_mul, ← BitVec.ofNat_add, Nat.mul_comm]

/-- The slab after `z` trips of the zero pass. -/
def zeroS (f : S200x108.Idx → EReal) (z : ℕ) : S200x108.Idx → EReal := fun j => if 108 * (j 0).val + (j 1).val < 16 * z then 0 else f j

theorem inb2_of {r c : IVec S16 32} (hr : ∀ x : Fin 16, (r (lane x)).toNat < 200) (hc : ∀ x : Fin 16, (c (lane x)).toNat < 108) :
    ∀ a x, ((![r, c] : Fin 2 → IVec S16 32) a x).toNat < S200x108.size a := by
  intro a x
  rw [← lane_self x]
  match a with
  | 0 => exact hr (x 0)
  | 1 => exact hc (x 0)

theorem hits2 {r c : IVec S16 32} {mask : IVec S16 1} {j : S200x108.Idx} {x : Fin 16} {p q : ℕ} {b : Prop} (hr : (r (lane x)).toNat = p) (hc : (c (lane x)).toNat = q)
    (hm : mask (lane x) = 1 ↔ b) : Hits (s := S200x108) ![r, c] mask j x ↔ b ∧ (j 0).val = p ∧ (j 1).val = q := by
  unfold Hits
  rw [hm, ← hr, ← hc]
  constructor
  · rintro ⟨h1, h2⟩; exact ⟨h1, h2 0, h2 1⟩
  · rintro ⟨h1, h2, h3⟩
    refine ⟨h1, fun a => ?_⟩
    match a with
    | 0 => exact h2
    | 1 => exact h3

theorem j0_lt (j : S200x108.Idx) : (j 0).val < 200 := (j 0).isLt
theorem j1_lt (j : S200x108.Idx) : (j 1).val < 108 := (j 1).isLt

theorem t2_trip {v21 v23 v24 v26 v29 c : BitVec 32} {v27 : IVec S16 32} (h27 : IsIota v27) (h15 : k0_chk15 v29) (f : S200x108.Idx → EReal) (z : Fin k0_t2_loop.trips) :
    holds slabV d L (zeroS f z.val)
      ⊢ wp frame (wpE (defs₀ (F := Ideal)) 𝒱₀ (thr d L) none) Set.univ
        (k0_t2_body L inV (Memref.isWhole_whole _) outV (Memref.isWhole_whole _) pkV (Memref.isWhole_whole _) aV (Memref.isWhole_whole _) bV (Memref.isWhole_whole _) cV (Memref.isWhole_whole _) dV (Memref.isWhole_whole _) eV (Memref.isWhole_whole _) fV (Memref.isWhole_whole _) i0V (Memref.isWhole_whole _) i1V (Memref.isWhole_whole _) j0V (Memref.isWhole_whole _) j1V (Memref.isWhole_whole _) k0V (Memref.isWhole_whole _) k1V (Memref.isWhole_whole _) listV (Memref.isWhole_whole _) slabV (Memref.isWhole_whole _) cc0_scratch15 cc0_scratch16 v21 v23 v24 v26 v27 v29 h15 (k0_pay314 (F := Ideal)) 0#32 c z ⟨⟩)
        (fun _ => holds slabV d L (zeroS f (z.val + 1))) := by
  have hz : z.val < 1350 := lt_of_lt_of_eq z.isLt t2_trips
  have hl : ∀ x : Fin 16, 16 * z.val + x.val < 21600 := fun x => by have := x.isLt; omega
  have h315 := fun x : Fin 16 => pay315_lane h27 z x
  have hr : ∀ x : Fin 16, k0_pay316 v27 0#32 z (lane x) = BitVec.ofNat 32 ((16 * z.val + x.val) / 108) := fun x =>
    fdiv_vec (k0_pay315 v27 0#32 z) 108#32 rfl (by have := hl x; omega) (by norm_num) (by norm_num) (h315 x)
  have hc : ∀ x : Fin 16, k0_pay317 v27 0#32 z (k0_pay316 v27 0#32 z) (lane x) = BitVec.ofNat 32 ((16 * z.val + x.val) % 108) := fun x => by
    show k0_pay315 v27 0#32 z (lane x) - k0_pay316 v27 0#32 z (lane x) * BitVec.ofNat 32 108 = _
    rw [hr x, h315 x, rem_word]
  have hr' : ∀ x : Fin 16, (k0_pay316 v27 0#32 z (lane x)).toNat = (16 * z.val + x.val) / 108 := fun x => by
    rw [hr x, BitVec.toNat_ofNat]; have := hl x; omega
  have hc' : ∀ x : Fin 16, (k0_pay317 v27 0#32 z (k0_pay316 v27 0#32 z) (lane x)).toNat = (16 * z.val + x.val) % 108 := fun x => by
    rw [hc x, BitVec.toNat_ofNat]; have := hl x; omega
  have hin : k0_chk13 (k0_pay316 v27 0#32 z) (k0_pay317 v27 0#32 z (k0_pay316 v27 0#32 z)) :=
    inb2_of (fun x => by rw [hr' x]; have := hl x; omega) (fun x => by rw [hc' x]; omega)
  have hstep : storeIdx (s := S200x108) (F := Ideal) (e := .f32) (zeroS f z.val) ![k0_pay316 v27 0#32 z, k0_pay317 v27 0#32 z (k0_pay316 v27 0#32 z)] (k0_pay314 (F := Ideal))
      (fun _ => 1#1) false hin = zeroS f (z.val + 1) := by
    have hh := fun (j : S200x108.Idx) (x : Fin 16) => hits2 (j := j) (mask := fun _ => 1#1) (b := True) (hr' x) (hc' x) (by simp)
    rw [set_all (s := S200x108) (e := .f32) _ _ _ _ hin (fun _ => (0 : EReal)) (fun j => 16 * z.val ≤ 108 * (j 0).val + (j 1).val ∧ 108 * (j 0).val + (j 1).val < 16 * (z.val + 1))
      (fun j k _ => lit_zero) (fun j => ?_)]
    · funext j
      unfold zeroS
      split <;> split <;> first | rfl | (split <;> first | rfl | omega) | omega
    · have h1 := j1_lt j
      constructor
      · rintro ⟨x, hx⟩
        obtain ⟨-, e0, e1⟩ := (hh j x).mp hx
        have := x.isLt
        omega
      · intro hp
        refine ⟨⟨108 * (j 0).val + (j 1).val - 16 * z.val, by omega⟩, (hh j _).mpr ⟨trivial, ?_, ?_⟩⟩
        · show _ = (16 * z.val + (108 * (j 0).val + (j 1).val - 16 * z.val)) / 108; omega
        · show _ = (16 * z.val + (108 * (j 0).val + (j 1).val - 16 * z.val)) % 108; omega
  iintro H
  sl_unfold [k0_t2_body]
  repeat rw [wp_bind]
  iapply wp_check hin
  repeat rw [wp_bind]
  iapply wp_scatter (m := slabV) (Memref.isWhole_whole _) $$ H
  iintro H
  rw [hstep]
  iapply wp_done
  iexact H

/-! ## The background pass -/

variable (S L)

/-- The cell of a slab element. -/
def cI (j : S200x108.Idx) : ℕ := tI L + (j 0).val / 10
def cJ (j : S200x108.Idx) : ℕ := tJ L + (j 0).val % 10
def cK (j : S200x108.Idx) : ℕ := (j 1).val / 18

/-- The slab after `b` trips of the background pass. -/
def backS (b : ℕ) : S200x108.Idx → EReal := fun j =>
  if (j 1).val % 18 = 17 ∧ 6 * (j 0).val + (j 1).val / 18 < 16 * b then back S (cI L j) (cJ L j) (cK j) else 0

variable {S L}

theorem sitofp_nat {v : IVec S16 32} {x : S16.Idx} {n : ℕ} (h : v x = BitVec.ofNat 32 n) (hn : n < 2 ^ 31) :
    (FloatOps.sitofp .f32 (v x) : Ideal .f32) = ((n : ℝ) : EReal) := by
  rw [h, ofNat_eq_ofInt, sitofp_word (by omega) (by omega)]
  norm_cast

theorem lit_bgz : Ideal.ofBits .f32 0xBC480000#32 = ((-(25 / 2048) : ℝ) : EReal) := by
  simp [Ideal.ofBits, Ideal.ieee, -EReal.coe_mul]; norm_num

theorem named_xy : Named.named (F := Ideal) (φ := .f32) κ "bg_xy" 0xB8A3D70A#32 = ((-(1 / 12800) : ℝ) : EReal) := by
  have : κ "bg_xy" = some ((-1 / 12800 : ℝ) : EReal) := rfl
  simp only [Named.named, this, Option.getD]
  norm_num

theorem named_dz : Named.named (F := Ideal) (φ := .f32) κ "bg_dz" 0xC02CCCCD#32 = ((-(27 / 10) : ℝ) : EReal) := by
  have : κ "bg_dz" = some ((-27 / 10 : ℝ) : EReal) := rfl
  simp only [Named.named, this, Option.getD]
  norm_num

/-- The background's value on a lane whose cell is `i`, `j`, `k`. -/
theorem pay61_lane {v21 v24 : BitVec 32} {v32 : Vec Ideal S16 .f32} {v325 v328 v330 v337 v343 : IVec S16 32} {c6 : BitVec 32} {x : S16.Idx} {i j k li lj : ℕ}
    (h21 : v21 = BitVec.ofNat 32 (tI L)) (h24 : v24 = BitVec.ofNat 32 (tJ L)) (he : v32 x = S.es)
    (hi : v325 x = BitVec.ofNat 32 li) (hj : k0_pay59 v328 c6 v330 v337 v343 x = BitVec.ofNat 32 lj)
    (hk : k0_pay60 v328 c6 v330 v337 v343 x = BitVec.ofNat 32 k) (ei : i = tI L + li) (ej : j = tJ L + lj) (bi : li < 1000) (bj : lj < 1000) (bk : k < 1000) :
    k0_pay61 (F := Ideal) v21 v24 v32 v325 v328 c6 v330 v337 v343 x = back S i j k := by
  have hI := tI_le L
  have hJ := tJ_le L
  have e1 : (FloatOps.sitofp .f32 (addi (broadcast S16 v21) v325 x) : Ideal .f32) = ((i : ℝ) : EReal) :=
    sitofp_nat (by show v21 + v325 x = _; rw [h21, hi, ← BitVec.ofNat_add, ei]) (by omega)
  have e2 : (FloatOps.sitofp .f32 (addi (broadcast S16 v24) (k0_pay59 v328 c6 v330 v337 v343) x) : Ideal .f32) = ((j : ℝ) : EReal) :=
    sitofp_nat (by show v24 + _ = _; rw [h24, hj, ← BitVec.ofNat_add, ej]) (by omega)
  have e3 : (FloatOps.sitofp .f32 (k0_pay60 v328 c6 v330 v337 v343 x) : Ideal .f32) = ((k : ℝ) : EReal) := sitofp_nat hk (by omega)
  have h : k0_pay61 (F := Ideal) v21 v24 v32 v325 v328 c6 v330 v337 v343 x
      = ((v32 x : EReal) * Ideal.exp (
          (((FloatOps.sitofp .f32 (addi (broadcast S16 v21) v325 x) : Ideal .f32) : EReal) + Ideal.ofBits .f32 0xC21E0000#32)
            * (((FloatOps.sitofp .f32 (addi (broadcast S16 v21) v325 x) : Ideal .f32) : EReal) + Ideal.ofBits .f32 0xC21E0000#32) * Named.named (F := Ideal) (φ := .f32) κ "bg_xy" 0xB8A3D70A#32
          + (((FloatOps.sitofp .f32 (addi (broadcast S16 v24) (k0_pay59 v328 c6 v330 v337 v343) x) : Ideal .f32) : EReal) + Ideal.ofBits .f32 0xC21E0000#32)
            * (((FloatOps.sitofp .f32 (addi (broadcast S16 v24) (k0_pay59 v328 c6 v330 v337 v343) x) : Ideal .f32) : EReal) + Ideal.ofBits .f32 0xC21E0000#32) * Named.named (F := Ideal) (φ := .f32) κ "bg_xy" 0xB8A3D70A#32
          + (((FloatOps.sitofp .f32 (k0_pay60 v328 c6 v330 v337 v343 x) : Ideal .f32) : EReal) + Named.named (F := Ideal) (φ := .f32) κ "bg_dz" 0xC02CCCCD#32)
            * (((FloatOps.sitofp .f32 (k0_pay60 v328 c6 v330 v337 v343 x) : Ideal .f32) : EReal) + Named.named (F := Ideal) (φ := .f32) κ "bg_dz" 0xC02CCCCD#32) * Ideal.ofBits .f32 0xBC480000#32)) := rfl
  rw [h, e1, e2, e3, he, named_xy, named_dz, lit_off, lit_bgz]
  unfold back
  simp only [← EReal.coe_mul, ← EReal.coe_add, Ideal.exp_coe]

/-- The zero pass done is the background pass begun. -/
theorem zeroS_full (f : S200x108.Idx → EReal) : zeroS f 1350 = backS L S 0 := by
  funext j
  have h0 := j0_lt j
  have h1 := j1_lt j
  unfold zeroS backS
  rw [if_pos (by omega), if_neg (by omega)]

theorem t3_trip {v21 v23 v24 v26 v29 c c0 : BitVec 32} {v27 : IVec S16 32} {v30 : FVec Ideal S16 .f32} {v32 : Vec Ideal S16 .f32} (h27 : IsIota v27) (h15 : k0_chk15 v29)
    (h21 : v21 = BitVec.ofNat 32 (tI L)) (h24 : v24 = BitVec.ofNat 32 (tJ L)) (he : ∀ x : Fin 16, v32 (lane x) = S.es) (z : Fin k0_t3_loop.trips) :
    holds slabV d L (backS L S z.val)
      ⊢ wp frame (wpE (defs₀ (F := Ideal)) 𝒱₀ (thr d L) none) Set.univ
        (k0_t3_body L inV (Memref.isWhole_whole _) outV (Memref.isWhole_whole _) pkV (Memref.isWhole_whole _) aV (Memref.isWhole_whole _) bV (Memref.isWhole_whole _) cV (Memref.isWhole_whole _) dV (Memref.isWhole_whole _) eV (Memref.isWhole_whole _) fV (Memref.isWhole_whole _) i0V (Memref.isWhole_whole _) i1V (Memref.isWhole_whole _) j0V (Memref.isWhole_whole _) j1V (Memref.isWhole_whole _) k0V (Memref.isWhole_whole _) k1V (Memref.isWhole_whole _) listV (Memref.isWhole_whole _) slabV (Memref.isWhole_whole _) cc0_scratch15 cc0_scratch16 v21 v23 v24 v26 v27 v29 h15 v30 c0 c v32 z ⟨⟩)
        (fun _ => holds slabV d L (backS L S (z.val + 1))) := by
  have hz : z.val < 75 := lt_of_lt_of_eq z.isLt t3_trips
  have hl : ∀ x : Fin 16, 16 * z.val + x.val < 1200 := fun x => by have := x.isLt; omega
  have h53 := fun x : Fin 16 => pay53_lane h27 z x
  have h54 : ∀ x : Fin 16, k0_pay54 v27 0#32 1#32 z (lane x) = BitVec.ofNat 32 ((16 * z.val + x.val) / 60) := fun x =>
    fdiv_vec (k0_pay53 v27 0#32 1#32 z) 60#32 rfl (by have := hl x; omega) (by norm_num) (by norm_num) (h53 x)
  have h55 : ∀ x : Fin 16, k0_pay55 v27 0#32 1#32 z (lane x) = BitVec.ofNat 32 ((16 * z.val + x.val) % 60) := fun x => by
    show k0_pay53 v27 0#32 1#32 z (lane x) - k0_pay54 v27 0#32 1#32 z (lane x) * BitVec.ofNat 32 60 = _
    rw [h54 x, h53 x, rem_word]
  set w59 := k0_pay59 (k0_pay55 v27 0#32 1#32 z) 6#32 (k0_pay56 v27 0#32 1#32 z) (k0_pay57 v27 0#32 1#32 z) k0_pay58 with hw59
  set w60 := k0_pay60 (k0_pay55 v27 0#32 1#32 z) 6#32 (k0_pay56 v27 0#32 1#32 z) (k0_pay57 v27 0#32 1#32 z) k0_pay58 with hw60
  have h59 : ∀ x : Fin 16, w59 (lane x) = BitVec.ofNat 32 ((16 * z.val + x.val) % 60 / 6) := fun x =>
    fdiv_vec (k0_pay55 v27 0#32 1#32 z) 6#32 rfl (by have := hl x; omega) (by norm_num) (by norm_num) (h55 x)
  have h60 : ∀ x : Fin 16, w60 (lane x) = BitVec.ofNat 32 ((16 * z.val + x.val) % 60 % 6) := fun x => by
    show k0_pay55 v27 0#32 1#32 z (lane x) - w59 (lane x) * BitVec.ofNat 32 6 = _
    rw [h59 x, h55 x, rem_word]
  set w62 := k0_pay62 (k0_pay54 v27 0#32 1#32 z) (k0_pay55 v27 0#32 1#32 z) 6#32 (k0_pay56 v27 0#32 1#32 z) (k0_pay57 v27 0#32 1#32 z) k0_pay58 with hw62
  set w63 := k0_pay63 (k0_pay55 v27 0#32 1#32 z) 6#32 (k0_pay56 v27 0#32 1#32 z) (k0_pay57 v27 0#32 1#32 z) k0_pay58 with hw63
  have hr' : ∀ x : Fin 16, (w62 (lane x)).toNat = (16 * z.val + x.val) / 60 * 10 + (16 * z.val + x.val) % 60 / 6 := fun x => by
    have e : w62 (lane x) = k0_pay54 v27 0#32 1#32 z (lane x) * BitVec.ofNat 32 10 + w59 (lane x) := rfl
    rw [e, h54 x, h59 x, ← BitVec.ofNat_mul, ← BitVec.ofNat_add, BitVec.toNat_ofNat]; have := hl x; omega
  have hc' : ∀ x : Fin 16, (w63 (lane x)).toNat = (16 * z.val + x.val) % 60 % 6 * 18 + 17 := fun x => by
    have e : w63 (lane x) = w60 (lane x) * BitVec.ofNat 32 18 + BitVec.ofNat 32 17 := rfl
    rw [e, h60 x, ← BitVec.ofNat_mul, ← BitVec.ofNat_add, BitVec.toNat_ofNat]; have := hl x; omega
  have hin : k0_chk14 w62 w63 :=
    inb2_of (fun x => by rw [hr' x]; have := hl x; omega) (fun x => by rw [hc' x]; omega)
  have hstep : storeIdx (s := S200x108) (F := Ideal) (e := .f32) (backS L S z.val) ![w62, w63]
      (k0_pay61 v21 v24 v32 (k0_pay54 v27 0#32 1#32 z) (k0_pay55 v27 0#32 1#32 z) 6#32 (k0_pay56 v27 0#32 1#32 z) (k0_pay57 v27 0#32 1#32 z) k0_pay58)
      (fun _ => 1#1) false hin = backS L S (z.val + 1) := by
    have hh := fun (j : S200x108.Idx) (x : Fin 16) => hits2 (j := j) (mask := fun _ => 1#1) (b := True) (hr' x) (hc' x) (by simp)
    rw [set_all (s := S200x108) (e := .f32) _ _ _ _ hin (fun j => back S (cI L j) (cJ L j) (cK j))
      (fun j => (j 1).val % 18 = 17 ∧ 16 * z.val ≤ 6 * (j 0).val + (j 1).val / 18 ∧ 6 * (j 0).val + (j 1).val / 18 < 16 * (z.val + 1))
      (fun j x hx => ?_) (fun j => ?_)]
    · funext j
      have h0 := j0_lt j
      have h1 := j1_lt j
      unfold backS
      split <;> split <;> first | rfl | (split <;> first | rfl | omega) | omega
    · obtain ⟨-, e0, e1⟩ := (hh j x).mp hx
      have := hl x
      refine pay61_lane h21 h24 (he x) (h54 x) (h59 x) (Eq.trans (h60 x) ?_) ?_ ?_ (by omega) (by omega) ?_
      · unfold cK; congr 1; omega
      · unfold cI; omega
      · unfold cJ; omega
      · unfold cK; omega
    · have h0 := j0_lt j
      have h1 := j1_lt j
      constructor
      · rintro ⟨x, hx⟩
        obtain ⟨-, e0, e1⟩ := (hh j x).mp hx
        have := x.isLt
        omega
      · intro hp
        refine ⟨⟨6 * (j 0).val + (j 1).val / 18 - 16 * z.val, by omega⟩, (hh j _).mpr ⟨trivial, ?_, ?_⟩⟩
        · have e : 16 * z.val + (6 * (j 0).val + (j 1).val / 18 - 16 * z.val) = 6 * (j 0).val + (j 1).val / 18 := by omega
          show _ = (16 * z.val + (6 * (j 0).val + (j 1).val / 18 - 16 * z.val)) / 60 * 10 + (16 * z.val + (6 * (j 0).val + (j 1).val / 18 - 16 * z.val)) % 60 / 6
          rw [e]; omega
        · have e : 16 * z.val + (6 * (j 0).val + (j 1).val / 18 - 16 * z.val) = 6 * (j 0).val + (j 1).val / 18 := by omega
          show _ = (16 * z.val + (6 * (j 0).val + (j 1).val / 18 - 16 * z.val)) % 60 % 6 * 18 + 17
          rw [e]; omega
  iintro H
  sl_unfold [k0_t3_body]
  sl_open_parts
  repeat rw [wp_bind]
  iapply wp_done
  dsimp only
  repeat rw [wp_bind]
  iapply wp_check hin
  repeat rw [wp_bind]
  iapply wp_scatter (m := slabV) (Memref.isWhole_whole _) $$ H
  iintro H
  rw [hstep]
  iapply wp_done
  iapply wp_done
  iexact H

end Cert.Proof

end
-- ==== Proof.Decode.lean ====
/-
  One Gaussian's box within a tile, its cells numbered, and what sixteen numbered cells add to the slab.
-/
module

public import proofs.«01_k».proof.Proof.Back

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The box -/

/-- Gaussian `g`'s box within the tile: its first cell and its extents. -/
structure BoxAt (S : Scene) (ti tj g a0 na b0 nb c0 nc : ℕ) : Prop where
  a : ti ≤ a0 ∧ a0 + na ≤ ti + 20 ∧ 0 < na
  b : tj ≤ b0 ∧ b0 + nb ≤ tj + 10 ∧ 0 < nb
  c : c0 + nc ≤ 6 ∧ 0 < nc
  box : ∀ i j k : ℕ, ti ≤ i → i < ti + 20 → tj ≤ j → j < tj + 10 →
    (InBox S g i j k ↔ (a0 ≤ i ∧ i < a0 + na) ∧ (b0 ≤ j ∧ j < b0 + nb) ∧ (c0 ≤ k ∧ k < c0 + nc))
  a0e : max (lo S g 0) (ti : ℤ) = a0
  a1e : min (hi S g 0) ((ti + 19 : ℕ) : ℤ) = (a0 : ℤ) + na - 1
  b0e : max (lo S g 1) (tj : ℤ) = b0
  b1e : min (hi S g 1) ((tj + 9 : ℕ) : ℤ) = (b0 : ℤ) + nb - 1
  c0e : lo S g 2 = c0
  c1e : hi S g 2 = (c0 : ℤ) + nc - 1

theorem exists_box {S : Scene} {ti tj g : ℕ} (hm : Meets S ti tj g) : ∃ a0 na b0 nb c0 nc, BoxAt S ti tj g a0 na b0 nb c0 nc := by
  unfold Meets at hm
  obtain ⟨⟨⟨⟨⟨⟨h1, h2⟩, h3⟩, h4⟩, h5⟩, h6⟩, h7⟩ := hm
  have l0 := lo_nonneg S g 0
  have l1 := lo_nonneg S g 1
  have l2 := lo_nonneg S g 2
  have u2 := hi_le_z S g
  refine ⟨(max (lo S g 0) ti).toNat, (min (hi S g 0) ((ti + 19 : ℕ) : ℤ) - max (lo S g 0) ti + 1).toNat,
    (max (lo S g 1) tj).toNat, (min (hi S g 1) ((tj + 9 : ℕ) : ℤ) - max (lo S g 1) tj + 1).toNat,
    (lo S g 2).toNat, (hi S g 2 - lo S g 2 + 1).toNat, ?_, ?_, ?_, ?_, ?_, ?_, ?_, ?_, ?_, ?_⟩
  · omega
  · omega
  · omega
  · intro i j k _ _ _ _
    unfold InBox
    omega
  all_goals omega

section Box

variable {S : Scene} {ti tj g a0 na b0 nb c0 nc : ℕ} (B : BoxAt S ti tj g a0 na b0 nb c0 nc)

include B

theorem BoxAt.D_pos : 0 < nb * nc := Nat.mul_pos B.b.2.2 B.c.2

theorem BoxAt.D_le : nb * nc ≤ 60 := by
  have h1 : nb ≤ 10 := by have := B.b; omega
  have h2 : nc ≤ 6 := by have := B.c; omega
  calc nb * nc ≤ 10 * 6 := Nat.mul_le_mul h1 h2
    _ = 60 := rfl

theorem BoxAt.N_le : na * (nb * nc) ≤ 1200 := by
  have h1 : na ≤ 20 := by have := B.a; omega
  calc na * (nb * nc) ≤ 20 * 60 := Nat.mul_le_mul h1 B.D_le
    _ = 1200 := rfl

/-- The coordinates of numbered cell `l`. -/
theorem BoxAt.decode {l : ℕ} (hl : l < na * (nb * nc)) :
    l / (nb * nc) < na ∧ l % (nb * nc) / nc < nb ∧ l % (nb * nc) % nc < nc
      ∧ l / (nb * nc) * (nb * nc) + l % (nb * nc) / nc * nc + l % (nb * nc) % nc = l := by
  refine ⟨Nat.div_lt_of_lt_mul (by rwa [Nat.mul_comm] at hl), Nat.div_lt_of_lt_mul (by rw [Nat.mul_comm nc]; exact Nat.mod_lt _ B.D_pos), Nat.mod_lt _ B.c.2, ?_⟩
  have h1 := Nat.div_add_mod' l (nb * nc)
  have h2 := Nat.div_add_mod' (l % (nb * nc)) nc
  omega

/-- A cell's number, decoded. -/
theorem BoxAt.encode {p q r : ℕ} (hp : p < na) (hq : q < nb) (hr : r < nc) :
    p * (nb * nc) + q * nc + r < na * (nb * nc) ∧ (p * (nb * nc) + q * nc + r) / (nb * nc) = p
      ∧ (p * (nb * nc) + q * nc + r) % (nb * nc) / nc = q ∧ (p * (nb * nc) + q * nc + r) % (nb * nc) % nc = r := by
  have h1 : q * nc + r < nb * nc := by
    calc q * nc + r < q * nc + nc := by omega
      _ = (q + 1) * nc := by ring
      _ ≤ nb * nc := Nat.mul_le_mul_right _ hq
  have e1 : (p * (nb * nc) + q * nc + r) / (nb * nc) = p := by
    rw [Nat.add_assoc, Nat.add_comm, Nat.add_mul_div_right _ _ B.D_pos, Nat.div_eq_of_lt h1, Nat.zero_add]
  have e2 : (p * (nb * nc) + q * nc + r) % (nb * nc) = q * nc + r := by
    rw [Nat.add_assoc, Nat.add_comm, Nat.add_mul_mod_self_right, Nat.mod_eq_of_lt h1]
  refine ⟨?_, e1, ?_, ?_⟩
  · calc p * (nb * nc) + q * nc + r < p * (nb * nc) + nb * nc := by omega
      _ = (p + 1) * (nb * nc) := by ring
      _ ≤ na * (nb * nc) := Nat.mul_le_mul_right _ hp
  · rw [e2, Nat.add_comm, Nat.add_mul_div_right _ _ B.c.2, Nat.div_eq_of_lt hr, Nat.zero_add]
  · rw [e2, Nat.add_comm, Nat.add_mul_mod_self_right, Nat.mod_eq_of_lt hr]

end Box

/-! ## Words of the box -/

theorem maxsi_word {a b : ℤ} (ha : -(2 ^ 31) ≤ a ∧ a < 2 ^ 31) (hb : -(2 ^ 31) ≤ b ∧ b < 2 ^ 31) :
    IntOp.maxsi (BitVec.ofInt 32 a) (BitVec.ofInt 32 b) = BitVec.ofInt 32 (max a b) := by
  unfold IntOp.maxsi
  rw [BitVec.slt, word_toInt ha.1 ha.2, word_toInt hb.1 hb.2]
  by_cases h : b < a
  · rw [if_pos (by simpa using h), max_eq_left h.le]
  · rw [if_neg (by simpa using h), max_eq_right (not_lt.mp h)]

theorem minsi_word {a b : ℤ} (ha : -(2 ^ 31) ≤ a ∧ a < 2 ^ 31) (hb : -(2 ^ 31) ≤ b ∧ b < 2 ^ 31) :
    IntOp.minsi (BitVec.ofInt 32 a) (BitVec.ofInt 32 b) = BitVec.ofInt 32 (min a b) := by
  unfold IntOp.minsi
  rw [BitVec.slt, word_toInt ha.1 ha.2, word_toInt hb.1 hb.2]
  by_cases h : a < b
  · rw [if_pos (by simpa using h), min_eq_left h.le]
  · rw [if_neg (by simpa using h), min_eq_right (not_lt.mp h)]

theorem sub_ofInt (a b : ℤ) : BitVec.ofInt 32 a - BitVec.ofInt 32 b = BitVec.ofInt 32 (a - b) := by
  have h := BitVec.ofInt_add (n := 32) (a - b) b
  rw [sub_add_cancel] at h
  rw [h, BitVec.add_sub_cancel]

/-- The words of Gaussian `g`'s box, the same on every lane. -/
structure BoxWords (S : Scene) (g : ℕ) (v321 v322 v323 v324 v325 v326 : IVec S16 32) : Prop where
  i0 : ∀ x, v321 x = BitVec.ofInt 32 (lo S g 0)
  i1 : ∀ x, v322 x = BitVec.ofInt 32 (hi S g 0)
  j0 : ∀ x, v323 x = BitVec.ofInt 32 (lo S g 1)
  j1 : ∀ x, v324 x = BitVec.ofInt 32 (hi S g 1)
  k0 : ∀ x, v325 x = BitVec.ofInt 32 (lo S g 2)
  k1 : ∀ x, v326 x = BitVec.ofInt 32 (hi S g 2)

section Words

variable {S : Scene} {L : grid0.Coords} {g a0 na b0 nb c0 nc : ℕ} (hS : Good S) (B : BoxAt S (tI L) (tJ L) g a0 na b0 nb c0 nc)
  {v21 v23 v24 v26 : BitVec 32} (h21 : v21 = BitVec.ofNat 32 (tI L)) (h23 : v23 = BitVec.ofNat 32 (tI L + 19))
  (h24 : v24 = BitVec.ofNat 32 (tJ L)) (h26 : v26 = BitVec.ofNat 32 (tJ L + 9))
  {v321 v322 v323 v324 v325 v326 : IVec S16 32} (W : BoxWords S g v321 v322 v323 v324 v325 v326) (x : S16.Idx)

theorem lo_rng (hS : Good S) (a : Fin 3) : -(2 ^ 31) ≤ lo S g a ∧ lo S g a < 2 ^ 31 := by
  have h1 := lo_nonneg S g a
  have h2 := lo_lt hS g a
  constructor <;> linarith

theorem hi_rng (hS : Good S) (a : Fin 3) : -(2 ^ 31) ≤ hi S g a ∧ hi S g a < 2 ^ 31 := by
  have h1 := lt_hi hS g a
  have h0 := hi_le_x S g
  have h3 := hi_le_y S g
  have h2 := hi_le_z S g
  match a with
  | 0 => constructor <;> linarith
  | 1 => constructor <;> linarith
  | 2 => constructor <;> linarith

theorem t_rng {m : ℕ} (hm : m < 100) : -(2 ^ 31) ≤ (m : ℤ) ∧ (m : ℤ) < 2 ^ 31 := by constructor <;> omega

include hS B h21 W in
theorem pay179_lane : k0_pay179 (F := Ideal) v21 v321 x = BitVec.ofNat 32 a0 := by
  have hI := tI_le L
  show IntOp.maxsi (v321 x) v21 = _
  rw [W.i0, h21, ofNat_eq_ofInt, maxsi_word (lo_rng hS 0) (t_rng (by omega)), B.a0e, ofNat_eq_ofInt]

include hS B h24 W in
theorem pay180_lane : k0_pay180 (F := Ideal) v24 v323 x = BitVec.ofNat 32 b0 := by
  have hJ := tJ_le L
  show IntOp.maxsi (v323 x) v24 = _
  rw [W.j0, h24, ofNat_eq_ofInt, maxsi_word (lo_rng hS 1) (t_rng (by omega)), B.b0e, ofNat_eq_ofInt]

include B W in
theorem v325_lane : v325 x = BitVec.ofNat 32 c0 := by
  rw [W.k0, B.c0e, ofNat_eq_ofInt]

include B W in
theorem pay181_lane : k0_pay181 (F := Ideal) v325 v326 x = BitVec.ofNat 32 nc := by
  show v326 x - v325 x + BitVec.ofInt 32 1 = _
  rw [W.k0, W.k1, B.c0e, B.c1e, sub_ofInt, ← BitVec.ofInt_add, ofNat_eq_ofInt]
  congr 1; ring

include hS B h24 h26 W in
theorem pay182_lane : k0_pay182 (F := Ideal) v24 v26 v323 v324 v325 v326 x = BitVec.ofNat 32 (nb * nc) := by
  have hJ := tJ_le L
  show (IntOp.minsi (v324 x) v26 - k0_pay180 (F := Ideal) v24 v323 x + BitVec.ofInt 32 1) * k0_pay181 (F := Ideal) v325 v326 x = _
  rw [pay180_lane hS B h24 W, pay181_lane B W, W.j1, h26, ofNat_eq_ofInt (tJ L + 9), minsi_word (hi_rng hS 1) (t_rng (by omega)), B.b1e, ofNat_eq_ofInt b0,
    sub_ofInt, ← BitVec.ofInt_add, BitVec.ofNat_mul, ofNat_eq_ofInt nb]
  congr 2; ring

include hS B h21 h23 h24 h26 W in
theorem pay183_lane : k0_pay183 (F := Ideal) v21 v23 v24 v26 v321 v322 v323 v324 v325 v326 x = BitVec.ofNat 32 (na * (nb * nc)) := by
  have hI := tI_le L
  show (IntOp.minsi (v322 x) v23 - k0_pay179 (F := Ideal) v21 v321 x + BitVec.ofInt 32 1) * k0_pay182 (F := Ideal) v24 v26 v323 v324 v325 v326 x = _
  rw [pay179_lane hS B h21 W, pay182_lane hS B h24 h26 W, W.i1, h23, ofNat_eq_ofInt (tI L + 19), minsi_word (hi_rng hS 0) (t_rng (by omega)), B.a1e, ofNat_eq_ofInt a0,
    sub_ofInt, ← BitVec.ofInt_add, BitVec.ofNat_mul na, ofNat_eq_ofInt na]
  congr 2; ring

theorem recip_lane {v : IVec S16 32} {n : ℕ} (hn : 0 < n) (hn' : n < 2 ^ 31) (h : v x = BitVec.ofNat 32 n) :
    (divf (broadcast S16 (Scalar.ofBits .f32 0x3F800000#32)) (sitofp .f32 v) x : Ideal .f32) = ((1 / (n : ℝ) : ℝ) : EReal) := by
  show Ideal.div (Ideal.ofBits .f32 0x3F800000#32) (FloatOps.sitofp .f32 (v x) : Ideal .f32) = _
  rw [sitofp_nat h hn', lit_one, Ideal.div_coe (by positivity)]
  rw [← EReal.coe_mul, one_mul]

include hS B h24 h26 W in
theorem pay184_lane : k0_pay184 (F := Ideal) v24 v26 v323 v324 v325 v326 x = ((1 / ((nb * nc : ℕ) : ℝ) : ℝ) : EReal) :=
  recip_lane x B.D_pos (by have := B.D_le; omega) (pay182_lane hS B h24 h26 W x)

include B W in
theorem pay185_lane : k0_pay185 (F := Ideal) v325 v326 x = ((1 / (nc : ℝ) : ℝ) : EReal) :=
  recip_lane x B.c.2 (by have := B.c; omega) (pay181_lane B W x)

/-- The last lane of the running maximum of a constant. -/
theorem scan_const {v : IVec S16 32} {w : BitVec 32} (hv : ∀ k : Fin 16, v (lane k) = w) : scan .max v (lane 15) = w := by
  have hs : scan .max v (lane 15) = v (lane 15) := by
    unfold scan
    refine foldl_maxui (fun k => v (lane k)) (v (lane 15)) _ _ (le_of_eq (by rw [hv 15]; exact congrArg _ (hv 0)))
      (fun k _ => le_of_eq (by rw [hv 15]; exact congrArg _ (hv k))) (.inr ⟨15, ?_, rfl⟩)
    simp
  rw [hs, hv]

include hS B h21 h23 h24 h26 W in
theorem pay186_last : extractAt ![15] (k0_pay186 (F := Ideal) v21 v23 v24 v26 v321 v322 v323 v324 v325 v326) inpos_S16_p15 = BitVec.ofNat 32 (na * (nb * nc)) := by
  show scan .max (xori (k0_pay183 (F := Ideal) v21 v23 v24 v26 v321 v322 v323 v324 v325 v326) (broadcast S16 2147483648#32)) (lane 15) ^^^ 2147483648#32 = _
  rw [scan_const (w := BitVec.ofNat 32 (na * (nb * nc)) ^^^ 2147483648#32) fun k => by
    show k0_pay183 (F := Ideal) v21 v23 v24 v26 v321 v322 v323 v324 v325 v326 (lane k) ^^^ 2147483648#32 = _
    rw [pay183_lane hS B h21 h23 h24 h26 W]]
  rw [BitVec.xor_assoc, BitVec.xor_self, BitVec.xor_zero]

end Words

/-! ## Sixteen numbered cells -/

/-- Truncating `(l + 1/2) / D` gives the quotient. -/
theorem quot_lane {v : IVec S16 32} {r : FVec Ideal S16 .f32} {x : S16.Idx} {l D : ℕ} (hD : 0 < D) (hl : l < 2 ^ 20) (hv : v x = BitVec.ofNat 32 l)
    (hr : r x = ((1 / (D : ℝ) : ℝ) : EReal)) :
    fptosi 32 (mulf (addf (sitofp .f32 v) (broadcast S16 (Scalar.ofBits .f32 0x3F000000#32))) r) x = BitVec.ofNat 32 (l / D) := by
  show Ideal.fptosi 32 (((FloatOps.sitofp .f32 (v x) : Ideal .f32) + Ideal.ofBits .f32 0x3F000000#32) * r x : EReal) = _
  rw [sitofp_nat hv (by omega), lit_half, hr, ← EReal.coe_add, ← EReal.coe_mul]
  have hD' : (1 : ℝ) ≤ D := by exact_mod_cast hD
  have hl' : (l : ℝ) < 1048576 := by exact_mod_cast hl
  have h0 : (0 : ℝ) ≤ ((l : ℝ) + 1 / 2) * (1 / D) := by positivity
  have hb : ((l : ℝ) + 1 / 2) * (1 / D) < 2 ^ 30 := by
    have : (1 : ℝ) / D ≤ 1 := by rw [div_le_one (by linarith)]; exact hD'
    have h2 : ((l : ℝ) + 1 / 2) * (1 / D) ≤ ((l : ℝ) + 1 / 2) * 1 := mul_le_mul_of_nonneg_left this (by positivity)
    refine lt_of_le_of_lt h2 ?_
    norm_num
    linarith
  rw [trunc_val _ (by rw [abs_of_nonneg h0]; exact hb), if_pos h0, ofNat_eq_ofInt]
  congr 1
  rw [Int.floor_eq_iff]
  have e := Nat.div_add_mod l D
  have hm := Nat.mod_lt l hD
  have e' : (D : ℝ) * ((l / D : ℕ) : ℝ) + ((l % D : ℕ) : ℝ) = l := by exact_mod_cast e
  have hm' : ((l % D : ℕ) : ℝ) + 1 ≤ D := by exact_mod_cast hm
  have hm0 : (0 : ℝ) ≤ ((l % D : ℕ) : ℝ) := Nat.cast_nonneg _
  have hDp : (0 : ℝ) < D := by linarith
  rw [mul_one_div]
  constructor
  · rw [le_div_iff₀ hDp]; rw [Int.cast_natCast]; nlinarith
  · rw [div_lt_iff₀ hDp]; rw [Int.cast_natCast]; nlinarith

end Cert.Proof

end
-- ==== Proof.Sixteen.lean ====
/-
  The counted loops whose numbers of trips are computed, and what sixteen numbered cells of a box add to the slab.
-/
module

public import proofs.«01_k».proof.Proof.Decode
public import Idealize.ShloMosaic.Lib.LoopRemainder

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## Numbers of trips -/

theorem trips_word {n : ℕ} (hn : n < 2 ^ 30) : Scf.trips 0#32 (BitVec.ofNat 32 n) 1#32 = n := by
  unfold Scf.trips
  rw [toInt_word (by omega)]
  have h1 : (1#32 : BitVec 32).toInt = 1 := by decide
  have h0 : (0#32 : BitVec 32).toInt = 0 := by decide
  rw [h1, h0]; omega

theorem ok_word {n : ℕ} (hn : n < 2 ^ 30) : Scf.OK 0#32 (BitVec.ofNat 32 n) 1#32 := by
  unfold Scf.OK
  rw [trips_word hn]
  have h1 : (1#32 : BitVec 32).toInt = 1 := by decide
  have h0 : (0#32 : BitVec 32).toInt = 0 := by decide
  rw [h1, h0]
  constructor
  · norm_num
  · show (0 : ℤ) + (n : ℤ) * 1 < 2 ^ 31; omega

theorem ub_word (x : BitVec 32) : Scalar.addi 0#32 (Scalar.muli (Scalar.divsi (Scalar.subi x 0#32) 1#32) 1#32) = x := by
  rw [Scalar.muli_divsi_one]
  show 0#32 + (x - 0#32) = x
  simp

theorem t4_loop_eq (v29 : BitVec 32) : k0_t4_loop v29 = ⟨0#32, v29, 1#32⟩ := by
  have h := ub_word v29
  show (⟨0#32, Scalar.addi 0#32 (Scalar.muli (Scalar.divsi (Scalar.subi v29 0#32) 1#32) 1#32), 1#32⟩ : Scf.Loop 32) = _
  rw [h]

theorem t4_trips {n : ℕ} (hn : n < 2 ^ 30) : (k0_t4_loop (BitVec.ofNat 32 n)).trips = n := by
  rw [t4_loop_eq]; exact trips_word hn

theorem chk15_of {n : ℕ} (hn : n < 2 ^ 30) : k0_chk15 (BitVec.ofNat 32 n) :=
  ⟨by rw [t4_loop_eq]; exact ok_word hn, Scf.rem_ok 0#32 (Scalar.subi (BitVec.ofNat 32 n) 0#32)⟩

theorem t7_trips (v29 : BitVec 32) : (k0_t7_loop v29).trips = 0 := Scf.rem_trips 0#32 (Scalar.subi v29 0#32)

theorem t5_loop_eq {n : ℕ} (hn : n < 2 ^ 30) : k0_t5_loop (BitVec.ofNat 32 n) = ⟨0#32, BitVec.ofNat 32 ((n + 15) / 16), 1#32⟩ := by
  have h := fdiv_word .scalar (a := n + 15) (d := 16) (by omega) (by norm_num) (by norm_num)
  rw [BitVec.ofNat_add] at h
  refine Eq.trans ?_ (congrArg (fun y => (⟨0#32, y, 1#32⟩ : Scf.Loop 32)) ((ub_word _).trans h))
  rfl

theorem t5_trips {n : ℕ} (hn : n < 2 ^ 30) : (k0_t5_loop (BitVec.ofNat 32 n)).trips = (n + 15) / 16 := by
  rw [t5_loop_eq hn]; exact trips_word (by omega)

theorem chk39_of {n : ℕ} (hn : n < 2 ^ 30) : k0_chk39 (BitVec.ofNat 32 n) :=
  ⟨by rw [t5_loop_eq hn]; exact ok_word (by omega), Scf.rem_ok 0#32 _⟩

theorem t6_trips (v410 : BitVec 32) : (k0_t6_loop v410).trips = 0 := Scf.rem_trips 0#32 _

/-! ## Sixteen numbered cells -/

section Cells

variable (S : Scene) (L : grid0.Coords) (g a0 na b0 nb c0 nc : ℕ)

/-- The number, in the box, of a slab element's cell. -/
def num (j : S200x108.Idx) : ℕ := (cI L j - a0) * (nb * nc) + (cJ L j - b0) * nc + (cK j - c0)

/-- The slab when Gaussian `g` has been added at the cells numbered below `16 * u` and, in the first `c` channels, at the next sixteen. -/
def partS (base : S200x108.Idx → EReal) (u c : ℕ) : S200x108.Idx → EReal := fun j =>
  base j + if (j 1).val % 18 < 17 ∧ InBox S g (cI L j) (cJ L j) (cK j)
      ∧ (num L a0 b0 nb c0 nc j < 16 * u ∨ (num L a0 b0 nb c0 nc j < 16 * u + 16 ∧ (j 1).val % 18 < c))
    then wgt S g (cI L j) (cJ L j) (cK j) * S.feat g ((j 1).val % 18) else 0

/-- What the vectors of one trip hold: which of the sixteen cells are the box's, their rows, their first columns and their weights. -/
structure Sixteen (u : ℕ) (mask : IVec S16 1) (row colb : IVec S16 32) (w : FVec Ideal S16 .f32) : Prop where
  on : ∀ x : Fin 16, mask (lane x) = 1 ↔ 16 * u + x.val < na * (nb * nc)
  rowOn : ∀ x : Fin 16, 16 * u + x.val < na * (nb * nc) →
    (row (lane x)).toNat = (a0 + (16 * u + x.val) / (nb * nc) - tI L) * 10 + (b0 + (16 * u + x.val) % (nb * nc) / nc - tJ L)
  rowOff : ∀ x : Fin 16, ¬ 16 * u + x.val < na * (nb * nc) → (row (lane x)).toNat = 0
  colOn : ∀ x : Fin 16, 16 * u + x.val < na * (nb * nc) → colb (lane x) = BitVec.ofNat 32 ((c0 + (16 * u + x.val) % (nb * nc) % nc) * 18)
  colOff : ∀ x : Fin 16, ¬ 16 * u + x.val < na * (nb * nc) → colb (lane x) = 0#32
  wOn : ∀ x : Fin 16, 16 * u + x.val < na * (nb * nc) →
    w (lane x) = wgt S g (a0 + (16 * u + x.val) / (nb * nc)) (b0 + (16 * u + x.val) % (nb * nc) / nc) (c0 + (16 * u + x.val) % (nb * nc) % nc)

variable {S L g a0 na b0 nb c0 nc}

theorem partS_next (base : S200x108.Idx → EReal) (u : ℕ) : partS S L g a0 b0 nb c0 nc base u 17 = partS S L g a0 b0 nb c0 nc base (u + 1) 0 := by
  funext j
  unfold partS
  congr 1
  refine if_congr ?_ rfl rfl
  constructor
  · rintro ⟨h1, h2, h3⟩; exact ⟨h1, h2, .inl (by omega)⟩
  · rintro ⟨h1, h2, h3⟩; exact ⟨h1, h2, by omega⟩

variable (B : BoxAt S (tI L) (tJ L) g a0 na b0 nb c0 nc)

include B in
/-- The coordinates of a slab element, from its row and column. -/
theorem num_iff (j : S200x108.Idx) (l c : ℕ) (hc : c < 17) :
    (l < na * (nb * nc) ∧ (j 0).val = (a0 + l / (nb * nc) - tI L) * 10 + (b0 + l % (nb * nc) / nc - tJ L) ∧ (j 1).val = (c0 + l % (nb * nc) % nc) * 18 + c)
      ↔ ((j 1).val % 18 = c ∧ InBox S g (cI L j) (cJ L j) (cK j) ∧ num L a0 b0 nb c0 nc j = l) := by
  have h0 := j0_lt j
  have h1 := j1_lt j
  have ba := B.a
  have bb := B.b
  have bc := B.c
  have hbox := B.box (cI L j) (cJ L j) (cK j) (by unfold cI; omega) (by unfold cI; omega) (by unfold cJ; omega) (by unfold cJ; omega)
  rw [hbox]
  constructor
  · rintro ⟨hl, e0, e1⟩
    obtain ⟨d1, d2, d3, d4⟩ := B.decode hl
    generalize l / (nb * nc) = p at *
    generalize l % (nb * nc) / nc = q at *
    generalize l % (nb * nc) % nc = r at *
    have eI : cI L j = a0 + p := by unfold cI; omega
    have eJ : cJ L j = b0 + q := by unfold cJ; omega
    have eK : cK j = c0 + r := by unfold cK; omega
    refine ⟨by omega, by omega, ?_⟩
    unfold num
    rw [eI, eJ, eK, Nat.add_sub_cancel_left, Nat.add_sub_cancel_left, Nat.add_sub_cancel_left, d4]
  · rintro ⟨e1, ⟨hI, hJ, hK⟩, hn⟩
    unfold num at hn
    obtain ⟨n1, n2, n3, n4⟩ := B.encode (p := cI L j - a0) (q := cJ L j - b0) (r := cK j - c0) (by omega) (by omega) (by omega)
    rw [hn] at n1 n2 n3 n4
    refine ⟨n1, ?_, ?_⟩
    · rw [n2, n3]; unfold cI cJ at *; omega
    · rw [n4]; unfold cK at *; omega

section Chan

variable {u : ℕ} {mask : IVec S16 1} {row colb : IVec S16 32} {w : FVec Ideal S16 .f32} (X : Sixteen S L g a0 na b0 nb c0 nc u mask row colb w)
  {col : IVec S16 32} {c : ℕ} (hc : c < 17) (hcol : ∀ x : Fin 16, col (lane x) = colb (lane x) + BitVec.ofNat 32 c)

include B X hc hcol in
theorem col_nat (x : Fin 16) (hl : 16 * u + x.val < na * (nb * nc)) : (col (lane x)).toNat = (c0 + (16 * u + x.val) % (nb * nc) % nc) * 18 + c := by
  have bc := B.c
  obtain ⟨-, -, d3, -⟩ := B.decode hl
  rw [hcol, X.colOn x hl, ← BitVec.ofNat_add, BitVec.toNat_ofNat]
  omega

include B X hc hcol in
/-- The row and the column of every lane are within the slab. -/
theorem chan_inb : ∀ a x, ((![row, col] : Fin 2 → IVec S16 32) a x).toNat < S200x108.size a := by
  have ba := B.a
  have bb := B.b
  have bc := B.c
  refine inb2_of (fun x => ?_) fun x => ?_
  · by_cases hl : 16 * u + x.val < na * (nb * nc)
    · obtain ⟨d1, d2, -, -⟩ := B.decode hl
      rw [X.rowOn x hl]; omega
    · rw [X.rowOff x hl]; norm_num
  · by_cases hl : 16 * u + x.val < na * (nb * nc)
    · obtain ⟨-, -, d3, -⟩ := B.decode hl
      rw [col_nat B X hc hcol x hl]; omega
    · rw [hcol, X.colOff x hl, BitVec.zero_add, BitVec.toNat_ofNat]; omega

include B X hc hcol in
/-- One channel's adding scatter. -/
theorem chan_step (base : S200x108.Idx → EReal) {v : FVec Ideal S16 .f32} (hv : ∀ x : Fin 16, v (lane x) = (w (lane x) : EReal) * S.feat g c)
    (h : ∀ a x, ((![row, col] : Fin 2 → IVec S16 32) a x).toNat < S200x108.size a) :
    storeIdx (s := S200x108) (F := Ideal) (e := .f32) (partS S L g a0 b0 nb c0 nc base u c) ![row, col] v mask true h
      = partS S L g a0 b0 nb c0 nc base u (c + 1) := by
  have hh : ∀ (j : S200x108.Idx) (x : Fin 16), Hits (s := S200x108) ![row, col] mask j x
      ↔ ((j 1).val % 18 = c ∧ InBox S g (cI L j) (cJ L j) (cK j) ∧ num L a0 b0 nb c0 nc j = 16 * u + x.val) := by
    intro j x
    rw [← num_iff B j _ c hc, hits2 (j := j) (mask := mask) rfl rfl (X.on x)]
    constructor
    · rintro ⟨hl, e0, e1⟩
      exact ⟨hl, e0.trans (X.rowOn x hl), e1.trans (col_nat B X hc hcol x hl)⟩
    · rintro ⟨hl, e0, e1⟩
      exact ⟨hl, e0.trans (X.rowOn x hl).symm, e1.trans (col_nat B X hc hcol x hl).symm⟩
  rw [add_all (s := S200x108) _ _ _ _ h (fun j => wgt S g (cI L j) (cJ L j) (cK j) * S.feat g ((j 1).val % 18))
    (fun j => (j 1).val % 18 = c ∧ InBox S g (cI L j) (cJ L j) (cK j) ∧ 16 * u ≤ num L a0 b0 nb c0 nc j ∧ num L a0 b0 nb c0 nc j < 16 * u + 16)
    (fun j x hx => ?_) (fun j x x' hx hx' => ?_) fun j => ?_]
  · funext j
    unfold partS
    rw [add_assoc]
    congr 1
    by_cases hb : InBox S g (cI L j) (cJ L j) (cK j)
    · simp only [hb, true_and]
      by_cases hP : (j 1).val % 18 = c ∧ 16 * u ≤ num L a0 b0 nb c0 nc j ∧ num L a0 b0 nb c0 nc j < 16 * u + 16
      · rw [if_neg (by omega), if_pos hP, if_pos (by omega), zero_add]
      · rw [if_neg hP, add_zero]
        exact if_congr (by omega) rfl rfl
    · simp only [hb, false_and, and_false, if_false, add_zero]
  · obtain ⟨e1, hb, e⟩ := (hh j x).mp hx
    obtain ⟨hl, f0, f1⟩ := (num_iff B j _ c hc).mpr ⟨e1, hb, e⟩
    have ba := B.a
    have bb := B.b
    obtain ⟨d1, d2, d3, d4⟩ := B.decode hl
    rw [hv, X.wOn x hl, e1]
    generalize (16 * u + x.val) / (nb * nc) = p at *
    generalize (16 * u + x.val) % (nb * nc) / nc = q at *
    generalize (16 * u + x.val) % (nb * nc) % nc = r at *
    have eI : cI L j = a0 + p := by unfold cI; omega
    have eJ : cJ L j = b0 + q := by unfold cJ; omega
    have eK : cK j = c0 + r := by unfold cK; omega
    rw [eI, eJ, eK]
  · have e := ((hh j x).mp hx).2.2
    have e' := ((hh j x').mp hx').2.2
    exact Fin.ext (by omega)
  · constructor
    · rintro ⟨x, hx⟩
      obtain ⟨e1, hb, e⟩ := (hh j x).mp hx
      have := x.isLt
      exact ⟨e1, hb, by omega, by omega⟩
    · rintro ⟨e1, hb, n1, n2⟩
      exact ⟨⟨num L a0 b0 nb c0 nc j - 16 * u, by omega⟩, (hh j _).mpr ⟨e1, hb, by simp only; omega⟩⟩

end Chan

end Cells

end Cert.Proof

end
-- ==== Proof.Work.lean ====
/-
  One trip of the innermost loop: sixteen numbered cells of a Gaussian's box decoded, weighed and added, channel by channel.
-/
module

public import proofs.«01_k».proof.Proof.Sixteen

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {d : Dev nD} {L : grid0.Coords} {S : Scene} {g a0 na b0 nb c0 nc : ℕ}

/-- What a trip of the outer loop loads of Gaussian `g`, the same on every lane. -/
structure Loaded (S : Scene) (g : ℕ) (v305 v308 v311 v312 v313 v314 v315 v316 v317 v320 : Vec Ideal S16 .f32) : Prop where
  m0 : ∀ x, v305 x = (S.mean g 0 : EReal)
  m1 : ∀ x, v308 x = (S.mean g 1 : EReal)
  m2 : ∀ x, v311 x = (S.mean g 2 : EReal)
  q0 : ∀ x, v312 x = cf S 0 g
  q1 : ∀ x, v313 x = cf S 1 g
  q2 : ∀ x, v314 x = cf S 2 g
  q3 : ∀ x, v315 x = cf S 3 g
  q4 : ∀ x, v316 x = cf S 4 g
  q5 : ∀ x, v317 x = cf S 5 g
  op : ∀ x, v320 x = S.opa g

/-- The words and reciprocals of Gaussian `g`'s box, the same on every lane. -/
structure Boxed (a0 na b0 nb c0 nc : ℕ) (v325 v381 v385 v393 v394 v398 : IVec S16 32) (v401 v404 : FVec Ideal S16 .f32) : Prop where
  a : ∀ x, v381 x = BitVec.ofNat 32 a0
  b : ∀ x, v385 x = BitVec.ofNat 32 b0
  c : ∀ x, v325 x = BitVec.ofNat 32 c0
  n : ∀ x, v393 x = BitVec.ofNat 32 nc
  m : ∀ x, v394 x = BitVec.ofNat 32 (nb * nc)
  t : ∀ x, v398 x = BitVec.ofNat 32 (na * (nb * nc))
  r : ∀ x, v401 x = ((1 / ((nb * nc : ℕ) : ℝ) : ℝ) : EReal)
  s : ∀ x, v404 x = ((1 / (nc : ℝ) : ℝ) : EReal)

section Decode

variable (B : BoxAt S (tI L) (tJ L) g a0 na b0 nb c0 nc) {v21 v24 : BitVec 32} (h21 : v21 = BitVec.ofNat 32 (tI L)) (h24 : v24 = BitVec.ofNat 32 (tJ L))
  {v27 : IVec S16 32} (h27 : IsIota v27)
  {v305 v308 v311 v312 v313 v314 v315 v316 v317 v320 : Vec Ideal S16 .f32} (hL : Loaded S g v305 v308 v311 v312 v313 v314 v315 v316 v317 v320)
  {v325 v381 v385 v393 v394 v398 : IVec S16 32} {v401 v404 : FVec Ideal S16 .f32} (hB : Boxed a0 na b0 nb c0 nc v325 v381 v385 v393 v394 v398 v401 v404)
  {v410 : BitVec 32} (k : Fin (k0_t5_loop v410).trips) (hk : k.val < 1000) (x : Fin 16)

include h27 in
theorem pay64_lane : k0_pay64 v27 v410 0#32 1#32 k (lane x) = BitVec.ofNat 32 (16 * k.val + x.val) := by
  show (0#32 + BitVec.ofNat 32 k.val * 1#32) * 16#32 + v27 (lane x) = _
  rw [h27 x]
  simp only [BitVec.zero_add, BitVec.mul_one]
  rw [← BitVec.ofNat_mul, ← BitVec.ofNat_add, Nat.mul_comm]

include h27 B hB hk in
theorem pay65_lane : k0_pay65 (F := Ideal) v27 v401 v410 0#32 1#32 k (lane x) = BitVec.ofNat 32 ((16 * k.val + x.val) / (nb * nc)) :=
  quot_lane B.D_pos (by have := x.isLt; omega) (pay64_lane h27 k x) (hB.r _)

include h27 B hB hk in
theorem pay66_lane : k0_pay66 (F := Ideal) v27 v394 v401 v410 0#32 1#32 k (lane x) = BitVec.ofNat 32 ((16 * k.val + x.val) % (nb * nc)) := by
  show k0_pay64 v27 v410 0#32 1#32 k (lane x) - k0_pay65 (F := Ideal) v27 v401 v410 0#32 1#32 k (lane x) * v394 (lane x) = _
  rw [pay64_lane h27, pay65_lane B h27 hB k hk, hB.m, rem_word]

include h27 B hB hk in
theorem pay67_lane : k0_pay67 (F := Ideal) v27 v394 v401 v404 v410 0#32 1#32 k (lane x) = BitVec.ofNat 32 ((16 * k.val + x.val) % (nb * nc) / nc) :=
  quot_lane B.c.2 (by
    have := x.isLt
    have := Nat.mod_le (16 * k.val + x.val) (nb * nc)
    omega) (pay66_lane B h27 hB k hk x) (hB.s _)

include h27 B hB hk in
theorem pay68_lane : k0_pay68 v27 v398 v410 0#32 1#32 k (lane x) = 1 ↔ 16 * k.val + x.val < na * (nb * nc) := by
  have hx := x.isLt
  have hN := B.N_le
  have e : k0_pay68 v27 v398 v410 0#32 1#32 k (lane x)
      = BitVec.ofBool (decide ((k0_pay64 v27 v410 0#32 1#32 k (lane x)).toInt < (v398 (lane x)).toInt)) := rfl
  rw [e, pay64_lane h27, hB.t, toInt_word (by omega), toInt_word (by omega)]
  by_cases h : 16 * k.val + x.val < na * (nb * nc)
  · rw [decide_eq_true (by exact_mod_cast h)]; exact ⟨fun _ => h, fun _ => rfl⟩
  · rw [decide_eq_false (by exact_mod_cast h)]; exact ⟨fun h' => absurd h' (by decide), fun h' => absurd h' h⟩

include h27 B hB hk in
theorem pay69_lane : k0_pay69 (F := Ideal) v27 v381 v401 v410 0#32 1#32 k (lane x) = BitVec.ofNat 32 (a0 + (16 * k.val + x.val) / (nb * nc)) := by
  show v381 (lane x) + k0_pay65 (F := Ideal) v27 v401 v410 0#32 1#32 k (lane x) = _
  rw [pay65_lane B h27 hB k hk, hB.a, BitVec.ofNat_add]

include h27 B hB hk in
theorem pay70_lane : k0_pay70 (F := Ideal) v27 v385 v394 v401 v404 v410 0#32 1#32 k (lane x) = BitVec.ofNat 32 (b0 + (16 * k.val + x.val) % (nb * nc) / nc) := by
  show v385 (lane x) + k0_pay67 (F := Ideal) v27 v394 v401 v404 v410 0#32 1#32 k (lane x) = _
  rw [pay67_lane B h27 hB k hk, hB.b, BitVec.ofNat_add]

include h27 B hB hk in
theorem pay71_lane : k0_pay71 (F := Ideal) v27 v325 v393 v394 v401 v404 v410 0#32 1#32 k (lane x) = BitVec.ofNat 32 (c0 + (16 * k.val + x.val) % (nb * nc) % nc) := by
  show v325 (lane x) + (k0_pay66 (F := Ideal) v27 v394 v401 v410 0#32 1#32 k (lane x) - k0_pay67 (F := Ideal) v27 v394 v401 v404 v410 0#32 1#32 k (lane x) * v393 (lane x)) = _
  rw [pay66_lane B h27 hB k hk, pay67_lane B h27 hB k hk, hB.c, hB.n, rem_word, BitVec.ofNat_add]

include h27 B hB hk hL in
theorem pay72_lane (hl : 16 * k.val + x.val < na * (nb * nc)) :
    k0_pay72 (F := Ideal) v27 v305 v308 v311 v312 v313 v314 v315 v316 v317 v320 v325 v381 v385 v393 v394 v401 v404 v410 0#32 1#32 k (lane x)
      = wgt S g (a0 + (16 * k.val + x.val) / (nb * nc)) (b0 + (16 * k.val + x.val) % (nb * nc) / nc) (c0 + (16 * k.val + x.val) % (nb * nc) % nc) := by
  have ba := B.a
  have bb := B.b
  have bc := B.c
  have hI := tI_le L
  have hJ := tJ_le L
  obtain ⟨d1, d2, d3, -⟩ := B.decode hl
  have e1 := sitofp_nat (pay69_lane B h27 hB k hk x) (by omega)
  have e2 := sitofp_nat (pay70_lane B h27 hB k hk x) (by omega)
  have e3 := sitofp_nat (pay71_lane B h27 hB k hk x) (by omega)
  generalize (16 * k.val + x.val) / (nb * nc) = p at *
  generalize (16 * k.val + x.val) % (nb * nc) / nc = q at *
  generalize (16 * k.val + x.val) % (nb * nc) % nc = r at *
  have h : k0_pay72 (F := Ideal) v27 v305 v308 v311 v312 v313 v314 v315 v316 v317 v320 v325 v381 v385 v393 v394 v401 v404 v410 0#32 1#32 k (lane x)
      = (let s1 : EReal := (FloatOps.sitofp .f32 (k0_pay69 (F := Ideal) v27 v381 v401 v410 0#32 1#32 k (lane x)) : Ideal .f32)
         let s2 : EReal := (FloatOps.sitofp .f32 (k0_pay70 (F := Ideal) v27 v385 v394 v401 v404 v410 0#32 1#32 k (lane x)) : Ideal .f32)
         let s3 : EReal := (FloatOps.sitofp .f32 (k0_pay71 (F := Ideal) v27 v325 v393 v394 v401 v404 v410 0#32 1#32 k (lane x)) : Ideal .f32)
         let dx : EReal := s1 + Ideal.ofBits .f32 0xC21E0000#32 - v305 (lane x)
         let dy : EReal := s2 + Ideal.ofBits .f32 0xC21E0000#32 - v308 (lane x)
         let dz : EReal := s3 + Ideal.ofBits .f32 0xBF000000#32 - v311 (lane x)
         (v320 (lane x) * Ideal.exp ((((((v312 (lane x) : EReal) * dx * dx + v313 (lane x) * dy * dy) + v314 (lane x) * dz * dz) + v315 (lane x) * dx * dy)
           + v316 (lane x) * dx * dz) + v317 (lane x) * dy * dz) : EReal)) := rfl
  rw [h, e1, e2, e3]
  simp only [hL.m0, hL.m1, hL.m2, hL.q0, hL.q1, hL.q2, hL.q3, hL.q4, hL.q5, hL.op, cf, lit_off, lit_half_neg]
  simp only [← EReal.coe_mul, ← EReal.coe_add, ← EReal.coe_sub, Ideal.exp_coe]
  rfl

include h21 h24 h27 B hB hL hk in
/-- The trip's vectors. -/
theorem sixteen_of : Sixteen S L g a0 na b0 nb c0 nc k.val (k0_pay68 v27 v398 v410 0#32 1#32 k)
    (k0_pay74 v24 (k0_pay68 v27 v398 v410 0#32 1#32 k) (k0_pay69 (F := Ideal) v27 v381 v401 v410 0#32 1#32 k)
      (k0_pay70 (F := Ideal) v27 v385 v394 v401 v404 v410 0#32 1#32 k) (k0_pay73 v21))
    (k0_pay75 (k0_pay68 v27 v398 v410 0#32 1#32 k) (k0_pay71 (F := Ideal) v27 v325 v393 v394 v401 v404 v410 0#32 1#32 k))
    (k0_pay72 (F := Ideal) v27 v305 v308 v311 v312 v313 v314 v315 v316 v317 v320 v325 v381 v385 v393 v394 v401 v404 v410 0#32 1#32 k) := by
  have ba := B.a
  have bb := B.b
  have bc := B.c
  have hI := tI_le L
  have hJ := tJ_le L
  have hsel : ∀ (x : Fin 16) (v w : IVec S16 32), select (k0_pay68 v27 v398 v410 0#32 1#32 k) v w (lane x)
      = if 16 * k.val + x.val < na * (nb * nc) then v (lane x) else w (lane x) := fun x v w => by
    show Scalar.select (k0_pay68 v27 v398 v410 0#32 1#32 k (lane x)) (v (lane x)) (w (lane x)) = _
    unfold Scalar.select
    exact if_congr (pay68_lane B h27 hB k hk x) rfl rfl
  refine ⟨fun x => pay68_lane B h27 hB k hk x, fun x hl => ?_, fun x hl => ?_, fun x hl => ?_, fun x hl => ?_, fun x hl => pay72_lane B h27 hL hB k hk x hl⟩
  · unfold k0_pay74
    rw [hsel, if_pos hl]
    show ((k0_pay69 (F := Ideal) v27 v381 v401 v410 0#32 1#32 k (lane x) - v21) * 10#32 + (k0_pay70 (F := Ideal) v27 v385 v394 v401 v404 v410 0#32 1#32 k (lane x) - v24)).toNat = _
    obtain ⟨d1, d2, d3, -⟩ := B.decode hl
    rw [pay69_lane B h27 hB k hk, pay70_lane B h27 hB k hk, h21, h24]
    generalize (16 * k.val + x.val) / (nb * nc) = p at *
    generalize (16 * k.val + x.val) % (nb * nc) / nc = q at *
    rw [sub_word (by omega), sub_word (by omega), ← BitVec.ofNat_mul, ← BitVec.ofNat_add, BitVec.toNat_ofNat]
    omega
  · unfold k0_pay74
    rw [hsel, if_neg hl]; rfl
  · unfold k0_pay75
    rw [hsel, if_pos hl]
    show k0_pay71 (F := Ideal) v27 v325 v393 v394 v401 v404 v410 0#32 1#32 k (lane x) * 18#32 = _
    rw [pay71_lane B h27 hB k hk, ← BitVec.ofNat_mul]
  · unfold k0_pay75
    rw [hsel, if_neg hl]; rfl

end Decode

/-- One channel's store. -/
theorem wp_chan (B : BoxAt S (tI L) (tJ L) g a0 na b0 nb c0 nc) {u : ℕ} {mask : IVec S16 1} {row colb : IVec S16 32} {w : FVec Ideal S16 .f32}
    (X : Sixteen S L g a0 na b0 nb c0 nc u mask row colb w) {col : IVec S16 32} {c : ℕ} (hc : c < 17)
    (hcol : ∀ x : Fin 16, col (lane x) = colb (lane x) + BitVec.ofNat 32 c) {base : S200x108.Idx → EReal} {v : FVec Ideal S16 .f32}
    (hv : ∀ x : Fin 16, v (lane x) = (w (lane x) : EReal) * S.feat g c)
    {h : ∀ a x, ((![row, col] : Fin 2 → IVec S16 32) a x).toNat < S200x108.size a} {hs : (slabV.access (.whole S200x108)).Stores Finset.univ} {Q : PUnit → sProp MM} :
    holds slabV d L (partS S L g a0 b0 nb c0 nc base u c)
      ⊢ iprop((holds slabV d L (partS S L g a0 b0 nb c0 nc base u (c + 1)) -∗ Q ⟨⟩)
        -∗ wp frame (wpE (defs₀ (F := Ideal)) 𝒱₀ (thr d L) none) Set.univ (SparseCore.vectorStoreIdx slabV ![row, col] v mask true h hs) Q) := by
  have := wp_scatter (d := d) (L := L) (m := slabV) (Memref.isWhole_whole _) (idxs := ![row, col]) (v := v) (mask := mask) (add := true) (h := h) (hs := hs)
    (g := partS S L g a0 b0 nb c0 nc base u c) (Q := Q)
  rwa [chan_step B X hc hcol base hv h] at this

/-- The features of Gaussian `g`, the same on every lane. -/
structure Feats (S : Scene) (g : ℕ) (v331 v334 v337 v340 v343 v346 v349 v352 v355 v358 v361 v364 v367 v370 v373 v376 v379 : Vec Ideal S16 .f32) : Prop where
  f0 : ∀ x, v331 x = S.feat g 0
  f1 : ∀ x, v334 x = S.feat g 1
  f2 : ∀ x, v337 x = S.feat g 2
  f3 : ∀ x, v340 x = S.feat g 3
  f4 : ∀ x, v343 x = S.feat g 4
  f5 : ∀ x, v346 x = S.feat g 5
  f6 : ∀ x, v349 x = S.feat g 6
  f7 : ∀ x, v352 x = S.feat g 7
  f8 : ∀ x, v355 x = S.feat g 8
  f9 : ∀ x, v358 x = S.feat g 9
  f10 : ∀ x, v361 x = S.feat g 10
  f11 : ∀ x, v364 x = S.feat g 11
  f12 : ∀ x, v367 x = S.feat g 12
  f13 : ∀ x, v370 x = S.feat g 13
  f14 : ∀ x, v373 x = S.feat g 14
  f15 : ∀ x, v376 x = S.feat g 15
  f16 : ∀ x, v379 x = S.feat g 16

/-- One trip. -/
theorem t5_trip (B : BoxAt S (tI L) (tJ L) g a0 na b0 nb c0 nc) {v21 v23 v24 v26 v29 z0 z1 : BitVec 32} (h21 : v21 = BitVec.ofNat 32 (tI L)) (h24 : v24 = BitVec.ofNat 32 (tJ L))
    {v27 : IVec S16 32} (h27 : IsIota v27) {h15 : k0_chk15 v29} {v30 : FVec Ideal S16 .f32}
    {v305 v308 v311 v312 v313 v314 v315 v316 v317 v320 : Vec Ideal S16 .f32} (hL : Loaded S g v305 v308 v311 v312 v313 v314 v315 v316 v317 v320)
    {v331 v334 v337 v340 v343 v346 v349 v352 v355 v358 v361 v364 v367 v370 v373 v376 v379 : Vec Ideal S16 .f32} (hF : Feats S g v331 v334 v337 v340 v343 v346 v349 v352 v355 v358 v361 v364 v367 v370 v373 v376 v379)
    {v325 v381 v385 v393 v394 v398 : IVec S16 32} {v401 v404 : FVec Ideal S16 .f32} (hB : Boxed a0 na b0 nb c0 nc v325 v381 v385 v393 v394 v398 v401 v404)
    {v410 : BitVec 32} {h39 : k0_chk39 v410} (base : S200x108.Idx → EReal) (k : Fin (k0_t5_loop v410).trips) (hk : k.val < 1000) :
    holds slabV d L (partS S L g a0 b0 nb c0 nc base k.val 0)
      ⊢ wp frame (wpE (defs₀ (F := Ideal)) 𝒱₀ (thr d L) none) Set.univ
        (k0_t5_body L inV (Memref.isWhole_whole _) outV (Memref.isWhole_whole _) pkV (Memref.isWhole_whole _) aV (Memref.isWhole_whole _) bV (Memref.isWhole_whole _) cV (Memref.isWhole_whole _) dV (Memref.isWhole_whole _) eV (Memref.isWhole_whole _) fV (Memref.isWhole_whole _) i0V (Memref.isWhole_whole _) i1V (Memref.isWhole_whole _) j0V (Memref.isWhole_whole _) j1V (Memref.isWhole_whole _) k0V (Memref.isWhole_whole _) k1V (Memref.isWhole_whole _) listV (Memref.isWhole_whole _) slabV (Memref.isWhole_whole _) cc0_scratch15 cc0_scratch16 v21 v23 v24 v26 v27 v29 h15 v30 z0 z1 v305 v308 v311 v312 v313 v314 v315 v316 v317 v320 v325 v331 v334 v337 v340 v343 v346 v349 v352 v355 v358 v361 v364 v367 v370 v373 v376 v379 v381 v385 v393 v394 v398 v401 v404 v410 h39 k ⟨⟩)
        (fun _ => holds slabV d L (partS S L g a0 b0 nb c0 nc base (k.val + 1) 0)) := by
  have X := sixteen_of B h21 h24 h27 hL hB k hk
  iintro H
  sl_unfold [k0_t5_body]
  sl_open_parts
  repeat rw [wp_bind]
  iapply wp_done
  dsimp only
  repeat rw [wp_bind]
  iapply wp_check (chan_inb B X (c := 0) (by norm_num) (fun _ => rfl))
  repeat rw [wp_bind]
  iapply wp_chan B X (c := 0) (by norm_num) (fun _ => rfl) (fun x => congrArg (_ * ·) (hF.f0 (lane x))) $$ H
  iintro H
  repeat rw [wp_bind]
  iapply wp_check (chan_inb B X (c := 1) (by norm_num) (fun _ => rfl))
  repeat rw [wp_bind]
  iapply wp_chan B X (c := 1) (by norm_num) (fun _ => rfl) (fun x => congrArg (_ * ·) (hF.f1 (lane x))) $$ H
  iintro H
  repeat rw [wp_bind]
  iapply wp_check (chan_inb B X (c := 2) (by norm_num) (fun _ => rfl))
  repeat rw [wp_bind]
  iapply wp_chan B X (c := 2) (by norm_num) (fun _ => rfl) (fun x => congrArg (_ * ·) (hF.f2 (lane x))) $$ H
  iintro H
  repeat rw [wp_bind]
  iapply wp_check (chan_inb B X (c := 3) (by norm_num) (fun _ => rfl))
  repeat rw [wp_bind]
  iapply wp_chan B X (c := 3) (by norm_num) (fun _ => rfl) (fun x => congrArg (_ * ·) (hF.f3 (lane x))) $$ H
  iintro H
  repeat rw [wp_bind]
  iapply wp_check (chan_inb B X (c := 4) (by norm_num) (fun _ => rfl))
  repeat rw [wp_bind]
  iapply wp_chan B X (c := 4) (by norm_num) (fun _ => rfl) (fun x => congrArg (_ * ·) (hF.f4 (lane x))) $$ H
  iintro H
  repeat rw [wp_bind]
  iapply wp_check (chan_inb B X (c := 5) (by norm_num) (fun _ => rfl))
  repeat rw [wp_bind]
  iapply wp_chan B X (c := 5) (by norm_num) (fun _ => rfl) (fun x => congrArg (_ * ·) (hF.f5 (lane x))) $$ H
  iintro H
  repeat rw [wp_bind]
  iapply wp_check (chan_inb B X (c := 6) (by norm_num) (fun _ => rfl))
  repeat rw [wp_bind]
  iapply wp_chan B X (c := 6) (by norm_num) (fun _ => rfl) (fun x => congrArg (_ * ·) (hF.f6 (lane x))) $$ H
  iintro H
  repeat rw [wp_bind]
  iapply wp_done
  dsimp only
  repeat rw [wp_bind]
  iapply wp_check (chan_inb B X (c := 7) (by norm_num) (fun _ => rfl))
  repeat rw [wp_bind]
  iapply wp_chan B X (c := 7) (by norm_num) (fun _ => rfl) (fun x => congrArg (_ * ·) (hF.f7 (lane x))) $$ H
  iintro H
  repeat rw [wp_bind]
  iapply wp_check (chan_inb B X (c := 8) (by norm_num) (fun _ => rfl))
  repeat rw [wp_bind]
  iapply wp_chan B X (c := 8) (by norm_num) (fun _ => rfl) (fun x => congrArg (_ * ·) (hF.f8 (lane x))) $$ H
  iintro H
  repeat rw [wp_bind]
  iapply wp_check (chan_inb B X (c := 9) (by norm_num) (fun _ => rfl))
  repeat rw [wp_bind]
  iapply wp_chan B X (c := 9) (by norm_num) (fun _ => rfl) (fun x => congrArg (_ * ·) (hF.f9 (lane x))) $$ H
  iintro H
  repeat rw [wp_bind]
  iapply wp_check (chan_inb B X (c := 10) (by norm_num) (fun _ => rfl))
  repeat rw [wp_bind]
  iapply wp_chan B X (c := 10) (by norm_num) (fun _ => rfl) (fun x => congrArg (_ * ·) (hF.f10 (lane x))) $$ H
  iintro H
  repeat rw [wp_bind]
  iapply wp_check (chan_inb B X (c := 11) (by norm_num) (fun _ => rfl))
  repeat rw [wp_bind]
  iapply wp_chan B X (c := 11) (by norm_num) (fun _ => rfl) (fun x => congrArg (_ * ·) (hF.f11 (lane x))) $$ H
  iintro H
  repeat rw [wp_bind]
  iapply wp_check (chan_inb B X (c := 12) (by norm_num) (fun _ => rfl))
  repeat rw [wp_bind]
  iapply wp_chan B X (c := 12) (by norm_num) (fun _ => rfl) (fun x => congrArg (_ * ·) (hF.f12 (lane x))) $$ H
  iintro H
  repeat rw [wp_bind]
  iapply wp_check (chan_inb B X (c := 13) (by norm_num) (fun _ => rfl))
  repeat rw [wp_bind]
  iapply wp_chan B X (c := 13) (by norm_num) (fun _ => rfl) (fun x => congrArg (_ * ·) (hF.f13 (lane x))) $$ H
  iintro H
  repeat rw [wp_bind]
  iapply wp_check (chan_inb B X (c := 14) (by norm_num) (fun _ => rfl))
  repeat rw [wp_bind]
  iapply wp_chan B X (c := 14) (by norm_num) (fun _ => rfl) (fun x => congrArg (_ * ·) (hF.f14 (lane x))) $$ H
  iintro H
  repeat rw [wp_bind]
  iapply wp_check (chan_inb B X (c := 15) (by norm_num) (fun _ => rfl))
  repeat rw [wp_bind]
  iapply wp_chan B X (c := 15) (by norm_num) (fun _ => rfl) (fun x => congrArg (_ * ·) (hF.f15 (lane x))) $$ H
  iintro H
  repeat rw [wp_bind]
  iapply wp_check (chan_inb B X (c := 16) (by norm_num) (fun _ => rfl))
  repeat rw [wp_bind]
  iapply wp_chan B X (c := 16) (by norm_num) (fun _ => rfl) (fun x => congrArg (_ * ·) (hF.f16 (lane x))) $$ H
  iintro H
  repeat rw [wp_bind]
  iapply wp_done
  iapply wp_done
  rw [partS_next]
  iexact H

end Cert.Proof

end
-- ==== Proof.Outer.lean ====
/-
  One trip of the outer loop: a listed Gaussian's parameters loaded and its box's cells added to the slab.
-/
module

public import proofs.«01_k».proof.Proof.Work

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {d : Dev nD} {L : grid0.Coords} {S : Scene} {P : S57360.Idx → EReal}

/-! ## The slab between trips -/

/-- The slab when the Gaussians of a list have been added. -/
def slabAt (S : Scene) (L : grid0.Coords) (l : List ℕ) : S200x108.Idx → EReal := fun j =>
  if (j 1).val % 18 = 17 then back S (cI L j) (cJ L j) (cK j)
  else (l.map fun n => term S n (cI L j) (cJ L j) (cK j) ((j 1).val % 18)).sum

theorem back_done : backS L S 75 = slabAt S L [] := by
  funext j
  have h0 := j0_lt j
  have h1 := j1_lt j
  unfold backS slabAt
  by_cases h : (j 1).val % 18 = 17
  · rw [if_pos (by omega), if_pos h]
  · rw [if_neg (by omega), if_neg h]; rfl

section Part

variable {g a0 na b0 nb c0 nc : ℕ}

theorem partS_zero (base : S200x108.Idx → EReal) : partS S L g a0 b0 nb c0 nc base 0 0 = base := by
  funext j
  unfold partS
  rw [if_neg (by omega), add_zero]

theorem partS_full (B : BoxAt S (tI L) (tJ L) g a0 na b0 nb c0 nc) (l : List ℕ) {u : ℕ} (hu : na * (nb * nc) ≤ 16 * u) :
    partS S L g a0 b0 nb c0 nc (slabAt S L l) u 0 = slabAt S L (l ++ [g]) := by
  funext j
  have h0 := j0_lt j
  have h1 := j1_lt j
  have hbox := B.box (cI L j) (cJ L j) (cK j) (by unfold cI; omega) (by unfold cI; omega) (by unfold cJ; omega) (by unfold cJ; omega)
  unfold partS slabAt
  by_cases h : (j 1).val % 18 = 17
  · rw [if_pos h, if_pos h, if_neg (by omega), add_zero]
  · rw [if_neg h, if_neg h, List.map_append, List.sum_append]
    congr 1
    rw [List.map_singleton, List.sum_singleton]
    unfold term
    refine if_congr ?_ rfl rfl
    constructor
    · exact fun hh => hh.2.1
    · intro hb
      refine ⟨by omega, hb, .inl ?_⟩
      obtain ⟨hI, hJ, hK⟩ := hbox.mp hb
      have := (B.encode (p := cI L j - a0) (q := cJ L j - b0) (r := cK j - c0) (by omega) (by omega) (by omega)).1
      unfold num
      omega

end Part

/-! ## Loads that every lane makes alike -/

/-- A gather of one entry of a table or of the list. -/
theorem gather_tab {e : EltTy} {T : S2048.Idx → Elt Ideal e} {idx : IVec S16 32} {h : ∀ a x, ((![idx] : Fin 1 → IVec S16 32) a x).toNat < S2048.size a} {x : S16.Idx}
    {n : ℕ} {y : Elt Ideal e} {v : Vec Ideal S16 e} (hv : v = loadIdx (s := S2048) (F := Ideal) (e := e) T ![idx] h)
    (hx : (idx x).toNat = n) (hP : ∀ j : S2048.Idx, (j 0).val = n → T j = y) : v x = y := by
  rw [hv]; exact hP _ hx

/-- A full table at an entry. -/
theorem tab_at {e : EltTy} (F : ℕ → Elt Ideal e) (f : S2048.Idx → Elt Ideal e) {n : ℕ} (j : S2048.Idx) (hj : (j 0).val = n) : upd F f 128 j = F n := by
  rw [upd_full, hj]

theorem inb_all {idx : IVec S16 32} {n N : ℕ} (h : ∀ x, (idx x).toNat = n) (hN : n < N) :
    ∀ (c : Fin 1) x, ((![idx] : Fin 1 → IVec S16 32) c x).toNat < (![N] : Fin 1 → ℕ) c :=
  inb_of fun k => by rw [h]; exact hN

section Addr

variable {v300 : Vec Ideal S16 .i32} {g : ℕ} (hg : g < 2048) (h : ∀ x, v300 x = BitVec.ofNat 32 g)

include hg h in
theorem mean_addr {c : ℕ} (hc : c < 3) (x : S16.Idx) : (addi (muli v300 (broadcast S16 3#32)) (broadcast S16 (BitVec.ofNat 32 c)) x).toNat = 3 * g + c := by
  show (v300 x * BitVec.ofNat 32 3 + BitVec.ofNat 32 c).toNat = _
  rw [h, ← BitVec.ofNat_mul, ← BitVec.ofNat_add, BitVec.toNat_ofNat]; omega

include hg h in
theorem opa_addr (x : S16.Idx) : (addi v300 (broadcast S16 20480#32) x).toNat = 20480 + g := by
  show (v300 x + BitVec.ofNat 32 20480).toNat = _
  rw [h, ← BitVec.ofNat_add, BitVec.toNat_ofNat]; omega

include hg h in
theorem feat_addr {c : ℕ} (hc : c < 17) (x : S16.Idx) :
    (addi (muli v300 (broadcast S16 17#32)) (broadcast S16 (BitVec.ofNat 32 (22528 + c))) x).toNat = 22528 + 17 * g + c := by
  show (v300 x * BitVec.ofNat 32 17 + BitVec.ofNat 32 (22528 + c)).toNat = _
  rw [h, ← BitVec.ofNat_mul, ← BitVec.ofNat_add, BitVec.toNat_ofNat]; omega

end Addr

/-! ## The trip -/

theorem chk39_eq {v410 : BitVec 32} {n : ℕ} (h : v410 = BitVec.ofNat 32 n) (hn : n < 2 ^ 30) : k0_chk39 v410 := by subst h; exact chk39_of hn

theorem t5_trips_eq {v410 : BitVec 32} {n : ℕ} (h : v410 = BitVec.ofNat 32 n) (hn : n < 2 ^ 30) : (k0_t5_loop v410).trips = (n + 15) / 16 := by
  subst h; exact t5_trips hn

theorem t6_trips_eq {v410 w : BitVec 32} (_ : v410 = w) : (k0_t6_loop v410).trips = 0 := t6_trips v410

/-- The inner loop's invariant. -/
def innerInv (d : Dev nD) (L : grid0.Coords) (S : Scene) (g a0 b0 nb c0 nc : ℕ) (base : S200x108.Idx → EReal) (n : ℕ) : ℕ → Unit → sProp MM :=
  fun u _ => holds slabV d L (partS S L g a0 b0 nb c0 nc base u 0)

theorem inner_done {g a0 na b0 nb c0 nc : ℕ} (B : BoxAt S (tI L) (tJ L) g a0 na b0 nb c0 nc) (l : List ℕ) {v410 : BitVec 32}
    (h : (k0_t5_loop v410).trips = (na * (nb * nc) + 15) / 16) (acc : Unit) :
    innerInv d L S g a0 b0 nb c0 nc (slabAt S L l) 0 (Scf.trips (k0_t5_loop v410).lb (k0_t5_loop v410).ub (k0_t5_loop v410).st) acc
      ⊢ holds slabV d L (slabAt S L (l ++ [g])) := by
  have e : Scf.trips (k0_t5_loop v410).lb (k0_t5_loop v410).ub (k0_t5_loop v410).st = (na * (nb * nc) + 15) / 16 := h
  unfold innerInv
  rw [e, partS_full B l (by omega)]

set_option maxHeartbeats 4000000 in
theorem t4_trip (hS : Good S) (hP : PackedOf S P) {v21 v23 v24 v26 v29 z0 z1 : BitVec 32}
    (h21 : v21 = BitVec.ofNat 32 (tI L)) (h23 : v23 = BitVec.ofNat 32 (tI L + 19)) (h24 : v24 = BitVec.ofNat 32 (tJ L)) (h26 : v26 = BitVec.ofNat 32 (tJ L + 9))
    {v27 : IVec S16 32} (h27 : IsIota v27) {h15 : k0_chk15 v29} {v30 : FVec Ideal S16 .f32} (ff : Fin 6 → S2048.Idx → EReal) (fi : Fin 6 → S2048.Idx → BitVec 32)
    {fl : S2048.Idx → BitVec 32} {cnt : BitVec 32} (hfl : ListOf S (tI L) (tJ L) 2048 cnt fl) (k : Fin (k0_t4_loop v29).trips)
    (hk : k.val < (hits S (tI L) (tJ L) 2048).length) :
    iprop(tables d L S P ff fi 128 ∗ holds listV d L fl ∗ holds slabV d L (slabAt S L ((hits S (tI L) (tJ L) 2048).take k.val)))
      ⊢ wp frame (wpE (defs₀ (F := Ideal)) 𝒱₀ (thr d L) none) Set.univ
        (k0_t4_body L inV (Memref.isWhole_whole _) outV (Memref.isWhole_whole _) pkV (Memref.isWhole_whole _) aV (Memref.isWhole_whole _) bV (Memref.isWhole_whole _) cV (Memref.isWhole_whole _) dV (Memref.isWhole_whole _) eV (Memref.isWhole_whole _) fV (Memref.isWhole_whole _) i0V (Memref.isWhole_whole _) i1V (Memref.isWhole_whole _) j0V (Memref.isWhole_whole _) j1V (Memref.isWhole_whole _) k0V (Memref.isWhole_whole _) k1V (Memref.isWhole_whole _) listV (Memref.isWhole_whole _) slabV (Memref.isWhole_whole _) cc0_scratch15 cc0_scratch16 v21 v23 v24 v26 v27 v29 h15 v30 z0 z1 k ⟨⟩)
        (fun _ => iprop(tables d L S P ff fi 128 ∗ holds listV d L fl ∗ holds slabV d L (slabAt S L ((hits S (tI L) (tJ L) 2048).take (k.val + 1))))) := by
  have hlen := hits_length_le S (tI L) (tJ L) 2048
  obtain ⟨g, hgd⟩ : ∃ g, g = (hits S (tI L) (tJ L) 2048)[k.val] := ⟨_, rfl⟩
  have hgm : g < 2048 ∧ Meets S (tI L) (tJ L) g := mem_hits S |>.mp (hgd ▸ List.getElem_mem hk)
  have hg := hgm.1
  obtain ⟨a0, na, b0, nb, c0, nc, B⟩ := exists_box hgm.2
  have htake : (hits S (tI L) (tJ L) 2048).take (k.val + 1) = (hits S (tI L) (tJ L) 2048).take k.val ++ [g] := by
    rw [hgd, List.take_succ_eq_append_getElem hk]
  have h299 : ∀ x : S16.Idx, (broadcast S16 (Scf.iv 0#32 1#32 k.val) x).toNat = k.val := fun x => by
    show (0#32 + BitVec.ofNat 32 k.val * 1#32).toNat = _
    rw [BitVec.zero_add, BitVec.mul_one, BitVec.toNat_ofNat]; omega
  have hlist : ∀ j : S2048.Idx, (j 0).val = k.val → fl j = BitVec.ofNat 32 g := fun j hj => (hfl.2 k.val hk j hj).trans (by rw [hgd])
  unfold tables
  iintro ⟨⟨Hp, Ha, Hb, Hc, Hd, He, Hf, Hi0, Hi1, Hj0, Hj1, Hk0, Hk1⟩, Hl, Hs⟩
  sl_unfold [k0_t4_body]
  sl_open_parts
  repeat rw [wp_bind]
  iapply wp_check (inb_all h299 (N := 2048) (by omega))
  repeat rw [wp_bind]
  iapply wp_gather (m := listV) (g := fl) $$ Hl
  iintro %v300 %e300 Hl
  have h300 : ∀ x, v300 x = BitVec.ofNat 32 g := fun x => gather_tab e300 (h299 x) hlist
  have n300 : ∀ x, (v300 x).toNat = g := fun x => by rw [h300, BitVec.toNat_ofNat]; omega
  have hc20 : ∀ a x, ((![v300] : Fin 1 → IVec S16 32) a x).toNat < S2048.size a := inb_all n300 hg
  repeat rw [wp_bind]
  iapply wp_check (P := k0_chk20 v300) ⟨hc20, hc20, hc20, hc20, hc20, hc20, hc20, hc20, hc20, hc20, hc20, hc20⟩
  repeat rw [wp_bind]
  iapply wp_check (inb_all (mean_addr hg h300 (c := 0) (by norm_num)) (N := 57360) (by omega))
  repeat rw [wp_bind]
  iapply wp_gather (m := pkV) (g := P) $$ Hp
  iintro %v305 %e305 Hp
  repeat rw [wp_bind]
  iapply wp_check (inb_all (mean_addr hg h300 (c := 1) (by norm_num)) (N := 57360) (by omega))
  repeat rw [wp_bind]
  iapply wp_gather (m := pkV) (g := P) $$ Hp
  iintro %v308 %e308 Hp
  repeat rw [wp_bind]
  iapply wp_check (inb_all (mean_addr hg h300 (c := 2) (by norm_num)) (N := 57360) (by omega))
  repeat rw [wp_bind]
  iapply wp_gather (m := pkV) (g := P) $$ Hp
  iintro %v311 %e311 Hp
  repeat rw [wp_bind]
  iapply wp_gather (m := aV) $$ Ha
  iintro %v312 %e312 Ha
  repeat rw [wp_bind]
  iapply wp_gather (m := bV) $$ Hb
  iintro %v313 %e313 Hb
  repeat rw [wp_bind]
  iapply wp_gather (m := cV) $$ Hc
  iintro %v314 %e314 Hc
  repeat rw [wp_bind]
  iapply wp_gather (m := dV) $$ Hd
  iintro %v315 %e315 Hd
  repeat rw [wp_bind]
  iapply wp_gather (m := eV) $$ He
  iintro %v316 %e316 He
  repeat rw [wp_bind]
  iapply wp_gather (m := fV) $$ Hf
  iintro %v317 %e317 Hf
  repeat rw [wp_bind]
  iapply wp_check (inb_all (opa_addr hg h300) (N := 57360) (by omega))
  repeat rw [wp_bind]
  iapply wp_gather (m := pkV) (g := P) $$ Hp
  iintro %v320 %e320 Hp
  repeat rw [wp_bind]
  iapply wp_gather (m := i0V) $$ Hi0
  iintro %v321 %e321 Hi0
  repeat rw [wp_bind]
  iapply wp_gather (m := i1V) $$ Hi1
  iintro %v322 %e322 Hi1
  repeat rw [wp_bind]
  iapply wp_gather (m := j0V) $$ Hj0
  iintro %v323 %e323 Hj0
  repeat rw [wp_bind]
  iapply wp_gather (m := j1V) $$ Hj1
  iintro %v324 %e324 Hj1
  repeat rw [wp_bind]
  iapply wp_gather (m := k0V) $$ Hk0
  iintro %v325 %e325 Hk0
  repeat rw [wp_bind]
  iapply wp_gather (m := k1V) $$ Hk1
  iintro %v326 %e326 Hk1
  repeat rw [wp_bind]
  iapply wp_check (inb_all (feat_addr hg h300 (c := 0) (by norm_num)) (N := 57360) (by omega))
  repeat rw [wp_bind]
  iapply wp_gather (m := pkV) (g := P) $$ Hp
  iintro %v331 %e331 Hp
  repeat rw [wp_bind]
  iapply wp_check (inb_all (feat_addr hg h300 (c := 1) (by norm_num)) (N := 57360) (by omega))
  repeat rw [wp_bind]
  iapply wp_gather (m := pkV) (g := P) $$ Hp
  iintro %v334 %e334 Hp
  repeat rw [wp_bind]
  iapply wp_check (inb_all (feat_addr hg h300 (c := 2) (by norm_num)) (N := 57360) (by omega))
  repeat rw [wp_bind]
  iapply wp_gather (m := pkV) (g := P) $$ Hp
  iintro %v337 %e337 Hp
  repeat rw [wp_bind]
  iapply wp_done
  dsimp only
  repeat rw [wp_bind]
  iapply wp_check (inb_all (feat_addr hg h300 (c := 3) (by norm_num)) (N := 57360) (by omega))
  repeat rw [wp_bind]
  iapply wp_gather (m := pkV) (g := P) $$ Hp
  iintro %v340 %e340 Hp
  repeat rw [wp_bind]
  iapply wp_check (inb_all (feat_addr hg h300 (c := 4) (by norm_num)) (N := 57360) (by omega))
  repeat rw [wp_bind]
  iapply wp_gather (m := pkV) (g := P) $$ Hp
  iintro %v343 %e343 Hp
  repeat rw [wp_bind]
  iapply wp_check (inb_all (feat_addr hg h300 (c := 5) (by norm_num)) (N := 57360) (by omega))
  repeat rw [wp_bind]
  iapply wp_gather (m := pkV) (g := P) $$ Hp
  iintro %v346 %e346 Hp
  repeat rw [wp_bind]
  iapply wp_check (inb_all (feat_addr hg h300 (c := 6) (by norm_num)) (N := 57360) (by omega))
  repeat rw [wp_bind]
  iapply wp_gather (m := pkV) (g := P) $$ Hp
  iintro %v349 %e349 Hp
  repeat rw [wp_bind]
  iapply wp_check (inb_all (feat_addr hg h300 (c := 7) (by norm_num)) (N := 57360) (by omega))
  repeat rw [wp_bind]
  iapply wp_gather (m := pkV) (g := P) $$ Hp
  iintro %v352 %e352 Hp
  repeat rw [wp_bind]
  iapply wp_check (inb_all (feat_addr hg h300 (c := 8) (by norm_num)) (N := 57360) (by omega))
  repeat rw [wp_bind]
  iapply wp_gather (m := pkV) (g := P) $$ Hp
  iintro %v355 %e355 Hp
  repeat rw [wp_bind]
  iapply wp_check (inb_all (feat_addr hg h300 (c := 9) (by norm_num)) (N := 57360) (by omega))
  repeat rw [wp_bind]
  iapply wp_gather (m := pkV) (g := P) $$ Hp
  iintro %v358 %e358 Hp
  repeat rw [wp_bind]
  iapply wp_check (inb_all (feat_addr hg h300 (c := 10) (by norm_num)) (N := 57360) (by omega))
  repeat rw [wp_bind]
  iapply wp_gather (m := pkV) (g := P) $$ Hp
  iintro %v361 %e361 Hp
  repeat rw [wp_bind]
  iapply wp_check (inb_all (feat_addr hg h300 (c := 11) (by norm_num)) (N := 57360) (by omega))
  repeat rw [wp_bind]
  iapply wp_gather (m := pkV) (g := P) $$ Hp
  iintro %v364 %e364 Hp
  repeat rw [wp_bind]
  iapply wp_check (inb_all (feat_addr hg h300 (c := 12) (by norm_num)) (N := 57360) (by omega))
  repeat rw [wp_bind]
  iapply wp_gather (m := pkV) (g := P) $$ Hp
  iintro %v367 %e367 Hp
  repeat rw [wp_bind]
  iapply wp_check (inb_all (feat_addr hg h300 (c := 13) (by norm_num)) (N := 57360) (by omega))
  repeat rw [wp_bind]
  iapply wp_gather (m := pkV) (g := P) $$ Hp
  iintro %v370 %e370 Hp
  repeat rw [wp_bind]
  iapply wp_check (inb_all (feat_addr hg h300 (c := 14) (by norm_num)) (N := 57360) (by omega))
  repeat rw [wp_bind]
  iapply wp_gather (m := pkV) (g := P) $$ Hp
  iintro %v373 %e373 Hp
  repeat rw [wp_bind]
  iapply wp_done
  dsimp only
  repeat rw [wp_bind]
  iapply wp_check (inb_all (feat_addr hg h300 (c := 15) (by norm_num)) (N := 57360) (by omega))
  repeat rw [wp_bind]
  iapply wp_gather (m := pkV) (g := P) $$ Hp
  iintro %v376 %e376 Hp
  repeat rw [wp_bind]
  iapply wp_check (inb_all (feat_addr hg h300 (c := 16) (by norm_num)) (N := 57360) (by omega))
  repeat rw [wp_bind]
  iapply wp_gather (m := pkV) (g := P) $$ Hp
  iintro %v379 %e379 Hp
  have hL : Loaded S g v305 v308 v311 v312 v313 v314 v315 v316 v317 v320 :=
    { m0 := fun x => gather_at e305 (mean_addr hg h300 (c := 0) (by norm_num) x) fun j hj => hP.mean _ hg 0 j hj
      m1 := fun x => gather_at e308 (mean_addr hg h300 (c := 1) (by norm_num) x) fun j hj => hP.mean _ hg 1 j hj
      m2 := fun x => gather_at e311 (mean_addr hg h300 (c := 2) (by norm_num) x) fun j hj => hP.mean _ hg 2 j hj
      q0 := fun x => gather_tab e312 (n300 x) fun j hj => tab_at (e := .f32) (cf S 0) _ j hj
      q1 := fun x => gather_tab e313 (n300 x) fun j hj => tab_at (e := .f32) (cf S 1) _ j hj
      q2 := fun x => gather_tab e314 (n300 x) fun j hj => tab_at (e := .f32) (cf S 2) _ j hj
      q3 := fun x => gather_tab e315 (n300 x) fun j hj => tab_at (e := .f32) (cf S 3) _ j hj
      q4 := fun x => gather_tab e316 (n300 x) fun j hj => tab_at (e := .f32) (cf S 4) _ j hj
      q5 := fun x => gather_tab e317 (n300 x) fun j hj => tab_at (e := .f32) (cf S 5) _ j hj
      op := fun x => gather_at e320 (opa_addr hg h300 x) fun j hj => hP.opa _ hg j hj }
  have hW : BoxWords S g v321 v322 v323 v324 v325 v326 :=
    { i0 := fun x => gather_tab e321 (n300 x) fun j hj => tab_at (e := .i32) (lw S 0) _ j hj
      i1 := fun x => gather_tab e322 (n300 x) fun j hj => tab_at (e := .i32) (hw S 0) _ j hj
      j0 := fun x => gather_tab e323 (n300 x) fun j hj => tab_at (e := .i32) (lw S 1) _ j hj
      j1 := fun x => gather_tab e324 (n300 x) fun j hj => tab_at (e := .i32) (hw S 1) _ j hj
      k0 := fun x => gather_tab e325 (n300 x) fun j hj => tab_at (e := .i32) (lw S 2) _ j hj
      k1 := fun x => gather_tab e326 (n300 x) fun j hj => tab_at (e := .i32) (hw S 2) _ j hj }
  have hF : Feats S g v331 v334 v337 v340 v343 v346 v349 v352 v355 v358 v361 v364 v367 v370 v373 v376 v379 :=
    { f0 := fun x => gather_at e331 (feat_addr hg h300 (c := 0) (by norm_num) x) fun j hj => hP.feat _ hg 0 (by norm_num) j hj
      f1 := fun x => gather_at e334 (feat_addr hg h300 (c := 1) (by norm_num) x) fun j hj => hP.feat _ hg 1 (by norm_num) j hj
      f2 := fun x => gather_at e337 (feat_addr hg h300 (c := 2) (by norm_num) x) fun j hj => hP.feat _ hg 2 (by norm_num) j hj
      f3 := fun x => gather_at e340 (feat_addr hg h300 (c := 3) (by norm_num) x) fun j hj => hP.feat _ hg 3 (by norm_num) j hj
      f4 := fun x => gather_at e343 (feat_addr hg h300 (c := 4) (by norm_num) x) fun j hj => hP.feat _ hg 4 (by norm_num) j hj
      f5 := fun x => gather_at e346 (feat_addr hg h300 (c := 5) (by norm_num) x) fun j hj => hP.feat _ hg 5 (by norm_num) j hj
      f6 := fun x => gather_at e349 (feat_addr hg h300 (c := 6) (by norm_num) x) fun j hj => hP.feat _ hg 6 (by norm_num) j hj
      f7 := fun x => gather_at e352 (feat_addr hg h300 (c := 7) (by norm_num) x) fun j hj => hP.feat _ hg 7 (by norm_num) j hj
      f8 := fun x => gather_at e355 (feat_addr hg h300 (c := 8) (by norm_num) x) fun j hj => hP.feat _ hg 8 (by norm_num) j hj
      f9 := fun x => gather_at e358 (feat_addr hg h300 (c := 9) (by norm_num) x) fun j hj => hP.feat _ hg 9 (by norm_num) j hj
      f10 := fun x => gather_at e361 (feat_addr hg h300 (c := 10) (by norm_num) x) fun j hj => hP.feat _ hg 10 (by norm_num) j hj
      f11 := fun x => gather_at e364 (feat_addr hg h300 (c := 11) (by norm_num) x) fun j hj => hP.feat _ hg 11 (by norm_num) j hj
      f12 := fun x => gather_at e367 (feat_addr hg h300 (c := 12) (by norm_num) x) fun j hj => hP.feat _ hg 12 (by norm_num) j hj
      f13 := fun x => gather_at e370 (feat_addr hg h300 (c := 13) (by norm_num) x) fun j hj => hP.feat _ hg 13 (by norm_num) j hj
      f14 := fun x => gather_at e373 (feat_addr hg h300 (c := 14) (by norm_num) x) fun j hj => hP.feat _ hg 14 (by norm_num) j hj
      f15 := fun x => gather_at e376 (feat_addr hg h300 (c := 15) (by norm_num) x) fun j hj => hP.feat _ hg 15 (by norm_num) j hj
      f16 := fun x => gather_at e379 (feat_addr hg h300 (c := 16) (by norm_num) x) fun j hj => hP.feat _ hg 16 (by norm_num) j hj }
  have hB : Boxed a0 na b0 nb c0 nc v325 (k0_pay179 (F := Ideal) v21 v321) (k0_pay180 (F := Ideal) v24 v323) (k0_pay181 (F := Ideal) v325 v326)
      (k0_pay182 (F := Ideal) v24 v26 v323 v324 v325 v326) (k0_pay183 (F := Ideal) v21 v23 v24 v26 v321 v322 v323 v324 v325 v326)
      (k0_pay184 (F := Ideal) v24 v26 v323 v324 v325 v326) (k0_pay185 (F := Ideal) v325 v326) :=
    { a := pay179_lane hS B h21 hW
      b := pay180_lane hS B h24 hW
      c := v325_lane B hW
      n := pay181_lane B hW
      m := pay182_lane hS B h24 h26 hW
      t := pay183_lane hS B h21 h23 h24 h26 hW
      r := pay184_lane hS B h24 h26 hW
      s := pay185_lane B hW }
  have h410 := pay186_last hS B h21 h23 h24 h26 hW
  have hN := B.N_le
  have hc39 := chk39_eq h410 (by omega)
  have htr := t5_trips_eq h410 (by omega)
  have ht6 := t6_trips_eq h410
  repeat rw [wp_bind]
  iapply wp_check hc39
  repeat rw [wp_bind]
  iapply wp_done
  dsimp only
  sl_for (innerInv d L S g a0 b0 nb c0 nc (slabAt S L ((hits S (tI L) (tJ L) 2048).take k.val)) 0) $$ [Hs]
  case region =>
    intro u _
    have hu : u.val < 1000 := by
      have := lt_of_lt_of_eq u.isLt htr
      omega
    exact t5_trip B h21 h24 h27 hL hF hB _ u hu
  · unfold innerInv
    rw [partS_zero]
    iexact Hs
  iintro %_ HI
  ihave HI := (inner_done (d := d) B ((hits S (tI L) (tJ L) 2048).take k.val) htr _) $$ HI
  rw [← htake]
  sl_for0 ht6
  iapply wp_done
  isplitr [Hl HI]
  · isplitl [Hp]; · iexact Hp
    isplitl [Ha]; · iexact Ha
    isplitl [Hb]; · iexact Hb
    isplitl [Hc]; · iexact Hc
    isplitl [Hd]; · iexact Hd
    isplitl [He]; · iexact He
    isplitl [Hf]; · iexact Hf
    isplitl [Hi0]; · iexact Hi0
    isplitl [Hi1]; · iexact Hi1
    isplitl [Hj0]; · iexact Hj0
    isplitl [Hj1]; · iexact Hj1
    isplitl [Hk0]; · iexact Hk0
    iexact Hk1
  · isplitl [Hl]; · iexact Hl
    iexact HI

end Cert.Proof

end
-- ==== Proof.Copies.lean ====
/-
  The tile's twenty copies out: one slab row each to its row of the result, counted on one semaphore.
-/
module

public import proofs.«01_k».proof.Proof.Outer
public import Idealize.ShloMosaic.Lib.Batch
public import Idealize.ShloMosaic.Lib.Pipeline.ValueKit.Geometry

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {d : Dev nD} {L : grid0.Coords} {S : Scene}

/-! ## The rows -/

theorem srcR_inb (r : Fin 20) : ∀ a, (![10 * r.val, 0] : Fin 2 → ℕ) a + S10x108.size a ≤ S200x108.size a := by
  have := r.isLt
  intro a
  match a with
  | 0 => show 10 * r.val + 10 ≤ 200; omega
  | 1 => show 0 + 108 ≤ 108; omega

/-- Row `r` of the slab, and the row of the result it is copied to. -/
abbrev srcR (r : Fin 20) : Memref sig .scVector .vmem S10x108 .f32 :=
  slabV.slice (Rect.unit (s := S200x108) ![10 * r.val, 0] S10x108.size (srcR_inb r)) (fun _ => rfl)
abbrev dstR (L : grid0.Coords) (r : Fin 20) : Memref sig .scVector .hbm S10x108 .f32 :=
  (outV.slice (Rect.unit (s := S80x80x108) (k0_off1 L (BitVec.ofNat 32 r.val)) S1x10x108.size (k0_off1_inb L r)) (fun _ => rfl)).squeeze S10x108 squeezes_S1x10x108_S10x108

/-- The elements of a slab row, of a result row, of a tile's part of the result. -/
def slabRow (r : Fin 20) : Finset S200x108.Idx := Finset.univ.filter fun j => (j 0).val / 10 = r.val
def rowSet (L : grid0.Coords) (r : Fin 20) : Finset S80x80x108.Idx :=
  Finset.univ.filter fun j => (j 0).val = tI L + r.val ∧ tJ L ≤ (j 1).val ∧ (j 1).val < tJ L + 10
def tileSet (L : grid0.Coords) : Finset S80x80x108.Idx :=
  Finset.univ.filter fun j => (tI L ≤ (j 0).val ∧ (j 0).val < tI L + 20) ∧ tJ L ≤ (j 1).val ∧ (j 1).val < tJ L + 10

/-- The tile's first row, as the body computes it. -/
def w21 (i : grid0.Coords) : BitVec 32 :=
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v2 : BitVec 32 := Scalar.divsi v1 8#32
  let v3 : BitVec 1 := Scalar.cmpi .sgt v1 0#32
  let v4 : BitVec 32 := Scalar.extui v3
  let v5 : BitVec 1 := Scalar.cmpi .slt v1 0#32
  let v6 : BitVec 32 := Scalar.extui v5
  let v7 : BitVec 32 := Scalar.subi v4 v6
  let v8 : BitVec 1 := Scalar.cmpi .sgt 8#32 0#32
  let v9 : BitVec 32 := Scalar.extui v8
  let v10 : BitVec 1 := Scalar.cmpi .slt 8#32 0#32
  let v11 : BitVec 32 := Scalar.extui v10
  let v12 : BitVec 32 := Scalar.subi v9 v11
  let v13 : BitVec 1 := Scalar.cmpi .ne v7 v12
  let v14 : BitVec 32 := Scalar.remsi v1 8#32
  let v15 : BitVec 1 := Scalar.cmpi .ne v14 0#32
  let v16 : BitVec 1 := Scalar.andi v13 v15
  let v17 : BitVec 32 := Scalar.subi v2 1#32
  let v18 : BitVec 32 := Scalar.select v16 v17 v2
  Scalar.muli v18 20#32
/-- The tile's last row. -/
def w23 (i : grid0.Coords) : BitVec 32 := Scalar.subi (Scalar.addi (w21 i) 20#32) 1#32

theorem w21_eq (i : grid0.Coords) : w21 i = BitVec.ofNat 32 (tI i) := by
  have h : ∀ (a : Fin 2) (b : Fin 16) (i : grid0.Coords), (i 0).val = a.val → (i 1).val = b.val →
      w21 i = BitVec.ofNat 32 (20 * ((2 * b.val + a.val) / 8)) := by
    intro a b i ha hb
    unfold w21
    rw [ha, hb]
    clear ha hb i
    revert a b
    decide
  exact h ⟨(i 0).val, (i 0).isLt⟩ ⟨(i 1).val, (i 1).isLt⟩ i rfl rfl

theorem w23_eq (i : grid0.Coords) : w23 i = BitVec.ofNat 32 (tI i + 19) := by
  unfold w23
  rw [w21_eq]
  show BitVec.ofNat 32 _ + 20#32 - 1#32 = _
  have := tI_le i
  apply BitVec.eq_of_toNat_eq
  simp only [BitVec.toNat_sub, BitVec.toNat_add, BitVec.toNat_ofNat]
  omega

theorem off_eq (L : grid0.Coords) (r : Fin 20) : k0_off1 L (BitVec.ofNat 32 r.val) = ![tI L + r.val, tJ L, 0] := by
  have h : k0_off1 L (BitVec.ofNat 32 r.val) = ![(w21 L + BitVec.ofNat 32 r.val).toNat, (w24 L).toNat, 0] := rfl
  rw [h, w21_eq, w24_eq]
  have := tI_le L
  have := tJ_le L
  have := r.isLt
  funext a
  match a with
  | 0 => show (BitVec.ofNat 32 (tI L) + BitVec.ofNat 32 r.val).toNat = tI L + r.val; rw [BitVec.toNat_add, BitVec.toNat_ofNat, BitVec.toNat_ofNat]; omega
  | 1 => show (BitVec.ofNat 32 (tJ L)).toNat = tJ L; rw [BitVec.toNat_ofNat]; omega
  | 2 => rfl

theorem set_srcR (r : Fin 20) : (srcR r).view.set = slabRow r := by
  show (slabV.view.slice (Rect.unit (s := S200x108) ![10 * r.val, 0] S10x108.size (srcR_inb r))).set = _
  rw [View.set_slice_whole]
  ext j
  have h0 := j0_lt j
  have h1 := j1_lt j
  unfold slabRow
  rw [Rect.mem_set_unit, Finset.mem_filter]
  constructor
  · intro h
    have := h 0
    have e : 10 * r.val ≤ (j 0).val ∧ (j 0).val < 10 * r.val + 10 := this
    exact ⟨Finset.mem_univ _, by omega⟩
  · rintro ⟨-, h⟩ a
    match a with
    | 0 => show 10 * r.val ≤ (j 0).val ∧ (j 0).val < 10 * r.val + 10; omega
    | 1 => show 0 ≤ (j 1).val ∧ (j 1).val < 0 + 108; omega

theorem set_dstR (L : grid0.Coords) (r : Fin 20) : (dstR L r).view.set = rowSet L r := by
  show ((outV.view.slice (Rect.unit (s := S80x80x108) (k0_off1 L (BitVec.ofNat 32 r.val)) S1x10x108.size (k0_off1_inb L r))).reshape S10x108 squeezes_S1x10x108_S10x108.numel_eq).set = _
  rw [View.set_reshape, View.set_slice_whole]
  ext j
  unfold rowSet
  rw [Rect.mem_set_unit, Finset.mem_filter, off_eq]
  constructor
  · intro h
    have e0 : tI L + r.val ≤ (j 0).val ∧ (j 0).val < tI L + r.val + 1 := h 0
    have e1 : tJ L ≤ (j 1).val ∧ (j 1).val < tJ L + 10 := h 1
    exact ⟨Finset.mem_univ _, by omega, e1.1, e1.2⟩
  · rintro ⟨-, h⟩ a
    match a with
    | 0 => show tI L + r.val ≤ (j 0).val ∧ (j 0).val < tI L + r.val + 1; omega
    | 1 => show tJ L ≤ (j 1).val ∧ (j 1).val < tJ L + 10; omega
    | 2 => show 0 ≤ (j 2).val ∧ (j 2).val < 0 + 108; have : (j 2).val < 108 := (j 2).isLt; omega

theorem rows_cover (L : grid0.Coords) : (Finset.univ : Finset (Fin 20)).biUnion (rowSet L) = tileSet L := by
  ext j
  simp only [Finset.mem_biUnion, Finset.mem_univ, true_and, rowSet, tileSet, Finset.mem_filter]
  constructor
  · rintro ⟨r, h⟩
    have := r.isLt
    omega
  · rintro h
    exact ⟨⟨(j 0).val - tI L, by omega⟩, by show (j 0).val = tI L + ((j 0).val - tI L); omega, h.2⟩

theorem rows_disjoint (L : grid0.Coords) (r r' : Fin 20) (h : r ≠ r') : Disjoint (rowSet L r) (rowSet L r') := by
  refine Finset.disjoint_left.mpr fun j hj hj' => h (Fin.ext ?_)
  have a := (Finset.mem_filter.mp hj).2.1
  have b := (Finset.mem_filter.mp hj').2.1
  omega

theorem slab_cover : (Finset.univ : Finset (Fin 20)).biUnion slabRow = Finset.univ := by
  ext j
  simp only [Finset.mem_biUnion, Finset.mem_univ, true_and, slabRow, Finset.mem_filter, iff_true]
  exact ⟨⟨(j 0).val / 10, by have := j0_lt j; omega⟩, rfl⟩

theorem slab_disjoint (r r' : Fin 20) (h : r ≠ r') : Disjoint (slabRow r) (slabRow r') := by
  refine Finset.disjoint_left.mpr fun j hj hj' => h (Fin.ext ?_)
  have a := (Finset.mem_filter.mp hj).2
  have b := (Finset.mem_filter.mp hj').2
  omega

/-! ## The result's value -/

/-- The kernel's result, by channel. -/
def outFn (S : Scene) : S80x80x108.Idx → EReal := fun j => cellVal S (j 0).val (j 1).val ((j 2).val / 18) ((j 2).val % 18)

/-- The slab when the tile is done. -/
def slabFn (S : Scene) (L : grid0.Coords) : S200x108.Idx → EReal := fun j => cellVal S (cI L j) (cJ L j) (cK j) ((j 1).val % 18)

theorem reshape_row (h : S10x108.numel = S1x10x108.numel) (x : S10x108.Idx) (a : Fin 3) :
    (Shape.reshapeEquiv h x a).val = (![0, (x 0).val, (x 1).val] : Fin 3 → ℕ) a := by
  have h0 : (x 0).val < 10 := (x 0).isLt
  have h1 : (x 1).val < 108 := (x 1).isLt
  have e : Shape.reshapeEquiv h x = (fun a => match a with
      | 0 => ⟨0, by decide⟩ | 1 => ⟨(x 0).val, h0⟩ | 2 => ⟨(x 1).val, h1⟩ : S1x10x108.Idx) :=
    Shape.reshapeEquiv_eq_of_rowMajor h (by
      rw [Shape.rowMajor_val_three, Shape.rowMajor_val_two]
      show (0 * 10 + (x 0).val) * 108 + (x 1).val = (x 0).val * 108 + (x 1).val
      omega)
  rw [e]
  match a with
  | 0 => rfl
  | 1 => rfl
  | 2 => rfl

theorem landed (fs : Buf (Elt Ideal) ((srcR 0).view.loc (thr d L))) (hfs : slabV.view.read (Elt Ideal) fs = slabFn S L) (fd : Buf (Elt Ideal) (outV.view.loc (thr d L)))
    (r : Fin 20) (i : S80x80x108.Idx) (hi : i ∈ rowSet L r) :
    (dstR L r).view.write (Elt Ideal) fd (ReadAs.same.apply ((srcR r).view.read (Elt Ideal) fs)) Finset.univ i = outFn S i := by
  rw [← set_dstR] at hi
  obtain ⟨x, -, rfl⟩ := Finset.mem_map.mp hi
  rw [View.write_emb_of_mem (h := Finset.mem_univ x)]
  have h0 : (x 0).val < 10 := (x 0).isLt
  have h1 : (x 1).val < 108 := (x 1).isLt
  have hd : ∀ a, ((dstR L r).view.emb x a).val = (![tI L + r.val, tJ L + (x 0).val, (x 1).val] : Fin 3 → ℕ) a := fun a => by
    have e : ((dstR L r).view.emb x a).val = ((Rect.unit (s := S80x80x108) (k0_off1 L (BitVec.ofNat 32 r.val)) S1x10x108.size (k0_off1_inb L r)).emb
        (Shape.reshapeEquiv squeezes_S1x10x108_S10x108.numel_eq x) a).val := rfl
    rw [e, ValueKit.rect_emb_unit_val, congrFun (off_eq L r) a]
    have := reshape_row squeezes_S1x10x108_S10x108.numel_eq x a
    match a with
    | 0 => exact congrArg (tI L + r.val + ·) this
    | 1 => exact congrArg (tJ L + ·) this
    | 2 => exact (congrArg (0 + ·) this).trans (Nat.zero_add _)
  have hsx : ∀ a, ((srcR r).view.emb x a).val = (![10 * r.val + (x 0).val, (x 1).val] : Fin 2 → ℕ) a := fun a => by
    have e : ((srcR r).view.emb x a).val = ((Rect.unit (s := S200x108) ![10 * r.val, 0] S10x108.size (srcR_inb r)).emb x a).val := rfl
    rw [e, ValueKit.rect_emb_unit_val]
    match a with
    | 0 => rfl
    | 1 => exact Nat.zero_add _
  have hr : (srcR r).view.read (Elt Ideal) fs x = slabFn S L ((srcR r).view.emb x) := by
    rw [← hfs]; rfl
  show (srcR r).view.read (Elt Ideal) fs x = outFn S ((dstR L r).view.emb x)
  rw [hr]
  unfold slabFn outFn cI cJ cK
  have d0 := hd 0
  have d1 := hd 1
  have d2 := hd 2
  have s0 := hsx 0
  have s1 := hsx 1
  have d0' : ((dstR L r).view.emb x 0).val = tI L + r.val := d0
  have d1' : ((dstR L r).view.emb x 1).val = tJ L + (x 0).val := d1
  have d2' : ((dstR L r).view.emb x 2).val = (x 1).val := d2
  have s0' : ((srcR r).view.emb x 0).val = 10 * r.val + (x 0).val := s0
  have s1' : ((srcR r).view.emb x 1).val = (x 1).val := s1
  rw [d0', d1', d2', s0', s1']
  congr 1 <;> omega

/-! ## The copies -/

abbrev EC : UEmb Counters MM := countersEmb (U := UU)

abbrev osem : DmaSem sig := cc0_scratch16.sem

/-- The units of one copy. -/
abbrev NU : ℕ := (dstR (fun | 0 => ⟨0, by decide⟩ | 1 => ⟨0, by decide⟩ | ⟨_ + 2, h⟩ => absurd h (Nat.not_lt.2 (Nat.le_add_left _ _))) 0).view.amount (SemLoc.dma (sig := sig) osem)

/-- What copy `t` hands back. -/
def deliv (d : Dev nD) (L : grid0.Coords) (S : Scene) (fs : Buf (Elt Ideal) (slabV.view.loc (thr d L))) (t : Fin 20) : sProp MM :=
  iprop((outV.view.loc (thr d L) ↦[rowSet L t]{fullShare} outFn S) ∗ (slabV.view.loc (thr d L) ↦[slabRow t]{fullShare} fs))

instance (fs : Buf (Elt Ideal) (slabV.view.loc (thr d L))) (t : Fin 20) : BI.Storable (upEmb : UEmb _ MM) (deliv d L S fs t) := by
  unfold deliv; infer_instance

abbrev batch (d : Dev nD) (L : grid0.Coords) (S : Scene) (fs : Buf (Elt Ideal) (slabV.view.loc (thr d L))) (k u : ℕ) : sProp MM :=
  Transfers.Batch EC (thr d L) (.dma osem) (default : HIx 1) NU (deliv d L S fs) k u

theorem NU_eq (r : Fin 20) : (dstR L r).view.amount (SemLoc.dma (sig := sig) osem) = NU := rfl
theorem NU_wait (r : Fin 20) : (dstR L r).view.dmaCredit = NU := rfl
theorem NU_pos : 0 < NU := View.amount_pos _ _ (show 0 < S10x108.numel by decide)

theorem wp_issue {fs : Buf (Elt Ideal) (slabV.view.loc (thr d L))} (hfs : slabV.view.read (Elt Ideal) fs = slabFn S L) {fd : Buf (Elt Ideal) (outV.view.loc (thr d L))}
    (r : Fin 20) {hsrc : (srcR r).view.WordExact} {hdst : (DmaTarget.here (nD := nD) (τ := τ) (p := (thr d L).2) (dstR L r)).view.WordExact}
    {hsem : DmaTarget.Typed (nD := nD) (τ := τ) (p := (thr d L).2) .vmem (.dma osem) (.here (dstR L r))} {Q : PUnit → sProp MM} :
    iprop((slabV.view.loc (thr d L) ↦[slabRow r]{fullShare} fs) ∗ (outV.view.loc (thr d L) ↦[rowSet L r]{fullShare} fd) ∗ batch d L S fs r.val 0)
      ⊢ iprop((batch d L S fs (r.val + 1) 0 -∗ Q ⟨⟩)
        -∗ wp frame (wpE (defs₀ (F := Ideal)) 𝒱₀ (thr d L) none) Set.univ (Prog.lift (.enqueueDma (srcR r) (.here (dstR L r)) (.dma osem) hsrc hdst hsem)) Q) := by
  iintro ⟨Hs, Hd, HB⟩ Hk
  rw [wp_eta]
  iapply (Transfers.wp_dmaBatch EC 𝒱₀ (thr d L) none (src := srcR r) (dst := dstR L r) (q := fullShare) (fs := fs) (fd := fd) (Sd := rowSet L r) (D := deliv d L S fs)
    (default : HIx 1) NU (NU_eq r) (le_of_eq (set_dstR L r)) r.isLt (Nat.zero_le _) ?_) $$ [Hs Hd HB]
  · unfold deliv
    rw [set_srcR r]
    refine sep_mono (Entails.of_eq (pointsTo_congr fun i hi => ?_)) .rfl
    exact landed fs hfs fd r i hi
  · isplitl [Hs]
    · rw [set_srcR r]; iexact Hs
    isplitl [Hd] <;> iassumption
  iintro HB
  iapply wp_done
  iapply Hk
  iexact HB

theorem wp_drain {fs : Buf (Elt Ideal) (slabV.view.loc (thr d L))} {O : CellTallies nD τ sig (HIx 1)} {u : ℕ} (hu : u < 19) (r : Fin 20)
    {hsrc : (srcR r).view.WordExact} {hdst : (dstR L r).view.WordExact} {Q : PUnit → sProp MM} :
    iprop(Transfers.MayWaits (thr d L) (default : HIx 1) O ∗ batch d L S fs 20 (u * NU) ∗ ∃ W, owes (thr d L) O W)
      ⊢ iprop((iprop(batch d L S fs 20 ((u + 1) * NU) ∗ ∃ W, owes (thr d L) O W) -∗ Q ⟨⟩)
        -∗ wp frame (wpE (defs₀ (F := Ideal)) 𝒱₀ (thr d L) none) Set.univ (Prog.lift (.waitDma2 osem (srcR r) (dstR L r) hsrc hdst)) Q) := by
  iintro ⟨#Hmw, HB, ⟨%W, HO⟩⟩ Hk
  have hN := NU_pos
  rw [wp_eta]
  iapply (Transfers.wp_waitBatchO EC 𝒱₀ (thr d L) none (srcw := srcR r) (dstw := dstR L r) (default : HIx 1) (N := NU) (NU_wait r) (D := deliv d L S fs) (u := u * NU)
    (show u * NU + NU < NU * 20 by nlinarith) (O := O) (W := W)) $$ [HB HO]
  · isplitl [HB]; · iexact HB
    isplitl [HO]; · iexact HO
    iapply (Transfers.MayWaits.elim (.dma osem)) $$ Hmw
  iintro ⟨HB, HO⟩
  iapply wp_done
  iapply Hk
  isplitl [HB]
  · rw [Nat.succ_mul]; iexact HB
  · iexists _; iexact HO

theorem wp_last {fs : Buf (Elt Ideal) (slabV.view.loc (thr d L))} {O : CellTallies nD τ sig (HIx 1)} (r : Fin 20)
    {hsrc : (srcR r).view.WordExact} {hdst : (dstR L r).view.WordExact} {Q : PUnit → sProp MM} :
    iprop(Transfers.MayWaits (thr d L) (default : HIx 1) O ∗ batch d L S fs 20 (19 * NU) ∗ ∃ W, owes (thr d L) O W)
      ⊢ iprop((iprop((outV.view.loc (thr d L) ↦[tileSet L]{fullShare} outFn S) ∗ (slabV.view.loc (thr d L) ↦{fullShare} fs)
          ∗ semVal (thr d L, SemLoc.dma osem) 0 ∗ ∃ W, owes (thr d L) O W) -∗ Q ⟨⟩)
        -∗ wp frame (wpE (defs₀ (F := Ideal)) 𝒱₀ (thr d L) none) Set.univ (Prog.lift (.waitDma2 osem (srcR r) (dstR L r) hsrc hdst)) Q) := by
  iintro ⟨#Hmw, HB, ⟨%W, HO⟩⟩ Hk
  have hN := NU_pos
  rw [wp_eta]
  iapply (Transfers.wp_waitBatchLastO EC 𝒱₀ (thr d L) none (srcw := srcR r) (dstw := dstR L r) (default : HIx 1) (N := NU) (NU_wait r) hN (D := deliv d L S fs) (u := 19 * NU)
    (show 19 * NU + NU = NU * 20 by omega) (O := O) (W := W)) $$ [HB HO]
  · isplitl [HB]; · iexact HB
    isplitl [HO]; · iexact HO
    iapply (Transfers.MayWaits.elim (.dma osem)) $$ Hmw
  iintro ⟨HD, Hv, HO⟩
  iapply wp_done
  ihave HD := (show bigSep Finset.univ (deliv d L S fs) ⊢ iprop((outV.view.loc (thr d L) ↦[tileSet L]{fullShare} outFn S) ∗ (slabV.view.loc (thr d L) ↦{fullShare} fs)) from by
    have h1 : bigSep Finset.univ (deliv d L S fs) = iprop(bigSep Finset.univ (fun t => (outV.view.loc (thr d L) ↦[rowSet L t]{fullShare} outFn S : sProp MM))
        ∗ bigSep Finset.univ (fun t => (slabV.view.loc (thr d L) ↦[slabRow t]{fullShare} fs : sProp MM))) := by
      rw [← bigSep_sep']; rfl
    rw [h1, ← pointsTo_biUnion (ℓ := outV.view.loc (thr d L)) Finset.univ (rowSet L) (fun t _ t' _ h => rows_disjoint L t t' h),
      ← pointsTo_biUnion (ℓ := slabV.view.loc (thr d L)) Finset.univ slabRow (fun t _ t' _ h => slab_disjoint t t' h), rows_cover, slab_cover]) $$ HD
  icases HD with ⟨Hd, Hs⟩
  iapply Hk
  isplitl [Hd]; · iexact Hd
  isplitl [Hs]; · iexact Hs
  isplitl [Hv]; · iexact Hv
  iexists _; iexact HO

end Cert.Proof

end
-- ==== Proof.Body.lean ====
/-
  A tile's whole task: the packed array fetched, the four loops, and the twenty copies out.
-/
module

public import proofs.«01_k».proof.Proof.Copies

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {d : Dev nD} {L : grid0.Coords} {S : Scene} {P : S57360.Idx → EReal}

/-! ## The fetch -/

abbrev isem : DmaSem sig := cc0_scratch15.sem

abbrev NI : ℕ := pkV.view.amount (SemLoc.dma (sig := sig) isem)
theorem NI_pos : 0 < NI := View.amount_pos _ _ (show 0 < S57360.numel by decide)

/-- The fetch in flight: what it hands back. -/
def fetched (d : Dev nD) (L : grid0.Coords) (P : S57360.Idx → EReal) (q : PosShare TreeShare) : sProp MM :=
  iprop(holds pkV d L P ∗ (inV.view.loc (thr d L) ↦{q} P))

theorem set_inV : inV.view.set = Finset.univ := (Memref.isWhole_whole main_v6_scv).set_eq_univ
theorem set_pkV : pkV.view.set = Finset.univ := (Memref.isWhole_whole cc0_scratch0).set_eq_univ

/-- The fetch's delivery, as the transfer spells it, is the packed array held. -/
theorem fetch_deliv (fp : Buf (Elt Ideal) (pkV.view.loc (thr d L))) (q : PosShare TreeShare) :
    iprop((pkV.view.loc (thr d L) ↦{fullShare} (pkV.view.write (Elt Ideal) fp (ReadAs.same.apply (inV.view.read (Elt Ideal) P)) Finset.univ))
      ∗ (inV.view.loc (thr d L) ↦[inV.view.set]{q} P)) ⊢ fetched d L P q := by
  unfold fetched holds
  rw [set_inV]
  iintro ⟨Hp, Hi⟩
  isplitr [Hi]
  · iexists _
    isplitr
    rotate_left
    · iexact Hp
    · ipureintro
      rw [View.read_write_univ]
      rfl
  · iexact Hi

theorem wp_fetch {fp : Buf (Elt Ideal) (pkV.view.loc (thr d L))} {q : PosShare TreeShare}
    {hsrc : inV.view.WordExact} {hdst : (DmaTarget.here (nD := nD) (τ := τ) (p := (thr d L).2) pkV).view.WordExact}
    {hsem : DmaTarget.Typed (nD := nD) (τ := τ) (p := (thr d L).2) .hbm (.dma isem) (.here pkV)} {Q : PUnit → sProp MM} :
    iprop((inV.view.loc (thr d L) ↦{q} P) ∗ (pkV.view.loc (thr d L) ↦{fullShare} fp) ∗ semVal (thr d L, SemLoc.dma isem) 0)
      ⊢ iprop((Transfers.Flight EC (thr d L) (.dma isem) (default : HIx 1) NI (iprop((pkV.view.loc (thr d L) ↦{fullShare} (pkV.view.write (Elt Ideal) fp (ReadAs.same.apply (inV.view.read (Elt Ideal) P)) Finset.univ))
            ∗ (inV.view.loc (thr d L) ↦[inV.view.set]{q} P))) -∗ Q ⟨⟩)
        -∗ wp frame (wpE (defs₀ (F := Ideal)) 𝒱₀ (thr d L) none) Set.univ (Prog.lift (.enqueueDma inV (.here pkV) (.dma isem) hsrc hdst hsem)) Q) := by
  iintro ⟨Hi, Hp, Hv⟩ Hk
  rw [wp_eta]
  iapply (Transfers.wp_dmaLocal EC 𝒱₀ (thr d L) none (src := inV) (dst := pkV) (q := q) (fs := P) (fd := fp) (Sd := Finset.univ)
    (default : HIx 1) NI rfl NI_pos (Finset.subset_univ _)) $$ [Hi Hp Hv]
  · isplitl [Hi]
    · rw [set_inV]; iexact Hi
    isplitl [Hp] <;> iassumption
  iintro HF
  iapply wp_done
  iapply Hk
  iexact HF

theorem wp_fetched {fp : Buf (Elt Ideal) (pkV.view.loc (thr d L))} {q : PosShare TreeShare} {O : CellTallies nD τ sig (HIx 1)}
    {hsrc : inV.view.WordExact} {hdst : pkV.view.WordExact} {Q : PUnit → sProp MM} :
    iprop(Transfers.MayWaits (thr d L) (default : HIx 1) O ∗ Transfers.Flight EC (thr d L) (.dma isem) (default : HIx 1) NI (iprop((pkV.view.loc (thr d L) ↦{fullShare} (pkV.view.write (Elt Ideal) fp (ReadAs.same.apply (inV.view.read (Elt Ideal) P)) Finset.univ))
            ∗ (inV.view.loc (thr d L) ↦[inV.view.set]{q} P))) ∗ ∃ W, owes (thr d L) O W)
      ⊢ iprop((iprop(fetched d L P q ∗ semVal (thr d L, SemLoc.dma isem) 0 ∗ ∃ W, owes (thr d L) O W) -∗ Q ⟨⟩)
        -∗ wp frame (wpE (defs₀ (F := Ideal)) 𝒱₀ (thr d L) none) Set.univ (Prog.lift (.waitDma2 isem inV pkV hsrc hdst)) Q) := by
  iintro ⟨#Hmw, HF, ⟨%W, HO⟩⟩ Hk
  rw [wp_eta]
  iapply (Transfers.wp_waitLocalO EC 𝒱₀ (thr d L) none (srcw := inV) (dstw := pkV) (default : HIx 1) (N := NI) rfl (O := O) (W := W)) $$ [HF HO]
  · isplitl [HF]; · iexact HF
    isplitl [HO]; · iexact HO
    iapply (Transfers.MayWaits.elim (.dma isem)) $$ Hmw
  iintro ⟨HD, Hv, HO⟩
  ihave HD := (fetch_deliv fp q) $$ HD
  iapply wp_done
  iapply Hk
  isplitl [HD]; · iexact HD
  isplitl [Hv]; · iexact Hv
  iexists _; iexact HO

/-- The load of the lanes that hold the scale of the background. -/
theorem wp_lanes {h : pkV.view.LoadsAt (Rect.unit (s := S57360) ![57344] S16.size inb_S57360_S16_57344).toLoadRect} {Q : Vec Ideal S16 .f32 → sProp MM} (hP : PackedOf S P) :
    holds pkV d L P
      ⊢ iprop((∀ v, ⌜∀ x : Fin 16, v (lane x) = S.es⌝ -∗ holds pkV d L P -∗ Q v)
        -∗ wp frame (wpE (defs₀ (F := Ideal)) 𝒱₀ (thr d L) none) Set.univ (Prog.lift (.load pkV (Rect.unit (s := S57360) ![57344] S16.size inb_S57360_S16_57344).toLoadRect h)) Q) := by
  unfold holds
  iintro ⟨%f, %hf, H⟩ Hk
  rw [wp_eta]
  sl_exec
  iapply wp_done
  iapply Hk
  · ipureintro
    intro x
    have h := hP.es x.val x.isLt ((Rect.unit (s := S57360) ![57344] S16.size inb_S57360_S16_57344).toLoadRect.idx (lane x)) (by
      rw [LoadRect.idx_apply]; show 57344 + 1 * x.val = _; omega)
    rw [← hf] at h
    exact h
  · iexists f
    isplitr
    · ipureintro; exact hf
    · iexact H

/-! ## The slab's values through the loops -/

theorem zeroS_none (f : S200x108.Idx → EReal) : zeroS f 0 = f := by
  funext j
  unfold zeroS
  rw [if_neg (by omega)]

theorem slab_done : slabAt S L (hits S (tI L) (tJ L) 2048) = slabFn S L := by
  funext j
  have h0 := j0_lt j
  have h1 := j1_lt j
  unfold slabAt slabFn cellVal
  split
  · rfl
  · exact sum_hits (S := S) (ti := tI L) (tj := tJ L) (by unfold cI; omega) (by unfold cJ; omega) 2048

theorem iota_lanes : IsIota (iota .scVector S16 32 [0] iota_S16_d0_w32_scVector) := by
  intro k
  revert k
  decide

/-- The invariants of the loops, each after `k` trips. -/
def inv1 (d : Dev nD) (L : grid0.Coords) (S : Scene) (P : S57360.Idx → EReal) (tf : Fin 6 → S2048.Idx → EReal) (ti : Fin 6 → S2048.Idx → BitVec 32) :
    ℕ → BitVec 32 → sProp MM := fun k c => iprop(tables d L S P tf ti k ∗ listed d L S k c)
def inv2 (d : Dev nD) (L : grid0.Coords) (f : S200x108.Idx → EReal) : ℕ → Unit → sProp MM := fun k _ => holds slabV d L (zeroS f k)
def inv3 (d : Dev nD) (L : grid0.Coords) (S : Scene) : ℕ → Unit → sProp MM := fun k _ => holds slabV d L (backS L S k)
def inv4 (d : Dev nD) (L : grid0.Coords) (S : Scene) (P : S57360.Idx → EReal) (tf : Fin 6 → S2048.Idx → EReal) (ti : Fin 6 → S2048.Idx → BitVec 32)
    (fl : S2048.Idx → BitVec 32) : ℕ → Unit → sProp MM := fun k _ =>
  iprop(tables d L S P tf ti 128 ∗ holds listV d L fl ∗ holds slabV d L (slabAt S L ((hits S (tI L) (tJ L) 2048).take k)))

theorem inv1_start {fa : Buf (Elt Ideal) (aV.view.loc (thr d L))} {fb : Buf (Elt Ideal) (bV.view.loc (thr d L))} {fc : Buf (Elt Ideal) (cV.view.loc (thr d L))} {fd : Buf (Elt Ideal) (dV.view.loc (thr d L))} {fe : Buf (Elt Ideal) (eV.view.loc (thr d L))} {ff : Buf (Elt Ideal) (fV.view.loc (thr d L))} {gi0 : Buf (Elt Ideal) (i0V.view.loc (thr d L))} {gi1 : Buf (Elt Ideal) (i1V.view.loc (thr d L))} {gj0 : Buf (Elt Ideal) (j0V.view.loc (thr d L))} {gj1 : Buf (Elt Ideal) (j1V.view.loc (thr d L))} {gk0 : Buf (Elt Ideal) (k0V.view.loc (thr d L))} {gk1 : Buf (Elt Ideal) (k1V.view.loc (thr d L))} {fl : Buf (Elt Ideal) (listV.view.loc (thr d L))}
    {tf : Fin 6 → S2048.Idx → EReal} {ti : Fin 6 → S2048.Idx → BitVec 32} (htf : tf = ![aV.view.read (Elt Ideal) fa, bV.view.read (Elt Ideal) fb, cV.view.read (Elt Ideal) fc, dV.view.read (Elt Ideal) fd, eV.view.read (Elt Ideal) fe, fV.view.read (Elt Ideal) ff]) (hti : ti = ![i0V.view.read (Elt Ideal) gi0, i1V.view.read (Elt Ideal) gi1, j0V.view.read (Elt Ideal) gj0, j1V.view.read (Elt Ideal) gj1, k0V.view.read (Elt Ideal) gk0, k1V.view.read (Elt Ideal) gk1]) :
    iprop(holds pkV d L P ∗ holds aV d L (aV.view.read (Elt Ideal) fa) ∗ holds bV d L (bV.view.read (Elt Ideal) fb) ∗ holds cV d L (cV.view.read (Elt Ideal) fc) ∗ holds dV d L (dV.view.read (Elt Ideal) fd) ∗ holds eV d L (eV.view.read (Elt Ideal) fe) ∗ holds fV d L (fV.view.read (Elt Ideal) ff) ∗ holds i0V d L (i0V.view.read (Elt Ideal) gi0) ∗ holds i1V d L (i1V.view.read (Elt Ideal) gi1) ∗ holds j0V d L (j0V.view.read (Elt Ideal) gj0) ∗ holds j1V d L (j1V.view.read (Elt Ideal) gj1) ∗ holds k0V d L (k0V.view.read (Elt Ideal) gk0) ∗ holds k1V d L (k1V.view.read (Elt Ideal) gk1) ∗ holds listV d L (listV.view.read (Elt Ideal) fl)) ⊢ inv1 d L S P tf ti 0 0#32 := by
  subst htf hti
  unfold inv1 tables listed
  simp only [upd_zero]
  iintro ⟨Hp, Ha, Hb, Hc, Hd, He, Hf, Hi0, Hi1, Hj0, Hj1, Hk0, Hk1, Hl⟩
  isplitr [Hl]
  · isplitl [Hp]; · iexact Hp
    isplitl [Ha]; · iexact Ha
    isplitl [Hb]; · iexact Hb
    isplitl [Hc]; · iexact Hc
    isplitl [Hd]; · iexact Hd
    isplitl [He]; · iexact He
    isplitl [Hf]; · iexact Hf
    isplitl [Hi0]; · iexact Hi0
    isplitl [Hi1]; · iexact Hi1
    isplitl [Hj0]; · iexact Hj0
    isplitl [Hj1]; · iexact Hj1
    isplitl [Hk0]; · iexact Hk0
    iexact Hk1
  · iexists _
    isplitr
    rotate_left
    · iexact Hl
    · ipureintro
      exact list_zero _ _ _

theorem inv1_done (tf : Fin 6 → S2048.Idx → EReal) (ti : Fin 6 → S2048.Idx → BitVec 32) (c : BitVec 32) :
    inv1 d L S P tf ti (Scf.trips k0_t1_loop.lb k0_t1_loop.ub k0_t1_loop.st) c ⊢ iprop(tables d L S P tf ti 128 ∗ ∃ fl, ⌜ListOf S (tI L) (tJ L) 2048 c fl⌝ ∗ holds listV d L fl) := by
  have e : Scf.trips k0_t1_loop.lb k0_t1_loop.ub k0_t1_loop.st = 128 := t1_trips
  unfold inv1 listed
  rw [e]
theorem inv2_done (f : S200x108.Idx → EReal) (c : Unit) :
    inv2 d L f (Scf.trips k0_t2_loop.lb k0_t2_loop.ub k0_t2_loop.st) c ⊢ holds slabV d L (backS L S 0) := by
  have e : Scf.trips k0_t2_loop.lb k0_t2_loop.ub k0_t2_loop.st = 1350 := t2_trips
  unfold inv2
  rw [e, zeroS_full]
theorem inv3_done (c : Unit) :
    inv3 d L S (Scf.trips k0_t3_loop.lb k0_t3_loop.ub k0_t3_loop.st) c ⊢ holds slabV d L (slabAt S L []) := by
  have e : Scf.trips k0_t3_loop.lb k0_t3_loop.ub k0_t3_loop.st = 75 := t3_trips
  unfold inv3
  rw [e, back_done]
theorem t4_count {v29 : BitVec 32} {fl : S2048.Idx → BitVec 32} (h : ListOf S (tI L) (tJ L) 2048 v29 fl) : (k0_t4_loop v29).trips = (hits S (tI L) (tJ L) 2048).length := by
  have hl := hits_length_le S (tI L) (tJ L) 2048
  rw [h.1]
  exact t4_trips (by omega)
theorem inv4_done (tf : Fin 6 → S2048.Idx → EReal) (ti : Fin 6 → S2048.Idx → BitVec 32) {fl : S2048.Idx → BitVec 32} {v29 : BitVec 32}
    (h : ListOf S (tI L) (tJ L) 2048 v29 fl) (c : Unit) :
    inv4 d L S P tf ti fl (Scf.trips (k0_t4_loop v29).lb (k0_t4_loop v29).ub (k0_t4_loop v29).st) c
      ⊢ iprop(tables d L S P tf ti 128 ∗ holds listV d L fl ∗ holds slabV d L (slabFn S L)) := by
  have e : Scf.trips (k0_t4_loop v29).lb (k0_t4_loop v29).ub (k0_t4_loop v29).st = (hits S (tI L) (tJ L) 2048).length := t4_count h
  unfold inv4
  rw [e, List.take_length, slab_done]
theorem chk15_list {v29 : BitVec 32} {fl : S2048.Idx → BitVec 32} (h : ListOf S (tI L) (tJ L) 2048 v29 fl) : k0_chk15 v29 := by
  have hl := hits_length_le S (tI L) (tJ L) 2048
  rw [h.1]
  exact chk15_of (by omega)

/-- A buffer held whole, whatever it reads. -/
theorem holds_drop {s : Shape} {e : EltTy} {m : Memref sig .scVector .vmem s e} {g : s.Idx → Elt Ideal e} :
    holds m d L g ⊢ iprop(∃ f, m.view.loc (thr d L) ↦{fullShare} f) := by
  unfold holds
  iintro ⟨%f, -, H⟩
  iexists f; iexact H

theorem holds_open {s : Shape} {e : EltTy} {m : Memref sig .scVector .vmem s e} {g : s.Idx → Elt Ideal e} :
    holds m d L g ⊢ iprop(∃ f, ⌜m.view.read (Elt Ideal) f = g⌝ ∗ m.view.loc (thr d L) ↦{fullShare} f) := by
  unfold holds
  exact .rfl

theorem out_rows (fo : Buf (Elt Ideal) (outV.view.loc (thr d L))) :
    (outV.view.loc (thr d L) ↦[tileSet L]{fullShare} fo : sProp MM) = bigSep Finset.univ fun t : Fin 20 => outV.view.loc (thr d L) ↦[rowSet L t]{fullShare} fo := by
  rw [← rows_cover, pointsTo_biUnion (ℓ := outV.view.loc (thr d L)) Finset.univ (rowSet L) (fun t _ t' _ h => rows_disjoint L t t' h)]

theorem slab_rows (fs : Buf (Elt Ideal) (slabV.view.loc (thr d L))) :
    (slabV.view.loc (thr d L) ↦{fullShare} fs : sProp MM) = bigSep Finset.univ fun t : Fin 20 => slabV.view.loc (thr d L) ↦[slabRow t]{fullShare} fs := by
  rw [← pointsTo_biUnion (ℓ := slabV.view.loc (thr d L)) Finset.univ slabRow (fun t _ t' _ h => slab_disjoint t t' h), slab_cover]

/-- A family over twenty, spelt out. -/
theorem twenty (Φ : Fin 20 → sProp MM) : bigSep Finset.univ Φ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  exact (bigSep_univ_eq_bigSepL [0, 1, 2, 3, 4, 5, 6, 7, 8, 9, 10, 11, 12, 13, 14, 15, 16, 17, 18, 19] (by decide) (by decide) Φ).le

theorem slab_split (fs : Buf (Elt Ideal) (slabV.view.loc (thr d L))) :
    (slabV.view.loc (thr d L) ↦{fullShare} fs : sProp MM) ⊢ iprop((slabV.view.loc (thr d L) ↦[slabRow 0]{fullShare} fs) ∗ (slabV.view.loc (thr d L) ↦[slabRow 1]{fullShare} fs) ∗ (slabV.view.loc (thr d L) ↦[slabRow 2]{fullShare} fs) ∗ (slabV.view.loc (thr d L) ↦[slabRow 3]{fullShare} fs) ∗ (slabV.view.loc (thr d L) ↦[slabRow 4]{fullShare} fs) ∗ (slabV.view.loc (thr d L) ↦[slabRow 5]{fullShare} fs) ∗ (slabV.view.loc (thr d L) ↦[slabRow 6]{fullShare} fs) ∗ (slabV.view.loc (thr d L) ↦[slabRow 7]{fullShare} fs) ∗ (slabV.view.loc (thr d L) ↦[slabRow 8]{fullShare} fs) ∗ (slabV.view.loc (thr d L) ↦[slabRow 9]{fullShare} fs) ∗ (slabV.view.loc (thr d L) ↦[slabRow 10]{fullShare} fs) ∗ (slabV.view.loc (thr d L) ↦[slabRow 11]{fullShare} fs) ∗ (slabV.view.loc (thr d L) ↦[slabRow 12]{fullShare} fs) ∗ (slabV.view.loc (thr d L) ↦[slabRow 13]{fullShare} fs) ∗ (slabV.view.loc (thr d L) ↦[slabRow 14]{fullShare} fs) ∗ (slabV.view.loc (thr d L) ↦[slabRow 15]{fullShare} fs) ∗ (slabV.view.loc (thr d L) ↦[slabRow 16]{fullShare} fs) ∗ (slabV.view.loc (thr d L) ↦[slabRow 17]{fullShare} fs) ∗ (slabV.view.loc (thr d L) ↦[slabRow 18]{fullShare} fs) ∗ (slabV.view.loc (thr d L) ↦[slabRow 19]{fullShare} fs)) := by
  rw [slab_rows]
  exact twenty _
theorem out_split (fo : Buf (Elt Ideal) (outV.view.loc (thr d L))) :
    (outV.view.loc (thr d L) ↦[tileSet L]{fullShare} fo : sProp MM) ⊢ iprop((outV.view.loc (thr d L) ↦[rowSet L 0]{fullShare} fo) ∗ (outV.view.loc (thr d L) ↦[rowSet L 1]{fullShare} fo) ∗ (outV.view.loc (thr d L) ↦[rowSet L 2]{fullShare} fo) ∗ (outV.view.loc (thr d L) ↦[rowSet L 3]{fullShare} fo) ∗ (outV.view.loc (thr d L) ↦[rowSet L 4]{fullShare} fo) ∗ (outV.view.loc (thr d L) ↦[rowSet L 5]{fullShare} fo) ∗ (outV.view.loc (thr d L) ↦[rowSet L 6]{fullShare} fo) ∗ (outV.view.loc (thr d L) ↦[rowSet L 7]{fullShare} fo) ∗ (outV.view.loc (thr d L) ↦[rowSet L 8]{fullShare} fo) ∗ (outV.view.loc (thr d L) ↦[rowSet L 9]{fullShare} fo) ∗ (outV.view.loc (thr d L) ↦[rowSet L 10]{fullShare} fo) ∗ (outV.view.loc (thr d L) ↦[rowSet L 11]{fullShare} fo) ∗ (outV.view.loc (thr d L) ↦[rowSet L 12]{fullShare} fo) ∗ (outV.view.loc (thr d L) ↦[rowSet L 13]{fullShare} fo) ∗ (outV.view.loc (thr d L) ↦[rowSet L 14]{fullShare} fo) ∗ (outV.view.loc (thr d L) ↦[rowSet L 15]{fullShare} fo) ∗ (outV.view.loc (thr d L) ↦[rowSet L 16]{fullShare} fo) ∗ (outV.view.loc (thr d L) ↦[rowSet L 17]{fullShare} fo) ∗ (outV.view.loc (thr d L) ↦[rowSet L 18]{fullShare} fo) ∗ (outV.view.loc (thr d L) ↦[rowSet L 19]{fullShare} fo)) := by
  rw [out_rows]
  exact twenty _

set_option maxHeartbeats 4000000 in
theorem task (hS : Good S) (hP : PackedOf S P) {q : PosShare TreeShare} {O : CellTallies nD τ sig (HIx 1)} (fo : Buf (Elt Ideal) (outV.view.loc (thr d L)))
    (fp : Buf (Elt Ideal) (pkV.view.loc (thr d L))) (fa : Buf (Elt Ideal) (aV.view.loc (thr d L))) (fb : Buf (Elt Ideal) (bV.view.loc (thr d L))) (fc : Buf (Elt Ideal) (cV.view.loc (thr d L))) (fd : Buf (Elt Ideal) (dV.view.loc (thr d L))) (fe : Buf (Elt Ideal) (eV.view.loc (thr d L))) (ff : Buf (Elt Ideal) (fV.view.loc (thr d L))) (gi0 : Buf (Elt Ideal) (i0V.view.loc (thr d L))) (gi1 : Buf (Elt Ideal) (i1V.view.loc (thr d L))) (gj0 : Buf (Elt Ideal) (j0V.view.loc (thr d L))) (gj1 : Buf (Elt Ideal) (j1V.view.loc (thr d L))) (gk0 : Buf (Elt Ideal) (k0V.view.loc (thr d L))) (gk1 : Buf (Elt Ideal) (k1V.view.loc (thr d L))) (fl : Buf (Elt Ideal) (listV.view.loc (thr d L))) (fs : Buf (Elt Ideal) (slabV.view.loc (thr d L))) :
    iprop(Transfers.MayWaits (thr d L) (default : HIx 1) O ∗ (inV.view.loc (thr d L) ↦{q} P) ∗ (outV.view.loc (thr d L) ↦[tileSet L]{fullShare} fo)
    ∗ (pkV.view.loc (thr d L) ↦{fullShare} fp)
    ∗ (aV.view.loc (thr d L) ↦{fullShare} fa)
    ∗ (bV.view.loc (thr d L) ↦{fullShare} fb)
    ∗ (cV.view.loc (thr d L) ↦{fullShare} fc)
    ∗ (dV.view.loc (thr d L) ↦{fullShare} fd)
    ∗ (eV.view.loc (thr d L) ↦{fullShare} fe)
    ∗ (fV.view.loc (thr d L) ↦{fullShare} ff)
    ∗ (i0V.view.loc (thr d L) ↦{fullShare} gi0)
    ∗ (i1V.view.loc (thr d L) ↦{fullShare} gi1)
    ∗ (j0V.view.loc (thr d L) ↦{fullShare} gj0)
    ∗ (j1V.view.loc (thr d L) ↦{fullShare} gj1)
    ∗ (k0V.view.loc (thr d L) ↦{fullShare} gk0)
    ∗ (k1V.view.loc (thr d L) ↦{fullShare} gk1)
    ∗ (listV.view.loc (thr d L) ↦{fullShare} fl)
    ∗ (slabV.view.loc (thr d L) ↦{fullShare} fs)
    ∗ semVal (thr d L, SemLoc.dma isem) 0 ∗ semVal (thr d L, SemLoc.dma osem) 0 ∗ ∃ W, owes (thr d L) O W)
      ⊢ wp frame (wpE (defs₀ (F := Ideal)) 𝒱₀ (thr d L) none) Set.univ
        (cc0__sc_body L inV (Memref.isWhole_whole _) outV (Memref.isWhole_whole _) pkV (Memref.isWhole_whole _) aV (Memref.isWhole_whole _) bV (Memref.isWhole_whole _) cV (Memref.isWhole_whole _) dV (Memref.isWhole_whole _) eV (Memref.isWhole_whole _) fV (Memref.isWhole_whole _) i0V (Memref.isWhole_whole _) i1V (Memref.isWhole_whole _) j0V (Memref.isWhole_whole _) j1V (Memref.isWhole_whole _) k0V (Memref.isWhole_whole _) k1V (Memref.isWhole_whole _) listV (Memref.isWhole_whole _) slabV (Memref.isWhole_whole _) cc0_scratch15 cc0_scratch16)
        fun _ => (iprop((inV.view.loc (thr d L) ↦{q} P) ∗ (outV.view.loc (thr d L) ↦[tileSet L]{fullShare} outFn S)
    ∗ (∃ f, pkV.view.loc (thr d L) ↦{fullShare} f)
    ∗ (∃ f, aV.view.loc (thr d L) ↦{fullShare} f)
    ∗ (∃ f, bV.view.loc (thr d L) ↦{fullShare} f)
    ∗ (∃ f, cV.view.loc (thr d L) ↦{fullShare} f)
    ∗ (∃ f, dV.view.loc (thr d L) ↦{fullShare} f)
    ∗ (∃ f, eV.view.loc (thr d L) ↦{fullShare} f)
    ∗ (∃ f, fV.view.loc (thr d L) ↦{fullShare} f)
    ∗ (∃ f, i0V.view.loc (thr d L) ↦{fullShare} f)
    ∗ (∃ f, i1V.view.loc (thr d L) ↦{fullShare} f)
    ∗ (∃ f, j0V.view.loc (thr d L) ↦{fullShare} f)
    ∗ (∃ f, j1V.view.loc (thr d L) ↦{fullShare} f)
    ∗ (∃ f, k0V.view.loc (thr d L) ↦{fullShare} f)
    ∗ (∃ f, k1V.view.loc (thr d L) ↦{fullShare} f)
    ∗ (∃ f, listV.view.loc (thr d L) ↦{fullShare} f)
    ∗ (∃ f, slabV.view.loc (thr d L) ↦{fullShare} f)
    ∗ semVal (thr d L, SemLoc.dma isem) 0 ∗ semVal (thr d L, SemLoc.dma osem) 0 ∗ ∃ W, owes (thr d L) O W) : sProp MM) := by
  iintro ⟨#Hmw, Hin, Hout, Hp, Ha, Hb, Hc, Hd, He, Hf, Hi0, Hi1, Hj0, Hj1, Hk0, Hk1, Hl, Hs, Hvi, Hvo, HO⟩
  sl_unfold [cc0__sc_body]
  sl_open_parts
  rw [wp_bind]
  rw [wp_bind]
  iapply (wp_fetch (P := P) (q := q) (fp := fp)) $$ [Hin Hp Hvi]
  · isplitl [Hin]; · iexact Hin
    isplitl [Hp] <;> iassumption
  iintro HF
  rw [wp_bind]
  iapply (wp_fetched (P := P) (q := q) (fp := fp) (O := O)) $$ [HF HO]
  · isplitr; · iexact Hmw
    isplitl [HF] <;> iassumption
  unfold fetched
  iintro ⟨⟨Hp, Hin⟩, Hvi, HO⟩
  ihave Ha := (holds_whole (m := aV) d L fa) $$ Ha
  ihave Hb := (holds_whole (m := bV) d L fb) $$ Hb
  ihave Hc := (holds_whole (m := cV) d L fc) $$ Hc
  ihave Hd := (holds_whole (m := dV) d L fd) $$ Hd
  ihave He := (holds_whole (m := eV) d L fe) $$ He
  ihave Hf := (holds_whole (m := fV) d L ff) $$ Hf
  ihave Hi0 := (holds_whole (m := i0V) d L gi0) $$ Hi0
  ihave Hi1 := (holds_whole (m := i1V) d L gi1) $$ Hi1
  ihave Hj0 := (holds_whole (m := j0V) d L gj0) $$ Hj0
  ihave Hj1 := (holds_whole (m := j1V) d L gj1) $$ Hj1
  ihave Hk0 := (holds_whole (m := k0V) d L gk0) $$ Hk0
  ihave Hk1 := (holds_whole (m := k1V) d L gk1) $$ Hk1
  ihave Hl := (holds_whole (m := listV) d L fl) $$ Hl
  ihave Hs := (holds_whole (m := slabV) d L fs) $$ Hs
  obtain ⟨tf, htf⟩ : ∃ tf : Fin 6 → S2048.Idx → EReal, tf = ![aV.view.read (Elt Ideal) fa, bV.view.read (Elt Ideal) fb, cV.view.read (Elt Ideal) fc, dV.view.read (Elt Ideal) fd, eV.view.read (Elt Ideal) fe, fV.view.read (Elt Ideal) ff] := ⟨_, rfl⟩
  obtain ⟨ti, hti⟩ : ∃ ti : Fin 6 → S2048.Idx → BitVec 32, ti = ![i0V.view.read (Elt Ideal) gi0, i1V.view.read (Elt Ideal) gi1, j0V.view.read (Elt Ideal) gj0, j1V.view.read (Elt Ideal) gj1, k0V.view.read (Elt Ideal) gk0, k1V.view.read (Elt Ideal) gk1] := ⟨_, rfl⟩
  sl_for (inv1 d L S P tf ti) $$ [Hp Ha Hb Hc Hd He Hf Hi0 Hi1 Hj0 Hj1 Hk0 Hk1 Hl]
  case region =>
    intro u c
    exact t1_trip hS hP (w21_eq L) (w23_eq L) iota_lanes tf ti u c
  · iapply inv1_start htf hti
    isplitl [Hp]; · iexact Hp
    isplitl [Ha]; · iexact Ha
    isplitl [Hb]; · iexact Hb
    isplitl [Hc]; · iexact Hc
    isplitl [Hd]; · iexact Hd
    isplitl [He]; · iexact He
    isplitl [Hf]; · iexact Hf
    isplitl [Hi0]; · iexact Hi0
    isplitl [Hi1]; · iexact Hi1
    isplitl [Hj0]; · iexact Hj0
    isplitl [Hj1]; · iexact Hj1
    isplitl [Hk0]; · iexact Hk0
    isplitl [Hk1]; · iexact Hk1
    iexact Hl
  iintro %v29 HI
  ihave HI := (inv1_done tf ti v29) $$ HI
  icases HI with ⟨Ht, %fl', %hfl, Hl⟩
  sl_respell []
  rw [wp_bind]
  iapply wp_check (chk15_list hfl)
  iapply wp_done
  dsimp only
  rw [wp_bind]
  sl_for (inv2 d L (slabV.view.read (Elt Ideal) fs)) $$ [Hs]
  case region =>
    intro u _
    exact t2_trip iota_lanes (chk15_list hfl) _ u
  · unfold inv2
    rw [zeroS_none]
    iexact Hs
  iintro %_ HI
  ihave Hs := (inv2_done (S := S) (slabV.view.read (Elt Ideal) fs) _) $$ HI
  unfold tables
  icases Ht with ⟨Hp, Ha, Hb, Hc, Hd, He, Hf, Hi0, Hi1, Hj0, Hj1, Hk0, Hk1⟩
  sl_respell []
  rw [wp_bind]
  iapply (wp_lanes hP) $$ Hp
  iintro %v32 %he Hp
  sl_for (inv3 d L S) $$ [Hs]
  case region =>
    intro u _
    exact t3_trip iota_lanes (chk15_list hfl) (w21_eq L) (w24_eq L) he u
  · unfold inv3
    iexact Hs
  iintro %_ HI
  ihave Hs := inv3_done _ $$ HI
  sl_for (inv4 d L S P tf ti fl') $$ [Hp Ha Hb Hc Hd He Hf Hi0 Hi1 Hj0 Hj1 Hk0 Hk1 Hl Hs]
  case region =>
    intro u _
    exact t4_trip hS hP (w21_eq L) (w23_eq L) (w24_eq L) (w26_eq L) iota_lanes tf ti hfl u (lt_of_lt_of_eq u.isLt (t4_count hfl))
  · unfold inv4 tables
    rw [List.take_zero]
    isplitr [Hl Hs]
    · isplitl [Hp]; · iexact Hp
      isplitl [Ha]; · iexact Ha
      isplitl [Hb]; · iexact Hb
      isplitl [Hc]; · iexact Hc
      isplitl [Hd]; · iexact Hd
      isplitl [He]; · iexact He
      isplitl [Hf]; · iexact Hf
      isplitl [Hi0]; · iexact Hi0
      isplitl [Hi1]; · iexact Hi1
      isplitl [Hj0]; · iexact Hj0
      isplitl [Hj1]; · iexact Hj1
      isplitl [Hk0]; · iexact Hk0
      iexact Hk1
    · isplitl [Hl] <;> iassumption
  iintro %_ HI
  ihave HI := (inv4_done tf ti hfl _) $$ HI
  unfold tables
  icases HI with ⟨⟨Hp, Ha, Hb, Hc, Hd, He, Hf, Hi0, Hi1, Hj0, Hj1, Hk0, Hk1⟩, Hl, Hs⟩
  sl_for0 (t7_trips v29)
  ihave Hs := holds_open $$ Hs
  icases Hs with ⟨%fs', %hread, Hs⟩
  ihave Hs := (slab_split fs') $$ Hs
  ihave Ho := (out_split fo) $$ Hout
  icases Hs with ⟨Hs0, Hs1, Hs2, Hs3, Hs4, Hs5, Hs6, Hs7, Hs8, Hs9, Hs10, Hs11, Hs12, Hs13, Hs14, Hs15, Hs16, Hs17, Hs18, Hs19⟩
  icases Ho with ⟨Ho0, Ho1, Ho2, Ho3, Ho4, Ho5, Ho6, Ho7, Ho8, Ho9, Ho10, Ho11, Ho12, Ho13, Ho14, Ho15, Ho16, Ho17, Ho18, Ho19⟩
  imod (Transfers.batch_alloc' EC (thr d L) (default : HIx 1) NU (deliv d L S fs') (sm := .dma osem) (E := Set.univ)) $$ Hvo with HB
  sl_respell []
  repeat rw [wp_bind]
  iapply (wp_issue (S := S) hread 0 (fs := fs') (fd := fo)) $$ [Hs0 Ho0 HB]
  · isplitl [Hs0]; · iexact Hs0
    isplitl [Ho0]; · iexact Ho0
    iexact HB
  iintro HB
  repeat rw [wp_bind]
  iapply (wp_issue (S := S) hread 1 (fs := fs') (fd := fo)) $$ [Hs1 Ho1 HB]
  · isplitl [Hs1]; · iexact Hs1
    isplitl [Ho1]; · iexact Ho1
    iexact HB
  iintro HB
  iapply wp_done
  repeat rw [wp_bind]
  iapply (wp_issue (S := S) hread 2 (fs := fs') (fd := fo)) $$ [Hs2 Ho2 HB]
  · isplitl [Hs2]; · iexact Hs2
    isplitl [Ho2]; · iexact Ho2
    iexact HB
  iintro HB
  repeat rw [wp_bind]
  iapply (wp_issue (S := S) hread 3 (fs := fs') (fd := fo)) $$ [Hs3 Ho3 HB]
  · isplitl [Hs3]; · iexact Hs3
    isplitl [Ho3]; · iexact Ho3
    iexact HB
  iintro HB
  repeat rw [wp_bind]
  iapply (wp_issue (S := S) hread 4 (fs := fs') (fd := fo)) $$ [Hs4 Ho4 HB]
  · isplitl [Hs4]; · iexact Hs4
    isplitl [Ho4]; · iexact Ho4
    iexact HB
  iintro HB
  repeat rw [wp_bind]
  iapply (wp_issue (S := S) hread 5 (fs := fs') (fd := fo)) $$ [Hs5 Ho5 HB]
  · isplitl [Hs5]; · iexact Hs5
    isplitl [Ho5]; · iexact Ho5
    iexact HB
  iintro HB
  iapply wp_done
  repeat rw [wp_bind]
  iapply (wp_issue (S := S) hread 6 (fs := fs') (fd := fo)) $$ [Hs6 Ho6 HB]
  · isplitl [Hs6]; · iexact Hs6
    isplitl [Ho6]; · iexact Ho6
    iexact HB
  iintro HB
  repeat rw [wp_bind]
  iapply (wp_issue (S := S) hread 7 (fs := fs') (fd := fo)) $$ [Hs7 Ho7 HB]
  · isplitl [Hs7]; · iexact Hs7
    isplitl [Ho7]; · iexact Ho7
    iexact HB
  iintro HB
  repeat rw [wp_bind]
  iapply (wp_issue (S := S) hread 8 (fs := fs') (fd := fo)) $$ [Hs8 Ho8 HB]
  · isplitl [Hs8]; · iexact Hs8
    isplitl [Ho8]; · iexact Ho8
    iexact HB
  iintro HB
  repeat rw [wp_bind]
  iapply (wp_issue (S := S) hread 9 (fs := fs') (fd := fo)) $$ [Hs9 Ho9 HB]
  · isplitl [Hs9]; · iexact Hs9
    isplitl [Ho9]; · iexact Ho9
    iexact HB
  iintro HB
  iapply wp_done
  repeat rw [wp_bind]
  iapply (wp_issue (S := S) hread 10 (fs := fs') (fd := fo)) $$ [Hs10 Ho10 HB]
  · isplitl [Hs10]; · iexact Hs10
    isplitl [Ho10]; · iexact Ho10
    iexact HB
  iintro HB
  repeat rw [wp_bind]
  iapply (wp_issue (S := S) hread 11 (fs := fs') (fd := fo)) $$ [Hs11 Ho11 HB]
  · isplitl [Hs11]; · iexact Hs11
    isplitl [Ho11]; · iexact Ho11
    iexact HB
  iintro HB
  repeat rw [wp_bind]
  iapply (wp_issue (S := S) hread 12 (fs := fs') (fd := fo)) $$ [Hs12 Ho12 HB]
  · isplitl [Hs12]; · iexact Hs12
    isplitl [Ho12]; · iexact Ho12
    iexact HB
  iintro HB
  repeat rw [wp_bind]
  iapply (wp_issue (S := S) hread 13 (fs := fs') (fd := fo)) $$ [Hs13 Ho13 HB]
  · isplitl [Hs13]; · iexact Hs13
    isplitl [Ho13]; · iexact Ho13
    iexact HB
  iintro HB
  iapply wp_done
  repeat rw [wp_bind]
  iapply (wp_issue (S := S) hread 14 (fs := fs') (fd := fo)) $$ [Hs14 Ho14 HB]
  · isplitl [Hs14]; · iexact Hs14
    isplitl [Ho14]; · iexact Ho14
    iexact HB
  iintro HB
  repeat rw [wp_bind]
  iapply (wp_issue (S := S) hread 15 (fs := fs') (fd := fo)) $$ [Hs15 Ho15 HB]
  · isplitl [Hs15]; · iexact Hs15
    isplitl [Ho15]; · iexact Ho15
    iexact HB
  iintro HB
  repeat rw [wp_bind]
  iapply (wp_issue (S := S) hread 16 (fs := fs') (fd := fo)) $$ [Hs16 Ho16 HB]
  · isplitl [Hs16]; · iexact Hs16
    isplitl [Ho16]; · iexact Ho16
    iexact HB
  iintro HB
  repeat rw [wp_bind]
  iapply (wp_issue (S := S) hread 17 (fs := fs') (fd := fo)) $$ [Hs17 Ho17 HB]
  · isplitl [Hs17]; · iexact Hs17
    isplitl [Ho17]; · iexact Ho17
    iexact HB
  iintro HB
  iapply wp_done
  repeat rw [wp_bind]
  iapply (wp_issue (S := S) hread 18 (fs := fs') (fd := fo)) $$ [Hs18 Ho18 HB]
  · isplitl [Hs18]; · iexact Hs18
    isplitl [Ho18]; · iexact Ho18
    iexact HB
  iintro HB
  repeat rw [wp_bind]
  iapply (wp_issue (S := S) hread 19 (fs := fs') (fd := fo)) $$ [Hs19 Ho19 HB]
  · isplitl [Hs19]; · iexact Hs19
    isplitl [Ho19]; · iexact Ho19
    iexact HB
  iintro HB
  repeat rw [wp_bind]
  iapply (wp_drain (S := S) (L := L) (fs := fs') (O := O) (u := 0) (by norm_num) 0) $$ [HB HO]
  · isplitr; · iexact Hmw
    isplitl [HB]; · iexact HB
    iexact HO
  iintro ⟨HB, HO⟩
  repeat rw [wp_bind]
  iapply (wp_drain (S := S) (L := L) (fs := fs') (O := O) (u := 1) (by norm_num) 1) $$ [HB HO]
  · isplitr; · iexact Hmw
    isplitl [HB]; · iexact HB
    iexact HO
  iintro ⟨HB, HO⟩
  iapply wp_done
  repeat rw [wp_bind]
  iapply (wp_drain (S := S) (L := L) (fs := fs') (O := O) (u := 2) (by norm_num) 2) $$ [HB HO]
  · isplitr; · iexact Hmw
    isplitl [HB]; · iexact HB
    iexact HO
  iintro ⟨HB, HO⟩
  repeat rw [wp_bind]
  iapply (wp_drain (S := S) (L := L) (fs := fs') (O := O) (u := 3) (by norm_num) 3) $$ [HB HO]
  · isplitr; · iexact Hmw
    isplitl [HB]; · iexact HB
    iexact HO
  iintro ⟨HB, HO⟩
  repeat rw [wp_bind]
  iapply (wp_drain (S := S) (L := L) (fs := fs') (O := O) (u := 4) (by norm_num) 4) $$ [HB HO]
  · isplitr; · iexact Hmw
    isplitl [HB]; · iexact HB
    iexact HO
  iintro ⟨HB, HO⟩
  repeat rw [wp_bind]
  iapply (wp_drain (S := S) (L := L) (fs := fs') (O := O) (u := 5) (by norm_num) 5) $$ [HB HO]
  · isplitr; · iexact Hmw
    isplitl [HB]; · iexact HB
    iexact HO
  iintro ⟨HB, HO⟩
  repeat rw [wp_bind]
  iapply (wp_drain (S := S) (L := L) (fs := fs') (O := O) (u := 6) (by norm_num) 6) $$ [HB HO]
  · isplitr; · iexact Hmw
    isplitl [HB]; · iexact HB
    iexact HO
  iintro ⟨HB, HO⟩
  iapply wp_done
  repeat rw [wp_bind]
  iapply (wp_drain (S := S) (L := L) (fs := fs') (O := O) (u := 7) (by norm_num) 7) $$ [HB HO]
  · isplitr; · iexact Hmw
    isplitl [HB]; · iexact HB
    iexact HO
  iintro ⟨HB, HO⟩
  repeat rw [wp_bind]
  iapply (wp_drain (S := S) (L := L) (fs := fs') (O := O) (u := 8) (by norm_num) 8) $$ [HB HO]
  · isplitr; · iexact Hmw
    isplitl [HB]; · iexact HB
    iexact HO
  iintro ⟨HB, HO⟩
  repeat rw [wp_bind]
  iapply (wp_drain (S := S) (L := L) (fs := fs') (O := O) (u := 9) (by norm_num) 9) $$ [HB HO]
  · isplitr; · iexact Hmw
    isplitl [HB]; · iexact HB
    iexact HO
  iintro ⟨HB, HO⟩
  repeat rw [wp_bind]
  iapply (wp_drain (S := S) (L := L) (fs := fs') (O := O) (u := 10) (by norm_num) 10) $$ [HB HO]
  · isplitr; · iexact Hmw
    isplitl [HB]; · iexact HB
    iexact HO
  iintro ⟨HB, HO⟩
  iapply wp_done
  repeat rw [wp_bind]
  iapply (wp_drain (S := S) (L := L) (fs := fs') (O := O) (u := 11) (by norm_num) 11) $$ [HB HO]
  · isplitr; · iexact Hmw
    isplitl [HB]; · iexact HB
    iexact HO
  iintro ⟨HB, HO⟩
  repeat rw [wp_bind]
  iapply (wp_drain (S := S) (L := L) (fs := fs') (O := O) (u := 12) (by norm_num) 12) $$ [HB HO]
  · isplitr; · iexact Hmw
    isplitl [HB]; · iexact HB
    iexact HO
  iintro ⟨HB, HO⟩
  repeat rw [wp_bind]
  iapply (wp_drain (S := S) (L := L) (fs := fs') (O := O) (u := 13) (by norm_num) 13) $$ [HB HO]
  · isplitr; · iexact Hmw
    isplitl [HB]; · iexact HB
    iexact HO
  iintro ⟨HB, HO⟩
  repeat rw [wp_bind]
  iapply (wp_drain (S := S) (L := L) (fs := fs') (O := O) (u := 14) (by norm_num) 14) $$ [HB HO]
  · isplitr; · iexact Hmw
    isplitl [HB]; · iexact HB
    iexact HO
  iintro ⟨HB, HO⟩
  repeat rw [wp_bind]
  iapply (wp_drain (S := S) (L := L) (fs := fs') (O := O) (u := 15) (by norm_num) 15) $$ [HB HO]
  · isplitr; · iexact Hmw
    isplitl [HB]; · iexact HB
    iexact HO
  iintro ⟨HB, HO⟩
  iapply wp_done
  repeat rw [wp_bind]
  iapply (wp_drain (S := S) (L := L) (fs := fs') (O := O) (u := 16) (by norm_num) 16) $$ [HB HO]
  · isplitr; · iexact Hmw
    isplitl [HB]; · iexact HB
    iexact HO
  iintro ⟨HB, HO⟩
  repeat rw [wp_bind]
  iapply (wp_drain (S := S) (L := L) (fs := fs') (O := O) (u := 17) (by norm_num) 17) $$ [HB HO]
  · isplitr; · iexact Hmw
    isplitl [HB]; · iexact HB
    iexact HO
  iintro ⟨HB, HO⟩
  repeat rw [wp_bind]
  iapply (wp_drain (S := S) (L := L) (fs := fs') (O := O) (u := 18) (by norm_num) 18) $$ [HB HO]
  · isplitr; · iexact Hmw
    isplitl [HB]; · iexact HB
    iexact HO
  iintro ⟨HB, HO⟩
  repeat rw [wp_bind]
  iapply (wp_last (S := S) (L := L) (fs := fs') (O := O) 19) $$ [HB HO]
  · isplitr; · iexact Hmw
    isplitl [HB]; · iexact HB
    iexact HO
  iintro ⟨Hout, Hs, Hvo, HO⟩
  iapply wp_done
  ihave Hp := (holds_drop) $$ Hp
  ihave Ha := (holds_drop) $$ Ha
  ihave Hb := (holds_drop) $$ Hb
  ihave Hc := (holds_drop) $$ Hc
  ihave Hd := (holds_drop) $$ Hd
  ihave He := (holds_drop) $$ He
  ihave Hf := (holds_drop) $$ Hf
  ihave Hi0 := (holds_drop) $$ Hi0
  ihave Hi1 := (holds_drop) $$ Hi1
  ihave Hj0 := (holds_drop) $$ Hj0
  ihave Hj1 := (holds_drop) $$ Hj1
  ihave Hk0 := (holds_drop) $$ Hk0
  ihave Hk1 := (holds_drop) $$ Hk1
  ihave Hl := (holds_drop) $$ Hl
  isplitl [Hin]; · iexact Hin
  isplitl [Hout]; · iexact Hout
  isplitl [Hp]; · iexact Hp
  isplitl [Ha]; · iexact Ha
  isplitl [Hb]; · iexact Hb
  isplitl [Hc]; · iexact Hc
  isplitl [Hd]; · iexact Hd
  isplitl [He]; · iexact He
  isplitl [Hf]; · iexact Hf
  isplitl [Hi0]; · iexact Hi0
  isplitl [Hi1]; · iexact Hi1
  isplitl [Hj0]; · iexact Hj0
  isplitl [Hj1]; · iexact Hj1
  isplitl [Hk0]; · iexact Hk0
  isplitl [Hk1]; · iexact Hk1
  isplitl [Hl]; · iexact Hl
  isplitl [Hs]; · iexists fs'; iexact Hs
  isplitl [Hvi]; · iexact Hvi
  isplitl [Hvo]; · iexact Hvo
  iexact HO

end Cert.Proof

end
-- ==== Proof.Task.lean ====
/-
  The launch's task: what each tile is handed, what it brings back, and that the tiles' parts make up the result.
-/
module

public import proofs.«01_k».proof.Proof.Body

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## A tile's own buffers and semaphores -/

variable (d : Dev nD) (L : grid0.Coords)

theorem sems_of_tile :
    (ownSems0 (thr d L) : sProp MM)
      = iprop(semVal (thr d L, SemLoc.dma isem) 0 ∗ semVal (thr d L, SemLoc.dma osem) 0
        ∗ bigSep (((ownCells (thr d L)).erase (thr d L, SemLoc.dma isem)).erase (thr d L, SemLoc.dma osem)) fun g => semVal g 0) := by
  unfold SparseCore.Cfg.ownSems0
  rw [SparseCore.bigSep_erase' ((mem_ownCells (g := (thr d L, SemLoc.dma isem))).mpr ⟨rfl, by
      show (SemLoc.dma cc0_scratch15.sem : SemLoc sig).isScoped .scVector = true; decide⟩),
    SparseCore.bigSep_erase' (Finset.mem_erase.mpr ⟨fun e => absurd (congrArg Prod.snd e) (show (SemLoc.dma cc0_scratch16.sem : SemLoc sig) ≠ SemLoc.dma cc0_scratch15.sem by decide),
      (mem_ownCells (g := (thr d L, SemLoc.dma osem))).mpr ⟨rfl, by
        show (SemLoc.dma cc0_scratch16.sem : SemLoc sig).isScoped .scVector = true; decide⟩⟩)]

theorem mem_own0 : (Proc.scVector (coreOf L) (subOf L)).devRef cc0_scratch0 ∈ (ownRefs (τ := τ) (.scVector (coreOf L) (subOf L))) :=
  SparseCore.Cfg.mem_ownRefs_of_owner (p := Proc.scVector (coreOf L) (subOf L)) (b := (Proc.scVector (coreOf L) (subOf L)).devRef cc0_scratch0) rfl
theorem mem_own1 : (Proc.scVector (coreOf L) (subOf L)).devRef cc0_scratch1 ∈ ((ownRefs (τ := τ) (.scVector (coreOf L) (subOf L))).erase ((Proc.scVector (coreOf L) (subOf L)).devRef cc0_scratch0)) :=
  Finset.mem_erase.mpr ⟨fun e => absurd (Proc.devRef_injective _ e) (show (cc0_scratch1 : Ref sig .scVector) ≠ cc0_scratch0 by decide),
      SparseCore.Cfg.mem_ownRefs_of_owner (p := Proc.scVector (coreOf L) (subOf L)) (b := (Proc.scVector (coreOf L) (subOf L)).devRef cc0_scratch1) rfl⟩
theorem mem_own2 : (Proc.scVector (coreOf L) (subOf L)).devRef cc0_scratch2 ∈ (((ownRefs (τ := τ) (.scVector (coreOf L) (subOf L))).erase ((Proc.scVector (coreOf L) (subOf L)).devRef cc0_scratch0)).erase ((Proc.scVector (coreOf L) (subOf L)).devRef cc0_scratch1)) :=
  Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (coreOf L) (subOf L)) (b := (Proc.scVector (coreOf L) (subOf L)).devRef cc0_scratch2) rfl⟩⟩
theorem mem_own3 : (Proc.scVector (coreOf L) (subOf L)).devRef cc0_scratch3 ∈ ((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)) :=
  Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector (coreOf L) (subOf L)) (b := (Proc.scVector (coreOf L) (subOf L)).devRef cc0_scratch3) rfl⟩⟩⟩
theorem mem_own4 : (Proc.scVector (coreOf L) (subOf L)).devRef cc0_scratch4 ∈ (((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)) :=
  Finset.mem_erase.mpr ⟨fun e => absurd (Proc.devRef_injective _ e) (show (cc0_scratch4 : Ref sig .scVector) ≠ cc0_scratch3 by decide),
      Finset.mem_erase.mpr ⟨fun e => absurd (Proc.devRef_injective _ e) (show (cc0_scratch4 : Ref sig .scVector) ≠ cc0_scratch2 by decide),
      Finset.mem_erase.mpr ⟨fun e => absurd (Proc.devRef_injective _ e) (show (cc0_scratch4 : Ref sig .scVector) ≠ cc0_scratch1 by decide),
      Finset.mem_erase.mpr ⟨fun e => absurd (Proc.devRef_injective _ e) (show (cc0_scratch4 : Ref sig .scVector) ≠ cc0_scratch0 by decide),
      SparseCore.Cfg.mem_ownRefs_of_owner (p := Proc.scVector (coreOf L) (subOf L)) (b := (Proc.scVector (coreOf L) (subOf L)).devRef cc0_scratch4) rfl⟩⟩⟩⟩
theorem mem_own5 : (Proc.scVector (coreOf L) (subOf L)).devRef cc0_scratch5 ∈ ((((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)).erase ((Proc.scVector (coreOf L) (subOf L)).devRef cc0_scratch4)) :=
  Finset.mem_erase.mpr ⟨fun e => absurd (Proc.devRef_injective _ e) (show (cc0_scratch5 : Ref sig .scVector) ≠ cc0_scratch4 by decide),
      Finset.mem_erase.mpr ⟨fun e => absurd (Proc.devRef_injective _ e) (show (cc0_scratch5 : Ref sig .scVector) ≠ cc0_scratch3 by decide),
      Finset.mem_erase.mpr ⟨fun e => absurd (Proc.devRef_injective _ e) (show (cc0_scratch5 : Ref sig .scVector) ≠ cc0_scratch2 by decide),
      Finset.mem_erase.mpr ⟨fun e => absurd (Proc.devRef_injective _ e) (show (cc0_scratch5 : Ref sig .scVector) ≠ cc0_scratch1 by decide),
      Finset.mem_erase.mpr ⟨fun e => absurd (Proc.devRef_injective _ e) (show (cc0_scratch5 : Ref sig .scVector) ≠ cc0_scratch0 by decide),
      SparseCore.Cfg.mem_ownRefs_of_owner (p := Proc.scVector (coreOf L) (subOf L)) (b := (Proc.scVector (coreOf L) (subOf L)).devRef cc0_scratch5) rfl⟩⟩⟩⟩⟩
theorem mem_own6 : (Proc.scVector (coreOf L) (subOf L)).devRef cc0_scratch6 ∈ (((((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)).erase ((Proc.scVector (coreOf L) (subOf L)).devRef cc0_scratch4)).erase ((Proc.scVector (coreOf L) (subOf L)).devRef cc0_scratch5)) :=
  Finset.mem_erase.mpr ⟨fun e => absurd (Proc.devRef_injective _ e) (show (cc0_scratch6 : Ref sig .scVector) ≠ cc0_scratch5 by decide),
      Finset.mem_erase.mpr ⟨fun e => absurd (Proc.devRef_injective _ e) (show (cc0_scratch6 : Ref sig .scVector) ≠ cc0_scratch4 by decide),
      Finset.mem_erase.mpr ⟨fun e => absurd (Proc.devRef_injective _ e) (show (cc0_scratch6 : Ref sig .scVector) ≠ cc0_scratch3 by decide),
      Finset.mem_erase.mpr ⟨fun e => absurd (Proc.devRef_injective _ e) (show (cc0_scratch6 : Ref sig .scVector) ≠ cc0_scratch2 by decide),
      Finset.mem_erase.mpr ⟨fun e => absurd (Proc.devRef_injective _ e) (show (cc0_scratch6 : Ref sig .scVector) ≠ cc0_scratch1 by decide),
      Finset.mem_erase.mpr ⟨fun e => absurd (Proc.devRef_injective _ e) (show (cc0_scratch6 : Ref sig .scVector) ≠ cc0_scratch0 by decide),
      SparseCore.Cfg.mem_ownRefs_of_owner (p := Proc.scVector (coreOf L) (subOf L)) (b := (Proc.scVector (coreOf L) (subOf L)).devRef cc0_scratch6) rfl⟩⟩⟩⟩⟩⟩
theorem mem_own7 : (Proc.scVector (coreOf L) (subOf L)).devRef cc0_scratch7 ∈ ((((((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)).erase ((Proc.scVector (coreOf L) (subOf L)).devRef cc0_scratch4)).erase ((Proc.scVector (coreOf L) (subOf L)).devRef cc0_scratch5)).erase ((Proc.scVector (coreOf L) (subOf L)).devRef cc0_scratch6)) :=
  Finset.mem_erase.mpr ⟨fun e => absurd (Proc.devRef_injective _ e) (show (cc0_scratch7 : Ref sig .scVector) ≠ cc0_scratch6 by decide),
      Finset.mem_erase.mpr ⟨fun e => absurd (Proc.devRef_injective _ e) (show (cc0_scratch7 : Ref sig .scVector) ≠ cc0_scratch5 by decide),
      Finset.mem_erase.mpr ⟨fun e => absurd (Proc.devRef_injective _ e) (show (cc0_scratch7 : Ref sig .scVector) ≠ cc0_scratch4 by decide),
      Finset.mem_erase.mpr ⟨fun e => absurd (Proc.devRef_injective _ e) (show (cc0_scratch7 : Ref sig .scVector) ≠ cc0_scratch3 by decide),
      Finset.mem_erase.mpr ⟨fun e => absurd (Proc.devRef_injective _ e) (show (cc0_scratch7 : Ref sig .scVector) ≠ cc0_scratch2 by decide),
      Finset.mem_erase.mpr ⟨fun e => absurd (Proc.devRef_injective _ e) (show (cc0_scratch7 : Ref sig .scVector) ≠ cc0_scratch1 by decide),
      Finset.mem_erase.mpr ⟨fun e => absurd (Proc.devRef_injective _ e) (show (cc0_scratch7 : Ref sig .scVector) ≠ cc0_scratch0 by decide),
      SparseCore.Cfg.mem_ownRefs_of_owner (p := Proc.scVector (coreOf L) (subOf L)) (b := (Proc.scVector (coreOf L) (subOf L)).devRef cc0_scratch7) rfl⟩⟩⟩⟩⟩⟩⟩
theorem mem_own8 : (Proc.scVector (coreOf L) (subOf L)).devRef cc0_scratch8 ∈ (((((((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)).erase ((Proc.scVector (coreOf L) (subOf L)).devRef cc0_scratch4)).erase ((Proc.scVector (coreOf L) (subOf L)).devRef cc0_scratch5)).erase ((Proc.scVector (coreOf L) (subOf L)).devRef cc0_scratch6)).erase ((Proc.scVector (coreOf L) (subOf L)).devRef cc0_scratch7)) :=
  Finset.mem_erase.mpr ⟨fun e => absurd (Proc.devRef_injective _ e) (show (cc0_scratch8 : Ref sig .scVector) ≠ cc0_scratch7 by decide),
      Finset.mem_erase.mpr ⟨fun e => absurd (Proc.devRef_injective _ e) (show (cc0_scratch8 : Ref sig .scVector) ≠ cc0_scratch6 by decide),
      Finset.mem_erase.mpr ⟨fun e => absurd (Proc.devRef_injective _ e) (show (cc0_scratch8 : Ref sig .scVector) ≠ cc0_scratch5 by decide),
      Finset.mem_erase.mpr ⟨fun e => absurd (Proc.devRef_injective _ e) (show (cc0_scratch8 : Ref sig .scVector) ≠ cc0_scratch4 by decide),
      Finset.mem_erase.mpr ⟨fun e => absurd (Proc.devRef_injective _ e) (show (cc0_scratch8 : Ref sig .scVector) ≠ cc0_scratch3 by decide),
      Finset.mem_erase.mpr ⟨fun e => absurd (Proc.devRef_injective _ e) (show (cc0_scratch8 : Ref sig .scVector) ≠ cc0_scratch2 by decide),
      Finset.mem_erase.mpr ⟨fun e => absurd (Proc.devRef_injective _ e) (show (cc0_scratch8 : Ref sig .scVector) ≠ cc0_scratch1 by decide),
      Finset.mem_erase.mpr ⟨fun e => absurd (Proc.devRef_injective _ e) (show (cc0_scratch8 : Ref sig .scVector) ≠ cc0_scratch0 by decide),
      SparseCore.Cfg.mem_ownRefs_of_owner (p := Proc.scVector (coreOf L) (subOf L)) (b := (Proc.scVector (coreOf L) (subOf L)).devRef cc0_scratch8) rfl⟩⟩⟩⟩⟩⟩⟩⟩
theorem mem_own9 : (Proc.scVector (coreOf L) (subOf L)).devRef cc0_scratch9 ∈ ((((((((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)).erase ((Proc.scVector (coreOf L) (subOf L)).devRef cc0_scratch4)).erase ((Proc.scVector (coreOf L) (subOf L)).devRef cc0_scratch5)).erase ((Proc.scVector (coreOf L) (subOf L)).devRef cc0_scratch6)).erase ((Proc.scVector (coreOf L) (subOf L)).devRef cc0_scratch7)).erase ((Proc.scVector (coreOf L) (subOf L)).devRef cc0_scratch8)) :=
  Finset.mem_erase.mpr ⟨fun e => absurd (Proc.devRef_injective _ e) (show (cc0_scratch9 : Ref sig .scVector) ≠ cc0_scratch8 by decide),
      Finset.mem_erase.mpr ⟨fun e => absurd (Proc.devRef_injective _ e) (show (cc0_scratch9 : Ref sig .scVector) ≠ cc0_scratch7 by decide),
      Finset.mem_erase.mpr ⟨fun e => absurd (Proc.devRef_injective _ e) (show (cc0_scratch9 : Ref sig .scVector) ≠ cc0_scratch6 by decide),
      Finset.mem_erase.mpr ⟨fun e => absurd (Proc.devRef_injective _ e) (show (cc0_scratch9 : Ref sig .scVector) ≠ cc0_scratch5 by decide),
      Finset.mem_erase.mpr ⟨fun e => absurd (Proc.devRef_injective _ e) (show (cc0_scratch9 : Ref sig .scVector) ≠ cc0_scratch4 by decide),
      Finset.mem_erase.mpr ⟨fun e => absurd (Proc.devRef_injective _ e) (show (cc0_scratch9 : Ref sig .scVector) ≠ cc0_scratch3 by decide),
      Finset.mem_erase.mpr ⟨fun e => absurd (Proc.devRef_injective _ e) (show (cc0_scratch9 : Ref sig .scVector) ≠ cc0_scratch2 by decide),
      Finset.mem_erase.mpr ⟨fun e => absurd (Proc.devRef_injective _ e) (show (cc0_scratch9 : Ref sig .scVector) ≠ cc0_scratch1 by decide),
      Finset.mem_erase.mpr ⟨fun e => absurd (Proc.devRef_injective _ e) (show (cc0_scratch9 : Ref sig .scVector) ≠ cc0_scratch0 by decide),
      SparseCore.Cfg.mem_ownRefs_of_owner (p := Proc.scVector (coreOf L) (subOf L)) (b := (Proc.scVector (coreOf L) (subOf L)).devRef cc0_scratch9) rfl⟩⟩⟩⟩⟩⟩⟩⟩⟩
theorem mem_own10 : (Proc.scVector (coreOf L) (subOf L)).devRef cc0_scratch10 ∈ (((((((((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)).erase ((Proc.scVector (coreOf L) (subOf L)).devRef cc0_scratch4)).erase ((Proc.scVector (coreOf L) (subOf L)).devRef cc0_scratch5)).erase ((Proc.scVector (coreOf L) (subOf L)).devRef cc0_scratch6)).erase ((Proc.scVector (coreOf L) (subOf L)).devRef cc0_scratch7)).erase ((Proc.scVector (coreOf L) (subOf L)).devRef cc0_scratch8)).erase ((Proc.scVector (coreOf L) (subOf L)).devRef cc0_scratch9)) :=
  Finset.mem_erase.mpr ⟨fun e => absurd (Proc.devRef_injective _ e) (show (cc0_scratch10 : Ref sig .scVector) ≠ cc0_scratch9 by decide),
      Finset.mem_erase.mpr ⟨fun e => absurd (Proc.devRef_injective _ e) (show (cc0_scratch10 : Ref sig .scVector) ≠ cc0_scratch8 by decide),
      Finset.mem_erase.mpr ⟨fun e => absurd (Proc.devRef_injective _ e) (show (cc0_scratch10 : Ref sig .scVector) ≠ cc0_scratch7 by decide),
      Finset.mem_erase.mpr ⟨fun e => absurd (Proc.devRef_injective _ e) (show (cc0_scratch10 : Ref sig .scVector) ≠ cc0_scratch6 by decide),
      Finset.mem_erase.mpr ⟨fun e => absurd (Proc.devRef_injective _ e) (show (cc0_scratch10 : Ref sig .scVector) ≠ cc0_scratch5 by decide),
      Finset.mem_erase.mpr ⟨fun e => absurd (Proc.devRef_injective _ e) (show (cc0_scratch10 : Ref sig .scVector) ≠ cc0_scratch4 by decide),
      Finset.mem_erase.mpr ⟨fun e => absurd (Proc.devRef_injective _ e) (show (cc0_scratch10 : Ref sig .scVector) ≠ cc0_scratch3 by decide),
      Finset.mem_erase.mpr ⟨fun e => absurd (Proc.devRef_injective _ e) (show (cc0_scratch10 : Ref sig .scVector) ≠ cc0_scratch2 by decide),
      Finset.mem_erase.mpr ⟨fun e => absurd (Proc.devRef_injective _ e) (show (cc0_scratch10 : Ref sig .scVector) ≠ cc0_scratch1 by decide),
      Finset.mem_erase.mpr ⟨fun e => absurd (Proc.devRef_injective _ e) (show (cc0_scratch10 : Ref sig .scVector) ≠ cc0_scratch0 by decide),
      SparseCore.Cfg.mem_ownRefs_of_owner (p := Proc.scVector (coreOf L) (subOf L)) (b := (Proc.scVector (coreOf L) (subOf L)).devRef cc0_scratch10) rfl⟩⟩⟩⟩⟩⟩⟩⟩⟩⟩
theorem mem_own11 : (Proc.scVector (coreOf L) (subOf L)).devRef cc0_scratch11 ∈ ((((((((((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)).erase ((Proc.scVector (coreOf L) (subOf L)).devRef cc0_scratch4)).erase ((Proc.scVector (coreOf L) (subOf L)).devRef cc0_scratch5)).erase ((Proc.scVector (coreOf L) (subOf L)).devRef cc0_scratch6)).erase ((Proc.scVector (coreOf L) (subOf L)).devRef cc0_scratch7)).erase ((Proc.scVector (coreOf L) (subOf L)).devRef cc0_scratch8)).erase ((Proc.scVector (coreOf L) (subOf L)).devRef cc0_scratch9)).erase ((Proc.scVector (coreOf L) (subOf L)).devRef cc0_scratch10)) :=
  Finset.mem_erase.mpr ⟨fun e => absurd (Proc.devRef_injective _ e) (show (cc0_scratch11 : Ref sig .scVector) ≠ cc0_scratch10 by decide),
      Finset.mem_erase.mpr ⟨fun e => absurd (Proc.devRef_injective _ e) (show (cc0_scratch11 : Ref sig .scVector) ≠ cc0_scratch9 by decide),
      Finset.mem_erase.mpr ⟨fun e => absurd (Proc.devRef_injective _ e) (show (cc0_scratch11 : Ref sig .scVector) ≠ cc0_scratch8 by decide),
      Finset.mem_erase.mpr ⟨fun e => absurd (Proc.devRef_injective _ e) (show (cc0_scratch11 : Ref sig .scVector) ≠ cc0_scratch7 by decide),
      Finset.mem_erase.mpr ⟨fun e => absurd (Proc.devRef_injective _ e) (show (cc0_scratch11 : Ref sig .scVector) ≠ cc0_scratch6 by decide),
      Finset.mem_erase.mpr ⟨fun e => absurd (Proc.devRef_injective _ e) (show (cc0_scratch11 : Ref sig .scVector) ≠ cc0_scratch5 by decide),
      Finset.mem_erase.mpr ⟨fun e => absurd (Proc.devRef_injective _ e) (show (cc0_scratch11 : Ref sig .scVector) ≠ cc0_scratch4 by decide),
      Finset.mem_erase.mpr ⟨fun e => absurd (Proc.devRef_injective _ e) (show (cc0_scratch11 : Ref sig .scVector) ≠ cc0_scratch3 by decide),
      Finset.mem_erase.mpr ⟨fun e => absurd (Proc.devRef_injective _ e) (show (cc0_scratch11 : Ref sig .scVector) ≠ cc0_scratch2 by decide),
      Finset.mem_erase.mpr ⟨fun e => absurd (Proc.devRef_injective _ e) (show (cc0_scratch11 : Ref sig .scVector) ≠ cc0_scratch1 by decide),
      Finset.mem_erase.mpr ⟨fun e => absurd (Proc.devRef_injective _ e) (show (cc0_scratch11 : Ref sig .scVector) ≠ cc0_scratch0 by decide),
      SparseCore.Cfg.mem_ownRefs_of_owner (p := Proc.scVector (coreOf L) (subOf L)) (b := (Proc.scVector (coreOf L) (subOf L)).devRef cc0_scratch11) rfl⟩⟩⟩⟩⟩⟩⟩⟩⟩⟩⟩
theorem mem_own12 : (Proc.scVector (coreOf L) (subOf L)).devRef cc0_scratch12 ∈ (((((((((((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)).erase ((Proc.scVector (coreOf L) (subOf L)).devRef cc0_scratch4)).erase ((Proc.scVector (coreOf L) (subOf L)).devRef cc0_scratch5)).erase ((Proc.scVector (coreOf L) (subOf L)).devRef cc0_scratch6)).erase ((Proc.scVector (coreOf L) (subOf L)).devRef cc0_scratch7)).erase ((Proc.scVector (coreOf L) (subOf L)).devRef cc0_scratch8)).erase ((Proc.scVector (coreOf L) (subOf L)).devRef cc0_scratch9)).erase ((Proc.scVector (coreOf L) (subOf L)).devRef cc0_scratch10)).erase ((Proc.scVector (coreOf L) (subOf L)).devRef cc0_scratch11)) :=
  Finset.mem_erase.mpr ⟨fun e => absurd (Proc.devRef_injective _ e) (show (cc0_scratch12 : Ref sig .scVector) ≠ cc0_scratch11 by decide),
      Finset.mem_erase.mpr ⟨fun e => absurd (Proc.devRef_injective _ e) (show (cc0_scratch12 : Ref sig .scVector) ≠ cc0_scratch10 by decide),
      Finset.mem_erase.mpr ⟨fun e => absurd (Proc.devRef_injective _ e) (show (cc0_scratch12 : Ref sig .scVector) ≠ cc0_scratch9 by decide),
      Finset.mem_erase.mpr ⟨fun e => absurd (Proc.devRef_injective _ e) (show (cc0_scratch12 : Ref sig .scVector) ≠ cc0_scratch8 by decide),
      Finset.mem_erase.mpr ⟨fun e => absurd (Proc.devRef_injective _ e) (show (cc0_scratch12 : Ref sig .scVector) ≠ cc0_scratch7 by decide),
      Finset.mem_erase.mpr ⟨fun e => absurd (Proc.devRef_injective _ e) (show (cc0_scratch12 : Ref sig .scVector) ≠ cc0_scratch6 by decide),
      Finset.mem_erase.mpr ⟨fun e => absurd (Proc.devRef_injective _ e) (show (cc0_scratch12 : Ref sig .scVector) ≠ cc0_scratch5 by decide),
      Finset.mem_erase.mpr ⟨fun e => absurd (Proc.devRef_injective _ e) (show (cc0_scratch12 : Ref sig .scVector) ≠ cc0_scratch4 by decide),
      Finset.mem_erase.mpr ⟨fun e => absurd (Proc.devRef_injective _ e) (show (cc0_scratch12 : Ref sig .scVector) ≠ cc0_scratch3 by decide),
      Finset.mem_erase.mpr ⟨fun e => absurd (Proc.devRef_injective _ e) (show (cc0_scratch12 : Ref sig .scVector) ≠ cc0_scratch2 by decide),
      Finset.mem_erase.mpr ⟨fun e => absurd (Proc.devRef_injective _ e) (show (cc0_scratch12 : Ref sig .scVector) ≠ cc0_scratch1 by decide),
      Finset.mem_erase.mpr ⟨fun e => absurd (Proc.devRef_injective _ e) (show (cc0_scratch12 : Ref sig .scVector) ≠ cc0_scratch0 by decide),
      SparseCore.Cfg.mem_ownRefs_of_owner (p := Proc.scVector (coreOf L) (subOf L)) (b := (Proc.scVector (coreOf L) (subOf L)).devRef cc0_scratch12) rfl⟩⟩⟩⟩⟩⟩⟩⟩⟩⟩⟩⟩
theorem mem_own13 : (Proc.scVector (coreOf L) (subOf L)).devRef cc0_scratch13 ∈ ((((((((((((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)).erase ((Proc.scVector (coreOf L) (subOf L)).devRef cc0_scratch4)).erase ((Proc.scVector (coreOf L) (subOf L)).devRef cc0_scratch5)).erase ((Proc.scVector (coreOf L) (subOf L)).devRef cc0_scratch6)).erase ((Proc.scVector (coreOf L) (subOf L)).devRef cc0_scratch7)).erase ((Proc.scVector (coreOf L) (subOf L)).devRef cc0_scratch8)).erase ((Proc.scVector (coreOf L) (subOf L)).devRef cc0_scratch9)).erase ((Proc.scVector (coreOf L) (subOf L)).devRef cc0_scratch10)).erase ((Proc.scVector (coreOf L) (subOf L)).devRef cc0_scratch11)).erase ((Proc.scVector (coreOf L) (subOf L)).devRef cc0_scratch12)) :=
  Finset.mem_erase.mpr ⟨fun e => absurd (Proc.devRef_injective _ e) (show (cc0_scratch13 : Ref sig .scVector) ≠ cc0_scratch12 by decide),
      Finset.mem_erase.mpr ⟨fun e => absurd (Proc.devRef_injective _ e) (show (cc0_scratch13 : Ref sig .scVector) ≠ cc0_scratch11 by decide),
      Finset.mem_erase.mpr ⟨fun e => absurd (Proc.devRef_injective _ e) (show (cc0_scratch13 : Ref sig .scVector) ≠ cc0_scratch10 by decide),
      Finset.mem_erase.mpr ⟨fun e => absurd (Proc.devRef_injective _ e) (show (cc0_scratch13 : Ref sig .scVector) ≠ cc0_scratch9 by decide),
      Finset.mem_erase.mpr ⟨fun e => absurd (Proc.devRef_injective _ e) (show (cc0_scratch13 : Ref sig .scVector) ≠ cc0_scratch8 by decide),
      Finset.mem_erase.mpr ⟨fun e => absurd (Proc.devRef_injective _ e) (show (cc0_scratch13 : Ref sig .scVector) ≠ cc0_scratch7 by decide),
      Finset.mem_erase.mpr ⟨fun e => absurd (Proc.devRef_injective _ e) (show (cc0_scratch13 : Ref sig .scVector) ≠ cc0_scratch6 by decide),
      Finset.mem_erase.mpr ⟨fun e => absurd (Proc.devRef_injective _ e) (show (cc0_scratch13 : Ref sig .scVector) ≠ cc0_scratch5 by decide),
      Finset.mem_erase.mpr ⟨fun e => absurd (Proc.devRef_injective _ e) (show (cc0_scratch13 : Ref sig .scVector) ≠ cc0_scratch4 by decide),
      Finset.mem_erase.mpr ⟨fun e => absurd (Proc.devRef_injective _ e) (show (cc0_scratch13 : Ref sig .scVector) ≠ cc0_scratch3 by decide),
      Finset.mem_erase.mpr ⟨fun e => absurd (Proc.devRef_injective _ e) (show (cc0_scratch13 : Ref sig .scVector) ≠ cc0_scratch2 by decide),
      Finset.mem_erase.mpr ⟨fun e => absurd (Proc.devRef_injective _ e) (show (cc0_scratch13 : Ref sig .scVector) ≠ cc0_scratch1 by decide),
      Finset.mem_erase.mpr ⟨fun e => absurd (Proc.devRef_injective _ e) (show (cc0_scratch13 : Ref sig .scVector) ≠ cc0_scratch0 by decide),
      SparseCore.Cfg.mem_ownRefs_of_owner (p := Proc.scVector (coreOf L) (subOf L)) (b := (Proc.scVector (coreOf L) (subOf L)).devRef cc0_scratch13) rfl⟩⟩⟩⟩⟩⟩⟩⟩⟩⟩⟩⟩⟩
theorem mem_own14 : (Proc.scVector (coreOf L) (subOf L)).devRef cc0_scratch14 ∈ (((((((((((((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)).erase ((Proc.scVector (coreOf L) (subOf L)).devRef cc0_scratch4)).erase ((Proc.scVector (coreOf L) (subOf L)).devRef cc0_scratch5)).erase ((Proc.scVector (coreOf L) (subOf L)).devRef cc0_scratch6)).erase ((Proc.scVector (coreOf L) (subOf L)).devRef cc0_scratch7)).erase ((Proc.scVector (coreOf L) (subOf L)).devRef cc0_scratch8)).erase ((Proc.scVector (coreOf L) (subOf L)).devRef cc0_scratch9)).erase ((Proc.scVector (coreOf L) (subOf L)).devRef cc0_scratch10)).erase ((Proc.scVector (coreOf L) (subOf L)).devRef cc0_scratch11)).erase ((Proc.scVector (coreOf L) (subOf L)).devRef cc0_scratch12)).erase ((Proc.scVector (coreOf L) (subOf L)).devRef cc0_scratch13)) :=
  Finset.mem_erase.mpr ⟨fun e => absurd (Proc.devRef_injective _ e) (show (cc0_scratch14 : Ref sig .scVector) ≠ cc0_scratch13 by decide),
      Finset.mem_erase.mpr ⟨fun e => absurd (Proc.devRef_injective _ e) (show (cc0_scratch14 : Ref sig .scVector) ≠ cc0_scratch12 by decide),
      Finset.mem_erase.mpr ⟨fun e => absurd (Proc.devRef_injective _ e) (show (cc0_scratch14 : Ref sig .scVector) ≠ cc0_scratch11 by decide),
      Finset.mem_erase.mpr ⟨fun e => absurd (Proc.devRef_injective _ e) (show (cc0_scratch14 : Ref sig .scVector) ≠ cc0_scratch10 by decide),
      Finset.mem_erase.mpr ⟨fun e => absurd (Proc.devRef_injective _ e) (show (cc0_scratch14 : Ref sig .scVector) ≠ cc0_scratch9 by decide),
      Finset.mem_erase.mpr ⟨fun e => absurd (Proc.devRef_injective _ e) (show (cc0_scratch14 : Ref sig .scVector) ≠ cc0_scratch8 by decide),
      Finset.mem_erase.mpr ⟨fun e => absurd (Proc.devRef_injective _ e) (show (cc0_scratch14 : Ref sig .scVector) ≠ cc0_scratch7 by decide),
      Finset.mem_erase.mpr ⟨fun e => absurd (Proc.devRef_injective _ e) (show (cc0_scratch14 : Ref sig .scVector) ≠ cc0_scratch6 by decide),
      Finset.mem_erase.mpr ⟨fun e => absurd (Proc.devRef_injective _ e) (show (cc0_scratch14 : Ref sig .scVector) ≠ cc0_scratch5 by decide),
      Finset.mem_erase.mpr ⟨fun e => absurd (Proc.devRef_injective _ e) (show (cc0_scratch14 : Ref sig .scVector) ≠ cc0_scratch4 by decide),
      Finset.mem_erase.mpr ⟨fun e => absurd (Proc.devRef_injective _ e) (show (cc0_scratch14 : Ref sig .scVector) ≠ cc0_scratch3 by decide),
      Finset.mem_erase.mpr ⟨fun e => absurd (Proc.devRef_injective _ e) (show (cc0_scratch14 : Ref sig .scVector) ≠ cc0_scratch2 by decide),
      Finset.mem_erase.mpr ⟨fun e => absurd (Proc.devRef_injective _ e) (show (cc0_scratch14 : Ref sig .scVector) ≠ cc0_scratch1 by decide),
      Finset.mem_erase.mpr ⟨fun e => absurd (Proc.devRef_injective _ e) (show (cc0_scratch14 : Ref sig .scVector) ≠ cc0_scratch0 by decide),
      SparseCore.Cfg.mem_ownRefs_of_owner (p := Proc.scVector (coreOf L) (subOf L)) (b := (Proc.scVector (coreOf L) (subOf L)).devRef cc0_scratch14) rfl⟩⟩⟩⟩⟩⟩⟩⟩⟩⟩⟩⟩⟩⟩

set_option maxHeartbeats 2000000 in
theorem bufs_of_tile :
    (ownBufs (thr d L) : sProp MM)
      = iprop((∃ f, pkV.view.loc (thr d L) ↦{fullShare} f)
        ∗ (∃ f, aV.view.loc (thr d L) ↦{fullShare} f)
        ∗ (∃ f, bV.view.loc (thr d L) ↦{fullShare} f)
        ∗ (∃ f, cV.view.loc (thr d L) ↦{fullShare} f)
        ∗ (∃ f, dV.view.loc (thr d L) ↦{fullShare} f)
        ∗ (∃ f, eV.view.loc (thr d L) ↦{fullShare} f)
        ∗ (∃ f, fV.view.loc (thr d L) ↦{fullShare} f)
        ∗ (∃ f, i0V.view.loc (thr d L) ↦{fullShare} f)
        ∗ (∃ f, i1V.view.loc (thr d L) ↦{fullShare} f)
        ∗ (∃ f, j0V.view.loc (thr d L) ↦{fullShare} f)
        ∗ (∃ f, j1V.view.loc (thr d L) ↦{fullShare} f)
        ∗ (∃ f, k0V.view.loc (thr d L) ↦{fullShare} f)
        ∗ (∃ f, k1V.view.loc (thr d L) ↦{fullShare} f)
        ∗ (∃ f, listV.view.loc (thr d L) ↦{fullShare} f)
        ∗ (∃ f, slabV.view.loc (thr d L) ↦{fullShare} f)
        ∗ bigSep ((((((((((((((((ownRefs (τ := τ) (.scVector (coreOf L) (subOf L))).erase ((Proc.scVector (coreOf L) (subOf L)).devRef cc0_scratch0)).erase ((Proc.scVector (coreOf L) (subOf L)).devRef cc0_scratch1)).erase ((Proc.scVector (coreOf L) (subOf L)).devRef cc0_scratch2)).erase ((Proc.scVector (coreOf L) (subOf L)).devRef cc0_scratch3)).erase ((Proc.scVector (coreOf L) (subOf L)).devRef cc0_scratch4)).erase ((Proc.scVector (coreOf L) (subOf L)).devRef cc0_scratch5)).erase ((Proc.scVector (coreOf L) (subOf L)).devRef cc0_scratch6)).erase ((Proc.scVector (coreOf L) (subOf L)).devRef cc0_scratch7)).erase ((Proc.scVector (coreOf L) (subOf L)).devRef cc0_scratch8)).erase ((Proc.scVector (coreOf L) (subOf L)).devRef cc0_scratch9)).erase ((Proc.scVector (coreOf L) (subOf L)).devRef cc0_scratch10)).erase ((Proc.scVector (coreOf L) (subOf L)).devRef cc0_scratch11)).erase ((Proc.scVector (coreOf L) (subOf L)).devRef cc0_scratch12)).erase ((Proc.scVector (coreOf L) (subOf L)).devRef cc0_scratch13)).erase ((Proc.scVector (coreOf L) (subOf L)).devRef cc0_scratch14)) fun b => iprop(∃ f, ((d, b) : Loc nD τ sig) ↦{fullShare} f)) := by
  unfold SparseCore.Cfg.ownBufs
  refine (SparseCore.bigSep_erase' (mem_own0 L)).trans ?_
  rw [SparseCore.bigSep_erase' (mem_own1 L), SparseCore.bigSep_erase' (mem_own2 L), SparseCore.bigSep_erase' (mem_own3 L), SparseCore.bigSep_erase' (mem_own4 L), SparseCore.bigSep_erase' (mem_own5 L), SparseCore.bigSep_erase' (mem_own6 L), SparseCore.bigSep_erase' (mem_own7 L), SparseCore.bigSep_erase' (mem_own8 L), SparseCore.bigSep_erase' (mem_own9 L), SparseCore.bigSep_erase' (mem_own10 L), SparseCore.bigSep_erase' (mem_own11 L), SparseCore.bigSep_erase' (mem_own12 L), SparseCore.bigSep_erase' (mem_own13 L), SparseCore.bigSep_erase' (mem_own14 L)]

/-! ## The tile's obligation -/

variable {S : Scene} {P : S57360.Idx → EReal}

theorem tile_body (hS : Good S) (hP : PackedOf S P) (hF : K.Facts) (q : PosShare TreeShare) (fo : Buf (Elt Ideal) (outV.view.loc (thr d L)))
    (O : CellTallies nD τ sig (HIx 1)) (W : Waits sig (HIx 1)) (hO : ∀ g, O g none = 0) :
    iprop(levAts K.L K.lev ∗ emp ∗ ((inV.view.loc (thr d L) ↦{q} P) ∗ (outV.view.loc (thr d L) ↦[tileSet L]{fullShare} fo))
        ∗ scopedBufs (thr d L) ∗ scopedSems0 (thr d L) ∗ owes (thr d L) O W)
      ⊢ wp frame (wpE (defs₀ (F := Ideal)) 𝒱₀ (thr d L) none) Set.univ (cc0__sc_body L inV (Memref.isWhole_whole _) outV (Memref.isWhole_whole _) pkV (Memref.isWhole_whole _) aV (Memref.isWhole_whole _) bV (Memref.isWhole_whole _) cV (Memref.isWhole_whole _) dV (Memref.isWhole_whole _) eV (Memref.isWhole_whole _) fV (Memref.isWhole_whole _) i0V (Memref.isWhole_whole _) i1V (Memref.isWhole_whole _) j0V (Memref.isWhole_whole _) j1V (Memref.isWhole_whole _) k0V (Memref.isWhole_whole _) k1V (Memref.isWhole_whole _) listV (Memref.isWhole_whole _) slabV (Memref.isWhole_whole _) cc0_scratch15 cc0_scratch16)
        fun _ => (iprop(((inV.view.loc (thr d L) ↦{q} P) ∗ (outV.view.loc (thr d L) ↦[tileSet L]{fullShare} outFn S))
          ∗ scopedBufs (thr d L) ∗ scopedSems0 (thr d L)
          ∗ ∃ W', ⌜∀ p ∈ W', p ∈ W ∨ p.2 = none ∨ p.2 = some (0 : Fin 1)⌝ ∗ owes (thr d L) O W') : sProp MM) := by
  rw [K.scopedBufs_V hF d (coreOf L) (subOf L), SparseCore.Cfg.scopedSems0_V (Val := Elt Ideal) d (coreOf L) (subOf L), sems_of_tile, bufs_of_tile]
  iintro ⟨#Hlv, -, ⟨Hin, Hout⟩, ⟨⟨%fp, Hp⟩, ⟨%fa, Ha⟩, ⟨%fb, Hb⟩, ⟨%fc, Hc⟩, ⟨%fd, Hd⟩, ⟨%fe, He⟩, ⟨%ff, Hf⟩, ⟨%gi0, Hi0⟩, ⟨%gi1, Hi1⟩, ⟨%gj0, Hj0⟩, ⟨%gj1, Hj1⟩, ⟨%gk0, Hk0⟩, ⟨%gk1, Hk1⟩, ⟨%fl, Hl⟩, ⟨%fs, Hs⟩, Hbufs⟩, ⟨Hvi, Hvo, Hsems⟩, HO⟩
  ihave Hmw := (show levAts K.L K.lev ⊢ Transfers.MayWaits (thr d L) (default : HIx 1) O from K.mayWaits_none (thr := thr d L) hO) $$ Hlv
  iapply (wp_wand_r)
  isplitl [Hin Hout Hp Ha Hb Hc Hd He Hf Hi0 Hi1 Hj0 Hj1 Hk0 Hk1 Hl Hs Hvi Hvo HO]
  · iapply (task (d := d) (L := L) hS hP (q := q) (O := O) fo fp fa fb fc fd fe ff gi0 gi1 gj0 gj1 gk0 gk1 fl fs)
    isplitr; · iexact Hmw
    isplitl [Hin]; · iexact Hin
    isplitl [Hout]; · iexact Hout
    isplitl [Hp]; · iexact Hp
    isplitl [Ha]; · iexact Ha
    isplitl [Hb]; · iexact Hb
    isplitl [Hc]; · iexact Hc
    isplitl [Hd]; · iexact Hd
    isplitl [He]; · iexact He
    isplitl [Hf]; · iexact Hf
    isplitl [Hi0]; · iexact Hi0
    isplitl [Hi1]; · iexact Hi1
    isplitl [Hj0]; · iexact Hj0
    isplitl [Hj1]; · iexact Hj1
    isplitl [Hk0]; · iexact Hk0
    isplitl [Hk1]; · iexact Hk1
    isplitl [Hl]; · iexact Hl
    isplitl [Hs]; · iexact Hs
    isplitl [Hvi]; · iexact Hvi
    isplitl [Hvo]; · iexact Hvo
    iexists W; iexact HO
  iintro %_ ⟨Hin, Hout, Hp, Ha, Hb, Hc, Hd, He, Hf, Hi0, Hi1, Hj0, Hj1, Hk0, Hk1, Hl, Hs, Hvi, Hvo, %W', HO⟩
  isplitl [Hin Hout]
  · isplitl [Hin] <;> iassumption
  isplitl [Hp Ha Hb Hc Hd He Hf Hi0 Hi1 Hj0 Hj1 Hk0 Hk1 Hl Hs Hbufs]
  · isplitl [Hp]; · iexact Hp
    isplitl [Ha]; · iexact Ha
    isplitl [Hb]; · iexact Hb
    isplitl [Hc]; · iexact Hc
    isplitl [Hd]; · iexact Hd
    isplitl [He]; · iexact He
    isplitl [Hf]; · iexact Hf
    isplitl [Hi0]; · iexact Hi0
    isplitl [Hi1]; · iexact Hi1
    isplitl [Hj0]; · iexact Hj0
    isplitl [Hj1]; · iexact Hj1
    isplitl [Hk0]; · iexact Hk0
    isplitl [Hk1]; · iexact Hk1
    isplitl [Hl]; · iexact Hl
    isplitl [Hs]; · iexact Hs
    iexact Hbufs
  isplitl [Hvi Hvo Hsems]
  · isplitl [Hvi]; · iexact Hvi
    isplitl [Hvo] <;> iassumption
  iexists W'; isplitr
  swap; · iexact HO
  ipureintro; intro p _
  rcases p.2 with _ | q
  · exact .inr (.inl rfl)
  · exact .inr (.inr (congrArg some (Subsingleton.elim q 0)))

/-! ## What the tasks are handed and bring back -/

/-- The grid point of SparseCore `c`'s tile `s`. -/
def point (c : Fin (grid0.bound 0)) (s : Fin (grid0.bound 1)) : grid0.Coords :=
  fun | 0 => c | 1 => s | ⟨_ + 2, h⟩ => absurd h (Nat.not_lt.2 (Nat.le_add_left _ _))

theorem tile_defs (c : Fin τ.nSC) (s : Fin τ.nSub) :
    defs₀ (F := Ideal) (.scVector c s) 0 () = SparseCore.onTile hcore0 hsub0 (fun c s => cc0__sc_body (point c s) inV (Memref.isWhole_whole _) outV (Memref.isWhole_whole _) pkV (Memref.isWhole_whole _) aV (Memref.isWhole_whole _) bV (Memref.isWhole_whole _) cV (Memref.isWhole_whole _) dV (Memref.isWhole_whole _) eV (Memref.isWhole_whole _) fV (Memref.isWhole_whole _) i0V (Memref.isWhole_whole _) i1V (Memref.isWhole_whole _) j0V (Memref.isWhole_whole _) j1V (Memref.isWhole_whole _) k0V (Memref.isWhole_whole _) k1V (Memref.isWhole_whole _) listV (Memref.isWhole_whole _) slabV (Memref.isWhole_whole _) cc0_scratch15 cc0_scratch16) ⟨⟩ c s := rfl

abbrev inLoc (d : Dev nD) : Loc nD τ sig := (SparseCore.T d).loc main_v6
abbrev outLoc (d : Dev nD) : Loc nD τ sig := (SparseCore.T d).loc main_v7

/-- The share of the packed array a SparseCore reads under, and the share one of its tiles does. -/
abbrev coreShare (c : Fin 2) : PosShare TreeShare := Transfers.shareTok fullShare 2 c
abbrev tileShare (c : Fin 2) (i : Fin 16) : PosShare TreeShare := Transfers.shareTok (coreShare c) 16 i

/-- The part of the result one SparseCore's tiles write. -/
def coreSet (c : Fin 2) : Finset S80x80x108.Idx := Finset.univ.biUnion fun i : Fin 16 => tileSet (point c i)

theorem mem_tileSet (c : Fin 2) (i : Fin 16) (j : S80x80x108.Idx) :
    j ∈ tileSet (point c i) ↔ 2 * i.val + c.val = 8 * ((j 0).val / 20) + (j 1).val / 10 := by
  have e0 : ((point c i) 0).val = c.val := rfl
  have e1 : ((point c i) 1).val = i.val := rfl
  have h0 : (j 0).val < 80 := (j 0).isLt
  have h1 : (j 1).val < 80 := (j 1).isLt
  have hc := c.isLt
  have hi := i.isLt
  unfold tileSet tI tJ
  rw [e0, e1, Finset.mem_filter]
  simp only [Finset.mem_univ, true_and]
  omega

theorem tiles_disjoint (c : Fin 2) : ∀ i ∈ (Finset.univ : Finset (Fin 16)), ∀ i' ∈ (Finset.univ : Finset (Fin 16)), i ≠ i' →
    Disjoint (tileSet (point c i)) (tileSet (point c i')) := by
  intro i _ i' _ h
  rw [Finset.disjoint_left]
  intro j hj hj'
  rw [mem_tileSet] at hj hj'
  exact h (Fin.ext (by omega))

theorem cores_disjoint : ∀ c ∈ (Finset.univ : Finset (Fin 2)), ∀ c' ∈ (Finset.univ : Finset (Fin 2)), c ≠ c' → Disjoint (coreSet c) (coreSet c') := by
  intro c _ c' _ h
  rw [Finset.disjoint_left]
  intro j hj hj'
  unfold coreSet at hj hj'
  obtain ⟨i, -, hj⟩ := Finset.mem_biUnion.mp hj
  obtain ⟨i', -, hj'⟩ := Finset.mem_biUnion.mp hj'
  rw [mem_tileSet] at hj hj'
  exact h (Fin.ext (by have := c.isLt; have := c'.isLt; omega))

theorem cores_cover : (Finset.univ : Finset (Fin 2)).biUnion coreSet = Finset.univ := by
  refine Finset.eq_univ_iff_forall.mpr fun j => ?_
  have h0 : (j 0).val < 80 := (j 0).isLt
  have h1 : (j 1).val < 80 := (j 1).isLt
  refine Finset.mem_biUnion.mpr ⟨⟨((j 1).val / 10) % 2, by omega⟩, Finset.mem_univ _, Finset.mem_biUnion.mpr ⟨⟨(8 * ((j 0).val / 20) + (j 1).val / 10) / 2, by omega⟩, Finset.mem_univ _, ?_⟩⟩
  rw [mem_tileSet]
  show 2 * ((8 * ((j 0).val / 20) + (j 1).val / 10) / 2) + ((j 1).val / 10) % 2 = _
  omega

section Payload

variable (G : Dev nD → Scene) (Pk : Dev nD → S57360.Idx → EReal) (m : (ℓ : Loc nD τ sig) → Buf (Elt Ideal) ℓ)

abbrev inPts (d : Dev nD) (q : PosShare TreeShare) : sProp MM := inLoc d ↦{q} Pk d
abbrev outPts (d : Dev nD) (I : Finset S80x80x108.Idx) (f : S80x80x108.Idx → EReal) : sProp MM := outLoc d ↦[I]{fullShare} f

abbrev coreIn (d : Dev nD) (c : Fin 2) : sProp MM := iprop(inPts Pk d (coreShare c) ∗ outPts d (coreSet c) (m (outLoc d)))
abbrev coreOut (d : Dev nD) (c : Fin 2) : sProp MM := iprop(inPts Pk d (coreShare c) ∗ outPts d (coreSet c) (outFn (G d)))
abbrev tileIn (d : Dev nD) (c : Fin 2) (i : Fin 16) : sProp MM := iprop(inPts Pk d (tileShare c i) ∗ outPts d (tileSet (point c i)) (m (outLoc d)))
abbrev tileOut (d : Dev nD) (c : Fin 2) (i : Fin 16) : sProp MM := iprop(inPts Pk d (tileShare c i) ∗ outPts d (tileSet (point c i)) (outFn (G d)))

theorem nCore_zero : K.nCore 0 = 2 := rfl

/-- The one call: each SparseCore takes a read share of the packed array and its part of the result; each of its tiles
    takes a share of that and its own part, and brings it back at the specified values. -/
def Pay : K.Pay (nD := nD) (Val := Elt Ideal) (Name := ℕ) (U := UU) where
  st := fun q d c => match q with | 0 => coreIn Pk m d (Fin.cast nCore_zero c)
  dn := fun q d c => match q with | 0 => coreOut G Pk d (Fin.cast nCore_zero c)
  go := fun q d c i => match q with | 0 => tileIn Pk m d (Fin.cast nCore_zero c) (Fin.cast nSub_zero i)
  td := fun q d c i => match q with | 0 => tileOut G Pk d (Fin.cast nCore_zero c) (Fin.cast nSub_zero i)
  x := fun _ _ => iprop(emp)

instance pay_storable : (Pay G Pk m).IsStorable where
  st q d c := match q with | 0 => (inferInstance : BI.Storable (upEmb : UEmb _ MM) (coreIn Pk m d (Fin.cast nCore_zero c)))
  dn q d c := match q with | 0 => (inferInstance : BI.Storable (upEmb : UEmb _ MM) (coreOut G Pk d (Fin.cast nCore_zero c)))
  go q d c i := match q with | 0 => (inferInstance : BI.Storable (upEmb : UEmb _ MM) (tileIn Pk m d (Fin.cast nCore_zero c) (Fin.cast nSub_zero i)))
  td q d c i := match q with | 0 => (inferInstance : BI.Storable (upEmb : UEmb _ MM) (tileOut G Pk d (Fin.cast nCore_zero c) (Fin.cast nSub_zero i)))

theorem tile_obl (hG : ∀ d, Good (G d) ∧ PackedOf (G d) (Pk d)) (hF : K.Facts) : K.TileObl D 𝒱 (Pay G Pk m) v₀ 0 := by
  intro d c i O W hO _ _
  simp only [show (Pay G Pk m).ox = fun _ _ => 0 from rfl, add_zero]
  have hci : (K.core 0 c).val < grid0.bound 0 ∧ (K.sub 0 i).val < grid0.bound 1 := ⟨c.isLt, i.isLt⟩
  change _ ⊢ wp _ _ _ (Pipeline.liftProg (defs₀ (F := Ideal) (.scVector (K.core 0 c) (K.sub 0 i)) 0 ())) _
  refine BI.Entails.trans ?_ (Pipeline.wp_liftProg D (Pipeline.defs_kernel pcfgs defs₀) 𝒱₀ _ Set.univ none _ _)
  rw [tile_defs]; simp only [SparseCore.onTile, hci, and_self, ↓reduceDIte]
  exact tile_body d (point ⟨_, hci.1⟩ ⟨_, hci.2⟩) (hG d).1 (hG d).2 hF (tileShare (Fin.cast nCore_zero c) (Fin.cast nSub_zero i)) (m (outLoc d)) O W hO

theorem tasks_family (Φ : Fin 16 → sProp MM) :
    (bigSep Finset.univ fun i : Fin (K.nSub 0) => Φ (Fin.cast nSub_zero i)) = bigSep Finset.univ Φ :=
  bigSep_congr fun _ _ => congrArg Φ (Fin.ext rfl)

theorem out_tiles (d : Dev nD) (c : Fin 2) (f : S80x80x108.Idx → EReal) :
    outPts d (coreSet c) f = bigSep Finset.univ fun i : Fin 16 => outPts d (tileSet (point c i)) f := by
  unfold coreSet outPts
  rw [pointsTo_biUnion (ℓ := outLoc d) Finset.univ (fun i : Fin 16 => tileSet (point c i)) (tiles_disjoint c)]

theorem out_cores (d : Dev nD) (f : S80x80x108.Idx → EReal) :
    (outLoc d ↦{fullShare} f : sProp MM) = bigSep Finset.univ fun c : Fin 2 => outPts d (coreSet c) f := by
  unfold outPts
  rw [← pointsTo_biUnion (ℓ := outLoc d) Finset.univ coreSet cores_disjoint, cores_cover]

theorem vec_split : K.VecSplit' (Pay G Pk m) 0 := by
  intro d c
  show coreIn Pk m d (Fin.cast nCore_zero c) ⊢ |={Set.univ}=> iprop(
      (bigSep Finset.univ fun i : Fin (K.nSub 0) => tileIn Pk m d (Fin.cast nCore_zero c) (Fin.cast nSub_zero i))
      ∗ ((bigSep Finset.univ fun i : Fin (K.nSub 0) => tileOut G Pk d (Fin.cast nCore_zero c) (Fin.cast nSub_zero i)) -∗ coreOut G Pk d (Fin.cast nCore_zero c)))
  rw [tasks_family (fun i => tileIn Pk m d (Fin.cast nCore_zero c) i), tasks_family (fun i => tileOut G Pk d (Fin.cast nCore_zero c) i)]
  unfold coreIn coreOut tileIn tileOut
  rw [bigSep_sep', bigSep_sep', out_tiles, out_tiles]
  iintro ⟨Hi, Ho⟩; imodintro
  ihave Hi := (Transfers.pointsTo_toks_split (coreShare (Fin.cast nCore_zero c)) 16) $$ Hi
  icases Hi with ⟨Hd, Hi⟩
  isplitl [Hi Ho]
  · isplitl [Hi]; · iexact Hi
    iexact Ho
  iintro ⟨Hi, Ho⟩
  isplitl [Hd Hi]
  · iapply (Transfers.pointsTo_toks_join (coreShare (Fin.cast nCore_zero c)) 16)
    isplitl [Hd] <;> iassumption
  iexact Ho

end Payload

end Cert.Proof

end
-- ==== Proof.Main.lean ====
/-
  The host program around the one call: the inputs reshaped and packed, the call, the results.
-/
module

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held wp_hlo_within)

variable (G : Dev nD → Scene) (m : (ℓ : Loc nD τ sig) → Buf (Elt Ideal) ℓ) (ρ : Dev nD → PrngReg)

abbrev op0 : HloOp τ sig (Elt Ideal) := StableHlo.reshape main_arg0 main_v0 (rfl : (.f32 : EltTy) = .f32) shapeCasts_S2048x3_S6144
abbrev op1 : HloOp τ sig (Elt Ideal) := StableHlo.reshape main_arg2 main_v1 (rfl : (.f32 : EltTy) = .f32) shapeCasts_S2048x3_S6144
abbrev op2 : HloOp τ sig (Elt Ideal) := StableHlo.reshape main_arg3 main_v2 (rfl : (.f32 : EltTy) = .f32) shapeCasts_S2048x4_S8192
abbrev op3 : HloOp τ sig (Elt Ideal) := StableHlo.reshape main_arg1 main_v3 (rfl : (.f32 : EltTy) = .f32) shapeCasts_S2048x1_S2048
abbrev op4 : HloOp τ sig (Elt Ideal) := StableHlo.reshape main_arg4 main_v4 (rfl : (.f32 : EltTy) = .f32) shapeCasts_S2048x17_S34816
abbrev op5 : HloOp τ sig (Elt Ideal) := StableHlo.unary main_arg5 main_v5 (broadcastInDim S16 ![0] bcast_S1_S16_0 : (⟨S1, .f32⟩ : BufTy).Contents (Elt Ideal) → (⟨S16, .f32⟩ : BufTy).Contents (Elt Ideal))
abbrev op6 : HloOp τ sig (Elt Ideal) := StableHlo.nary ![main_v0, main_v1, main_v2, main_v3, main_v4, main_v5] main_v6 (fun u => (concatenate S57360 0 [⟨S6144, (u 0 : (⟨S6144, .f32⟩ : BufTy).Contents (Elt Ideal))⟩, ⟨S6144, (u 1 : (⟨S6144, .f32⟩ : BufTy).Contents (Elt Ideal))⟩, ⟨S8192, (u 2 : (⟨S8192, .f32⟩ : BufTy).Contents (Elt Ideal))⟩, ⟨S2048, (u 3 : (⟨S2048, .f32⟩ : BufTy).Contents (Elt Ideal))⟩, ⟨S34816, (u 4 : (⟨S34816, .f32⟩ : BufTy).Contents (Elt Ideal))⟩, ⟨S16, (u 5 : (⟨S16, .f32⟩ : BufTy).Contents (Elt Ideal))⟩] concatenates_S6144_S6144_S8192_S2048_S34816_S16_S57360_d0 : (⟨S57360, .f32⟩ : BufTy).Contents (Elt Ideal)))
abbrev op7 : HloOp τ sig (Elt Ideal) := StableHlo.reshape main_v7 main_v8 (rfl : (.f32 : EltTy) = .f32) shapeCasts_S80x80x108_S80x80x6x18
abbrev op8 : HloOp τ sig (Elt Ideal) := StableHlo.nullary main_cst (constant (F := Ideal) S_ .f32 0x00000000#32)
abbrev op9 : HloOp τ sig (Elt Ideal) := StableHlo.unary main_cst main_v9 (broadcastInDim S80x80x6x1 ![] bcast_S_S80x80x6x1 : (⟨S_, .f32⟩ : BufTy).Contents (Elt Ideal) → (⟨S80x80x6x1, .f32⟩ : BufTy).Contents (Elt Ideal))

/-- The host's arrays. -/
abbrev arrays : Finset (DevRef τ sig) := {(Proc.devRef .tc main_arg0 : DevRef τ sig), (Proc.devRef .tc main_arg1 : DevRef τ sig), (Proc.devRef .tc main_arg2 : DevRef τ sig), (Proc.devRef .tc main_arg3 : DevRef τ sig), (Proc.devRef .tc main_arg4 : DevRef τ sig), (Proc.devRef .tc main_arg5 : DevRef τ sig), (Proc.devRef .tc main_v0 : DevRef τ sig), (Proc.devRef .tc main_v1 : DevRef τ sig), (Proc.devRef .tc main_v2 : DevRef τ sig), (Proc.devRef .tc main_v3 : DevRef τ sig), (Proc.devRef .tc main_v4 : DevRef τ sig), (Proc.devRef .tc main_v5 : DevRef τ sig), (Proc.devRef .tc main_v6 : DevRef τ sig), (Proc.devRef .tc main_v7 : DevRef τ sig), (Proc.devRef .tc main_v8 : DevRef τ sig), (Proc.devRef .tc main_cst : DevRef τ sig), (Proc.devRef .tc main_v9 : DevRef τ sig)}

set_option maxHeartbeats 1000000 in
theorem held_arrays (d : Dev nD) (W : Valuation τ sig (Elt Ideal)) :
    (held (T d) arrays W : sProp MM)
      = iprop(((SparseCore.T d).loc main_arg0 ↦{fullShare} W (Proc.devRef .tc main_arg0))
        ∗ ((SparseCore.T d).loc main_arg1 ↦{fullShare} W (Proc.devRef .tc main_arg1))
        ∗ ((SparseCore.T d).loc main_arg2 ↦{fullShare} W (Proc.devRef .tc main_arg2))
        ∗ ((SparseCore.T d).loc main_arg3 ↦{fullShare} W (Proc.devRef .tc main_arg3))
        ∗ ((SparseCore.T d).loc main_arg4 ↦{fullShare} W (Proc.devRef .tc main_arg4))
        ∗ ((SparseCore.T d).loc main_arg5 ↦{fullShare} W (Proc.devRef .tc main_arg5))
        ∗ ((SparseCore.T d).loc main_v0 ↦{fullShare} W (Proc.devRef .tc main_v0))
        ∗ ((SparseCore.T d).loc main_v1 ↦{fullShare} W (Proc.devRef .tc main_v1))
        ∗ ((SparseCore.T d).loc main_v2 ↦{fullShare} W (Proc.devRef .tc main_v2))
        ∗ ((SparseCore.T d).loc main_v3 ↦{fullShare} W (Proc.devRef .tc main_v3))
        ∗ ((SparseCore.T d).loc main_v4 ↦{fullShare} W (Proc.devRef .tc main_v4))
        ∗ ((SparseCore.T d).loc main_v5 ↦{fullShare} W (Proc.devRef .tc main_v5))
        ∗ ((SparseCore.T d).loc main_v6 ↦{fullShare} W (Proc.devRef .tc main_v6))
        ∗ ((SparseCore.T d).loc main_v7 ↦{fullShare} W (Proc.devRef .tc main_v7))
        ∗ ((SparseCore.T d).loc main_v8 ↦{fullShare} W (Proc.devRef .tc main_v8))
        ∗ ((SparseCore.T d).loc main_cst ↦{fullShare} W (Proc.devRef .tc main_cst))
        ∗ ((SparseCore.T d).loc main_v9 ↦{fullShare} W (Proc.devRef .tc main_v9))) := by
  unfold held arrays
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

set_option maxHeartbeats 1000000 in
theorem unscoped_arrays (d : Dev nD) (W : (b : Ref sig .tc) → Buf (Elt Ideal) ((d.tc : Thread nD τ).loc b)) :
    (unscopedBufs d W : sProp MM)
      = iprop(((SparseCore.T d).loc main_arg0 ↦{fullShare} W main_arg0)
        ∗ ((SparseCore.T d).loc main_arg1 ↦{fullShare} W main_arg1)
        ∗ ((SparseCore.T d).loc main_arg2 ↦{fullShare} W main_arg2)
        ∗ ((SparseCore.T d).loc main_arg3 ↦{fullShare} W main_arg3)
        ∗ ((SparseCore.T d).loc main_arg4 ↦{fullShare} W main_arg4)
        ∗ ((SparseCore.T d).loc main_arg5 ↦{fullShare} W main_arg5)
        ∗ ((SparseCore.T d).loc main_v0 ↦{fullShare} W main_v0)
        ∗ ((SparseCore.T d).loc main_v1 ↦{fullShare} W main_v1)
        ∗ ((SparseCore.T d).loc main_v2 ↦{fullShare} W main_v2)
        ∗ ((SparseCore.T d).loc main_v3 ↦{fullShare} W main_v3)
        ∗ ((SparseCore.T d).loc main_v4 ↦{fullShare} W main_v4)
        ∗ ((SparseCore.T d).loc main_v5 ↦{fullShare} W main_v5)
        ∗ ((SparseCore.T d).loc main_v6 ↦{fullShare} W main_v6)
        ∗ ((SparseCore.T d).loc main_v7 ↦{fullShare} W main_v7)
        ∗ ((SparseCore.T d).loc main_v8 ↦{fullShare} W main_v8)
        ∗ ((SparseCore.T d).loc main_cst ↦{fullShare} W main_cst)
        ∗ ((SparseCore.T d).loc main_v9 ↦{fullShare} W main_v9)) := by
  unfold unscopedBufs
  rw [show (Finset.univ.filter fun b : Ref sig .tc => ¬ b.isScoped) = {main_arg0, main_arg1, main_arg2, main_arg3, main_arg4, main_arg5, main_v0, main_v1, main_v2, main_v3, main_v4, main_v5, main_v6, main_v7, main_v8, main_cst, main_v9} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The arrays' contents at the launch, before the call, after it, and at the end. -/
def atLaunch (d : Dev nD) : Valuation τ sig (Elt Ideal) := fun b => m (d, b)
def after0 (d : Dev nD) : Valuation τ sig (Elt Ideal) := op0.result (atLaunch m d)
def after1 (d : Dev nD) : Valuation τ sig (Elt Ideal) := op1.result (after0 m d)
def after2 (d : Dev nD) : Valuation τ sig (Elt Ideal) := op2.result (after1 m d)
def after3 (d : Dev nD) : Valuation τ sig (Elt Ideal) := op3.result (after2 m d)
def after4 (d : Dev nD) : Valuation τ sig (Elt Ideal) := op4.result (after3 m d)
def after5 (d : Dev nD) : Valuation τ sig (Elt Ideal) := op5.result (after4 m d)
def after6 (d : Dev nD) : Valuation τ sig (Elt Ideal) := op6.result (after5 m d)
/-- The packed array the call takes. -/
def packed (d : Dev nD) : S57360.Idx → EReal := after6 m d (Proc.devRef .tc main_v6)
def called (d : Dev nD) : Valuation τ sig (Elt Ideal) := Function.update (after6 m d) (Proc.devRef .tc main_v7) (outFn (G d))
def after7 (d : Dev nD) : Valuation τ sig (Elt Ideal) := op7.result (called G m d)
def after8 (d : Dev nD) : Valuation τ sig (Elt Ideal) := op8.result (after7 G m d)
def final (d : Dev nD) : Valuation τ sig (Elt Ideal) := op9.result (after8 G m d)

theorem launch_arrays (d : Dev nD) : (unscopedBufs d (fun b => m ((SparseCore.T d).loc b)) : sProp MM) = held (T d) arrays (atLaunch m d) := by
  rw [unscoped_arrays, held_arrays]; rfl

theorem bufs0 : op0.bufs ⊆ arrays := show ({(Proc.devRef .tc main_arg0 : DevRef τ sig), (Proc.devRef .tc main_v0 : DevRef τ sig)} : Finset (DevRef τ sig)) ⊆ arrays by decide
theorem bufs1 : op1.bufs ⊆ arrays := show ({(Proc.devRef .tc main_arg2 : DevRef τ sig), (Proc.devRef .tc main_v1 : DevRef τ sig)} : Finset (DevRef τ sig)) ⊆ arrays by decide
theorem bufs2 : op2.bufs ⊆ arrays := show ({(Proc.devRef .tc main_arg3 : DevRef τ sig), (Proc.devRef .tc main_v2 : DevRef τ sig)} : Finset (DevRef τ sig)) ⊆ arrays by decide
theorem bufs3 : op3.bufs ⊆ arrays := show ({(Proc.devRef .tc main_arg1 : DevRef τ sig), (Proc.devRef .tc main_v3 : DevRef τ sig)} : Finset (DevRef τ sig)) ⊆ arrays by decide
theorem bufs4 : op4.bufs ⊆ arrays := show ({(Proc.devRef .tc main_arg4 : DevRef τ sig), (Proc.devRef .tc main_v4 : DevRef τ sig)} : Finset (DevRef τ sig)) ⊆ arrays by decide
theorem bufs5 : op5.bufs ⊆ arrays := show ({(Proc.devRef .tc main_arg5 : DevRef τ sig), (Proc.devRef .tc main_v5 : DevRef τ sig)} : Finset (DevRef τ sig)) ⊆ arrays by decide
theorem bufs6 : op6.bufs ⊆ arrays := by decide
theorem bufs7 : op7.bufs ⊆ arrays := show ({(Proc.devRef .tc main_v7 : DevRef τ sig), (Proc.devRef .tc main_v8 : DevRef τ sig)} : Finset (DevRef τ sig)) ⊆ arrays by decide
theorem bufs8 : op8.bufs ⊆ arrays := show ({(Proc.devRef .tc main_cst : DevRef τ sig)} : Finset (DevRef τ sig)) ⊆ arrays by decide
theorem bufs9 : op9.bufs ⊆ arrays := show ({(Proc.devRef .tc main_cst : DevRef τ sig), (Proc.devRef .tc main_v9 : DevRef τ sig)} : Finset (DevRef τ sig)) ⊆ arrays by decide

/-- An operation leaves every array but its own result. -/
theorem keep0 (V : Valuation τ sig (Elt Ideal)) {b : DevRef τ sig} (h : b ≠ Proc.devRef .tc main_v0) : op0.result V b = V b :=
  op0.result_of_not_mem V (fun hb => h (Finset.mem_singleton.mp hb))
theorem keep1 (V : Valuation τ sig (Elt Ideal)) {b : DevRef τ sig} (h : b ≠ Proc.devRef .tc main_v1) : op1.result V b = V b :=
  op1.result_of_not_mem V (fun hb => h (Finset.mem_singleton.mp hb))
theorem keep2 (V : Valuation τ sig (Elt Ideal)) {b : DevRef τ sig} (h : b ≠ Proc.devRef .tc main_v2) : op2.result V b = V b :=
  op2.result_of_not_mem V (fun hb => h (Finset.mem_singleton.mp hb))
theorem keep3 (V : Valuation τ sig (Elt Ideal)) {b : DevRef τ sig} (h : b ≠ Proc.devRef .tc main_v3) : op3.result V b = V b :=
  op3.result_of_not_mem V (fun hb => h (Finset.mem_singleton.mp hb))
theorem keep4 (V : Valuation τ sig (Elt Ideal)) {b : DevRef τ sig} (h : b ≠ Proc.devRef .tc main_v4) : op4.result V b = V b :=
  op4.result_of_not_mem V (fun hb => h (Finset.mem_singleton.mp hb))
theorem keep5 (V : Valuation τ sig (Elt Ideal)) {b : DevRef τ sig} (h : b ≠ Proc.devRef .tc main_v5) : op5.result V b = V b :=
  op5.result_of_not_mem V (fun hb => h (Finset.mem_singleton.mp hb))
theorem keep6 (V : Valuation τ sig (Elt Ideal)) {b : DevRef τ sig} (h : b ≠ Proc.devRef .tc main_v6) : op6.result V b = V b :=
  op6.result_of_not_mem V (fun hb => h (Finset.mem_singleton.mp hb))
theorem keep7 (V : Valuation τ sig (Elt Ideal)) {b : DevRef τ sig} (h : b ≠ Proc.devRef .tc main_v8) : op7.result V b = V b :=
  op7.result_of_not_mem V (fun hb => h (Finset.mem_singleton.mp hb))
theorem keep8 (V : Valuation τ sig (Elt Ideal)) {b : DevRef τ sig} (h : b ≠ Proc.devRef .tc main_cst) : op8.result V b = V b :=
  op8.result_of_not_mem V (fun hb => h (Finset.mem_singleton.mp hb))
theorem keep9 (V : Valuation τ sig (Elt Ideal)) {b : DevRef τ sig} (h : b ≠ Proc.devRef .tc main_v9) : op9.result V b = V b :=
  op9.result_of_not_mem V (fun hb => h (Finset.mem_singleton.mp hb))
theorem before_main_arg0 (d : Dev nD) : after6 m d (Proc.devRef .tc main_arg0) = m ((SparseCore.T d).loc main_arg0) := by
  unfold after6 after5 after4 after3 after2 after1 after0
  rw [keep6 _ (by decide), keep5 _ (by decide), keep4 _ (by decide), keep3 _ (by decide), keep2 _ (by decide), keep1 _ (by decide), keep0 _ (by decide)]
  rfl
theorem final_main_arg0 (d : Dev nD) : final G m d (Proc.devRef .tc main_arg0) = m ((SparseCore.T d).loc main_arg0) := by
  unfold final after8 after7 called
  rw [keep9 _ (by decide), keep8 _ (by decide), keep7 _ (by decide), Function.update_of_ne (by decide)]
  exact before_main_arg0 m d
theorem before_main_arg1 (d : Dev nD) : after6 m d (Proc.devRef .tc main_arg1) = m ((SparseCore.T d).loc main_arg1) := by
  unfold after6 after5 after4 after3 after2 after1 after0
  rw [keep6 _ (by decide), keep5 _ (by decide), keep4 _ (by decide), keep3 _ (by decide), keep2 _ (by decide), keep1 _ (by decide), keep0 _ (by decide)]
  rfl
theorem final_main_arg1 (d : Dev nD) : final G m d (Proc.devRef .tc main_arg1) = m ((SparseCore.T d).loc main_arg1) := by
  unfold final after8 after7 called
  rw [keep9 _ (by decide), keep8 _ (by decide), keep7 _ (by decide), Function.update_of_ne (by decide)]
  exact before_main_arg1 m d
theorem before_main_arg2 (d : Dev nD) : after6 m d (Proc.devRef .tc main_arg2) = m ((SparseCore.T d).loc main_arg2) := by
  unfold after6 after5 after4 after3 after2 after1 after0
  rw [keep6 _ (by decide), keep5 _ (by decide), keep4 _ (by decide), keep3 _ (by decide), keep2 _ (by decide), keep1 _ (by decide), keep0 _ (by decide)]
  rfl
theorem final_main_arg2 (d : Dev nD) : final G m d (Proc.devRef .tc main_arg2) = m ((SparseCore.T d).loc main_arg2) := by
  unfold final after8 after7 called
  rw [keep9 _ (by decide), keep8 _ (by decide), keep7 _ (by decide), Function.update_of_ne (by decide)]
  exact before_main_arg2 m d
theorem before_main_arg3 (d : Dev nD) : after6 m d (Proc.devRef .tc main_arg3) = m ((SparseCore.T d).loc main_arg3) := by
  unfold after6 after5 after4 after3 after2 after1 after0
  rw [keep6 _ (by decide), keep5 _ (by decide), keep4 _ (by decide), keep3 _ (by decide), keep2 _ (by decide), keep1 _ (by decide), keep0 _ (by decide)]
  rfl
theorem final_main_arg3 (d : Dev nD) : final G m d (Proc.devRef .tc main_arg3) = m ((SparseCore.T d).loc main_arg3) := by
  unfold final after8 after7 called
  rw [keep9 _ (by decide), keep8 _ (by decide), keep7 _ (by decide), Function.update_of_ne (by decide)]
  exact before_main_arg3 m d
theorem before_main_arg4 (d : Dev nD) : after6 m d (Proc.devRef .tc main_arg4) = m ((SparseCore.T d).loc main_arg4) := by
  unfold after6 after5 after4 after3 after2 after1 after0
  rw [keep6 _ (by decide), keep5 _ (by decide), keep4 _ (by decide), keep3 _ (by decide), keep2 _ (by decide), keep1 _ (by decide), keep0 _ (by decide)]
  rfl
theorem final_main_arg4 (d : Dev nD) : final G m d (Proc.devRef .tc main_arg4) = m ((SparseCore.T d).loc main_arg4) := by
  unfold final after8 after7 called
  rw [keep9 _ (by decide), keep8 _ (by decide), keep7 _ (by decide), Function.update_of_ne (by decide)]
  exact before_main_arg4 m d
theorem before_main_arg5 (d : Dev nD) : after6 m d (Proc.devRef .tc main_arg5) = m ((SparseCore.T d).loc main_arg5) := by
  unfold after6 after5 after4 after3 after2 after1 after0
  rw [keep6 _ (by decide), keep5 _ (by decide), keep4 _ (by decide), keep3 _ (by decide), keep2 _ (by decide), keep1 _ (by decide), keep0 _ (by decide)]
  rfl
theorem final_main_arg5 (d : Dev nD) : final G m d (Proc.devRef .tc main_arg5) = m ((SparseCore.T d).loc main_arg5) := by
  unfold final after8 after7 called
  rw [keep9 _ (by decide), keep8 _ (by decide), keep7 _ (by decide), Function.update_of_ne (by decide)]
  exact before_main_arg5 m d
theorem before_out (d : Dev nD) : after6 m d (Proc.devRef .tc main_v7) = m (outLoc d) := by
  unfold after6 after5 after4 after3 after2 after1 after0
  rw [keep6 _ (by decide), keep5 _ (by decide), keep4 _ (by decide), keep3 _ (by decide), keep2 _ (by decide), keep1 _ (by decide), keep0 _ (by decide)]
  rfl

/-- The two results. -/
def gridOf (d : Dev nD) : S80x80x6x18.Idx → EReal := shapeCast S80x80x6x18 (outFn (G d)) shapeCasts_S80x80x108_S80x80x6x18
def zerosOf : S80x80x6x1.Idx → EReal := broadcastInDim S80x80x6x1 ![] bcast_S_S80x80x6x1 (constant (F := Ideal) S_ .f32 0x00000000#32)

theorem final_grid (d : Dev nD) : final G m d (Proc.devRef .tc main_v8) = gridOf G d := by
  unfold final after8
  rw [keep9 _ (by decide), keep8 _ (by decide)]
  unfold after7
  refine (StableHlo.reshape_result _ _ _ _ _ _ _).trans ?_
  unfold called
  rw [Function.update_self]
  rfl
theorem final_zeros (d : Dev nD) : final G m d (Proc.devRef .tc main_v9) = zerosOf := by
  unfold final
  refine (StableHlo.unary_result _ _ _ _ _ _).trans ?_
  unfold after8
  rw [show op8.result (after7 G m d) (Proc.devRef .tc main_cst) = constant (F := Ideal) S_ .f32 0x00000000#32 from StableHlo.nullary_result _ _ _ _]
  rfl

/-! ## The launch -/

abbrev Pm : K.Pay (nD := nD) (Val := Elt Ideal) (Name := ℕ) (U := UU) := Pay G (packed m) m

theorem st_eq (d : Dev nD) : (bigSep Finset.univ fun c : Fin (K.nCore 0) => (Pm G m).st 0 d c)
    = iprop((bigSep Finset.univ fun c : Fin 2 => inPts (packed m) d (coreShare c)) ∗ (outLoc d ↦{fullShare} m (outLoc d))) := by
  show (bigSep (Finset.univ : Finset (Fin 2)) fun c => coreIn (packed m) m d c) = _
  unfold coreIn
  rw [bigSep_sep', ← out_cores]
theorem dn_eq (d : Dev nD) : (bigSep Finset.univ fun c : Fin (K.nCore 0) => (Pm G m).dn 0 d c)
    = iprop((bigSep Finset.univ fun c : Fin 2 => inPts (packed m) d (coreShare c)) ∗ (outLoc d ↦{fullShare} outFn (G d))) := by
  show (bigSep (Finset.univ : Finset (Fin 2)) fun c => coreOut G (packed m) d c) = _
  unfold coreOut
  rw [bigSep_sep', ← out_cores]

def u₀ : UU := (initOf K.hsCells K.hsToks, 1)

theorem nothing {I : Type} (s : Finset I) : (bigSep s fun _ => iprop(emp)) = (iprop(emp) : sProp MM) := bigSep_emp_const s

theorem launch_elem : (ownU u₀ : sProp MM)
    ⊢ |={Set.univ}=> iprop(BI.own (EH (initOf K.hsCells K.hsToks)) ∗ (bigSep Finset.univ fun _ : Dev nD => iprop(emp))
        ∗ bigSep Finset.univ fun thr : Thread nD τ => bigSep Finset.univ fun q : Fin 1 => (Pm G m).x q thr) := by
  unfold u₀
  iintro Hu
  ihave H := (ownU_pair (initOf K.hsCells K.hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (Pm G m).x q thr) = bigSep Finset.univ fun _ => iprop(emp) from
    bigSep_congr fun _ _ => bigSep_univ_of_subsingleton (0 : Fin 1), nothing]
  iempintro

/-- What the host program leaves the claims. -/
abbrev FIN (d : Dev nD) : sProp MM := held (T d) arrays (final G m d)

set_option maxHeartbeats 2000000 in
theorem host (κ : GSem nD τ sig → ℕ) (d : Dev nD) :
    iprop(K.ctx EH (Pm G m) κ ∗ K.tcSt EH d 0 ∗ K.tcRes m ρ d ∗ emp)
      ⊢ wp frame (wpE (K.defs D) 𝒱 (SparseCore.T d) none) Set.univ (main d)
          fun _ => iprop(K.tcSt EH d 1 ∗ FIN G m d ∗ K.tcEnd d) := by
  unfold SparseCore.Cfg.tcRes SparseCore.Cfg.tcEnd
  rw [launch_arrays]
  simp only [main, wp_bind, wp_pure]
  iintro ⟨#Hctx, Hst, ⟨Hb, Hheld, Hts, -⟩, -⟩
  iapply (wp_hlo_within 𝒱 (SparseCore.T d) none Set.univ (op := op0) (S := arrays) bufs0 (V := atLaunch m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := arrays) bufs1 (V := after0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := arrays) bufs2 (V := after1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := arrays) bufs3 (V := after2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := arrays) bufs4 (V := after3 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := arrays) bufs5 (V := after4 m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := arrays) bufs6 (V := after5 m d)) $$ [Hb Hheld]
  · isplitl [Hb]; · iexact Hb
    iexact Hheld
  iintro ⟨Hb, Hheld⟩
  rw [wp_ret]; imodintro
  ihave Hheld := (show held (T d) arrays (op6.result (after5 m d)) ⊢ _ from Entails.of_eq (held_arrays d (after6 m d))) $$ Hheld
  icases Hheld with ⟨Harg0, Harg1, Harg2, Harg3, Harg4, Harg5, Hv0, Hv1, Hv2, Hv3, Hv4, Hv5, Hv6, Hv7, Hv8, Hcst, Hv9⟩
  ihave Hv6 := (Transfers.pointsTo_toks_split fullShare 2) $$ Hv6
  icases Hv6 with ⟨Hrest, Hv6⟩
  iapply (K.wp_run D 𝒱 (EH := EH) (P := Pm G m) κ d 0) $$ [Hst Harg0 Harg1 Harg2 Harg3 Harg4 Harg5 Hv0 Hv1 Hv2 Hv3 Hv4 Hv5 Hv6 Hv7 Hv8 Hcst Hv9 Hrest Hb Hts]
  isplitr; · iexact Hctx
  isplitl [Hst]; · iexact Hst
  isplitl [Hv6 Hv7]
  · ihave Hv7 := (Entails.of_eq (congrArg (fun f => ((outLoc d ↦{fullShare} f : sProp MM))) (before_out m d))) $$ Hv7
    iapply (Entails.of_eq (st_eq G m d).symm) $$ [Hv6 Hv7]
    isplitl [Hv6]; · iexact Hv6
    iexact Hv7
  iintro ⟨Hst, Hdn⟩
  ihave Hdn := (Entails.of_eq (dn_eq G m d)) $$ Hdn
  icases Hdn with ⟨Hv6, Hv7⟩
  ihave Hv6 := (Transfers.pointsTo_toks_join (ℓ := inLoc d) (S := Finset.univ) (f := packed m d) fullShare 2) $$ [Hrest Hv6]
  · isplitl [Hrest]; · iexact Hrest
    iexact Hv6
  ihave Hheld := (show iprop(((SparseCore.T d).loc main_arg0 ↦{fullShare} after6 m d (Proc.devRef .tc main_arg0))
        ∗ ((SparseCore.T d).loc main_arg1 ↦{fullShare} after6 m d (Proc.devRef .tc main_arg1))
        ∗ ((SparseCore.T d).loc main_arg2 ↦{fullShare} after6 m d (Proc.devRef .tc main_arg2))
        ∗ ((SparseCore.T d).loc main_arg3 ↦{fullShare} after6 m d (Proc.devRef .tc main_arg3))
        ∗ ((SparseCore.T d).loc main_arg4 ↦{fullShare} after6 m d (Proc.devRef .tc main_arg4))
        ∗ ((SparseCore.T d).loc main_arg5 ↦{fullShare} after6 m d (Proc.devRef .tc main_arg5))
        ∗ ((SparseCore.T d).loc main_v0 ↦{fullShare} after6 m d (Proc.devRef .tc main_v0))
        ∗ ((SparseCore.T d).loc main_v1 ↦{fullShare} after6 m d (Proc.devRef .tc main_v1))
        ∗ ((SparseCore.T d).loc main_v2 ↦{fullShare} after6 m d (Proc.devRef .tc main_v2))
        ∗ ((SparseCore.T d).loc main_v3 ↦{fullShare} after6 m d (Proc.devRef .tc main_v3))
        ∗ ((SparseCore.T d).loc main_v4 ↦{fullShare} after6 m d (Proc.devRef .tc main_v4))
        ∗ ((SparseCore.T d).loc main_v5 ↦{fullShare} after6 m d (Proc.devRef .tc main_v5))
        ∗ ((SparseCore.T d).loc main_v6 ↦{fullShare} after6 m d (Proc.devRef .tc main_v6))
        ∗ ((SparseCore.T d).loc main_v7 ↦{fullShare} outFn (G d))
        ∗ ((SparseCore.T d).loc main_v8 ↦{fullShare} after6 m d (Proc.devRef .tc main_v8))
        ∗ ((SparseCore.T d).loc main_cst ↦{fullShare} after6 m d (Proc.devRef .tc main_cst))
        ∗ ((SparseCore.T d).loc main_v9 ↦{fullShare} after6 m d (Proc.devRef .tc main_v9))) ⊢ held (T d) arrays (called G m d) from by
      rw [held_arrays]; unfold called
      rw [Function.update_self, Function.update_of_ne (a := (Proc.devRef .tc main_arg0 : DevRef τ sig)) (by decide), Function.update_of_ne (a := (Proc.devRef .tc main_arg1 : DevRef τ sig)) (by decide), Function.update_of_ne (a := (Proc.devRef .tc main_arg2 : DevRef τ sig)) (by decide), Function.update_of_ne (a := (Proc.devRef .tc main_arg3 : DevRef τ sig)) (by decide), Function.update_of_ne (a := (Proc.devRef .tc main_arg4 : DevRef τ sig)) (by decide), Function.update_of_ne (a := (Proc.devRef .tc main_arg5 : DevRef τ sig)) (by decide), Function.update_of_ne (a := (Proc.devRef .tc main_v0 : DevRef τ sig)) (by decide), Function.update_of_ne (a := (Proc.devRef .tc main_v1 : DevRef τ sig)) (by decide), Function.update_of_ne (a := (Proc.devRef .tc main_v2 : DevRef τ sig)) (by decide), Function.update_of_ne (a := (Proc.devRef .tc main_v3 : DevRef τ sig)) (by decide), Function.update_of_ne (a := (Proc.devRef .tc main_v4 : DevRef τ sig)) (by decide), Function.update_of_ne (a := (Proc.devRef .tc main_v5 : DevRef τ sig)) (by decide), Function.update_of_ne (a := (Proc.devRef .tc main_v6 : DevRef τ sig)) (by decide), Function.update_of_ne (a := (Proc.devRef .tc main_v8 : DevRef τ sig)) (by decide), Function.update_of_ne (a := (Proc.devRef .tc main_cst : DevRef τ sig)) (by decide), Function.update_of_ne (a := (Proc.devRef .tc main_v9 : DevRef τ sig)) (by decide)]) $$ [Harg0 Harg1 Harg2 Harg3 Harg4 Harg5 Hv0 Hv1 Hv2 Hv3 Hv4 Hv5 Hv6 Hv7 Hv8 Hcst Hv9]
  · isplitl [Harg0]; · iexact Harg0
    isplitl [Harg1]; · iexact Harg1
    isplitl [Harg2]; · iexact Harg2
    isplitl [Harg3]; · iexact Harg3
    isplitl [Harg4]; · iexact Harg4
    isplitl [Harg5]; · iexact Harg5
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hcst]; · iexact Hcst
    iexact Hv9
  iapply (wp_hlo_within 𝒱 (SparseCore.T d) none Set.univ (op := op7) (S := arrays) bufs7 (V := called G m d)) $$ [Hb Hheld]
  · isplitl [Hb]; · iexact Hb
    iexact Hheld
  iintro ⟨Hb, Hheld⟩
  rw [wp_ret]; imodintro
  iapply (wp_hlo_within 𝒱 (SparseCore.T d) none Set.univ (op := op8) (S := arrays) bufs8 (V := after7 G m d)) $$ [Hb Hheld]
  · isplitl [Hb]; · iexact Hb
    iexact Hheld
  iintro ⟨Hb, Hheld⟩
  rw [wp_ret]; imodintro
  iapply (wp_hlo_within 𝒱 (SparseCore.T d) none Set.univ (op := op9) (S := arrays) bufs9 (V := after8 G m d)) $$ [Hb Hheld]
  · isplitl [Hb]; · iexact Hb
    iexact Hheld
  iintro ⟨Hb, Hheld⟩
  rw [wp_ret]; imodintro
  imodintro
  isplitl [Hst]; · iexact Hst
  isplitl [Hheld]; · iexact Hheld
  isplitl [Hb]; · iexact Hb
  iexact Hts

/-- The results and the inputs in a final memory. -/
def Ends (d : Dev nD) (s : MemSt nD τ sig (Elt Ideal)) : Prop :=
  s.mem ((SparseCore.T d).loc main_v9) = zerosOf ∧ s.mem ((SparseCore.T d).loc main_v8) = gridOf G d ∧ s.mem ((SparseCore.T d).loc main_arg0) = m ((SparseCore.T d).loc main_arg0) ∧ s.mem ((SparseCore.T d).loc main_arg1) = m ((SparseCore.T d).loc main_arg1) ∧ s.mem ((SparseCore.T d).loc main_arg2) = m ((SparseCore.T d).loc main_arg2) ∧ s.mem ((SparseCore.T d).loc main_arg3) = m ((SparseCore.T d).loc main_arg3) ∧ s.mem ((SparseCore.T d).loc main_arg4) = m ((SparseCore.T d).loc main_arg4) ∧ s.mem ((SparseCore.T d).loc main_arg5) = m ((SparseCore.T d).loc main_arg5)

theorem ends (d : Dev nD) (s' : Phys nD τ sig (Elt Ideal)) : iprop(FIN G m d ∗ SI s') ⊢ (⌜Ends G m d s'.mem⌝ : sProp MM) := by
  unfold FIN
  rw [held_arrays, final_grid, final_zeros, final_main_arg0, final_main_arg1, final_main_arg2, final_main_arg3, final_main_arg4, final_main_arg5]
  iintro ⟨⟨Harg0, Harg1, Harg2, Harg3, Harg4, Harg5, Hv0, Hv1, Hv2, Hv3, Hv4, Hv5, Hv6, Hv7, Hv8, Hcst, Hv9⟩, HSI⟩
  ihave H := (persistent_entails_right (SI_pointsTo_agree (st := s') (ℓ := (SparseCore.T d).loc main_v9) (I := Finset.univ) (q := fullShare) (f := zerosOf))) $$ [HSI Hv9]
  · isplitl [HSI] <;> iassumption
  icases H with ⟨%emain_v9, HSI, -⟩
  ihave H := (persistent_entails_right (SI_pointsTo_agree (st := s') (ℓ := (SparseCore.T d).loc main_v8) (I := Finset.univ) (q := fullShare) (f := gridOf G d))) $$ [HSI Hv8]
  · isplitl [HSI] <;> iassumption
  icases H with ⟨%emain_v8, HSI, -⟩
  ihave H := (persistent_entails_right (SI_pointsTo_agree (st := s') (ℓ := (SparseCore.T d).loc main_arg0) (I := Finset.univ) (q := fullShare) (f := m ((SparseCore.T d).loc main_arg0)))) $$ [HSI Harg0]
  · isplitl [HSI] <;> iassumption
  icases H with ⟨%emain_arg0, HSI, -⟩
  ihave H := (persistent_entails_right (SI_pointsTo_agree (st := s') (ℓ := (SparseCore.T d).loc main_arg1) (I := Finset.univ) (q := fullShare) (f := m ((SparseCore.T d).loc main_arg1)))) $$ [HSI Harg1]
  · isplitl [HSI] <;> iassumption
  icases H with ⟨%emain_arg1, HSI, -⟩
  ihave H := (persistent_entails_right (SI_pointsTo_agree (st := s') (ℓ := (SparseCore.T d).loc main_arg2) (I := Finset.univ) (q := fullShare) (f := m ((SparseCore.T d).loc main_arg2)))) $$ [HSI Harg2]
  · isplitl [HSI] <;> iassumption
  icases H with ⟨%emain_arg2, HSI, -⟩
  ihave H := (persistent_entails_right (SI_pointsTo_agree (st := s') (ℓ := (SparseCore.T d).loc main_arg3) (I := Finset.univ) (q := fullShare) (f := m ((SparseCore.T d).loc main_arg3)))) $$ [HSI Harg3]
  · isplitl [HSI] <;> iassumption
  icases H with ⟨%emain_arg3, HSI, -⟩
  ihave H := (persistent_entails_right (SI_pointsTo_agree (st := s') (ℓ := (SparseCore.T d).loc main_arg4) (I := Finset.univ) (q := fullShare) (f := m ((SparseCore.T d).loc main_arg4)))) $$ [HSI Harg4]
  · isplitl [HSI] <;> iassumption
  icases H with ⟨%emain_arg4, HSI, -⟩
  ihave H := (persistent_entails_right (SI_pointsTo_agree (st := s') (ℓ := (SparseCore.T d).loc main_arg5) (I := Finset.univ) (q := fullShare) (f := m ((SparseCore.T d).loc main_arg5)))) $$ [HSI Harg5]
  · isplitl [HSI] <;> iassumption
  icases H with ⟨%emain_arg5, HSI, -⟩
  ipureintro
  exact ⟨funext fun i => emain_v9 i (Finset.mem_univ i), funext fun i => emain_v8 i (Finset.mem_univ i), funext fun i => emain_arg0 i (Finset.mem_univ i), funext fun i => emain_arg1 i (Finset.mem_univ i), funext fun i => emain_arg2 i (Finset.mem_univ i), funext fun i => emain_arg3 i (Finset.mem_univ i), funext fun i => emain_arg4 i (Finset.mem_univ i), funext fun i => emain_arg5 i (Finset.mem_univ i)⟩

def Q : PUnit × MemSt nD τ sig (Elt Ideal) → Prop := fun r => (∀ c : Dev nD, Ends G m c r.2) ∧ r.2.sem = fun _ => 0

theorem run (hG : ∀ d, Good (G d) ∧ PackedOf (G d) (packed m d)) :
    θ_run (Cert.KernelIdeal.defs (F := Ideal)) (Cert.KernelIdeal.threads (F := Ideal)) ⟨m, fun _ => 0, ρ⟩ (Q G m) :=
  SparseCore.Cfg.θ_run_sc_quiescent (K := K) (D := D) (𝒱 := 𝒱) (EH := EH) (P := Pm G m) (A := ∅) facts v₀
    (fun q hq => match q with | 0 => nomatch hq)
    (fun q _ => match q with | 0 => tile_obl G (packed m) m hG facts)
    (fun q _ => match q with | 0 => SparseCore.Cfg.VecSplit.of_plain (vec_split G (packed m) m))
    m ρ main (fun _ => iprop(emp)) (FIN G m) u₀ (sep_elim_left.trans (launch_elem G m)) (host G m ρ) (fun d s' => Ends G m d s'.mem) (ends G m) (Q G m)
    (fun _ h hz => ⟨h, hz⟩)

end Cert.Proof

end
-- ==== Proof.Inputs.lean ====
/-
  The scene the six input arrays hold: what the precondition says of it, and that the packed array holds it.
-/
module

public import proofs.«01_k».proof.Proof.Main
public import proofs.«01_k».proof.Pre_well_posed
public import Idealize.ShloMosaic.Lib.ReduceAll
public import Idealize.ShloMosaic.Lib.Pointwise.Reduce

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The scene of six arrays, `n` past the last Gaussian standing for a Gaussian at the origin. -/
def sceneOf (a0 : S2048x3.Idx → EReal) (a1 : S2048x1.Idx → EReal) (a2 : S2048x3.Idx → EReal) (a3 : S2048x4.Idx → EReal)
    (a4 : S2048x17.Idx → EReal) (a5 : S1.Idx → EReal) : Scene where
  mean n a := if h : n < 2048 then (a0 (ix2 ⟨n, h⟩ a)).toReal else 0
  scale n a := if h : n < 2048 then (a2 (ix2 ⟨n, h⟩ a)).toReal else 1
  rot n a := if h : n < 2048 then (a3 (ix2 ⟨n, h⟩ a)).toReal else if a = 0 then 1 else 0
  opa n := if h : n < 2048 then a1 (ix2 ⟨n, h⟩ 0) else 0
  feat n ch := if h : n < 2048 ∧ ch < 17 then a4 (ix2 ⟨n, h.1⟩ ⟨ch, h.2⟩) else 0
  es := a5 (ix1 0)

section Pre

variable {a0 : S2048x3.Idx → EReal} {a1 : S2048x1.Idx → EReal} {a2 : S2048x3.Idx → EReal} {a3 : S2048x4.Idx → EReal}
  {a4 : S2048x17.Idx → EReal} {a5 : S1.Idx → EReal}

/-- What the precondition says of the arrays, element by element. -/
structure Posed (a0 a2 : S2048x3.Idx → EReal) (a3 : S2048x4.Idx → EReal) : Prop where
  mean : ∀ i, max (a0 i) (-a0 i) ≤ ((1048576 : ℝ) : EReal)
  scale : ∀ i, max (a2 i) (-a2 i) ≤ ((1048576 : ℝ) : EReal)
  ne : ∀ i, a2 i ≠ 0
  unit : ∀ n : Fin 2048, ∑ k : Fin 4, a3 (ix2 n k) * a3 (ix2 n k) = 1

theorem bool_one {p : Prop} [Decidable p] (h : BitVec.ofBool (decide p) = 1#1) : p := by
  by_contra hp
  rw [decide_eq_false hp] at h
  exact absurd h (by decide)

theorem posed [Cert.Pre_well_posed.Facts] (h : Cert.Pre_well_posed.fn (F := Ideal) a0 a1 a2 a3 a4 a5 = fun _ => 1#1) : Posed a0 a2 a3 := by
  have h0 := congrFun h (fun a => a.elim0)
  unfold Cert.Pre_well_posed.fn Cert.Pre_well_posed.fn_part1 at h0
  dsimp only at h0
  obtain ⟨h0, hu⟩ := IntOp.andi_eq_one.1 h0
  obtain ⟨h0, hn⟩ := IntOp.andi_eq_one.1 h0
  obtain ⟨hm, hs⟩ := IntOp.andi_eq_one.1 h0
  haveI : Subsingleton Cert.Pre_well_posed.S_.Idx := ⟨fun a b => funext fun c => c.elim0⟩
  have hm := Host.reduce_andi_all _ _ _ _ _ hm
  have hs := Host.reduce_andi_all _ _ _ _ _ hs
  have hn := Host.reduce_andi_all _ _ _ _ _ hn
  have hu := Host.reduce_andi_all _ _ _ _ _ hu
  refine ⟨fun i => ?_, fun i => ?_, fun i => ?_, fun n => ?_⟩
  · have : max (a0 i) (-a0 i) ≤ Ideal.ofBits .f32 0x49800000#32 := bool_one (hm i)
    rwa [lit_2p20] at this
  · have : max (a2 i) (-a2 i) ≤ Ideal.ofBits .f32 0x49800000#32 := bool_one (hs i)
    rwa [lit_2p20] at this
  · have : a2 i ≠ Ideal.ofBits .f32 0x00000000#32 := bool_one (hn i)
    rwa [lit_zero, EReal.coe_zero] at this
  · have h1 : Ideal.hostReduceAdd Cert.Pre_well_posed.Facts.reducesTo_S2048x4_S2048_d1 (fun i => a3 i * a3 i) (Ideal.ofBits .f32 0x00000000#32) (ix1 n)
        = Ideal.ofBits .f32 0x3F800000#32 := bool_one (hu (ix1 n))
    rw [Ideal.hostReduceAdd_r2_a1, lit_zero, lit_one, EReal.coe_zero, zero_add, EReal.coe_one] at h1
    exact h1

theorem real_of_abs {x : EReal} {c : ℝ} (h : max x (-x) ≤ (c : EReal)) : x = ((x.toReal : ℝ) : EReal) ∧ |x.toReal| ≤ c := by
  obtain ⟨h1, h2⟩ := max_le_iff.1 h
  induction x with
  | bot => exact absurd h2 (by simp)
  | top => exact absurd h1 (by simp)
  | coe x =>
    refine ⟨rfl, ?_⟩
    rw [← EReal.coe_neg] at h2
    exact abs_le.2 ⟨by have := EReal.coe_le_coe_iff.1 h2; simp only [EReal.toReal_coe]; linarith, EReal.coe_le_coe_iff.1 h1⟩

theorem sq_nonneg' (x : EReal) : 0 ≤ x * x := by
  induction x with
  | bot => simp
  | top => simp
  | coe x => rw [← EReal.coe_mul]; exact EReal.coe_nonneg.2 (mul_self_nonneg x)

theorem real_of_sq {x : EReal} (h : x * x ≤ 1) : x = ((x.toReal : ℝ) : EReal) := by
  induction x with
  | bot => rw [EReal.bot_mul_bot, top_le_iff] at h; exact absurd h (by decide)
  | top => rw [EReal.top_mul_top, top_le_iff] at h; exact absurd h (by decide)
  | coe x => rfl

namespace Posed

variable (h : Posed a0 a2 a3)
include h

theorem rot_real (n : Fin 2048) (k : Fin 4) : a3 (ix2 n k) = ((a3 (ix2 n k)).toReal : EReal) :=
  real_of_sq ((Finset.single_le_sum (f := fun k : Fin 4 => a3 (ix2 n k) * a3 (ix2 n k)) (fun _ _ => sq_nonneg' _) (Finset.mem_univ k)).trans (h.unit n).le)

theorem mean_coe {n : ℕ} (hn : n < 2048) (a : Fin 3) : a0 (ix2 ⟨n, hn⟩ a) = ((sceneOf a0 a1 a2 a3 a4 a5).mean n a : EReal) := by
  unfold sceneOf; dsimp only; rw [dif_pos hn]; exact (real_of_abs (h.mean _)).1
theorem scale_coe {n : ℕ} (hn : n < 2048) (a : Fin 3) : a2 (ix2 ⟨n, hn⟩ a) = ((sceneOf a0 a1 a2 a3 a4 a5).scale n a : EReal) := by
  unfold sceneOf; dsimp only; rw [dif_pos hn]; exact (real_of_abs (h.scale _)).1
theorem rot_coe {n : ℕ} (hn : n < 2048) (a : Fin 4) : a3 (ix2 ⟨n, hn⟩ a) = ((sceneOf a0 a1 a2 a3 a4 a5).rot n a : EReal) := by
  unfold sceneOf; dsimp only; rw [dif_pos hn]; exact h.rot_real _ _

theorem good : Good (sceneOf a0 a1 a2 a3 a4 a5) where
  ne n a := by
    by_cases hn : n < 2048
    · intro he
      refine h.ne (ix2 ⟨n, hn⟩ a) ?_
      rw [h.scale_coe (a1 := a1) (a4 := a4) (a5 := a5) hn a, he, EReal.coe_zero]
    · unfold sceneOf; dsimp only; rw [dif_neg hn]; exact one_ne_zero
  mb n a := by
    unfold sceneOf
    dsimp only
    by_cases hn : n < 2048
    · rw [dif_pos hn]; exact (real_of_abs (h.mean _)).2
    · rw [dif_neg hn]; norm_num
  sb n a := by
    unfold sceneOf
    dsimp only
    by_cases hn : n < 2048
    · rw [dif_pos hn]; exact (real_of_abs (h.scale _)).2
    · rw [dif_neg hn]; norm_num
  unit n := by
    by_cases hn : n < 2048
    · have := h.unit ⟨n, hn⟩
      rw [Fin.sum_univ_four] at this
      simp only [h.rot_coe (a1 := a1) (a4 := a4) (a5 := a5) hn] at this
      exact_mod_cast this
    · unfold sceneOf; dsimp only; simp only [dif_neg hn]; norm_num [Fin.ext_iff]

end Posed

end Pre

/-! ## The packed array -/

variable (m : (ℓ : Loc nD τ sig) → Buf (Elt Ideal) ℓ) (d : Dev nD)

def in0 : S2048x3.Idx → EReal := m ((SparseCore.T d).loc main_arg0)
def in1 : S2048x1.Idx → EReal := m ((SparseCore.T d).loc main_arg1)
def in2 : S2048x3.Idx → EReal := m ((SparseCore.T d).loc main_arg2)
def in3 : S2048x4.Idx → EReal := m ((SparseCore.T d).loc main_arg3)
def in4 : S2048x17.Idx → EReal := m ((SparseCore.T d).loc main_arg4)
def in5 : S1.Idx → EReal := m ((SparseCore.T d).loc main_arg5)

def flat0 : S6144.Idx → EReal := shapeCast S6144 (in0 m d) shapeCasts_S2048x3_S6144
def flat1 : S2048.Idx → EReal := shapeCast S2048 (in1 m d) shapeCasts_S2048x1_S2048
def flat2 : S6144.Idx → EReal := shapeCast S6144 (in2 m d) shapeCasts_S2048x3_S6144
def flat3 : S8192.Idx → EReal := shapeCast S8192 (in3 m d) shapeCasts_S2048x4_S8192
def flat4 : S34816.Idx → EReal := shapeCast S34816 (in4 m d) shapeCasts_S2048x17_S34816
def flat5 : S16.Idx → EReal := broadcastInDim S16 ![0] bcast_S1_S16_0 (in5 m d)

theorem packed_main_v0 : after5 m d (Proc.devRef .tc main_v0) = flat0 m d := by
  unfold after5 after4 after3 after2 after1
  rw [keep5 _ (by decide), keep4 _ (by decide), keep3 _ (by decide), keep2 _ (by decide), keep1 _ (by decide)]
  have h : atLaunch m d (Proc.devRef .tc main_arg0) = in0 m d := by
    rfl
  unfold after0
  refine (StableHlo.reshape_result _ _ _ _ _ _ _).trans ?_
  rw [h]
  rfl
theorem packed_main_v1 : after5 m d (Proc.devRef .tc main_v1) = flat2 m d := by
  unfold after5 after4 after3 after2
  rw [keep5 _ (by decide), keep4 _ (by decide), keep3 _ (by decide), keep2 _ (by decide)]
  have h : after0 m d (Proc.devRef .tc main_arg2) = in2 m d := by
    unfold after0
    rw [keep0 _ (by decide)]
    rfl
  unfold after1
  refine (StableHlo.reshape_result _ _ _ _ _ _ _).trans ?_
  rw [h]
  rfl
theorem packed_main_v2 : after5 m d (Proc.devRef .tc main_v2) = flat3 m d := by
  unfold after5 after4 after3
  rw [keep5 _ (by decide), keep4 _ (by decide), keep3 _ (by decide)]
  have h : after1 m d (Proc.devRef .tc main_arg3) = in3 m d := by
    unfold after1 after0
    rw [keep1 _ (by decide), keep0 _ (by decide)]
    rfl
  unfold after2
  refine (StableHlo.reshape_result _ _ _ _ _ _ _).trans ?_
  rw [h]
  rfl
theorem packed_main_v3 : after5 m d (Proc.devRef .tc main_v3) = flat1 m d := by
  unfold after5 after4
  rw [keep5 _ (by decide), keep4 _ (by decide)]
  have h : after2 m d (Proc.devRef .tc main_arg1) = in1 m d := by
    unfold after2 after1 after0
    rw [keep2 _ (by decide), keep1 _ (by decide), keep0 _ (by decide)]
    rfl
  unfold after3
  refine (StableHlo.reshape_result _ _ _ _ _ _ _).trans ?_
  rw [h]
  rfl
theorem packed_main_v4 : after5 m d (Proc.devRef .tc main_v4) = flat4 m d := by
  unfold after5
  rw [keep5 _ (by decide)]
  have h : after3 m d (Proc.devRef .tc main_arg4) = in4 m d := by
    unfold after3 after2 after1 after0
    rw [keep3 _ (by decide), keep2 _ (by decide), keep1 _ (by decide), keep0 _ (by decide)]
    rfl
  unfold after4
  refine (StableHlo.reshape_result _ _ _ _ _ _ _).trans ?_
  rw [h]
  rfl
theorem packed_main_v5 : after5 m d (Proc.devRef .tc main_v5) = flat5 m d := by
  have h : after4 m d (Proc.devRef .tc main_arg5) = in5 m d := by
    unfold after4 after3 after2 after1 after0
    rw [keep4 _ (by decide), keep3 _ (by decide), keep2 _ (by decide), keep1 _ (by decide), keep0 _ (by decide)]
    rfl
  unfold after5
  refine (StableHlo.unary_result _ _ _ _ _ _).trans ?_
  rw [h]
  rfl

/-- The six parts of the packed array, in order. -/
abbrev parts : List ((s : Shape) × (s.Idx → EReal)) := [⟨S6144, flat0 m d⟩, ⟨S6144, flat2 m d⟩, ⟨S8192, flat3 m d⟩, ⟨S2048, flat1 m d⟩,
    ⟨S34816, flat4 m d⟩, ⟨S16, flat5 m d⟩]

theorem packed_eq : packed m d = concatenate S57360 0 (parts m d) concatenates_S6144_S6144_S8192_S2048_S34816_S16_S57360_d0 := by
  unfold packed after6
  refine (StableHlo.nary_result _ _ _ _ _ _).trans ?_
  have key : ∀ (u0 u1 : S6144.Idx → EReal) (u2 : S8192.Idx → EReal) (u3 : S2048.Idx → EReal) (u4 : S34816.Idx → EReal) (u5 : S16.Idx → EReal),
      u0 = flat0 m d → u1 = flat2 m d → u2 = flat3 m d → u3 = flat1 m d → u4 = flat4 m d → u5 = flat5 m d →
      concatenate S57360 0 [⟨S6144, u0⟩, ⟨S6144, u1⟩, ⟨S8192, u2⟩, ⟨S2048, u3⟩, ⟨S34816, u4⟩, ⟨S16, u5⟩]
        concatenates_S6144_S6144_S8192_S2048_S34816_S16_S57360_d0
      = concatenate S57360 0 (parts m d) concatenates_S6144_S6144_S8192_S2048_S34816_S16_S57360_d0 := by
    rintro _ _ _ _ _ _ rfl rfl rfl rfl rfl rfl
    rfl
  exact key _ _ _ _ _ _ (packed_main_v0 m d) (packed_main_v1 m d) (packed_main_v2 m d) (packed_main_v3 m d) (packed_main_v4 m d) (packed_main_v5 m d)

theorem packed_flat0 {j : S57360.Idx} {i : S6144.Idx} (h : (j 0).val = 0 + (i 0).val) : packed m d j = flat0 m d i := by
  rw [packed_eq]
  exact concatenate_apply_piece (t := S57360) 0 (parts m d) _ j 0 (by show 0 < 6; decide) S6144 _ rfl rfl 0 (by rfl) i
    (fun b hb => absurd (Fin.eq_zero (b.cast rfl)) hb) h.symm

theorem packed_flat2 {j : S57360.Idx} {i : S6144.Idx} (h : (j 0).val = 6144 + (i 0).val) : packed m d j = flat2 m d i := by
  rw [packed_eq]
  exact concatenate_apply_piece (t := S57360) 0 (parts m d) _ j 1 (by show 1 < 6; decide) S6144 _ rfl rfl 6144 (by rfl) i
    (fun b hb => absurd (Fin.eq_zero (b.cast rfl)) hb) h.symm

theorem packed_flat3 {j : S57360.Idx} {i : S8192.Idx} (h : (j 0).val = 12288 + (i 0).val) : packed m d j = flat3 m d i := by
  rw [packed_eq]
  exact concatenate_apply_piece (t := S57360) 0 (parts m d) _ j 2 (by show 2 < 6; decide) S8192 _ rfl rfl 12288 (by rfl) i
    (fun b hb => absurd (Fin.eq_zero (b.cast rfl)) hb) h.symm

theorem packed_flat1 {j : S57360.Idx} {i : S2048.Idx} (h : (j 0).val = 20480 + (i 0).val) : packed m d j = flat1 m d i := by
  rw [packed_eq]
  exact concatenate_apply_piece (t := S57360) 0 (parts m d) _ j 3 (by show 3 < 6; decide) S2048 _ rfl rfl 20480 (by show (6144 + (6144 + (8192 + 0)) : ℕ) = 20480; norm_num) i
    (fun b hb => absurd (Fin.eq_zero (b.cast rfl)) hb) h.symm

theorem packed_flat4 {j : S57360.Idx} {i : S34816.Idx} (h : (j 0).val = 22528 + (i 0).val) : packed m d j = flat4 m d i := by
  rw [packed_eq]
  exact concatenate_apply_piece (t := S57360) 0 (parts m d) _ j 4 (by show 4 < 6; decide) S34816 _ rfl rfl 22528 (by show (6144 + (6144 + (8192 + (2048 + 0))) : ℕ) = 22528; norm_num) i
    (fun b hb => absurd (Fin.eq_zero (b.cast rfl)) hb) h.symm

theorem packed_flat5 {j : S57360.Idx} {i : S16.Idx} (h : (j 0).val = 57344 + (i 0).val) : packed m d j = flat5 m d i := by
  rw [packed_eq]
  exact concatenate_apply_piece (t := S57360) 0 (parts m d) _ j 5 (by show 5 < 6; decide) S16 _ rfl rfl 57344 (by show (6144 + (6144 + (8192 + (2048 + (34816 + 0)))) : ℕ) = 57344; norm_num) i
    (fun b hb => absurd (Fin.eq_zero (b.cast rfl)) hb) h.symm

/-- The scene of a device's six inputs. -/
def scn : Scene := sceneOf (in0 m d) (in1 m d) (in2 m d) (in3 m d) (in4 m d) (in5 m d)

theorem packed_scene (h : Posed (in0 m d) (in2 m d) (in3 m d)) : PackedOf (scn m d) (packed m d) where
  mean n hn a j hj := by
    rw [packed_flat0 m d (i := ix1 ⟨3 * n + a.val, by omega⟩) (by simpa using hj)]
    unfold flat0 scn
    rw [← h.mean_coe hn]
    exact shapeCast_apply _ _ _ _ (by rw [Shape.rowMajor_val_two, Shape.rowMajor_val_one]; show n * 3 + a.val = 3 * n + a.val; omega)
  scale n hn a j hj := by
    rw [packed_flat2 m d (i := ix1 ⟨3 * n + a.val, by omega⟩) (by simpa [add_assoc] using hj)]
    unfold flat2 scn
    rw [← h.scale_coe hn]
    exact shapeCast_apply _ _ _ _ (by rw [Shape.rowMajor_val_two, Shape.rowMajor_val_one]; show n * 3 + a.val = 3 * n + a.val; omega)
  rot n hn a j hj := by
    rw [packed_flat3 m d (i := ix1 ⟨4 * n + a.val, by omega⟩) (by simpa [add_assoc] using hj)]
    unfold flat3 scn
    rw [← h.rot_coe hn]
    exact shapeCast_apply _ _ _ _ (by rw [Shape.rowMajor_val_two, Shape.rowMajor_val_one]; show n * 4 + a.val = 4 * n + a.val; omega)
  opa n hn j hj := by
    rw [packed_flat1 m d (i := ix1 ⟨n, hn⟩) (by simpa using hj)]
    unfold flat1 scn sceneOf
    refine Eq.trans ?_ (dif_pos hn).symm
    exact shapeCast_apply _ _ _ _ (by rw [Shape.rowMajor_val_two, Shape.rowMajor_val_one]; show n * 1 + 0 = n; omega)
  feat n hn ch hc j hj := by
    rw [packed_flat4 m d (i := ix1 ⟨17 * n + ch, by omega⟩) (by simpa [add_assoc] using hj)]
    unfold flat4 scn sceneOf
    refine Eq.trans ?_ (dif_pos ⟨hn, hc⟩).symm
    exact shapeCast_apply _ _ _ _ (by rw [Shape.rowMajor_val_two, Shape.rowMajor_val_one]; show n * 17 + ch = 17 * n + ch; omega)
  es x hx j hj := by
    rw [packed_flat5 m d (i := ix1 ⟨x, hx⟩) (by simpa using hj)]
    unfold flat5 scn sceneOf
    exact broadcastInDim_apply _ bcast_S1_S16_0 _ _ (ix1 0) (fun a => by obtain rfl := Fin.eq_zero a; rfl)

end Cert.Proof

end
-- ==== Proof.Math.lean ====
/-
  The reference's covariance over the reals: its adjugate over its determinant is the precision the kernel writes directly, and the
  distance test of the reference is the kernel's box of cells.
-/
module

public import proofs.«01_k».proof.Proof.Tile

@[expose] public section

noncomputable section

namespace Cert.Proof

/-- The entry `(a, b)` of the covariance `R · diag(s²) · Rᵀ`. -/
def cov (s : Fin 3 → ℝ) (q : Fin 4 → ℝ) (a b : Fin 3) : ℝ :=
  rotm q a 0 * (s 0 * s 0) * rotm q b 0 + rotm q a 1 * (s 1 * s 1) * rotm q b 1 + rotm q a 2 * (s 2 * s 2) * rotm q b 2

section Matrix

variable {q : Fin 4 → ℝ} (hq : q 0 * q 0 + q 1 * q 1 + q 2 * q 2 + q 3 * q 3 = 1)
include hq

theorem cof00 : rotm q 1 1 * rotm q 2 2 - rotm q 1 2 * rotm q 2 1 = rotm q 0 0 := by
  show (1 - 2 * (q 1 * q 1 + q 3 * q 3)) * (1 - 2 * (q 1 * q 1 + q 2 * q 2)) - (2 * (q 2 * q 3 - q 0 * q 1)) * (2 * (q 2 * q 3 + q 0 * q 1))
    = 1 - 2 * (q 2 * q 2 + q 3 * q 3)
  linear_combination (4 * q 1 * q 1) * hq
theorem cof01 : rotm q 1 2 * rotm q 2 0 - rotm q 1 0 * rotm q 2 2 = rotm q 0 1 := by
  show (2 * (q 2 * q 3 - q 0 * q 1)) * (2 * (q 1 * q 3 - q 0 * q 2)) - (2 * (q 1 * q 2 + q 0 * q 3)) * (1 - 2 * (q 1 * q 1 + q 2 * q 2))
    = 2 * (q 1 * q 2 - q 0 * q 3)
  linear_combination (4 * q 1 * q 2) * hq
theorem cof02 : rotm q 1 0 * rotm q 2 1 - rotm q 1 1 * rotm q 2 0 = rotm q 0 2 := by
  show (2 * (q 1 * q 2 + q 0 * q 3)) * (2 * (q 2 * q 3 + q 0 * q 1)) - (1 - 2 * (q 1 * q 1 + q 3 * q 3)) * (2 * (q 1 * q 3 - q 0 * q 2))
    = 2 * (q 1 * q 3 + q 0 * q 2)
  linear_combination (4 * q 1 * q 3) * hq
theorem cof10 : rotm q 0 2 * rotm q 2 1 - rotm q 0 1 * rotm q 2 2 = rotm q 1 0 := by
  show (2 * (q 1 * q 3 + q 0 * q 2)) * (2 * (q 2 * q 3 + q 0 * q 1)) - (2 * (q 1 * q 2 - q 0 * q 3)) * (1 - 2 * (q 1 * q 1 + q 2 * q 2))
    = 2 * (q 1 * q 2 + q 0 * q 3)
  linear_combination (4 * q 1 * q 2) * hq
theorem cof11 : rotm q 0 0 * rotm q 2 2 - rotm q 0 2 * rotm q 2 0 = rotm q 1 1 := by
  show (1 - 2 * (q 2 * q 2 + q 3 * q 3)) * (1 - 2 * (q 1 * q 1 + q 2 * q 2)) - (2 * (q 1 * q 3 + q 0 * q 2)) * (2 * (q 1 * q 3 - q 0 * q 2))
    = 1 - 2 * (q 1 * q 1 + q 3 * q 3)
  linear_combination (4 * q 2 * q 2) * hq
theorem cof12 : rotm q 0 1 * rotm q 2 0 - rotm q 0 0 * rotm q 2 1 = rotm q 1 2 := by
  show (2 * (q 1 * q 2 - q 0 * q 3)) * (2 * (q 1 * q 3 - q 0 * q 2)) - (1 - 2 * (q 2 * q 2 + q 3 * q 3)) * (2 * (q 2 * q 3 + q 0 * q 1))
    = 2 * (q 2 * q 3 - q 0 * q 1)
  linear_combination (4 * q 2 * q 3) * hq
theorem cof20 : rotm q 0 1 * rotm q 1 2 - rotm q 0 2 * rotm q 1 1 = rotm q 2 0 := by
  show (2 * (q 1 * q 2 - q 0 * q 3)) * (2 * (q 2 * q 3 - q 0 * q 1)) - (2 * (q 1 * q 3 + q 0 * q 2)) * (1 - 2 * (q 1 * q 1 + q 3 * q 3))
    = 2 * (q 1 * q 3 - q 0 * q 2)
  linear_combination (4 * q 1 * q 3) * hq
theorem cof21 : rotm q 0 2 * rotm q 1 0 - rotm q 0 0 * rotm q 1 2 = rotm q 2 1 := by
  show (2 * (q 1 * q 3 + q 0 * q 2)) * (2 * (q 1 * q 2 + q 0 * q 3)) - (1 - 2 * (q 2 * q 2 + q 3 * q 3)) * (2 * (q 2 * q 3 - q 0 * q 1))
    = 2 * (q 2 * q 3 + q 0 * q 1)
  linear_combination (4 * q 2 * q 3) * hq
theorem cof22 : rotm q 0 0 * rotm q 1 1 - rotm q 0 1 * rotm q 1 0 = rotm q 2 2 := by
  show (1 - 2 * (q 2 * q 2 + q 3 * q 3)) * (1 - 2 * (q 1 * q 1 + q 3 * q 3)) - (2 * (q 1 * q 2 - q 0 * q 3)) * (2 * (q 1 * q 2 + q 0 * q 3))
    = 1 - 2 * (q 1 * q 1 + q 2 * q 2)
  linear_combination (4 * q 3 * q 3) * hq

theorem row_unit : rotm q 0 0 * rotm q 0 0 + rotm q 0 1 * rotm q 0 1 + rotm q 0 2 * rotm q 0 2 = 1 := by
  show (1 - 2 * (q 2 * q 2 + q 3 * q 3)) * (1 - 2 * (q 2 * q 2 + q 3 * q 3)) + (2 * (q 1 * q 2 - q 0 * q 3)) * (2 * (q 1 * q 2 - q 0 * q 3))
    + (2 * (q 1 * q 3 + q 0 * q 2)) * (2 * (q 1 * q 3 + q 0 * q 2)) = 1
  linear_combination (4 * (q 2 * q 2 + q 3 * q 3)) * hq

variable (s : Fin 3 → ℝ)

theorem adj00 : cov s q 1 1 * cov s q 2 2 - cov s q 1 2 * cov s q 1 2
    = rotm q 0 0 * rotm q 0 0 * (s 1 * s 1 * (s 2 * s 2)) + rotm q 0 1 * rotm q 0 1 * (s 0 * s 0 * (s 2 * s 2)) + rotm q 0 2 * rotm q 0 2 * (s 0 * s 0 * (s 1 * s 1)) := by
  have e : cov s q 1 1 * cov s q 2 2 - cov s q 1 2 * cov s q 1 2
      = (rotm q 1 1 * rotm q 2 2 - rotm q 1 2 * rotm q 2 1) * (rotm q 1 1 * rotm q 2 2 - rotm q 1 2 * rotm q 2 1) * (s 1 * s 1 * (s 2 * s 2)) + (rotm q 1 2 * rotm q 2 0 - rotm q 1 0 * rotm q 2 2) * (rotm q 1 2 * rotm q 2 0 - rotm q 1 0 * rotm q 2 2) * (s 0 * s 0 * (s 2 * s 2)) + (rotm q 1 0 * rotm q 2 1 - rotm q 1 1 * rotm q 2 0) * (rotm q 1 0 * rotm q 2 1 - rotm q 1 1 * rotm q 2 0) * (s 0 * s 0 * (s 1 * s 1)) := by
    unfold cov
    ring
  simp only [e, cof00 hq, cof01 hq, cof02 hq]
theorem adj01 : cov s q 0 2 * cov s q 1 2 - cov s q 0 1 * cov s q 2 2
    = rotm q 0 0 * rotm q 1 0 * (s 1 * s 1 * (s 2 * s 2)) + rotm q 0 1 * rotm q 1 1 * (s 0 * s 0 * (s 2 * s 2)) + rotm q 0 2 * rotm q 1 2 * (s 0 * s 0 * (s 1 * s 1)) := by
  have e : cov s q 0 2 * cov s q 1 2 - cov s q 0 1 * cov s q 2 2
      = (rotm q 1 1 * rotm q 2 2 - rotm q 1 2 * rotm q 2 1) * (rotm q 0 2 * rotm q 2 1 - rotm q 0 1 * rotm q 2 2) * (s 1 * s 1 * (s 2 * s 2)) + (rotm q 1 2 * rotm q 2 0 - rotm q 1 0 * rotm q 2 2) * (rotm q 0 0 * rotm q 2 2 - rotm q 0 2 * rotm q 2 0) * (s 0 * s 0 * (s 2 * s 2)) + (rotm q 1 0 * rotm q 2 1 - rotm q 1 1 * rotm q 2 0) * (rotm q 0 1 * rotm q 2 0 - rotm q 0 0 * rotm q 2 1) * (s 0 * s 0 * (s 1 * s 1)) := by
    unfold cov
    ring
  simp only [e, cof00 hq, cof01 hq, cof02 hq, cof10 hq, cof11 hq, cof12 hq]
theorem adj02 : cov s q 0 1 * cov s q 1 2 - cov s q 0 2 * cov s q 1 1
    = rotm q 0 0 * rotm q 2 0 * (s 1 * s 1 * (s 2 * s 2)) + rotm q 0 1 * rotm q 2 1 * (s 0 * s 0 * (s 2 * s 2)) + rotm q 0 2 * rotm q 2 2 * (s 0 * s 0 * (s 1 * s 1)) := by
  have e : cov s q 0 1 * cov s q 1 2 - cov s q 0 2 * cov s q 1 1
      = (rotm q 1 1 * rotm q 2 2 - rotm q 1 2 * rotm q 2 1) * (rotm q 0 1 * rotm q 1 2 - rotm q 0 2 * rotm q 1 1) * (s 1 * s 1 * (s 2 * s 2)) + (rotm q 1 2 * rotm q 2 0 - rotm q 1 0 * rotm q 2 2) * (rotm q 0 2 * rotm q 1 0 - rotm q 0 0 * rotm q 1 2) * (s 0 * s 0 * (s 2 * s 2)) + (rotm q 1 0 * rotm q 2 1 - rotm q 1 1 * rotm q 2 0) * (rotm q 0 0 * rotm q 1 1 - rotm q 0 1 * rotm q 1 0) * (s 0 * s 0 * (s 1 * s 1)) := by
    unfold cov
    ring
  simp only [e, cof00 hq, cof01 hq, cof02 hq, cof20 hq, cof21 hq, cof22 hq]
theorem adj11 : cov s q 0 0 * cov s q 2 2 - cov s q 0 2 * cov s q 0 2
    = rotm q 1 0 * rotm q 1 0 * (s 1 * s 1 * (s 2 * s 2)) + rotm q 1 1 * rotm q 1 1 * (s 0 * s 0 * (s 2 * s 2)) + rotm q 1 2 * rotm q 1 2 * (s 0 * s 0 * (s 1 * s 1)) := by
  have e : cov s q 0 0 * cov s q 2 2 - cov s q 0 2 * cov s q 0 2
      = (rotm q 0 2 * rotm q 2 1 - rotm q 0 1 * rotm q 2 2) * (rotm q 0 2 * rotm q 2 1 - rotm q 0 1 * rotm q 2 2) * (s 1 * s 1 * (s 2 * s 2)) + (rotm q 0 0 * rotm q 2 2 - rotm q 0 2 * rotm q 2 0) * (rotm q 0 0 * rotm q 2 2 - rotm q 0 2 * rotm q 2 0) * (s 0 * s 0 * (s 2 * s 2)) + (rotm q 0 1 * rotm q 2 0 - rotm q 0 0 * rotm q 2 1) * (rotm q 0 1 * rotm q 2 0 - rotm q 0 0 * rotm q 2 1) * (s 0 * s 0 * (s 1 * s 1)) := by
    unfold cov
    ring
  simp only [e, cof10 hq, cof11 hq, cof12 hq]
theorem adj12 : cov s q 0 1 * cov s q 0 2 - cov s q 0 0 * cov s q 1 2
    = rotm q 1 0 * rotm q 2 0 * (s 1 * s 1 * (s 2 * s 2)) + rotm q 1 1 * rotm q 2 1 * (s 0 * s 0 * (s 2 * s 2)) + rotm q 1 2 * rotm q 2 2 * (s 0 * s 0 * (s 1 * s 1)) := by
  have e : cov s q 0 1 * cov s q 0 2 - cov s q 0 0 * cov s q 1 2
      = (rotm q 0 2 * rotm q 2 1 - rotm q 0 1 * rotm q 2 2) * (rotm q 0 1 * rotm q 1 2 - rotm q 0 2 * rotm q 1 1) * (s 1 * s 1 * (s 2 * s 2)) + (rotm q 0 0 * rotm q 2 2 - rotm q 0 2 * rotm q 2 0) * (rotm q 0 2 * rotm q 1 0 - rotm q 0 0 * rotm q 1 2) * (s 0 * s 0 * (s 2 * s 2)) + (rotm q 0 1 * rotm q 2 0 - rotm q 0 0 * rotm q 2 1) * (rotm q 0 0 * rotm q 1 1 - rotm q 0 1 * rotm q 1 0) * (s 0 * s 0 * (s 1 * s 1)) := by
    unfold cov
    ring
  simp only [e, cof10 hq, cof11 hq, cof12 hq, cof20 hq, cof21 hq, cof22 hq]
theorem adj22 : cov s q 0 0 * cov s q 1 1 - cov s q 0 1 * cov s q 0 1
    = rotm q 2 0 * rotm q 2 0 * (s 1 * s 1 * (s 2 * s 2)) + rotm q 2 1 * rotm q 2 1 * (s 0 * s 0 * (s 2 * s 2)) + rotm q 2 2 * rotm q 2 2 * (s 0 * s 0 * (s 1 * s 1)) := by
  have e : cov s q 0 0 * cov s q 1 1 - cov s q 0 1 * cov s q 0 1
      = (rotm q 0 1 * rotm q 1 2 - rotm q 0 2 * rotm q 1 1) * (rotm q 0 1 * rotm q 1 2 - rotm q 0 2 * rotm q 1 1) * (s 1 * s 1 * (s 2 * s 2)) + (rotm q 0 2 * rotm q 1 0 - rotm q 0 0 * rotm q 1 2) * (rotm q 0 2 * rotm q 1 0 - rotm q 0 0 * rotm q 1 2) * (s 0 * s 0 * (s 2 * s 2)) + (rotm q 0 0 * rotm q 1 1 - rotm q 0 1 * rotm q 1 0) * (rotm q 0 0 * rotm q 1 1 - rotm q 0 1 * rotm q 1 0) * (s 0 * s 0 * (s 1 * s 1)) := by
    unfold cov
    ring
  simp only [e, cof20 hq, cof21 hq, cof22 hq]

theorem det_eq : cov s q 0 0 * (cov s q 1 1 * cov s q 2 2 - cov s q 1 2 * cov s q 1 2) + cov s q 0 1 * (cov s q 0 2 * cov s q 1 2 - cov s q 0 1 * cov s q 2 2)
    + cov s q 0 2 * (cov s q 0 1 * cov s q 1 2 - cov s q 0 2 * cov s q 1 1) = s 0 * s 0 * (s 1 * s 1) * (s 2 * s 2) := by
  have e : cov s q 0 0 * (cov s q 1 1 * cov s q 2 2 - cov s q 1 2 * cov s q 1 2) + cov s q 0 1 * (cov s q 0 2 * cov s q 1 2 - cov s q 0 1 * cov s q 2 2)
      + cov s q 0 2 * (cov s q 0 1 * cov s q 1 2 - cov s q 0 2 * cov s q 1 1)
      = (rotm q 0 0 * (rotm q 1 1 * rotm q 2 2 - rotm q 1 2 * rotm q 2 1) + rotm q 0 1 * (rotm q 1 2 * rotm q 2 0 - rotm q 1 0 * rotm q 2 2) + rotm q 0 2 * (rotm q 1 0 * rotm q 2 1 - rotm q 1 1 * rotm q 2 0))
        * (rotm q 0 0 * (rotm q 1 1 * rotm q 2 2 - rotm q 1 2 * rotm q 2 1) + rotm q 0 1 * (rotm q 1 2 * rotm q 2 0 - rotm q 1 0 * rotm q 2 2) + rotm q 0 2 * (rotm q 1 0 * rotm q 2 1 - rotm q 1 1 * rotm q 2 0))
        * (s 0 * s 0 * (s 1 * s 1) * (s 2 * s 2)) := by
    unfold cov
    ring
  simp only [e, cof00 hq, cof01 hq, cof02 hq, row_unit hq, one_mul]

variable {s} (hs : ∀ a, s a ≠ 0)
include hs

theorem det_ne : s 0 * s 0 * (s 1 * s 1) * (s 2 * s 2) ≠ 0 := by
  have h0 := hs 0; have h1 := hs 1; have h2 := hs 2
  positivity

omit hq in
theorem adj_div (a b : Fin 3) : (rotm q a 0 * rotm q b 0 * (s 1 * s 1 * (s 2 * s 2)) + rotm q a 1 * rotm q b 1 * (s 0 * s 0 * (s 2 * s 2))
    + rotm q a 2 * rotm q b 2 * (s 0 * s 0 * (s 1 * s 1))) / (s 0 * s 0 * (s 1 * s 1) * (s 2 * s 2)) = prec s q a b := by
  have h0 := hs 0; have h1 := hs 1; have h2 := hs 2
  unfold prec
  field_simp

end Matrix

/-! ## The box -/

theorem box_x (m s : ℝ) {i : ℕ} (hi : i < 80) : |(i : ℝ) + 1 / 2 + -40 - m| ≤ 3 * s ↔ loX m s ≤ i ∧ (i : ℤ) ≤ hiX m s := by
  have hi' : (i : ℝ) ≤ 79 := by exact_mod_cast Nat.le_of_lt_succ hi
  have h0 : (0 : ℝ) ≤ i := Nat.cast_nonneg i
  unfold loX hiX
  rw [Int.ceil_le, Int.le_floor, max_le_iff, le_min_iff, abs_le]
  push_cast
  constructor
  · rintro ⟨h1, h2⟩; exact ⟨⟨by linarith, h0⟩, by linarith, hi'⟩
  · rintro ⟨⟨h1, _⟩, h2, _⟩; exact ⟨by linarith, by linarith⟩

theorem box_z (m s : ℝ) {i : ℕ} (hi : i < 6) : |(i : ℝ) + 1 / 2 + -1 - m| ≤ 3 * s ↔ loZ m s ≤ i ∧ (i : ℤ) ≤ hiZ m s := by
  have hi' : (i : ℝ) ≤ 5 := by exact_mod_cast Nat.le_of_lt_succ hi
  have h0 : (0 : ℝ) ≤ i := Nat.cast_nonneg i
  unfold loZ hiZ
  rw [Int.ceil_le, Int.le_floor, max_le_iff, le_min_iff, abs_le]
  push_cast
  constructor
  · rintro ⟨h1, h2⟩; exact ⟨⟨by linarith, h0⟩, by linarith, hi'⟩
  · rintro ⟨⟨h1, _⟩, h2, _⟩; exact ⟨by linarith, by linarith⟩

end Cert.Proof

end
-- ==== Proof.RefGauss.lean ====
/-
  The reference, one Gaussian at a time: the rotation, the covariance and the precision of each of the 2048 Gaussians and of the background,
  which is one more Gaussian at the centre of the volume.
-/
module

public import proofs.«01_k».proof.Proof.Gen.ReferenceIdeal.Read
public import proofs.«01_k».proof.Proof.Inputs
public import proofs.«01_k».proof.Proof.Math

@[expose] public section

noncomputable section

namespace Cert.Proof

open Cert.ReferenceIdeal Cert.ReferenceIdeal.Gen Cert.ReferenceIdeal.Read

open Idealize.ShloMosaic

theorem lit_80 : Ideal.ofBits .f32 0x42A00000#32 = ((80 : ℝ) : EReal) := by
  simp [Ideal.ofBits, Ideal.ieee, -EReal.coe_mul]; norm_num
theorem lit_32 : Ideal.ofBits .f32 0x42000000#32 = ((32 : ℝ) : EReal) := by
  simp [Ideal.ofBits, Ideal.ieee, -EReal.coe_mul]; norm_num
theorem lit_11 : Ideal.ofBits .f32 0x41300000#32 = ((11 : ℝ) : EReal) := by
  simp [Ideal.ofBits, Ideal.ieee, -EReal.coe_mul]; norm_num
theorem lit_neg40 : Ideal.ofBits .f32 0xC2200000#32 = ((-40 : ℝ) : EReal) := by
  simp [Ideal.ofBits, Ideal.ieee, -EReal.coe_mul]; norm_num
theorem lit_neg1 : Ideal.ofBits .f32 0xBF800000#32 = ((-1 : ℝ) : EReal) := by
  simp [Ideal.ofBits, Ideal.ieee, -EReal.coe_mul]; norm_num

/-- The six arrays, with the background put last, hold the scene `S`. -/
structure Held (S : Scene) (a0 : S2048x3.Idx → EReal) (a1 : S2048x1.Idx → EReal) (a2 : S2048x3.Idx → EReal) (a3 : S2048x4.Idx → EReal)
    (a4 : S2048x17.Idx → EReal) (a5 : S1.Idx → EReal) : Prop where
  mean : ∀ (i : S2048x3.Idx) (n : ℕ) (a : Fin 3), (i 0).val = n → (i 1).val = a.val → a0 i = (S.mean n a : EReal)
  scale : ∀ (i : S2048x3.Idx) (n : ℕ) (a : Fin 3), (i 0).val = n → (i 1).val = a.val → a2 i = (S.scale n a : EReal)
  rot : ∀ (i : S2048x4.Idx) (n : ℕ) (a : Fin 4), (i 0).val = n → (i 1).val = a.val → a3 i = (S.rot n a : EReal)
  opa : ∀ (i : S2048x1.Idx) (n : ℕ), (i 0).val = n → a1 i = S.opa n
  feat : ∀ (i : S2048x17.Idx) (n ch : ℕ), (i 0).val = n → (i 1).val = ch → a4 i = S.feat n ch
  es : ∀ i : S1.Idx, a5 i = S.feat 2048 17
  mean' : S.mean 2048 = ![0, 0, 11 / 5]
  scale' : S.scale 2048 = ![80, 80, 32 / 5]
  rot' : S.rot 2048 = ![1, 0, 0, 0]
  opa' : S.opa 2048 = 1
  feat' : ∀ ch < 17, S.feat 2048 ch = 0
  feat17 : ∀ n < 2048, S.feat n 17 = 0
  good : Good S

/-- A vector of 2048 elements with one element put after it. -/
theorem cat_apply (u : S2048.Idx → EReal) (v : S1.Idx → EReal) (f : ℕ → EReal) (hu : ∀ j : S2048.Idx, u j = f (j 0).val)
    (hv : ∀ j : S1.Idx, v j = f 2048) (i : S2049.Idx) :
    concatenate S2049 0 [⟨S2048, u⟩, ⟨S1, v⟩] concatenates_S2048_S1_S2049_d0 i = f (i 0).val := by
  have hi : (i 0).val < 2049 := (i 0).isLt
  by_cases h : (i 0).val < 2048
  · rw [concatenate_pair_apply_left 0 u v concatenates_S2048_S1_S2049_d0 i rfl (ix1 ⟨(i 0).val, h⟩)
      (fun b => by obtain rfl : b = 0 := Subsingleton.elim (α := Fin 1) b 0; rfl), hu]
    rfl
  · have e : (i 0).val = 2048 := by omega
    rw [concatenate_pair_apply_right 0 u v concatenates_S2048_S1_S2049_d0 i rfl rfl (ix1 0)
      (fun b hb => absurd (Subsingleton.elim (α := Fin 1) _ _) hb) (by rw [e]; rfl), hv, e]

section

variable {S : Scene} {a0 : S2048x3.Idx → EReal} {a1 : S2048x1.Idx → EReal} {a2 : S2048x3.Idx → EReal} {a3 : S2048x4.Idx → EReal}
  {a4 : S2048x17.Idx → EReal} {a5 : S1.Idx → EReal} (H : Held S a0 a1 a2 a3 a4 a5)
include H

/-! ## The columns of the inputs -/

theorem r_q0 (i : S2048.Idx) : val_main_v11 (F := Ideal) a3 i = (S.rot (i 0).val 0 : EReal) := by
  rw [val_main_v11_apply, val_main_v10_apply]
  exact H.rot _ _ 0 (by show (i 0).val / 1 = (i 0).val; omega) rfl
theorem r_q1 (i : S2048.Idx) : val_main_v13 (F := Ideal) a3 i = (S.rot (i 0).val 1 : EReal) := by
  rw [val_main_v13_apply, val_main_v12_apply]
  exact H.rot _ _ 1 (by show (i 0).val / 1 = (i 0).val; omega) rfl
theorem r_q2 (i : S2048.Idx) : val_main_v15 (F := Ideal) a3 i = (S.rot (i 0).val 2 : EReal) := by
  rw [val_main_v15_apply, val_main_v14_apply]
  exact H.rot _ _ 2 (by show (i 0).val / 1 = (i 0).val; omega) rfl
theorem r_q3 (i : S2048.Idx) : val_main_v17 (F := Ideal) a3 i = (S.rot (i 0).val 3 : EReal) := by
  rw [val_main_v17_apply, val_main_v16_apply]
  exact H.rot _ _ 3 (by show (i 0).val / 1 = (i 0).val; omega) rfl
theorem r_v70 (i : S2048.Idx) : val_main_v70 (F := Ideal) a2 i = (S.scale (i 0).val 0 : EReal) := by
  rw [val_main_v70_apply, val_main_v69_apply]
  exact H.scale _ _ 0 (by show (i 0).val / 1 = (i 0).val; omega) rfl
theorem r_v72 (i : S2048.Idx) : val_main_v72 (F := Ideal) a2 i = (S.scale (i 0).val 0 : EReal) := by
  rw [val_main_v72_apply, val_main_v71_apply]
  exact H.scale _ _ 0 (by show (i 0).val / 1 = (i 0).val; omega) rfl
theorem r_v75 (i : S2048.Idx) : val_main_v75 (F := Ideal) a2 i = (S.scale (i 0).val 1 : EReal) := by
  rw [val_main_v75_apply, val_main_v74_apply]
  exact H.scale _ _ 1 (by show (i 0).val / 1 = (i 0).val; omega) rfl
theorem r_v77 (i : S2048.Idx) : val_main_v77 (F := Ideal) a2 i = (S.scale (i 0).val 1 : EReal) := by
  rw [val_main_v77_apply, val_main_v76_apply]
  exact H.scale _ _ 1 (by show (i 0).val / 1 = (i 0).val; omega) rfl
theorem r_v80 (i : S2048.Idx) : val_main_v80 (F := Ideal) a2 i = (S.scale (i 0).val 2 : EReal) := by
  rw [val_main_v80_apply, val_main_v79_apply]
  exact H.scale _ _ 2 (by show (i 0).val / 1 = (i 0).val; omega) rfl
theorem r_v82 (i : S2048.Idx) : val_main_v82 (F := Ideal) a2 i = (S.scale (i 0).val 2 : EReal) := by
  rw [val_main_v82_apply, val_main_v81_apply]
  exact H.scale _ _ 2 (by show (i 0).val / 1 = (i 0).val; omega) rfl
theorem r_v182 (i : S2048.Idx) : val_main_v182 (F := Ideal) a2 i = (S.scale (i 0).val 0 : EReal) := by
  rw [val_main_v182_apply, val_main_v181_apply]
  exact H.scale _ _ 0 (by show (i 0).val / 1 = (i 0).val; omega) rfl
theorem r_v204 (i : S2048.Idx) : val_main_v204 (F := Ideal) a2 i = (S.scale (i 0).val 1 : EReal) := by
  rw [val_main_v204_apply, val_main_v203_apply]
  exact H.scale _ _ 1 (by show (i 0).val / 1 = (i 0).val; omega) rfl
theorem r_v226 (i : S2048.Idx) : val_main_v226 (F := Ideal) a2 i = (S.scale (i 0).val 2 : EReal) := by
  rw [val_main_v226_apply, val_main_v225_apply]
  exact H.scale _ _ 2 (by show (i 0).val / 1 = (i 0).val; omega) rfl
theorem r_v179 (i : S2048.Idx) : val_main_v179 (F := Ideal) a0 i = (S.mean (i 0).val 0 : EReal) := by
  rw [val_main_v179_apply, val_main_v178_apply]
  exact H.mean _ _ 0 (by show (i 0).val / 1 = (i 0).val; omega) rfl
theorem r_v201 (i : S2048.Idx) : val_main_v201 (F := Ideal) a0 i = (S.mean (i 0).val 1 : EReal) := by
  rw [val_main_v201_apply, val_main_v200_apply]
  exact H.mean _ _ 1 (by show (i 0).val / 1 = (i 0).val; omega) rfl
theorem r_v223 (i : S2048.Idx) : val_main_v223 (F := Ideal) a0 i = (S.mean (i 0).val 2 : EReal) := by
  rw [val_main_v223_apply, val_main_v222_apply]
  exact H.mean _ _ 2 (by show (i 0).val / 1 = (i 0).val; omega) rfl

/-! ## The rotation -/

theorem r_R00 (i : S2048.Idx) : val_main_v24 (F := Ideal) a3 i = ((rotm (S.rot (i 0).val) 0 0 : ℝ) : EReal) := by
  simp only [val_main_v24_apply, val_main_v23_apply, val_main_cst_8_apply, val_main_v22_apply, val_main_v21_apply, val_main_cst_7_apply, val_main_v20_apply, val_main_v18_apply, val_main_v19_apply, r_q0 H, r_q1 H, r_q2 H, r_q3 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rfl
theorem r_R01 (i : S2048.Idx) : val_main_v29 (F := Ideal) a3 i = ((rotm (S.rot (i 0).val) 0 1 : ℝ) : EReal) := by
  simp only [val_main_v29_apply, val_main_v28_apply, val_main_cst_9_apply, val_main_v27_apply, val_main_v25_apply, val_main_v26_apply, r_q0 H, r_q1 H, r_q2 H, r_q3 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rfl
theorem r_R02 (i : S2048.Idx) : val_main_v34 (F := Ideal) a3 i = ((rotm (S.rot (i 0).val) 0 2 : ℝ) : EReal) := by
  simp only [val_main_v34_apply, val_main_v33_apply, val_main_cst_10_apply, val_main_v32_apply, val_main_v30_apply, val_main_v31_apply, r_q0 H, r_q1 H, r_q2 H, r_q3 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rfl
theorem r_R10 (i : S2048.Idx) : val_main_v39 (F := Ideal) a3 i = ((rotm (S.rot (i 0).val) 1 0 : ℝ) : EReal) := by
  simp only [val_main_v39_apply, val_main_v38_apply, val_main_cst_11_apply, val_main_v37_apply, val_main_v35_apply, val_main_v36_apply, r_q0 H, r_q1 H, r_q2 H, r_q3 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rfl
theorem r_R11 (i : S2048.Idx) : val_main_v46 (F := Ideal) a3 i = ((rotm (S.rot (i 0).val) 1 1 : ℝ) : EReal) := by
  simp only [val_main_v46_apply, val_main_v45_apply, val_main_cst_13_apply, val_main_v44_apply, val_main_v43_apply, val_main_cst_12_apply, val_main_v42_apply, val_main_v40_apply, val_main_v41_apply, r_q0 H, r_q1 H, r_q2 H, r_q3 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rfl
theorem r_R12 (i : S2048.Idx) : val_main_v51 (F := Ideal) a3 i = ((rotm (S.rot (i 0).val) 1 2 : ℝ) : EReal) := by
  simp only [val_main_v51_apply, val_main_v50_apply, val_main_cst_14_apply, val_main_v49_apply, val_main_v47_apply, val_main_v48_apply, r_q0 H, r_q1 H, r_q2 H, r_q3 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rfl
theorem r_R20 (i : S2048.Idx) : val_main_v56 (F := Ideal) a3 i = ((rotm (S.rot (i 0).val) 2 0 : ℝ) : EReal) := by
  simp only [val_main_v56_apply, val_main_v55_apply, val_main_cst_15_apply, val_main_v54_apply, val_main_v52_apply, val_main_v53_apply, r_q0 H, r_q1 H, r_q2 H, r_q3 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rfl
theorem r_R21 (i : S2048.Idx) : val_main_v61 (F := Ideal) a3 i = ((rotm (S.rot (i 0).val) 2 1 : ℝ) : EReal) := by
  simp only [val_main_v61_apply, val_main_v60_apply, val_main_cst_16_apply, val_main_v59_apply, val_main_v57_apply, val_main_v58_apply, r_q0 H, r_q1 H, r_q2 H, r_q3 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rfl
theorem r_R22 (i : S2048.Idx) : val_main_v68 (F := Ideal) a3 i = ((rotm (S.rot (i 0).val) 2 2 : ℝ) : EReal) := by
  simp only [val_main_v68_apply, val_main_v67_apply, val_main_cst_18_apply, val_main_v66_apply, val_main_v65_apply, val_main_cst_17_apply, val_main_v64_apply, val_main_v62_apply, val_main_v63_apply, r_q0 H, r_q1 H, r_q2 H, r_q3 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rfl

/-! ## The covariance, the background's put last -/

theorem r_c00 (i : S2049.Idx) : val_main_v93 (F := Ideal) a2 a3 i = ((cov (S.scale (i 0).val) (S.rot (i 0).val) 0 0 : ℝ) : EReal) := by
  unfold val_main_v93
  refine cat_apply _ _ (fun n => ((cov (S.scale n) (S.rot n) 0 0 : ℝ) : EReal)) (fun j => ?_) (fun j => ?_) i
  · simp only [val_main_v91_apply, val_main_v88_apply, val_main_v85_apply, val_main_v84_apply, val_main_v73_apply, val_main_v87_apply, val_main_v86_apply, val_main_v78_apply, val_main_v90_apply, val_main_v89_apply, val_main_v83_apply, r_R00 H, r_R01 H, r_R02 H, r_R10 H, r_R11 H, r_R12 H, r_R20 H, r_R21 H, r_R22 H, r_v70 H, r_v72 H, r_v75 H, r_v77 H, r_v80 H, r_v82 H, Ideal.addf_def, Ideal.subf_def, Ideal.mulf_def, Ideal.ofBits_def, Ideal.hostDivf_def, ← EReal.coe_mul, ← EReal.coe_add, ← EReal.coe_sub]
    rfl
  · have e : cov (S.scale 2048) (S.rot 2048) 0 0 = 80 * 80 := by
      rw [H.scale', H.rot']; simp [cov, rotm]
    simp only [e, val_main_v92_apply, val_main_v5_apply, val_main_cst_3_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
    try norm_num
theorem r_c01 (i : S2049.Idx) : val_main_v103 (F := Ideal) a2 a3 i = ((cov (S.scale (i 0).val) (S.rot (i 0).val) 0 1 : ℝ) : EReal) := by
  unfold val_main_v103
  refine cat_apply _ _ (fun n => ((cov (S.scale n) (S.rot n) 0 1 : ℝ) : EReal)) (fun j => ?_) (fun j => ?_) i
  · simp only [val_main_v101_apply, val_main_v98_apply, val_main_v95_apply, val_main_v94_apply, val_main_v73_apply, val_main_v97_apply, val_main_v96_apply, val_main_v78_apply, val_main_v100_apply, val_main_v99_apply, val_main_v83_apply, r_R00 H, r_R01 H, r_R02 H, r_R10 H, r_R11 H, r_R12 H, r_R20 H, r_R21 H, r_R22 H, r_v70 H, r_v72 H, r_v75 H, r_v77 H, r_v80 H, r_v82 H, Ideal.addf_def, Ideal.subf_def, Ideal.mulf_def, Ideal.ofBits_def, Ideal.hostDivf_def, ← EReal.coe_mul, ← EReal.coe_add, ← EReal.coe_sub]
    rfl
  · have e : cov (S.scale 2048) (S.rot 2048) 0 1 = 0 := by
      rw [H.scale', H.rot']; simp [cov, rotm]
    simp only [e, val_main_v102_apply, val_main_cst_19_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
    try norm_num
theorem r_c02 (i : S2049.Idx) : val_main_v113 (F := Ideal) a2 a3 i = ((cov (S.scale (i 0).val) (S.rot (i 0).val) 0 2 : ℝ) : EReal) := by
  unfold val_main_v113
  refine cat_apply _ _ (fun n => ((cov (S.scale n) (S.rot n) 0 2 : ℝ) : EReal)) (fun j => ?_) (fun j => ?_) i
  · simp only [val_main_v111_apply, val_main_v108_apply, val_main_v105_apply, val_main_v104_apply, val_main_v73_apply, val_main_v107_apply, val_main_v106_apply, val_main_v78_apply, val_main_v110_apply, val_main_v109_apply, val_main_v83_apply, r_R00 H, r_R01 H, r_R02 H, r_R10 H, r_R11 H, r_R12 H, r_R20 H, r_R21 H, r_R22 H, r_v70 H, r_v72 H, r_v75 H, r_v77 H, r_v80 H, r_v82 H, Ideal.addf_def, Ideal.subf_def, Ideal.mulf_def, Ideal.ofBits_def, Ideal.hostDivf_def, ← EReal.coe_mul, ← EReal.coe_add, ← EReal.coe_sub]
    rfl
  · have e : cov (S.scale 2048) (S.rot 2048) 0 2 = 0 := by
      rw [H.scale', H.rot']; simp [cov, rotm]
    simp only [e, val_main_v112_apply, val_main_cst_20_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
    try norm_num
theorem r_c11 (i : S2049.Idx) : val_main_v123 (F := Ideal) a2 a3 i = ((cov (S.scale (i 0).val) (S.rot (i 0).val) 1 1 : ℝ) : EReal) := by
  unfold val_main_v123
  refine cat_apply _ _ (fun n => ((cov (S.scale n) (S.rot n) 1 1 : ℝ) : EReal)) (fun j => ?_) (fun j => ?_) i
  · simp only [val_main_v121_apply, val_main_v118_apply, val_main_v115_apply, val_main_v114_apply, val_main_v73_apply, val_main_v117_apply, val_main_v116_apply, val_main_v78_apply, val_main_v120_apply, val_main_v119_apply, val_main_v83_apply, r_R00 H, r_R01 H, r_R02 H, r_R10 H, r_R11 H, r_R12 H, r_R20 H, r_R21 H, r_R22 H, r_v70 H, r_v72 H, r_v75 H, r_v77 H, r_v80 H, r_v82 H, Ideal.addf_def, Ideal.subf_def, Ideal.mulf_def, Ideal.ofBits_def, Ideal.hostDivf_def, ← EReal.coe_mul, ← EReal.coe_add, ← EReal.coe_sub]
    rfl
  · have e : cov (S.scale 2048) (S.rot 2048) 1 1 = 80 * 80 := by
      rw [H.scale', H.rot']; simp [cov, rotm]
    simp only [e, val_main_v122_apply, val_main_v6_apply, val_main_cst_4_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
    try norm_num
theorem r_c12 (i : S2049.Idx) : val_main_v133 (F := Ideal) a2 a3 i = ((cov (S.scale (i 0).val) (S.rot (i 0).val) 1 2 : ℝ) : EReal) := by
  unfold val_main_v133
  refine cat_apply _ _ (fun n => ((cov (S.scale n) (S.rot n) 1 2 : ℝ) : EReal)) (fun j => ?_) (fun j => ?_) i
  · simp only [val_main_v131_apply, val_main_v128_apply, val_main_v125_apply, val_main_v124_apply, val_main_v73_apply, val_main_v127_apply, val_main_v126_apply, val_main_v78_apply, val_main_v130_apply, val_main_v129_apply, val_main_v83_apply, r_R00 H, r_R01 H, r_R02 H, r_R10 H, r_R11 H, r_R12 H, r_R20 H, r_R21 H, r_R22 H, r_v70 H, r_v72 H, r_v75 H, r_v77 H, r_v80 H, r_v82 H, Ideal.addf_def, Ideal.subf_def, Ideal.mulf_def, Ideal.ofBits_def, Ideal.hostDivf_def, ← EReal.coe_mul, ← EReal.coe_add, ← EReal.coe_sub]
    rfl
  · have e : cov (S.scale 2048) (S.rot 2048) 1 2 = 0 := by
      rw [H.scale', H.rot']; simp [cov, rotm]
    simp only [e, val_main_v132_apply, val_main_cst_21_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
    try norm_num
theorem r_c22 (i : S2049.Idx) : val_main_v143 (F := Ideal) a2 a3 i = ((cov (S.scale (i 0).val) (S.rot (i 0).val) 2 2 : ℝ) : EReal) := by
  unfold val_main_v143
  refine cat_apply _ _ (fun n => ((cov (S.scale n) (S.rot n) 2 2 : ℝ) : EReal)) (fun j => ?_) (fun j => ?_) i
  · simp only [val_main_v141_apply, val_main_v138_apply, val_main_v135_apply, val_main_v134_apply, val_main_v73_apply, val_main_v137_apply, val_main_v136_apply, val_main_v78_apply, val_main_v140_apply, val_main_v139_apply, val_main_v83_apply, r_R00 H, r_R01 H, r_R02 H, r_R10 H, r_R11 H, r_R12 H, r_R20 H, r_R21 H, r_R22 H, r_v70 H, r_v72 H, r_v75 H, r_v77 H, r_v80 H, r_v82 H, Ideal.addf_def, Ideal.subf_def, Ideal.mulf_def, Ideal.ofBits_def, Ideal.hostDivf_def, ← EReal.coe_mul, ← EReal.coe_add, ← EReal.coe_sub]
    rfl
  · have e : cov (S.scale 2048) (S.rot 2048) 2 2 = 32 / 5 * (32 / 5) := by
      rw [H.scale', H.rot']; simp [cov, rotm]
    simp only [e, val_main_v142_apply, val_main_v9_apply, val_main_v7_apply, val_main_cst_5_apply, val_main_v8_apply, val_main_cst_6_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, Ideal.div_coe (show (5 : ℝ) ≠ 0 by norm_num), ← EReal.coe_mul, ← EReal.coe_add, ← EReal.coe_sub]
    norm_num

/-! ## The precision -/

theorem r_p00 (i : S2049.Idx) : val_main_v167 (F := Ideal) a2 a3 i = ((prec (S.scale (i 0).val) (S.rot (i 0).val) 0 0 : ℝ) : EReal) := by
  simp only [val_main_v167_apply, val_main_v146_apply, val_main_v144_apply, val_main_v145_apply, val_main_v166_apply, val_main_v164_apply, val_main_v162_apply, val_main_v163_apply, val_main_v149_apply, val_main_v147_apply, val_main_v148_apply, val_main_v165_apply, val_main_v152_apply, val_main_v150_apply, val_main_v151_apply, r_c00 H, r_c01 H, r_c02 H, r_c11 H, r_c12 H, r_c22 H, Ideal.addf_def, Ideal.subf_def, Ideal.mulf_def, Ideal.ofBits_def, Ideal.hostDivf_def, ← EReal.coe_mul, ← EReal.coe_add, ← EReal.coe_sub]
  rw [det_eq (H.good.unit (i 0).val), adj00 (H.good.unit (i 0).val), Ideal.div_coe (det_ne (H.good.unit (i 0).val) (H.good.ne (i 0).val)), ← EReal.coe_mul, mul_one_div,
    adj_div (H.good.ne (i 0).val)]
theorem r_p01 (i : S2049.Idx) : val_main_v168 (F := Ideal) a2 a3 i = ((prec (S.scale (i 0).val) (S.rot (i 0).val) 0 1 : ℝ) : EReal) := by
  simp only [val_main_v168_apply, val_main_v149_apply, val_main_v147_apply, val_main_v148_apply, val_main_v166_apply, val_main_v164_apply, val_main_v162_apply, val_main_v146_apply, val_main_v144_apply, val_main_v145_apply, val_main_v163_apply, val_main_v165_apply, val_main_v152_apply, val_main_v150_apply, val_main_v151_apply, r_c00 H, r_c01 H, r_c02 H, r_c11 H, r_c12 H, r_c22 H, Ideal.addf_def, Ideal.subf_def, Ideal.mulf_def, Ideal.ofBits_def, Ideal.hostDivf_def, ← EReal.coe_mul, ← EReal.coe_add, ← EReal.coe_sub]
  rw [det_eq (H.good.unit (i 0).val), adj01 (H.good.unit (i 0).val), Ideal.div_coe (det_ne (H.good.unit (i 0).val) (H.good.ne (i 0).val)), ← EReal.coe_mul, mul_one_div,
    adj_div (H.good.ne (i 0).val)]
theorem r_p02 (i : S2049.Idx) : val_main_v169 (F := Ideal) a2 a3 i = ((prec (S.scale (i 0).val) (S.rot (i 0).val) 0 2 : ℝ) : EReal) := by
  simp only [val_main_v169_apply, val_main_v152_apply, val_main_v150_apply, val_main_v151_apply, val_main_v166_apply, val_main_v164_apply, val_main_v162_apply, val_main_v146_apply, val_main_v144_apply, val_main_v145_apply, val_main_v163_apply, val_main_v149_apply, val_main_v147_apply, val_main_v148_apply, val_main_v165_apply, r_c00 H, r_c01 H, r_c02 H, r_c11 H, r_c12 H, r_c22 H, Ideal.addf_def, Ideal.subf_def, Ideal.mulf_def, Ideal.ofBits_def, Ideal.hostDivf_def, ← EReal.coe_mul, ← EReal.coe_add, ← EReal.coe_sub]
  rw [det_eq (H.good.unit (i 0).val), adj02 (H.good.unit (i 0).val), Ideal.div_coe (det_ne (H.good.unit (i 0).val) (H.good.ne (i 0).val)), ← EReal.coe_mul, mul_one_div,
    adj_div (H.good.ne (i 0).val)]
theorem r_p11 (i : S2049.Idx) : val_main_v170 (F := Ideal) a2 a3 i = ((prec (S.scale (i 0).val) (S.rot (i 0).val) 1 1 : ℝ) : EReal) := by
  simp only [val_main_v170_apply, val_main_v155_apply, val_main_v153_apply, val_main_v154_apply, val_main_v166_apply, val_main_v164_apply, val_main_v162_apply, val_main_v146_apply, val_main_v144_apply, val_main_v145_apply, val_main_v163_apply, val_main_v149_apply, val_main_v147_apply, val_main_v148_apply, val_main_v165_apply, val_main_v152_apply, val_main_v150_apply, val_main_v151_apply, r_c00 H, r_c01 H, r_c02 H, r_c11 H, r_c12 H, r_c22 H, Ideal.addf_def, Ideal.subf_def, Ideal.mulf_def, Ideal.ofBits_def, Ideal.hostDivf_def, ← EReal.coe_mul, ← EReal.coe_add, ← EReal.coe_sub]
  rw [det_eq (H.good.unit (i 0).val), adj11 (H.good.unit (i 0).val), Ideal.div_coe (det_ne (H.good.unit (i 0).val) (H.good.ne (i 0).val)), ← EReal.coe_mul, mul_one_div,
    adj_div (H.good.ne (i 0).val)]
theorem r_p12 (i : S2049.Idx) : val_main_v171 (F := Ideal) a2 a3 i = ((prec (S.scale (i 0).val) (S.rot (i 0).val) 1 2 : ℝ) : EReal) := by
  simp only [val_main_v171_apply, val_main_v158_apply, val_main_v156_apply, val_main_v157_apply, val_main_v166_apply, val_main_v164_apply, val_main_v162_apply, val_main_v146_apply, val_main_v144_apply, val_main_v145_apply, val_main_v163_apply, val_main_v149_apply, val_main_v147_apply, val_main_v148_apply, val_main_v165_apply, val_main_v152_apply, val_main_v150_apply, val_main_v151_apply, r_c00 H, r_c01 H, r_c02 H, r_c11 H, r_c12 H, r_c22 H, Ideal.addf_def, Ideal.subf_def, Ideal.mulf_def, Ideal.ofBits_def, Ideal.hostDivf_def, ← EReal.coe_mul, ← EReal.coe_add, ← EReal.coe_sub]
  rw [det_eq (H.good.unit (i 0).val), adj12 (H.good.unit (i 0).val), Ideal.div_coe (det_ne (H.good.unit (i 0).val) (H.good.ne (i 0).val)), ← EReal.coe_mul, mul_one_div,
    adj_div (H.good.ne (i 0).val)]
theorem r_p22 (i : S2049.Idx) : val_main_v172 (F := Ideal) a2 a3 i = ((prec (S.scale (i 0).val) (S.rot (i 0).val) 2 2 : ℝ) : EReal) := by
  simp only [val_main_v172_apply, val_main_v161_apply, val_main_v159_apply, val_main_v160_apply, val_main_v166_apply, val_main_v164_apply, val_main_v162_apply, val_main_v146_apply, val_main_v144_apply, val_main_v145_apply, val_main_v163_apply, val_main_v149_apply, val_main_v147_apply, val_main_v148_apply, val_main_v165_apply, val_main_v152_apply, val_main_v150_apply, val_main_v151_apply, r_c00 H, r_c01 H, r_c02 H, r_c11 H, r_c12 H, r_c22 H, Ideal.addf_def, Ideal.subf_def, Ideal.mulf_def, Ideal.ofBits_def, Ideal.hostDivf_def, ← EReal.coe_mul, ← EReal.coe_add, ← EReal.coe_sub]
  rw [det_eq (H.good.unit (i 0).val), adj22 (H.good.unit (i 0).val), Ideal.div_coe (det_ne (H.good.unit (i 0).val) (H.good.ne (i 0).val)), ← EReal.coe_mul, mul_one_div,
    adj_div (H.good.ne (i 0).val)]

/-! ## The means, the scales and the opacities, the background's put last -/

theorem r_m0 (i : S2049.Idx) : val_main_v180 (F := Ideal) a0 i = (S.mean (i 0).val 0 : EReal) := by
  unfold val_main_v180
  refine cat_apply _ _ (fun n => (S.mean n 0 : EReal)) (fun j => r_v179 H j) (fun j => ?_) i
  simp only [H.mean', val_main_v0_apply, val_main_cst_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, Ideal.div_coe (show (5 : ℝ) ≠ 0 by norm_num), ← EReal.coe_mul, ← EReal.coe_add, ← EReal.coe_sub]
  try norm_num
theorem r_m1 (i : S2049.Idx) : val_main_v202 (F := Ideal) a0 i = (S.mean (i 0).val 1 : EReal) := by
  unfold val_main_v202
  refine cat_apply _ _ (fun n => (S.mean n 1 : EReal)) (fun j => r_v201 H j) (fun j => ?_) i
  simp only [H.mean', val_main_v1_apply, val_main_cst_0_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, Ideal.div_coe (show (5 : ℝ) ≠ 0 by norm_num), ← EReal.coe_mul, ← EReal.coe_add, ← EReal.coe_sub]
  try norm_num
theorem r_m2 (i : S2049.Idx) : val_main_v224 (F := Ideal) a0 i = (S.mean (i 0).val 2 : EReal) := by
  unfold val_main_v224
  refine cat_apply _ _ (fun n => (S.mean n 2 : EReal)) (fun j => r_v223 H j) (fun j => ?_) i
  simp only [H.mean', val_main_v4_apply, val_main_v2_apply, val_main_cst_1_apply, val_main_v3_apply, val_main_cst_2_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, Ideal.div_coe (show (5 : ℝ) ≠ 0 by norm_num), ← EReal.coe_mul, ← EReal.coe_add, ← EReal.coe_sub]
  norm_num
  rfl
theorem r_s0 (i : S2049.Idx) : val_main_v183 (F := Ideal) a2 i = (S.scale (i 0).val 0 : EReal) := by
  unfold val_main_v183
  refine cat_apply _ _ (fun n => (S.scale n 0 : EReal)) (fun j => r_v182 H j) (fun j => ?_) i
  simp only [H.scale', val_main_v5_apply, val_main_cst_3_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, Ideal.div_coe (show (5 : ℝ) ≠ 0 by norm_num), ← EReal.coe_mul, ← EReal.coe_add, ← EReal.coe_sub]
  try norm_num
theorem r_s1 (i : S2049.Idx) : val_main_v205 (F := Ideal) a2 i = (S.scale (i 0).val 1 : EReal) := by
  unfold val_main_v205
  refine cat_apply _ _ (fun n => (S.scale n 1 : EReal)) (fun j => r_v204 H j) (fun j => ?_) i
  simp only [H.scale', val_main_v6_apply, val_main_cst_4_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, Ideal.div_coe (show (5 : ℝ) ≠ 0 by norm_num), ← EReal.coe_mul, ← EReal.coe_add, ← EReal.coe_sub]
  try norm_num
theorem r_s2 (i : S2049.Idx) : val_main_v227 (F := Ideal) a2 i = (S.scale (i 0).val 2 : EReal) := by
  unfold val_main_v227
  refine cat_apply _ _ (fun n => (S.scale n 2 : EReal)) (fun j => r_v226 H j) (fun j => ?_) i
  simp only [H.scale', val_main_v9_apply, val_main_v7_apply, val_main_cst_5_apply, val_main_v8_apply, val_main_cst_6_apply, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, Ideal.div_coe (show (5 : ℝ) ≠ 0 by norm_num), ← EReal.coe_mul, ← EReal.coe_add, ← EReal.coe_sub]
  norm_num
  rfl
theorem r_o (i : S2049.Idx) : val_main_v297 (F := Ideal) a1 i = S.opa (i 0).val := by
  unfold val_main_v297
  refine cat_apply _ _ (fun n => S.opa n) (fun j => ?_) (fun j => ?_) i
  · rw [val_main_v295_apply]
    exact H.opa _ _ (by show (j 0).val / 1 = (j 0).val; omega)
  · simp only [H.opa', val_main_v296_apply, val_main_cst_32_apply, Ideal.addf_def, Ideal.subf_def, Ideal.mulf_def, Ideal.ofBits_def, Ideal.hostDivf_def, lit_one, EReal.coe_one]

end

end Cert.Proof

end
-- ==== Proof.RefGrid.lean ====
/-
  The reference's grid: the offsets of a cell from a Gaussian's mean, the box test, the weight, and the sum over the Gaussians.
-/
module

public import proofs.«01_k».proof.Proof.RefGauss

@[expose] public section

noncomputable section

namespace Cert.Proof

open Cert.ReferenceIdeal Cert.ReferenceIdeal.Gen Cert.ReferenceIdeal.Read

open Idealize.ShloMosaic

theorem iota_coe {x : ℕ} (hx : x < 2 ^ 31) : (FloatOps.sitofp .f32 (BitVec.ofNat 32 x) : Ideal .f32) = ((x : ℝ) : EReal) := by
  rw [ofNat_eq_ofInt, sitofp_word (by omega) (by omega)]
  rfl

theorem r_i0 (i : S80.Idx) : val_main_v173 (F := Ideal) i = (((i 0).val : ℝ) : EReal) := by
  have h : (i 0).val < 80 := (i 0).isLt
  exact iota_coe (by omega)
theorem r_i1 (i : S80.Idx) : val_main_v195 (F := Ideal) i = (((i 0).val : ℝ) : EReal) := by
  have h : (i 0).val < 80 := (i 0).isLt
  exact iota_coe (by omega)
theorem r_i2 (i : S6.Idx) : val_main_v217 (F := Ideal) i = (((i 0).val : ℝ) : EReal) := by
  have h : (i 0).val < 6 := (i 0).isLt
  exact iota_coe (by omega)

/-- The distance test, as a test of real numbers. -/
theorem ole_coe {d r : ℝ} {p : Prop} [Decidable p] (h : |d| ≤ r ↔ p) :
    FloatOps.cmpf (F := Ideal) (φ := .f32) .ole (max (d : EReal) (-(d : EReal))) (r : EReal) = BitVec.ofBool (decide p) := by
  show BitVec.ofBool (decide (max (d : EReal) (-(d : EReal)) ≤ (r : EReal))) = _
  rw [← EReal.coe_neg, ← coe_max]
  congr 1
  rw [decide_eq_decide, EReal.coe_le_coe_iff]
  exact h

theorem and_bool (p q : Prop) [Decidable p] [Decidable q] :
    IntOp.andi (BitVec.ofBool (decide p)) (BitVec.ofBool (decide q)) = BitVec.ofBool (decide (p ∧ q)) := by
  by_cases hp : p <;> by_cases hq : q <;> simp [hp, hq] <;> decide

section

variable {S : Scene} {a0 : S2048x3.Idx → EReal} {a1 : S2048x1.Idx → EReal} {a2 : S2048x3.Idx → EReal} {a3 : S2048x4.Idx → EReal}
  {a4 : S2048x17.Idx → EReal} {a5 : S1.Idx → EReal} (H : Held S a0 a1 a2 a3 a4 a5)
include H

/-! ## The offsets and the box test -/

theorem r_d0 (j : S80x2049.Idx) : val_main_v190 (F := Ideal) a0 j = ((((j 0).val : ℝ) + 1 / 2 + -40 - S.mean (j 1).val 0 : ℝ) : EReal) := by
  simp only [val_main_v190_apply, val_main_v188_apply, val_main_v186_apply, val_main_v177_apply, val_main_v175_apply, val_main_v174_apply, val_main_cst_22_apply, val_main_v176_apply, val_main_cst_23_apply, val_main_v189_apply, val_main_v187_apply, r_i0, r_m0 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
theorem r_b0 (j : S80x2049.Idx) : val_main_v194 (F := Ideal) a0 a2 j
    = BitVec.ofBool (decide (lo S (j 1).val 0 ≤ (j 0).val ∧ ((j 0).val : ℤ) ≤ hi S (j 1).val 0)) := by
  have e : val_main_v193 (F := Ideal) a2 j = ((3 * S.scale (j 1).val 0 : ℝ) : EReal) := by
    simp only [val_main_v193_apply, val_main_v192_apply, val_main_v185_apply, val_main_v184_apply, val_main_cst_24_apply, r_s0 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rw [val_main_v194_apply, val_main_v191_apply, e, r_d0 H]
  have hj : (j 0).val < 80 := (j 0).isLt
  exact ole_coe (box_x (S.mean (j 1).val 0) (S.scale (j 1).val 0) hj)
theorem r_d1 (j : S80x2049.Idx) : val_main_v212 (F := Ideal) a0 j = ((((j 0).val : ℝ) + 1 / 2 + -40 - S.mean (j 1).val 1 : ℝ) : EReal) := by
  simp only [val_main_v212_apply, val_main_v210_apply, val_main_v208_apply, val_main_v199_apply, val_main_v197_apply, val_main_v196_apply, val_main_cst_25_apply, val_main_v198_apply, val_main_cst_26_apply, val_main_v211_apply, val_main_v209_apply, r_i1, r_m1 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
theorem r_b1 (j : S80x2049.Idx) : val_main_v216 (F := Ideal) a0 a2 j
    = BitVec.ofBool (decide (lo S (j 1).val 1 ≤ (j 0).val ∧ ((j 0).val : ℤ) ≤ hi S (j 1).val 1)) := by
  have e : val_main_v215 (F := Ideal) a2 j = ((3 * S.scale (j 1).val 1 : ℝ) : EReal) := by
    simp only [val_main_v215_apply, val_main_v214_apply, val_main_v207_apply, val_main_v206_apply, val_main_cst_27_apply, r_s1 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rw [val_main_v216_apply, val_main_v213_apply, e, r_d1 H]
  have hj : (j 0).val < 80 := (j 0).isLt
  exact ole_coe (box_x (S.mean (j 1).val 1) (S.scale (j 1).val 1) hj)
theorem r_d2 (j : S6x2049.Idx) : val_main_v234 (F := Ideal) a0 j = ((((j 0).val : ℝ) + 1 / 2 + -1 - S.mean (j 1).val 2 : ℝ) : EReal) := by
  simp only [val_main_v234_apply, val_main_v232_apply, val_main_v230_apply, val_main_v221_apply, val_main_v219_apply, val_main_v218_apply, val_main_cst_28_apply, val_main_v220_apply, val_main_cst_29_apply, val_main_v233_apply, val_main_v231_apply, r_i2, r_m2 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
theorem r_b2 (j : S6x2049.Idx) : val_main_v238 (F := Ideal) a0 a2 j
    = BitVec.ofBool (decide (lo S (j 1).val 2 ≤ (j 0).val ∧ ((j 0).val : ℤ) ≤ hi S (j 1).val 2)) := by
  have e : val_main_v237 (F := Ideal) a2 j = ((3 * S.scale (j 1).val 2 : ℝ) : EReal) := by
    simp only [val_main_v237_apply, val_main_v236_apply, val_main_v229_apply, val_main_v228_apply, val_main_cst_30_apply, r_s2 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]
  rw [val_main_v238_apply, val_main_v235_apply, e, r_d2 H]
  have hj : (j 0).val < 6 := (j 0).isLt
  exact ole_coe (box_z (S.mean (j 1).val 2) (S.scale (j 1).val 2) hj)

/-! ## The weight -/

omit H in
theorem expo_eq (n x y z : ℕ) : expo S n x y z
    = -(1 / 2) * (prec (S.scale n) (S.rot n) 0 0 * ((x : ℝ) + 1 / 2 + -40 - S.mean n 0) * ((x : ℝ) + 1 / 2 + -40 - S.mean n 0)
        + prec (S.scale n) (S.rot n) 1 1 * ((y : ℝ) + 1 / 2 + -40 - S.mean n 1) * ((y : ℝ) + 1 / 2 + -40 - S.mean n 1)
        + prec (S.scale n) (S.rot n) 2 2 * ((z : ℝ) + 1 / 2 + -1 - S.mean n 2) * ((z : ℝ) + 1 / 2 + -1 - S.mean n 2)
        + 2 * (prec (S.scale n) (S.rot n) 0 1 * ((x : ℝ) + 1 / 2 + -40 - S.mean n 0) * ((y : ℝ) + 1 / 2 + -40 - S.mean n 1)
          + prec (S.scale n) (S.rot n) 0 2 * ((x : ℝ) + 1 / 2 + -40 - S.mean n 0) * ((z : ℝ) + 1 / 2 + -1 - S.mean n 2)
          + prec (S.scale n) (S.rot n) 1 2 * ((y : ℝ) + 1 / 2 + -40 - S.mean n 1) * ((z : ℝ) + 1 / 2 + -1 - S.mean n 2))) := by
  show -(1 / 2) * prec (S.scale n) (S.rot n) 0 0 * ((x : ℝ) + -(79 / 2) - S.mean n 0) * ((x : ℝ) + -(79 / 2) - S.mean n 0)
      + -(1 / 2) * prec (S.scale n) (S.rot n) 1 1 * ((y : ℝ) + -(79 / 2) - S.mean n 1) * ((y : ℝ) + -(79 / 2) - S.mean n 1)
      + -(1 / 2) * prec (S.scale n) (S.rot n) 2 2 * ((z : ℝ) + -(1 / 2) - S.mean n 2) * ((z : ℝ) + -(1 / 2) - S.mean n 2)
      + (0 - prec (S.scale n) (S.rot n) 0 1) * ((x : ℝ) + -(79 / 2) - S.mean n 0) * ((y : ℝ) + -(79 / 2) - S.mean n 1)
      + (0 - prec (S.scale n) (S.rot n) 0 2) * ((x : ℝ) + -(79 / 2) - S.mean n 0) * ((z : ℝ) + -(1 / 2) - S.mean n 2)
      + (0 - prec (S.scale n) (S.rot n) 1 2) * ((y : ℝ) + -(79 / 2) - S.mean n 1) * ((z : ℝ) + -(1 / 2) - S.mean n 2) = _
  ring

theorem r_expo (i : S80x80x6x2049.Idx) :
    val_main_v299 (F := Ideal) a0 a2 a3 i = ((expo S (i 3).val (i 0).val (i 1).val (i 2).val : ℝ) : EReal) := by
  rw [expo_eq]
  simp only [val_main_v299_apply, val_main_v298_apply, val_main_cst_33_apply, val_main_v288_apply, val_main_v262_apply, val_main_v260_apply, val_main_v255_apply, val_main_v253_apply, val_main_v248_apply, val_main_v247_apply, val_main_v246_apply, val_main_v245_apply, val_main_v239_apply, val_main_v254_apply, val_main_v252_apply, val_main_v251_apply, val_main_v250_apply, val_main_v249_apply, val_main_v241_apply, val_main_v261_apply, val_main_v259_apply, val_main_v258_apply, val_main_v257_apply, val_main_v256_apply, val_main_v243_apply, val_main_v287_apply, val_main_v286_apply, val_main_cst_31_apply, val_main_v285_apply, val_main_v277_apply, val_main_v275_apply, val_main_v268_apply, val_main_v266_apply, val_main_v265_apply, val_main_v264_apply, val_main_v263_apply, val_main_v267_apply, val_main_v276_apply, val_main_v274_apply, val_main_v272_apply, val_main_v271_apply, val_main_v270_apply, val_main_v269_apply, val_main_v273_apply, val_main_v284_apply, val_main_v283_apply, val_main_v281_apply, val_main_v280_apply, val_main_v279_apply, val_main_v278_apply, val_main_v282_apply, r_p00 H, r_p01 H, r_p02 H, r_p11 H, r_p12 H, r_p22 H, r_d0 H, r_d1 H, r_d2 H, Ideal.addf_def, Ideal.subf_def, Ideal.mulf_def, Ideal.ofBits_def, Ideal.hostDivf_def, lit_two, lit_one, lit_zero, lit_three, lit_half, lit_half_neg, lit_five, lit_80, lit_32, lit_11, lit_neg40, lit_neg1, ← EReal.coe_mul, ← EReal.coe_add, ← EReal.coe_sub]

theorem r_mask (i : S80x80x6x2049.Idx) :
    val_main_v294 (F := Ideal) a0 a2 i = BitVec.ofBool (decide (InBox S (i 3).val (i 0).val (i 1).val (i 2).val)) := by
  simp only [val_main_v294_apply, val_main_v292_apply, val_main_v291_apply, val_main_v289_apply, val_main_v240_apply, val_main_v290_apply, val_main_v242_apply, val_main_v293_apply, val_main_v244_apply, r_b0 H, r_b1 H, r_b2 H, and_bool]
  congr 1
  rw [decide_eq_decide]
  exact and_assoc

theorem r_weight (i : S80x80x6x2049.Idx) : val_main_v304 (F := Ideal) a0 a1 a2 a3 i
    = if InBox S (i 3).val (i 0).val (i 1).val (i 2).val then wgt S (i 3).val (i 0).val (i 1).val (i 2).val else 0 := by
  have e1 : val_main_v303 (F := Ideal) a0 a1 a2 a3 i = wgt S (i 3).val (i 0).val (i 1).val (i 2).val := by
    rw [val_main_v303_apply, val_main_v300_apply, r_expo H, val_main_v302_apply, val_main_v301_apply, r_o H]
    rfl
  have e2 : val_main_call0_v1 (F := Ideal) i = 0 := by
    simp only [val_main_call0_v1_apply, val_main_call0_v0_apply, val_main_cst_34_apply, Ideal.addf_def, Ideal.subf_def, Ideal.mulf_def, Ideal.ofBits_def, Ideal.hostDivf_def, lit_zero, EReal.coe_zero]
  rw [val_main_v304_apply, r_mask H, e1, e2]
  by_cases h : InBox S (i 3).val (i 0).val (i 1).val (i 2).val
  · rw [if_pos h, decide_eq_true h]; rfl
  · rw [if_neg h, decide_eq_false h]; rfl

/-! ## The features -/

theorem r_feat (i : S2049x18.Idx) : val_main_v310 (F := Ideal) a4 a5 i = S.feat (i 0).val (i 1).val := by
  have h0 : (i 0).val < 2049 := (i 0).isLt
  have h1 : (i 1).val < 18 := (i 1).isLt
  unfold val_main_v310
  by_cases hn : (i 0).val < 2048
  · rw [concatenate_pair_apply_left 0 _ _ concatenates_S2048x18_S1x18_S2049x18_d0 i rfl (ix2 ⟨(i 0).val, hn⟩ ⟨(i 1).val, h1⟩)
      (fun b => match b with | ⟨0, _⟩ => rfl | ⟨1, _⟩ => rfl)]
    unfold val_main_v306
    by_cases hc : (i 1).val < 17
    · rw [concatenate_pair_apply_left 1 _ _ concatenates_S2048x17_S2048x1_S2048x18_d1 _ rfl (ix2 ⟨(i 0).val, hn⟩ ⟨(i 1).val, hc⟩)
        (fun b => match b with | ⟨0, _⟩ => rfl | ⟨1, _⟩ => rfl)]
      exact H.feat _ _ _ rfl rfl
    · have e : (i 1).val = 17 := by omega
      rw [concatenate_pair_apply_right 1 _ _ concatenates_S2048x17_S2048x1_S2048x18_d1 _ rfl rfl (ix2 ⟨(i 0).val, hn⟩ 0)
        (fun b hb => match b with | ⟨0, _⟩ => rfl | ⟨1, _⟩ => absurd rfl hb) (by show 0 + 17 = (i 1).val; omega), e, H.feat17 _ hn]
      simp only [val_main_v305_apply, val_main_cst_35_apply, Ideal.addf_def, Ideal.subf_def, Ideal.mulf_def, Ideal.ofBits_def, Ideal.hostDivf_def, lit_zero, EReal.coe_zero]
  · have e : (i 0).val = 2048 := by omega
    rw [concatenate_pair_apply_right 0 _ _ concatenates_S2048x18_S1x18_S2049x18_d0 i rfl rfl (ix2 0 ⟨(i 1).val, h1⟩)
      (fun b hb => match b with | ⟨0, _⟩ => absurd rfl hb | ⟨1, _⟩ => rfl) (by show 0 + 2048 = (i 0).val; omega), e]
    unfold val_main_v309
    by_cases hc : (i 1).val < 17
    · rw [concatenate_pair_apply_left 1 _ _ concatenates_S1x17_S1x1_S1x18_d1 _ rfl (ix2 0 ⟨(i 1).val, hc⟩)
        (fun b => match b with | ⟨0, _⟩ => rfl | ⟨1, _⟩ => rfl), H.feat' _ hc]
      simp only [val_main_v307_apply, val_main_cst_36_apply, Ideal.addf_def, Ideal.subf_def, Ideal.mulf_def, Ideal.ofBits_def, Ideal.hostDivf_def, lit_zero, EReal.coe_zero]
    · have e : (i 1).val = 17 := by omega
      rw [concatenate_pair_apply_right 1 _ _ concatenates_S1x17_S1x1_S1x18_d1 _ rfl rfl (ix2 0 0)
        (fun b hb => match b with | ⟨0, _⟩ => rfl | ⟨1, _⟩ => absurd rfl hb) (by show 0 + 17 = (i 1).val; omega), e, val_main_v308_apply]
      exact H.es _

/-! ## The result -/

theorem r_result (i : S80x80x6x18.Idx) : val_main_v312 (F := Ideal) a0 a1 a2 a3 a4 a5 i
    = ∑ n ∈ Finset.range 2049, term S n (i 0).val (i 1).val (i 2).val (i 3).val := by
  rw [val_main_v312_apply, ← Fin.sum_univ_eq_sum_range (fun n => term S n (i 0).val (i 1).val (i 2).val (i 3).val) 2049]
  refine Finset.sum_congr rfl fun k _ => ?_
  rw [r_weight H, r_feat H]
  show (if InBox S k.val (i 0).val (i 1).val (i 2).val then wgt S k.val (i 0).val (i 1).val (i 2).val else 0) * S.feat k.val (i 3).val = _
  unfold term
  by_cases h : InBox S k.val (i 0).val (i 1).val (i 2).val
  · rw [if_pos h, if_pos h]
  · rw [if_neg h, if_neg h, zero_mul]

end

end Cert.Proof

end
-- ==== Proof.Frames.lean ====
/-
  The frames: the kernel's and the reference's runs end with the inputs as they were and every counter at zero.
-/
module

public import proofs.«01_k».proof.Defs
public import proofs.«01_k».proof.Proof.Inputs
public import proofs.«01_k».proof.Proof.Gen.Pre_well_posed
public import proofs.«01_k».proof.Proof.Gen.ReferenceIdeal.Run

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- Under the precondition every device's scene is good and its packed array holds it. -/
theorem scenes (m : (ℓ : Loc nD τ sig) → Buf (Elt Ideal) ℓ) (h : Cert.Pre_KernelIdeal m) (d : Dev nD) :
    Good (scn m d) ∧ PackedOf (scn m d) (packed m d) :=
  have hp : Posed (in0 m d) (in2 m d) (in3 m d) := posed (h d)
  ⟨hp.good, packed_scene m d hp⟩

theorem run_kernel (m : (ℓ : Loc nD τ sig) → Buf (Elt Ideal) ℓ) (ρ : Dev nD → PrngReg) (h : Cert.Pre_KernelIdeal m) :
    θ_run (Cert.KernelIdeal.defs (F := Ideal)) (Cert.KernelIdeal.threads (F := Ideal)) ⟨m, fun _ => 0, ρ⟩ (Q (scn m) m) :=
  run (scn m) m ρ (scenes m h)

theorem frame_kernel : Cert.quiescent_KernelIdeal := fun m ρ h =>
  (θ_run _ _ _).mono (fun _ hr => ⟨fun c => (hr.1 c).2.2, hr.2⟩) (run_kernel m ρ h)

theorem frame_reference : Cert.quiescent_ReferenceIdeal := fun m ρ _ =>
  (θ_run _ _ _).mono (fun r hr => ⟨fun c => (hr c).2.2, sem_eq_zero_of_no_sems (by decide) r.2⟩) (Cert.ReferenceIdeal.Value.run m ρ)

end Cert.Proof

end
-- ==== Proof.Algebra.lean ====
/-
  The reference's sum over the Gaussians is the kernel's value at every element, and the claim that the two programs' results are equal.
-/
module

public import proofs.«01_k».proof.Proof.RefGrid
public import proofs.«01_k».proof.Proof.Frames

@[expose] public section

noncomputable section

namespace Cert.Proof

open Idealize.ShloMosaic Idealize.SL.Sem Idealize.ShloMosaic.StableHlo

/-- The scene with the background as Gaussian 2048, at the centre of the volume, its extents the scales, not rotated. -/
def full (S : Scene) : Scene where
  mean n := if n < 2048 then S.mean n else ![0, 0, 11 / 5]
  scale n := if n < 2048 then S.scale n else ![80, 80, 32 / 5]
  rot n := if n < 2048 then S.rot n else ![1, 0, 0, 0]
  opa n := if n < 2048 then S.opa n else 1
  feat n ch := if n < 2048 then if ch = 17 then 0 else S.feat n ch else if ch = 17 then S.es else 0
  es := S.es

section

variable (S : Scene)

theorem full_mean {n : ℕ} (h : n < 2048) : (full S).mean n = S.mean n := if_pos h
theorem full_scale {n : ℕ} (h : n < 2048) : (full S).scale n = S.scale n := if_pos h
theorem full_rot {n : ℕ} (h : n < 2048) : (full S).rot n = S.rot n := if_pos h
theorem full_opa {n : ℕ} (h : n < 2048) : (full S).opa n = S.opa n := if_pos h
theorem full_feat {n ch : ℕ} (h : n < 2048) (hc : ch ≠ 17) : (full S).feat n ch = S.feat n ch := (if_pos h).trans (if_neg hc)
theorem full_feat17 {n : ℕ} (h : n < 2048) : (full S).feat n 17 = 0 := (if_pos h).trans (if_pos rfl)
theorem full_mean_last {n : ℕ} (h : ¬ n < 2048) : (full S).mean n = ![0, 0, 11 / 5] := if_neg h
theorem full_scale_last {n : ℕ} (h : ¬ n < 2048) : (full S).scale n = ![80, 80, 32 / 5] := if_neg h
theorem full_rot_last {n : ℕ} (h : ¬ n < 2048) : (full S).rot n = ![1, 0, 0, 0] := if_neg h
theorem full_opa_last {n : ℕ} (h : ¬ n < 2048) : (full S).opa n = 1 := if_neg h
theorem full_feat_last {n ch : ℕ} (h : ¬ n < 2048) (hc : ch ≠ 17) : (full S).feat n ch = 0 := (if_neg h).trans (if_neg hc)
theorem full_es {n : ℕ} (h : ¬ n < 2048) : (full S).feat n 17 = S.es := (if_neg h).trans (if_pos rfl)

variable {S}

theorem full_good (hS : Good S) : Good (full S) where
  ne n a := by
    by_cases h : n < 2048
    · rw [full_scale S h]; exact hS.ne n a
    · rw [full_scale_last S h]; fin_cases a <;> simp
  mb n a := by
    by_cases h : n < 2048
    · rw [full_mean S h]; exact hS.mb n a
    · rw [full_mean_last S h]; fin_cases a <;> simp [abs_of_pos] <;> norm_num
  sb n a := by
    by_cases h : n < 2048
    · rw [full_scale S h]; exact hS.sb n a
    · rw [full_scale_last S h]; fin_cases a <;> simp [abs_of_pos] <;> norm_num
  unit n := by
    by_cases h : n < 2048
    · rw [full_rot S h]; exact hS.unit n
    · rw [full_rot_last S h]; simp

theorem full_inBox {n : ℕ} (h : n < 2048) (i j k : ℕ) : InBox (full S) n i j k ↔ InBox S n i j k := by
  unfold InBox Cert.Proof.lo Cert.Proof.hi
  rw [full_mean S h, full_scale S h]

theorem full_term {n ch : ℕ} (h : n < 2048) (hc : ch ≠ 17) (i j k : ℕ) : term (full S) n i j k ch = term S n i j k ch := by
  unfold term wgt expo
  rw [full_mean S h, full_scale S h, full_rot S h, full_opa S h, full_feat S h hc]
  simp only [full_inBox h]

theorem term_feat_zero {n ch : ℕ} (h : S.feat n ch = 0) (i j k : ℕ) : term S n i j k ch = 0 := by
  unfold term
  rw [h, mul_zero, ite_self]

/-- The background Gaussian's box is the whole volume. -/
theorem full_inBox_last {i j k : ℕ} (hi : i < 80) (hj : j < 80) (hk : k < 6) : InBox (full S) 2048 i j k := by
  have ei : (i : ℝ) ≤ 80 := by exact_mod_cast hi.le
  have ej : (j : ℝ) ≤ 80 := by exact_mod_cast hj.le
  have ek : (k : ℝ) ≤ 6 := by exact_mod_cast hk.le
  have zi : (0 : ℝ) ≤ i := Nat.cast_nonneg i
  have zj : (0 : ℝ) ≤ j := Nat.cast_nonneg j
  have zk : (0 : ℝ) ≤ k := Nat.cast_nonneg k
  unfold InBox Cert.Proof.lo Cert.Proof.hi
  rw [full_mean_last S (lt_irrefl _), full_scale_last S (lt_irrefl _)]
  refine ⟨(box_x 0 80 hi).1 ?_, (box_x 0 80 hj).1 ?_, (box_z (11 / 5) (32 / 5) hk).1 ?_⟩ <;> rw [abs_le] <;> constructor <;> linarith

theorem full_expo_last (i j k : ℕ) : expo (full S) 2048 i j k
    = ((i : ℝ) + -(79 / 2)) * ((i : ℝ) + -(79 / 2)) * -(1 / 12800) + ((j : ℝ) + -(79 / 2)) * ((j : ℝ) + -(79 / 2)) * -(1 / 12800)
      + ((k : ℝ) + -(27 / 10)) * ((k : ℝ) + -(27 / 10)) * -(25 / 2048) := by
  rw [expo_eq, full_mean_last S (lt_irrefl _), full_scale_last S (lt_irrefl _), full_rot_last S (lt_irrefl _)]
  simp [prec, rotm]
  ring

theorem sum_terms {i j k ch : ℕ} (hi : i < 80) (hj : j < 80) (hk : k < 6) :
    ∑ n ∈ Finset.range 2049, term (full S) n i j k ch = cellVal S i j k ch := by
  rw [Finset.sum_range_succ]
  unfold cellVal
  by_cases hc : ch = 17
  · subst hc
    rw [if_pos rfl, Finset.sum_eq_zero fun n hn => term_feat_zero (full_feat17 S (Finset.mem_range.1 hn)) i j k, zero_add]
    unfold term back wgt
    rw [if_pos (full_inBox_last hi hj hk), full_expo_last, full_opa_last S (lt_irrefl _), full_es S (lt_irrefl _), one_mul, mul_comm]
  · rw [if_neg hc, term_feat_zero (full_feat_last S (lt_irrefl _) hc), add_zero]
    exact Finset.sum_congr rfl fun n hn => full_term (Finset.mem_range.1 hn) hc i j k

end

/-- The arrays hold the scene with the background put last. -/
theorem held {a0 : Cert.ReferenceIdeal.S2048x3.Idx → EReal} {a1 : Cert.ReferenceIdeal.S2048x1.Idx → EReal} {a2 : Cert.ReferenceIdeal.S2048x3.Idx → EReal}
    {a3 : Cert.ReferenceIdeal.S2048x4.Idx → EReal} {a4 : Cert.ReferenceIdeal.S2048x17.Idx → EReal} {a5 : Cert.ReferenceIdeal.S1.Idx → EReal}
    (h : Posed a0 a2 a3) : Held (full (sceneOf a0 a1 a2 a3 a4 a5)) a0 a1 a2 a3 a4 a5 where
  mean i n a hn ha := by
    have hl : n < 2048 := hn ▸ (i 0).isLt
    rw [full_mean _ hl, ← h.mean_coe hl]
    exact congrArg a0 (funext fun b => Fin.ext (match b with | ⟨0, _⟩ => hn | ⟨1, _⟩ => ha))
  scale i n a hn ha := by
    have hl : n < 2048 := hn ▸ (i 0).isLt
    rw [full_scale _ hl, ← h.scale_coe hl]
    exact congrArg a2 (funext fun b => Fin.ext (match b with | ⟨0, _⟩ => hn | ⟨1, _⟩ => ha))
  rot i n a hn ha := by
    have hl : n < 2048 := hn ▸ (i 0).isLt
    rw [full_rot _ hl, ← h.rot_coe hl]
    exact congrArg a3 (funext fun b => Fin.ext (match b with | ⟨0, _⟩ => hn | ⟨1, _⟩ => ha))
  opa i n hn := by
    have hl : n < 2048 := hn ▸ (i 0).isLt
    rw [full_opa _ hl]
    unfold sceneOf
    refine Eq.trans ?_ (dif_pos hl).symm
    have h1 : (i 1).val < 1 := (i 1).isLt
    exact congrArg a1 (funext fun b => Fin.ext (match b with | ⟨0, _⟩ => hn | ⟨1, _⟩ => by show (i 1).val = 0; omega))
  feat i n ch hn hc := by
    have hl : n < 2048 := hn ▸ (i 0).isLt
    have hl' : ch < 17 := hc ▸ (i 1).isLt
    rw [full_feat _ hl (by omega)]
    unfold sceneOf
    refine Eq.trans ?_ (dif_pos ⟨hl, hl'⟩).symm
    exact congrArg a4 (funext fun b => Fin.ext (match b with | ⟨0, _⟩ => hn | ⟨1, _⟩ => hc))
  es i := by
    rw [full_es _ (lt_irrefl _)]
    unfold sceneOf
    have h0 : (i 0).val < 1 := (i 0).isLt
    exact congrArg a5 (funext fun b => Fin.ext (match b with | ⟨0, _⟩ => by show (i 0).val = 0; omega))
  mean' := full_mean_last _ (lt_irrefl _)
  scale' := full_scale_last _ (lt_irrefl _)
  rot' := full_rot_last _ (lt_irrefl _)
  opa' := full_opa_last _ (lt_irrefl _)
  feat' ch hc := full_feat_last _ (lt_irrefl _) (by omega)
  feat17 n hn := full_feat17 _ hn
  good := full_good h.good

theorem shape_eq (G : Cert.KernelIdeal.S80x80x108.Idx → EReal) (h : Cert.KernelIdeal.S80x80x108.ShapeCasts Cert.KernelIdeal.S80x80x6x18)
    (i : Cert.KernelIdeal.S80x80x6x18.Idx) (j : Cert.KernelIdeal.S80x80x108.Idx) (h0 : (j 0).val = (i 0).val) (h1 : (j 1).val = (i 1).val)
    (h2 : (j 2).val = 18 * (i 2).val + (i 3).val) : shapeCast Cert.KernelIdeal.S80x80x6x18 G h i = G j :=
  shapeCast_apply _ _ _ _ (by
    rw [Shape.rowMajor_val_three, Shape.rowMajor_val_four]
    show ((j 0).val * 80 + (j 1).val) * 108 + (j 2).val = (((i 0).val * 80 + (i 1).val) * 6 + (i 2).val) * 18 + (i 3).val
    omega)

open Cert.KernelIdeal in
/-- The reference's second result is the kernel's. -/
theorem grid_eq (m : (ℓ : Loc nD τ sig) → Buf (Elt Ideal) ℓ) (d : Dev nD) (h : Posed (in0 m d) (in2 m d) (in3 m d)) :
    Cert.ReferenceIdeal.Read.val_main_v312 (F := Ideal) (in0 m d) (in1 m d) (in2 m d) (in3 m d) (in4 m d) (in5 m d) = gridOf (scn m) d := by
  funext i
  have h0 : (i 0).val < 80 := (i 0).isLt
  have h1 : (i 1).val < 80 := (i 1).isLt
  have h2 : (i 2).val < 6 := (i 2).isLt
  have h3 : (i 3).val < 18 := (i 3).isLt
  rw [r_result (held h), sum_terms h0 h1 h2]
  unfold gridOf
  rw [shape_eq _ _ i (ix3 ⟨(i 0).val, h0⟩ ⟨(i 1).val, h1⟩ ⟨18 * (i 2).val + (i 3).val, by omega⟩) rfl rfl rfl]
  show _ = cellVal (scn m d) (i 0).val (i 1).val ((18 * (i 2).val + (i 3).val) / 18) ((18 * (i 2).val + (i 3).val) % 18)
  rw [show (18 * (i 2).val + (i 3).val) / 18 = (i 2).val by omega, show (18 * (i 2).val + (i 3).val) % 18 = (i 3).val by omega]
  rfl

theorem algebraic : Cert.algebraic_KernelIdeal_ReferenceIdeal := by
  intro m g m' g' hpre hin
  refine ⟨fun _ => zerosOf, fun c => gridOf (scn m) c, ?_, ?_⟩
  · exact (θ_run _ _ _).mono (fun _ hr => hr.1) (run_kernel m g hpre)
  · refine (θ_run _ _ _).mono (fun r hr c => ⟨(hr c).1, ?_, (hr c).2.2⟩) (Cert.ReferenceIdeal.Value.run m' g')
    refine (hr c).2.1.trans ((Cert.ReferenceIdeal.Read.val_main_v312_eq (launchContents m' c)).trans ?_)
    obtain ⟨e0, e1, e2, e3, e4, e5⟩ := hin c
    have hp : Posed (in0 m c) (in2 m c) (in3 m c) := posed (hpre c)
    refine Eq.trans ?_ (grid_eq m c hp)
    show Cert.ReferenceIdeal.Read.val_main_v312 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
    rw [e0, e1, e2, e3, e4, e5]
    rfl

theorem frame_reference_posed : Cert.quiescent_ReferenceIdeal_pre_well_posed := fun m ρ _ => frame_reference m ρ trivial

end Cert.Proof

end
-- ==== Proof.lean ====
/-
  The proof of `Cert.Claim`, at the stated facts' instances: the frames of the kernel and of the reference (Proof/Frames.lean) and the
  equality of their results over the extended reals (Proof/Algebra.lean).
-/
module

public import proofs.«01_k».proof.Defs
public import proofs.«01_k».proof.Proof.Gen.ReferenceIdeal.Read
public import proofs.«01_k».proof.Proof.Algebra

@[expose] public section

noncomputable section

namespace Cert.Proof

theorem claim : Cert.Claim :=
  ⟨Cert.KernelIdeal.Gen.facts, Cert.ReferenceIdeal.Gen.facts, Cert.Pre_well_posed.Gen.facts, frame_kernel, frame_reference,
    frame_reference_posed, algebraic⟩

end Cert.Proof

end
